-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInRefIdeal (m : (ℓ : Loc Cert.DwFfnInRefIdeal.nD Cert.DwFfnInRefIdeal.τ Cert.DwFfnInRefIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_DwFfnOutRefIdeal (m : (ℓ : Loc Cert.DwFfnOutRefIdeal.nD Cert.DwFfnOutRefIdeal.τ Cert.DwFfnOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DwPeGate (m : (ℓ : Loc Cert.DwPeGate.nD Cert.DwPeGate.τ Cert.DwPeGate.sig) → Buf (Elt Bits) ℓ) : Prop :=
  True

def Pre_DwPeGateIdeal (m : (ℓ : Loc Cert.DwPeGateIdeal.nD Cert.DwPeGateIdeal.τ Cert.DwPeGateIdeal.sig) → Buf (Elt Ideal) ℓ) : Prop :=
  True

def Pre_DwPeGateRefIdeal (m : (ℓ : Loc Cert.DwPeGateRefIdeal.nD Cert.DwPeGateRefIdeal.τ Cert.DwPeGateRefIdeal.sig) → Buf (Elt Ideal) ℓ) : Prop :=
  True

def Pre_DwPeProj (m : (ℓ : Loc Cert.DwPeProj.nD Cert.DwPeProj.τ Cert.DwPeProj.sig) → Buf (Elt Bits) ℓ) : Prop :=
  True

def Pre_DwPeProjIdeal (m : (ℓ : Loc Cert.DwPeProjIdeal.nD Cert.DwPeProjIdeal.τ Cert.DwPeProjIdeal.sig) → Buf (Elt Ideal) ℓ) : Prop :=
  True

def Pre_DwPeProjRefIdeal (m : (ℓ : Loc Cert.DwPeProjRefIdeal.nD Cert.DwPeProjRefIdeal.τ Cert.DwPeProjRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixinFwd (m : (ℓ : Loc Cert.MixinFwd.nD Cert.MixinFwd.τ Cert.MixinFwd.sig) → Buf (Elt Bits) ℓ) : Prop :=
  True

def Pre_MixinFwdIdeal (m : (ℓ : Loc Cert.MixinFwdIdeal.nD Cert.MixinFwdIdeal.τ Cert.MixinFwdIdeal.sig) → Buf (Elt Ideal) ℓ) : Prop :=
  True

def Pre_MixinFwdRefIdeal (m : (ℓ : Loc Cert.MixinFwdRefIdeal.nD Cert.MixinFwdRefIdeal.τ Cert.MixinFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PeFwd (m : (ℓ : Loc Cert.PeFwd.nD Cert.PeFwd.τ Cert.PeFwd.sig) → Buf (Elt Bits) ℓ) : Prop :=
  True

def Pre_PeFwdIdeal (m : (ℓ : Loc Cert.PeFwdIdeal.nD Cert.PeFwdIdeal.τ Cert.PeFwdIdeal.sig) → Buf (Elt Ideal) ℓ) : Prop :=
  True

def Pre_PeFwdRefIdeal (m : (ℓ : Loc Cert.PeFwdRefIdeal.nD Cert.PeFwdRefIdeal.τ Cert.PeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_BiasTable (m : (ℓ : Loc Cert.BiasTable.nD Cert.BiasTable.τ Cert.BiasTable.sig) → Buf (Elt Bits) ℓ) : Prop :=
  True

def Pre_BiasTableIdeal (m : (ℓ : Loc Cert.BiasTableIdeal.nD Cert.BiasTableIdeal.τ Cert.BiasTableIdeal.sig) → Buf (Elt Ideal) ℓ) : Prop :=
  True

def Pre_BiasTableRefIdeal (m : (ℓ : Loc Cert.BiasTableRefIdeal.nD Cert.BiasTableRefIdeal.τ Cert.BiasTableRefIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradRefIdeal (m : (ℓ : Loc Cert.BiasGradRefIdeal.nD Cert.BiasGradRefIdeal.τ Cert.BiasGradRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_bwd_finite [hPre_ffn_bwd_finite : Cert.Pre_ffn_bwd_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_MixinBwd (m : (ℓ : Loc Cert.MixinBwd.nD Cert.MixinBwd.τ Cert.MixinBwd.sig) → Buf (Elt Bits) ℓ) : Prop :=
  True

def Pre_MixinBwdIdeal (m : (ℓ : Loc Cert.MixinBwdIdeal.nD Cert.MixinBwdIdeal.τ Cert.MixinBwdIdeal.sig) → Buf (Elt Ideal) ℓ) : Prop :=
  True

def Pre_MixinBwdIdeal_mixin_bwd_finite [hPre_mixin_bwd_finite : Cert.Pre_mixin_bwd_finite.Facts] (m : (ℓ : Loc Cert.MixinBwdIdeal.nD Cert.MixinBwdIdeal.τ Cert.MixinBwdIdeal.sig) → Buf (Elt Ideal) ℓ) : Prop :=
  ∀ c : Dev Cert.MixinBwdIdeal.nD,
    (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.2.2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.2.2.2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.2.2.2.2.1 = (fun _ => 1#1)
    ∧ (Cert.Pre_mixin_bwd_finite.fn (F := Ideal) (m ((c.tc : Thread Cert.MixinBwdIdeal.nD Cert.MixinBwdIdeal.τ).loc Cert.MixinBwdIdeal.main_arg0)) (m ((c.tc : Thread Cert.MixinBwdIdeal.nD Cert.MixinBwdIdeal.τ).loc Cert.MixinBwdIdeal.main_arg1)) (m ((c.tc : Thread Cert.MixinBwdIdeal.nD Cert.MixinBwdIdeal.τ).loc Cert.MixinBwdIdeal.main_arg2)) (m ((c.tc : Thread Cert.MixinBwdIdeal.nD Cert.MixinBwdIdeal.τ).loc Cert.MixinBwdIdeal.main_arg3)) (m ((c.tc : Thread Cert.MixinBwdIdeal.nD Cert.MixinBwdIdeal.τ).loc Cert.MixinBwdIdeal.main_arg4)) (m ((c.tc : Thread Cert.MixinBwdIdeal.nD Cert.MixinBwdIdeal.τ).loc Cert.MixinBwdIdeal.main_arg5)) (m ((c.tc : Thread Cert.MixinBwdIdeal.nD Cert.MixinBwdIdeal.τ).loc Cert.MixinBwdIdeal.main_arg6)) (m ((c.tc : Thread Cert.MixinBwdIdeal.nD Cert.MixinBwdIdeal.τ).loc Cert.MixinBwdIdeal.main_arg7))).2.2.2.2.2.2.2 = (fun _ => 1#1)

def Pre_MixinBwdRefIdeal (m : (ℓ : Loc Cert.MixinBwdRefIdeal.nD Cert.MixinBwdRefIdeal.τ Cert.MixinBwdRefIdeal.sig) → Buf (Elt Ideal) ℓ) : Prop :=
  True

def Pre_MixinBwdRefIdeal_mixin_bwd_finite [hPre_mixin_bwd_finite : Cert.Pre_mixin_bwd_finite.Facts] (m : (ℓ : Loc Cert.MixinBwdRefIdeal.nD Cert.MixinBwdRefIdeal.τ Cert.MixinBwdRefIdeal.sig) → Buf (Elt Ideal) ℓ) : Prop :=
  ∀ c : Dev Cert.MixinBwdRefIdeal.nD,
    (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.2.2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.2.2.2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.2.2.2.2.1 = (fun _ => 1#1)
    ∧ (Cert.Pre_mixin_bwd_finite.fn (F := Ideal) (m ((c.tc : Thread Cert.MixinBwdRefIdeal.nD Cert.MixinBwdRefIdeal.τ).loc Cert.MixinBwdRefIdeal.main_arg0)) (m ((c.tc : Thread Cert.MixinBwdRefIdeal.nD Cert.MixinBwdRefIdeal.τ).loc Cert.MixinBwdRefIdeal.main_arg1)) (m ((c.tc : Thread Cert.MixinBwdRefIdeal.nD Cert.MixinBwdRefIdeal.τ).loc Cert.MixinBwdRefIdeal.main_arg2)) (m ((c.tc : Thread Cert.MixinBwdRefIdeal.nD Cert.MixinBwdRefIdeal.τ).loc Cert.MixinBwdRefIdeal.main_arg3)) (m ((c.tc : Thread Cert.MixinBwdRefIdeal.nD Cert.MixinBwdRefIdeal.τ).loc Cert.MixinBwdRefIdeal.main_arg4)) (m ((c.tc : Thread Cert.MixinBwdRefIdeal.nD Cert.MixinBwdRefIdeal.τ).loc Cert.MixinBwdRefIdeal.main_arg5)) (m ((c.tc : Thread Cert.MixinBwdRefIdeal.nD Cert.MixinBwdRefIdeal.τ).loc Cert.MixinBwdRefIdeal.main_arg6)) (m ((c.tc : Thread Cert.MixinBwdRefIdeal.nD Cert.MixinBwdRefIdeal.τ).loc Cert.MixinBwdRefIdeal.main_arg7))).2.2.2.2.2.2.2 = (fun _ => 1#1)

def Pre_PeBwd (m : (ℓ : Loc Cert.PeBwd.nD Cert.PeBwd.τ Cert.PeBwd.sig) → Buf (Elt Bits) ℓ) : Prop :=
  True

def Pre_PeBwdIdeal (m : (ℓ : Loc Cert.PeBwdIdeal.nD Cert.PeBwdIdeal.τ Cert.PeBwdIdeal.sig) → Buf (Elt Ideal) ℓ) : Prop :=
  True

def Pre_PeBwdIdeal_pe_bwd_finite [hPre_pe_bwd_finite : Cert.Pre_pe_bwd_finite.Facts] (m : (ℓ : Loc Cert.PeBwdIdeal.nD Cert.PeBwdIdeal.τ Cert.PeBwdIdeal.sig) → Buf (Elt Ideal) ℓ) : Prop :=
  ∀ c : Dev Cert.PeBwdIdeal.nD,
    (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).1 = (fun _ => 1#1)
    ∧ (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).2.1 = (fun _ => 1#1)
    ∧ (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).2.2.1 = (fun _ => 1#1)
    ∧ (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).2.2.2.1 = (fun _ => 1#1)
    ∧ (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).2.2.2.2.1 = (fun _ => 1#1)
    ∧ (Cert.Pre_pe_bwd_finite.fn (F := Ideal) (m ((c.tc : Thread Cert.PeBwdIdeal.nD Cert.PeBwdIdeal.τ).loc Cert.PeBwdIdeal.main_arg0)) (m ((c.tc : Thread Cert.PeBwdIdeal.nD Cert.PeBwdIdeal.τ).loc Cert.PeBwdIdeal.main_arg1)) (m ((c.tc : Thread Cert.PeBwdIdeal.nD Cert.PeBwdIdeal.τ).loc Cert.PeBwdIdeal.main_arg2)) (m ((c.tc : Thread Cert.PeBwdIdeal.nD Cert.PeBwdIdeal.τ).loc Cert.PeBwdIdeal.main_arg3)) (m ((c.tc : Thread Cert.PeBwdIdeal.nD Cert.PeBwdIdeal.τ).loc Cert.PeBwdIdeal.main_arg4)) (m ((c.tc : Thread Cert.PeBwdIdeal.nD Cert.PeBwdIdeal.τ).loc Cert.PeBwdIdeal.main_arg5))).2.2.2.2.2 = (fun _ => 1#1)

def Pre_PeBwdRefIdeal (m : (ℓ : Loc Cert.PeBwdRefIdeal.nD Cert.PeBwdRefIdeal.τ Cert.PeBwdRefIdeal.sig) → Buf (Elt Ideal) ℓ) : Prop :=
  True

def Pre_PeBwdRefIdeal_pe_bwd_finite [hPre_pe_bwd_finite : Cert.Pre_pe_bwd_finite.Facts] (m : (ℓ : Loc Cert.PeBwdRefIdeal.nD Cert.PeBwdRefIdeal.τ Cert.PeBwdRefIdeal.sig) → Buf (Elt Ideal) ℓ) : Prop :=
  ∀ c : Dev Cert.PeBwdRefIdeal.nD,
    (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).1 = (fun _ => 1#1)
    ∧ (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).2.1 = (fun _ => 1#1)
    ∧ (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).2.2.1 = (fun _ => 1#1)
    ∧ (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).2.2.2.1 = (fun _ => 1#1)
    ∧ (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).2.2.2.2.1 = (fun _ => 1#1)
    ∧ (Cert.Pre_pe_bwd_finite.fn (F := Ideal) (m ((c.tc : Thread Cert.PeBwdRefIdeal.nD Cert.PeBwdRefIdeal.τ).loc Cert.PeBwdRefIdeal.main_arg0)) (m ((c.tc : Thread Cert.PeBwdRefIdeal.nD Cert.PeBwdRefIdeal.τ).loc Cert.PeBwdRefIdeal.main_arg1)) (m ((c.tc : Thread Cert.PeBwdRefIdeal.nD Cert.PeBwdRefIdeal.τ).loc Cert.PeBwdRefIdeal.main_arg2)) (m ((c.tc : Thread Cert.PeBwdRefIdeal.nD Cert.PeBwdRefIdeal.τ).loc Cert.PeBwdRefIdeal.main_arg3)) (m ((c.tc : Thread Cert.PeBwdRefIdeal.nD Cert.PeBwdRefIdeal.τ).loc Cert.PeBwdRefIdeal.main_arg4)) (m ((c.tc : Thread Cert.PeBwdRefIdeal.nD Cert.PeBwdRefIdeal.τ).loc Cert.PeBwdRefIdeal.main_arg5))).2.2.2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_DwFfnInRefIdeal [hDwFfnInRefIdeal : Cert.DwFfnInRefIdeal.Facts] : Prop :=
  ∀ (m : (ℓ : Loc Cert.DwFfnInRefIdeal.nD Cert.DwFfnInRefIdeal.τ Cert.DwFfnInRefIdeal.sig) → Buf (Elt Ideal) ℓ) (g : Dev Cert.DwFfnInRefIdeal.nD → PrngReg), Pre_DwFfnInRefIdeal m →
    θ_run (Cert.DwFfnInRefIdeal.defs (F := Ideal)) (onTc (τ := Cert.DwFfnInRefIdeal.τ) (Cert.DwFfnInRefIdeal.main (F := Ideal))) ⟨m, fun _ => 0, g⟩ (fun r => (∀ c : Dev Cert.DwFfnInRefIdeal.nD,
      r.2.mem ((c.tc : Thread Cert.DwFfnInRefIdeal.nD Cert.DwFfnInRefIdeal.τ).loc Cert.DwFfnInRefIdeal.main_arg0) = m ((c.tc : Thread Cert.DwFfnInRefIdeal.nD Cert.DwFfnInRefIdeal.τ).loc Cert.DwFfnInRefIdeal.main_arg0)
      ∧ r.2.mem ((c.tc : Thread Cert.DwFfnInRefIdeal.nD Cert.DwFfnInRefIdeal.τ).loc Cert.DwFfnInRefIdeal.main_arg1) = m ((c.tc : Thread Cert.DwFfnInRefIdeal.nD Cert.DwFfnInRefIdeal.τ).loc Cert.DwFfnInRefIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_DwFfnOutRefIdeal [hDwFfnOutRefIdeal : Cert.DwFfnOutRefIdeal.Facts] : Prop :=
  ∀ (m : (ℓ : Loc Cert.DwFfnOutRefIdeal.nD Cert.DwFfnOutRefIdeal.τ Cert.DwFfnOutRefIdeal.sig) → Buf (Elt Ideal) ℓ) (g : Dev Cert.DwFfnOutRefIdeal.nD → PrngReg), Pre_DwFfnOutRefIdeal m →
    θ_run (Cert.DwFfnOutRefIdeal.defs (F := Ideal)) (onTc (τ := Cert.DwFfnOutRefIdeal.τ) (Cert.DwFfnOutRefIdeal.main (F := Ideal))) ⟨m, fun _ => 0, g⟩ (fun r => (∀ c : Dev Cert.DwFfnOutRefIdeal.nD,
      r.2.mem ((c.tc : Thread Cert.DwFfnOutRefIdeal.nD Cert.DwFfnOutRefIdeal.τ).loc Cert.DwFfnOutRefIdeal.main_arg0) = m ((c.tc : Thread Cert.DwFfnOutRefIdeal.nD Cert.DwFfnOutRefIdeal.τ).loc Cert.DwFfnOutRefIdeal.main_arg0)
      ∧ r.2.mem ((c.tc : Thread Cert.DwFfnOutRefIdeal.nD Cert.DwFfnOutRefIdeal.τ).loc Cert.DwFfnOutRefIdeal.main_arg1) = m ((c.tc : Thread Cert.DwFfnOutRefIdeal.nD Cert.DwFfnOutRefIdeal.τ).loc Cert.DwFfnOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DwPeGate [hDwPeGate : Cert.DwPeGate.Facts] : Prop :=
  ∀ (m : (ℓ : Loc Cert.DwPeGate.nD Cert.DwPeGate.τ Cert.DwPeGate.sig) → Buf (Elt Bits) ℓ) (g : Dev Cert.DwPeGate.nD → PrngReg), Pre_DwPeGate m →
    θ_run (Cert.DwPeGate.defs (F := Bits)) (onTc (τ := Cert.DwPeGate.τ) (Cert.DwPeGate.main (F := Bits))) ⟨m, fun _ => 0, g⟩ (fun r => (∀ c : Dev Cert.DwPeGate.nD,
      r.2.mem ((c.tc : Thread Cert.DwPeGate.nD Cert.DwPeGate.τ).loc Cert.DwPeGate.main_arg0) = m ((c.tc : Thread Cert.DwPeGate.nD Cert.DwPeGate.τ).loc Cert.DwPeGate.main_arg0)
      ∧ r.2.mem ((c.tc : Thread Cert.DwPeGate.nD Cert.DwPeGate.τ).loc Cert.DwPeGate.main_arg1) = m ((c.tc : Thread Cert.DwPeGate.nD Cert.DwPeGate.τ).loc Cert.DwPeGate.main_arg1))
      ∧ r.2.sem = fun _ => 0)

def quiescent_DwPeGateIdeal [hDwPeGateIdeal : Cert.DwPeGateIdeal.Facts] : Prop :=
  ∀ (m : (ℓ : Loc Cert.DwPeGateIdeal.nD Cert.DwPeGateIdeal.τ Cert.DwPeGateIdeal.sig) → Buf (Elt Ideal) ℓ) (g : Dev Cert.DwPeGateIdeal.nD → PrngReg), Pre_DwPeGateIdeal m →
    θ_run (Cert.DwPeGateIdeal.defs (F := Ideal)) (onTc (τ := Cert.DwPeGateIdeal.τ) (Cert.DwPeGateIdeal.main (F := Ideal))) ⟨m, fun _ => 0, g⟩ (fun r => (∀ c : Dev Cert.DwPeGateIdeal.nD,
      r.2.mem ((c.tc : Thread Cert.DwPeGateIdeal.nD Cert.DwPeGateIdeal.τ).loc Cert.DwPeGateIdeal.main_arg0) = m ((c.tc : Thread Cert.DwPeGateIdeal.nD Cert.DwPeGateIdeal.τ).loc Cert.DwPeGateIdeal.main_arg0)
      ∧ r.2.mem ((c.tc : Thread Cert.DwPeGateIdeal.nD Cert.DwPeGateIdeal.τ).loc Cert.DwPeGateIdeal.main_arg1) = m ((c.tc : Thread Cert.DwPeGateIdeal.nD Cert.DwPeGateIdeal.τ).loc Cert.DwPeGateIdeal.main_arg1))
      ∧ r.2.sem = fun _ => 0)

def quiescent_DwPeGateRefIdeal [hDwPeGateRefIdeal : Cert.DwPeGateRefIdeal.Facts] : Prop :=
  ∀ (m : (ℓ : Loc Cert.DwPeGateRefIdeal.nD Cert.DwPeGateRefIdeal.τ Cert.DwPeGateRefIdeal.sig) → Buf (Elt Ideal) ℓ) (g : Dev Cert.DwPeGateRefIdeal.nD → PrngReg), Pre_DwPeGateRefIdeal m →
    θ_run (Cert.DwPeGateRefIdeal.defs (F := Ideal)) (onTc (τ := Cert.DwPeGateRefIdeal.τ) (Cert.DwPeGateRefIdeal.main (F := Ideal))) ⟨m, fun _ => 0, g⟩ (fun r => (∀ c : Dev Cert.DwPeGateRefIdeal.nD,
      r.2.mem ((c.tc : Thread Cert.DwPeGateRefIdeal.nD Cert.DwPeGateRefIdeal.τ).loc Cert.DwPeGateRefIdeal.main_arg0) = m ((c.tc : Thread Cert.DwPeGateRefIdeal.nD Cert.DwPeGateRefIdeal.τ).loc Cert.DwPeGateRefIdeal.main_arg0)
      ∧ r.2.mem ((c.tc : Thread Cert.DwPeGateRefIdeal.nD Cert.DwPeGateRefIdeal.τ).loc Cert.DwPeGateRefIdeal.main_arg1) = m ((c.tc : Thread Cert.DwPeGateRefIdeal.nD Cert.DwPeGateRefIdeal.τ).loc Cert.DwPeGateRefIdeal.main_arg1))
      ∧ r.2.sem = fun _ => 0)

def quiescent_DwPeProj [hDwPeProj : Cert.DwPeProj.Facts] : Prop :=
  ∀ (m : (ℓ : Loc Cert.DwPeProj.nD Cert.DwPeProj.τ Cert.DwPeProj.sig) → Buf (Elt Bits) ℓ) (g : Dev Cert.DwPeProj.nD → PrngReg), Pre_DwPeProj m →
    θ_run (Cert.DwPeProj.defs (F := Bits)) (onTc (τ := Cert.DwPeProj.τ) (Cert.DwPeProj.main (F := Bits))) ⟨m, fun _ => 0, g⟩ (fun r => (∀ c : Dev Cert.DwPeProj.nD,
      r.2.mem ((c.tc : Thread Cert.DwPeProj.nD Cert.DwPeProj.τ).loc Cert.DwPeProj.main_arg0) = m ((c.tc : Thread Cert.DwPeProj.nD Cert.DwPeProj.τ).loc Cert.DwPeProj.main_arg0)
      ∧ r.2.mem ((c.tc : Thread Cert.DwPeProj.nD Cert.DwPeProj.τ).loc Cert.DwPeProj.main_arg1) = m ((c.tc : Thread Cert.DwPeProj.nD Cert.DwPeProj.τ).loc Cert.DwPeProj.main_arg1))
      ∧ r.2.sem = fun _ => 0)

def quiescent_DwPeProjIdeal [hDwPeProjIdeal : Cert.DwPeProjIdeal.Facts] : Prop :=
  ∀ (m : (ℓ : Loc Cert.DwPeProjIdeal.nD Cert.DwPeProjIdeal.τ Cert.DwPeProjIdeal.sig) → Buf (Elt Ideal) ℓ) (g : Dev Cert.DwPeProjIdeal.nD → PrngReg), Pre_DwPeProjIdeal m →
    θ_run (Cert.DwPeProjIdeal.defs (F := Ideal)) (onTc (τ := Cert.DwPeProjIdeal.τ) (Cert.DwPeProjIdeal.main (F := Ideal))) ⟨m, fun _ => 0, g⟩ (fun r => (∀ c : Dev Cert.DwPeProjIdeal.nD,
      r.2.mem ((c.tc : Thread Cert.DwPeProjIdeal.nD Cert.DwPeProjIdeal.τ).loc Cert.DwPeProjIdeal.main_arg0) = m ((c.tc : Thread Cert.DwPeProjIdeal.nD Cert.DwPeProjIdeal.τ).loc Cert.DwPeProjIdeal.main_arg0)
      ∧ r.2.mem ((c.tc : Thread Cert.DwPeProjIdeal.nD Cert.DwPeProjIdeal.τ).loc Cert.DwPeProjIdeal.main_arg1) = m ((c.tc : Thread Cert.DwPeProjIdeal.nD Cert.DwPeProjIdeal.τ).loc Cert.DwPeProjIdeal.main_arg1))
      ∧ r.2.sem = fun _ => 0)

def quiescent_DwPeProjRefIdeal [hDwPeProjRefIdeal : Cert.DwPeProjRefIdeal.Facts] : Prop :=
  ∀ (m : (ℓ : Loc Cert.DwPeProjRefIdeal.nD Cert.DwPeProjRefIdeal.τ Cert.DwPeProjRefIdeal.sig) → Buf (Elt Ideal) ℓ) (g : Dev Cert.DwPeProjRefIdeal.nD → PrngReg), Pre_DwPeProjRefIdeal m →
    θ_run (Cert.DwPeProjRefIdeal.defs (F := Ideal)) (onTc (τ := Cert.DwPeProjRefIdeal.τ) (Cert.DwPeProjRefIdeal.main (F := Ideal))) ⟨m, fun _ => 0, g⟩ (fun r => (∀ c : Dev Cert.DwPeProjRefIdeal.nD,
      r.2.mem ((c.tc : Thread Cert.DwPeProjRefIdeal.nD Cert.DwPeProjRefIdeal.τ).loc Cert.DwPeProjRefIdeal.main_arg0) = m ((c.tc : Thread Cert.DwPeProjRefIdeal.nD Cert.DwPeProjRefIdeal.τ).loc Cert.DwPeProjRefIdeal.main_arg0)
      ∧ r.2.mem ((c.tc : Thread Cert.DwPeProjRefIdeal.nD Cert.DwPeProjRefIdeal.τ).loc Cert.DwPeProjRefIdeal.main_arg1) = m ((c.tc : Thread Cert.DwPeProjRefIdeal.nD Cert.DwPeProjRefIdeal.τ).loc Cert.DwPeProjRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_MixinFwd [hMixinFwd : Cert.MixinFwd.Facts] : Prop :=
  ∀ (m : (ℓ : Loc Cert.MixinFwd.nD Cert.MixinFwd.τ Cert.MixinFwd.sig) → Buf (Elt Bits) ℓ) (g : Dev Cert.MixinFwd.nD → PrngReg), Pre_MixinFwd m →
    θ_run (Cert.MixinFwd.defs (F := Bits)) (onTc (τ := Cert.MixinFwd.τ) (Cert.MixinFwd.main (F := Bits))) ⟨m, fun _ => 0, g⟩ (fun r => (∀ c : Dev Cert.MixinFwd.nD,
      r.2.mem ((c.tc : Thread Cert.MixinFwd.nD Cert.MixinFwd.τ).loc Cert.MixinFwd.main_arg0) = m ((c.tc : Thread Cert.MixinFwd.nD Cert.MixinFwd.τ).loc Cert.MixinFwd.main_arg0)
      ∧ r.2.mem ((c.tc : Thread Cert.MixinFwd.nD Cert.MixinFwd.τ).loc Cert.MixinFwd.main_arg1) = m ((c.tc : Thread Cert.MixinFwd.nD Cert.MixinFwd.τ).loc Cert.MixinFwd.main_arg1)
      ∧ r.2.mem ((c.tc : Thread Cert.MixinFwd.nD Cert.MixinFwd.τ).loc Cert.MixinFwd.main_arg2) = m ((c.tc : Thread Cert.MixinFwd.nD Cert.MixinFwd.τ).loc Cert.MixinFwd.main_arg2))
      ∧ r.2.sem = fun _ => 0)

def quiescent_MixinFwdIdeal [hMixinFwdIdeal : Cert.MixinFwdIdeal.Facts] : Prop :=
  ∀ (m : (ℓ : Loc Cert.MixinFwdIdeal.nD Cert.MixinFwdIdeal.τ Cert.MixinFwdIdeal.sig) → Buf (Elt Ideal) ℓ) (g : Dev Cert.MixinFwdIdeal.nD → PrngReg), Pre_MixinFwdIdeal m →
    θ_run (Cert.MixinFwdIdeal.defs (F := Ideal)) (onTc (τ := Cert.MixinFwdIdeal.τ) (Cert.MixinFwdIdeal.main (F := Ideal))) ⟨m, fun _ => 0, g⟩ (fun r => (∀ c : Dev Cert.MixinFwdIdeal.nD,
      r.2.mem ((c.tc : Thread Cert.MixinFwdIdeal.nD Cert.MixinFwdIdeal.τ).loc Cert.MixinFwdIdeal.main_arg0) = m ((c.tc : Thread Cert.MixinFwdIdeal.nD Cert.MixinFwdIdeal.τ).loc Cert.MixinFwdIdeal.main_arg0)
      ∧ r.2.mem ((c.tc : Thread Cert.MixinFwdIdeal.nD Cert.MixinFwdIdeal.τ).loc Cert.MixinFwdIdeal.main_arg1) = m ((c.tc : Thread Cert.MixinFwdIdeal.nD Cert.MixinFwdIdeal.τ).loc Cert.MixinFwdIdeal.main_arg1)
      ∧ r.2.mem ((c.tc : Thread Cert.MixinFwdIdeal.nD Cert.MixinFwdIdeal.τ).loc Cert.MixinFwdIdeal.main_arg2) = m ((c.tc : Thread Cert.MixinFwdIdeal.nD Cert.MixinFwdIdeal.τ).loc Cert.MixinFwdIdeal.main_arg2))
      ∧ r.2.sem = fun _ => 0)

def quiescent_MixinFwdRefIdeal [hMixinFwdRefIdeal : Cert.MixinFwdRefIdeal.Facts] : Prop :=
  ∀ (m : (ℓ : Loc Cert.MixinFwdRefIdeal.nD Cert.MixinFwdRefIdeal.τ Cert.MixinFwdRefIdeal.sig) → Buf (Elt Ideal) ℓ) (g : Dev Cert.MixinFwdRefIdeal.nD → PrngReg), Pre_MixinFwdRefIdeal m →
    θ_run (Cert.MixinFwdRefIdeal.defs (F := Ideal)) (onTc (τ := Cert.MixinFwdRefIdeal.τ) (Cert.MixinFwdRefIdeal.main (F := Ideal))) ⟨m, fun _ => 0, g⟩ (fun r => (∀ c : Dev Cert.MixinFwdRefIdeal.nD,
      r.2.mem ((c.tc : Thread Cert.MixinFwdRefIdeal.nD Cert.MixinFwdRefIdeal.τ).loc Cert.MixinFwdRefIdeal.main_arg0) = m ((c.tc : Thread Cert.MixinFwdRefIdeal.nD Cert.MixinFwdRefIdeal.τ).loc Cert.MixinFwdRefIdeal.main_arg0)
      ∧ r.2.mem ((c.tc : Thread Cert.MixinFwdRefIdeal.nD Cert.MixinFwdRefIdeal.τ).loc Cert.MixinFwdRefIdeal.main_arg1) = m ((c.tc : Thread Cert.MixinFwdRefIdeal.nD Cert.MixinFwdRefIdeal.τ).loc Cert.MixinFwdRefIdeal.main_arg1)
      ∧ r.2.mem ((c.tc : Thread Cert.MixinFwdRefIdeal.nD Cert.MixinFwdRefIdeal.τ).loc Cert.MixinFwdRefIdeal.main_arg2) = m ((c.tc : Thread Cert.MixinFwdRefIdeal.nD Cert.MixinFwdRefIdeal.τ).loc Cert.MixinFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_PeFwd [hPeFwd : Cert.PeFwd.Facts] : Prop :=
  ∀ (m : (ℓ : Loc Cert.PeFwd.nD Cert.PeFwd.τ Cert.PeFwd.sig) → Buf (Elt Bits) ℓ) (g : Dev Cert.PeFwd.nD → PrngReg), Pre_PeFwd m →
    θ_run (Cert.PeFwd.defs (F := Bits)) (onTc (τ := Cert.PeFwd.τ) (Cert.PeFwd.main (F := Bits))) ⟨m, fun _ => 0, g⟩ (fun r => (∀ c : Dev Cert.PeFwd.nD,
      r.2.mem ((c.tc : Thread Cert.PeFwd.nD Cert.PeFwd.τ).loc Cert.PeFwd.main_arg0) = m ((c.tc : Thread Cert.PeFwd.nD Cert.PeFwd.τ).loc Cert.PeFwd.main_arg0)
      ∧ r.2.mem ((c.tc : Thread Cert.PeFwd.nD Cert.PeFwd.τ).loc Cert.PeFwd.main_arg1) = m ((c.tc : Thread Cert.PeFwd.nD Cert.PeFwd.τ).loc Cert.PeFwd.main_arg1)
      ∧ r.2.mem ((c.tc : Thread Cert.PeFwd.nD Cert.PeFwd.τ).loc Cert.PeFwd.main_arg2) = m ((c.tc : Thread Cert.PeFwd.nD Cert.PeFwd.τ).loc Cert.PeFwd.main_arg2)
      ∧ r.2.mem ((c.tc : Thread Cert.PeFwd.nD Cert.PeFwd.τ).loc Cert.PeFwd.main_arg3) = m ((c.tc : Thread Cert.PeFwd.nD Cert.PeFwd.τ).loc Cert.PeFwd.main_arg3)
      ∧ r.2.mem ((c.tc : Thread Cert.PeFwd.nD Cert.PeFwd.τ).loc Cert.PeFwd.main_arg4) = m ((c.tc : Thread Cert.PeFwd.nD Cert.PeFwd.τ).loc Cert.PeFwd.main_arg4))
      ∧ r.2.sem = fun _ => 0)

def quiescent_PeFwdIdeal [hPeFwdIdeal : Cert.PeFwdIdeal.Facts] : Prop :=
  ∀ (m : (ℓ : Loc Cert.PeFwdIdeal.nD Cert.PeFwdIdeal.τ Cert.PeFwdIdeal.sig) → Buf (Elt Ideal) ℓ) (g : Dev Cert.PeFwdIdeal.nD → PrngReg), Pre_PeFwdIdeal m →
    θ_run (Cert.PeFwdIdeal.defs (F := Ideal)) (onTc (τ := Cert.PeFwdIdeal.τ) (Cert.PeFwdIdeal.main (F := Ideal))) ⟨m, fun _ => 0, g⟩ (fun r => (∀ c : Dev Cert.PeFwdIdeal.nD,
      r.2.mem ((c.tc : Thread Cert.PeFwdIdeal.nD Cert.PeFwdIdeal.τ).loc Cert.PeFwdIdeal.main_arg0) = m ((c.tc : Thread Cert.PeFwdIdeal.nD Cert.PeFwdIdeal.τ).loc Cert.PeFwdIdeal.main_arg0)
      ∧ r.2.mem ((c.tc : Thread Cert.PeFwdIdeal.nD Cert.PeFwdIdeal.τ).loc Cert.PeFwdIdeal.main_arg1) = m ((c.tc : Thread Cert.PeFwdIdeal.nD Cert.PeFwdIdeal.τ).loc Cert.PeFwdIdeal.main_arg1)
      ∧ r.2.mem ((c.tc : Thread Cert.PeFwdIdeal.nD Cert.PeFwdIdeal.τ).loc Cert.PeFwdIdeal.main_arg2) = m ((c.tc : Thread Cert.PeFwdIdeal.nD Cert.PeFwdIdeal.τ).loc Cert.PeFwdIdeal.main_arg2)
      ∧ r.2.mem ((c.tc : Thread Cert.PeFwdIdeal.nD Cert.PeFwdIdeal.τ).loc Cert.PeFwdIdeal.main_arg3) = m ((c.tc : Thread Cert.PeFwdIdeal.nD Cert.PeFwdIdeal.τ).loc Cert.PeFwdIdeal.main_arg3)
      ∧ r.2.mem ((c.tc : Thread Cert.PeFwdIdeal.nD Cert.PeFwdIdeal.τ).loc Cert.PeFwdIdeal.main_arg4) = m ((c.tc : Thread Cert.PeFwdIdeal.nD Cert.PeFwdIdeal.τ).loc Cert.PeFwdIdeal.main_arg4))
      ∧ r.2.sem = fun _ => 0)

def quiescent_PeFwdRefIdeal [hPeFwdRefIdeal : Cert.PeFwdRefIdeal.Facts] : Prop :=
  ∀ (m : (ℓ : Loc Cert.PeFwdRefIdeal.nD Cert.PeFwdRefIdeal.τ Cert.PeFwdRefIdeal.sig) → Buf (Elt Ideal) ℓ) (g : Dev Cert.PeFwdRefIdeal.nD → PrngReg), Pre_PeFwdRefIdeal m →
    θ_run (Cert.PeFwdRefIdeal.defs (F := Ideal)) (onTc (τ := Cert.PeFwdRefIdeal.τ) (Cert.PeFwdRefIdeal.main (F := Ideal))) ⟨m, fun _ => 0, g⟩ (fun r => (∀ c : Dev Cert.PeFwdRefIdeal.nD,
      r.2.mem ((c.tc : Thread Cert.PeFwdRefIdeal.nD Cert.PeFwdRefIdeal.τ).loc Cert.PeFwdRefIdeal.main_arg0) = m ((c.tc : Thread Cert.PeFwdRefIdeal.nD Cert.PeFwdRefIdeal.τ).loc Cert.PeFwdRefIdeal.main_arg0)
      ∧ r.2.mem ((c.tc : Thread Cert.PeFwdRefIdeal.nD Cert.PeFwdRefIdeal.τ).loc Cert.PeFwdRefIdeal.main_arg1) = m ((c.tc : Thread Cert.PeFwdRefIdeal.nD Cert.PeFwdRefIdeal.τ).loc Cert.PeFwdRefIdeal.main_arg1)
      ∧ r.2.mem ((c.tc : Thread Cert.PeFwdRefIdeal.nD Cert.PeFwdRefIdeal.τ).loc Cert.PeFwdRefIdeal.main_arg2) = m ((c.tc : Thread Cert.PeFwdRefIdeal.nD Cert.PeFwdRefIdeal.τ).loc Cert.PeFwdRefIdeal.main_arg2)
      ∧ r.2.mem ((c.tc : Thread Cert.PeFwdRefIdeal.nD Cert.PeFwdRefIdeal.τ).loc Cert.PeFwdRefIdeal.main_arg3) = m ((c.tc : Thread Cert.PeFwdRefIdeal.nD Cert.PeFwdRefIdeal.τ).loc Cert.PeFwdRefIdeal.main_arg3)
      ∧ r.2.mem ((c.tc : Thread Cert.PeFwdRefIdeal.nD Cert.PeFwdRefIdeal.τ).loc Cert.PeFwdRefIdeal.main_arg4) = m ((c.tc : Thread Cert.PeFwdRefIdeal.nD Cert.PeFwdRefIdeal.τ).loc Cert.PeFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4)
      ∧ r.2.mem ((c.tc : Thread Cert.AdamW.nD Cert.AdamW.τ).loc Cert.AdamW.main_arg5) = m ((c.tc : Thread Cert.AdamW.nD Cert.AdamW.τ).loc Cert.AdamW.main_arg5)
      ∧ r.2.mem ((c.tc : Thread Cert.AdamW.nD Cert.AdamW.τ).loc Cert.AdamW.main_arg6) = m ((c.tc : Thread Cert.AdamW.nD Cert.AdamW.τ).loc Cert.AdamW.main_arg6))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
      ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
      ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4)
      ∧ r.2.mem ((c.tc : Thread Cert.AdamWRefIdeal.nD Cert.AdamWRefIdeal.τ).loc Cert.AdamWRefIdeal.main_arg5) = m ((c.tc : Thread Cert.AdamWRefIdeal.nD Cert.AdamWRefIdeal.τ).loc Cert.AdamWRefIdeal.main_arg5)
      ∧ r.2.mem ((c.tc : Thread Cert.AdamWRefIdeal.nD Cert.AdamWRefIdeal.τ).loc Cert.AdamWRefIdeal.main_arg6) = m ((c.tc : Thread Cert.AdamWRefIdeal.nD Cert.AdamWRefIdeal.τ).loc Cert.AdamWRefIdeal.main_arg6))
      ∧ r.2.sem = fun _ => 0)

def quiescent_BiasTable [hBiasTable : Cert.BiasTable.Facts] : Prop :=
  ∀ (m : (ℓ : Loc Cert.BiasTable.nD Cert.BiasTable.τ Cert.BiasTable.sig) → Buf (Elt Bits) ℓ) (g : Dev Cert.BiasTable.nD → PrngReg), Pre_BiasTable m →
    θ_run (Cert.BiasTable.defs (F := Bits)) (onTc (τ := Cert.BiasTable.τ) (Cert.BiasTable.main (F := Bits))) ⟨m, fun _ => 0, g⟩ (fun r => (∀ c : Dev Cert.BiasTable.nD,
      r.2.mem ((c.tc : Thread Cert.BiasTable.nD Cert.BiasTable.τ).loc Cert.BiasTable.main_arg0) = m ((c.tc : Thread Cert.BiasTable.nD Cert.BiasTable.τ).loc Cert.BiasTable.main_arg0)
      ∧ r.2.mem ((c.tc : Thread Cert.BiasTable.nD Cert.BiasTable.τ).loc Cert.BiasTable.main_arg1) = m ((c.tc : Thread Cert.BiasTable.nD Cert.BiasTable.τ).loc Cert.BiasTable.main_arg1)
      ∧ r.2.mem ((c.tc : Thread Cert.BiasTable.nD Cert.BiasTable.τ).loc Cert.BiasTable.main_arg2) = m ((c.tc : Thread Cert.BiasTable.nD Cert.BiasTable.τ).loc Cert.BiasTable.main_arg2))
      ∧ r.2.sem = fun _ => 0)

def quiescent_BiasTableIdeal [hBiasTableIdeal : Cert.BiasTableIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg), Pre_BiasTableIdeal m →
    θ_run (Cert.BiasTableIdeal.defs (F := Ideal)) (onTc (τ := Cert.BiasTableIdeal.τ) (Cert.BiasTableIdeal.main (F := Ideal))) ⟨m, fun _ => 0, g⟩ (fun r => (∀ c : Dev Cert.BiasTableIdeal.nD,
      r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0)
      ∧ r.2.mem ((c.tc : Thread Cert.BiasTableIdeal.nD Cert.BiasTableIdeal.τ).loc Cert.BiasTableIdeal.main_arg1) = m ((c.tc : Thread Cert.BiasTableIdeal.nD Cert.BiasTableIdeal.τ).loc Cert.BiasTableIdeal.main_arg1)
      ∧ r.2.mem ((c.tc : Thread Cert.BiasTableIdeal.nD Cert.BiasTableIdeal.τ).loc Cert.BiasTableIdeal.main_arg2) = m ((c.tc : Thread Cert.BiasTableIdeal.nD Cert.BiasTableIdeal.τ).loc Cert.BiasTableIdeal.main_arg2))
      ∧ r.2.sem = fun _ => 0)

def quiescent_BiasTableRefIdeal [hBiasTableRefIdeal : Cert.BiasTableRefIdeal.Facts] : Prop :=
  ∀ (m : (ℓ : Loc Cert.BiasTableRefIdeal.nD Cert.BiasTableRefIdeal.τ Cert.BiasTableRefIdeal.sig) → Buf (Elt Ideal) ℓ) (g : Dev Cert.BiasTableRefIdeal.nD → PrngReg), Pre_BiasTableRefIdeal m →
    θ_run (Cert.BiasTableRefIdeal.defs (F := Ideal)) (onTc (τ := Cert.BiasTableRefIdeal.τ) (Cert.BiasTableRefIdeal.main (F := Ideal))) ⟨m, fun _ => 0, g⟩ (fun r => (∀ c : Dev Cert.BiasTableRefIdeal.nD,
      r.2.mem ((c.tc : Thread Cert.BiasTableRefIdeal.nD Cert.BiasTableRefIdeal.τ).loc Cert.BiasTableRefIdeal.main_arg0) = m ((c.tc : Thread Cert.BiasTableRefIdeal.nD Cert.BiasTableRefIdeal.τ).loc Cert.BiasTableRefIdeal.main_arg0)
      ∧ r.2.mem ((c.tc : Thread Cert.BiasTableRefIdeal.nD Cert.BiasTableRefIdeal.τ).loc Cert.BiasTableRefIdeal.main_arg1) = m ((c.tc : Thread Cert.BiasTableRefIdeal.nD Cert.BiasTableRefIdeal.τ).loc Cert.BiasTableRefIdeal.main_arg1)
      ∧ r.2.mem ((c.tc : Thread Cert.BiasTableRefIdeal.nD Cert.BiasTableRefIdeal.τ).loc Cert.BiasTableRefIdeal.main_arg2) = m ((c.tc : Thread Cert.BiasTableRefIdeal.nD Cert.BiasTableRefIdeal.τ).loc Cert.BiasTableRefIdeal.main_arg2))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffn_bwd_finite [hFfnBwdRefIdeal : Cert.FfnBwdRefIdeal.Facts] [hPre_ffn_bwd_finite : Cert.Pre_ffn_bwd_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_bwd_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_MixinBwd [hMixinBwd : Cert.MixinBwd.Facts] : Prop :=
  ∀ (m : (ℓ : Loc Cert.MixinBwd.nD Cert.MixinBwd.τ Cert.MixinBwd.sig) → Buf (Elt Bits) ℓ) (g : Dev Cert.MixinBwd.nD → PrngReg), Pre_MixinBwd m →
    θ_run (Cert.MixinBwd.defs (F := Bits)) (onTc (τ := Cert.MixinBwd.τ) (Cert.MixinBwd.main (F := Bits))) ⟨m, fun _ => 0, g⟩ (fun r => (∀ c : Dev Cert.MixinBwd.nD,
      r.2.mem ((c.tc : Thread Cert.MixinBwd.nD Cert.MixinBwd.τ).loc Cert.MixinBwd.main_arg0) = m ((c.tc : Thread Cert.MixinBwd.nD Cert.MixinBwd.τ).loc Cert.MixinBwd.main_arg0)
      ∧ r.2.mem ((c.tc : Thread Cert.MixinBwd.nD Cert.MixinBwd.τ).loc Cert.MixinBwd.main_arg1) = m ((c.tc : Thread Cert.MixinBwd.nD Cert.MixinBwd.τ).loc Cert.MixinBwd.main_arg1)
      ∧ r.2.mem ((c.tc : Thread Cert.MixinBwd.nD Cert.MixinBwd.τ).loc Cert.MixinBwd.main_arg2) = m ((c.tc : Thread Cert.MixinBwd.nD Cert.MixinBwd.τ).loc Cert.MixinBwd.main_arg2)
      ∧ r.2.mem ((c.tc : Thread Cert.MixinBwd.nD Cert.MixinBwd.τ).loc Cert.MixinBwd.main_arg3) = m ((c.tc : Thread Cert.MixinBwd.nD Cert.MixinBwd.τ).loc Cert.MixinBwd.main_arg3)
      ∧ r.2.mem ((c.tc : Thread Cert.MixinBwd.nD Cert.MixinBwd.τ).loc Cert.MixinBwd.main_arg4) = m ((c.tc : Thread Cert.MixinBwd.nD Cert.MixinBwd.τ).loc Cert.MixinBwd.main_arg4)
      ∧ r.2.mem ((c.tc : Thread Cert.MixinBwd.nD Cert.MixinBwd.τ).loc Cert.MixinBwd.main_arg5) = m ((c.tc : Thread Cert.MixinBwd.nD Cert.MixinBwd.τ).loc Cert.MixinBwd.main_arg5)
      ∧ r.2.mem ((c.tc : Thread Cert.MixinBwd.nD Cert.MixinBwd.τ).loc Cert.MixinBwd.main_arg6) = m ((c.tc : Thread Cert.MixinBwd.nD Cert.MixinBwd.τ).loc Cert.MixinBwd.main_arg6)
      ∧ r.2.mem ((c.tc : Thread Cert.MixinBwd.nD Cert.MixinBwd.τ).loc Cert.MixinBwd.main_arg7) = m ((c.tc : Thread Cert.MixinBwd.nD Cert.MixinBwd.τ).loc Cert.MixinBwd.main_arg7))
      ∧ r.2.sem = fun _ => 0)

def quiescent_MixinBwdIdeal [hMixinBwdIdeal : Cert.MixinBwdIdeal.Facts] : Prop :=
  ∀ (m : (ℓ : Loc Cert.MixinBwdIdeal.nD Cert.MixinBwdIdeal.τ Cert.MixinBwdIdeal.sig) → Buf (Elt Ideal) ℓ) (g : Dev Cert.MixinBwdIdeal.nD → PrngReg), Pre_MixinBwdIdeal m →
    θ_run (Cert.MixinBwdIdeal.defs (F := Ideal)) (onTc (τ := Cert.MixinBwdIdeal.τ) (Cert.MixinBwdIdeal.main (F := Ideal))) ⟨m, fun _ => 0, g⟩ (fun r => (∀ c : Dev Cert.MixinBwdIdeal.nD,
      r.2.mem ((c.tc : Thread Cert.MixinBwdIdeal.nD Cert.MixinBwdIdeal.τ).loc Cert.MixinBwdIdeal.main_arg0) = m ((c.tc : Thread Cert.MixinBwdIdeal.nD Cert.MixinBwdIdeal.τ).loc Cert.MixinBwdIdeal.main_arg0)
      ∧ r.2.mem ((c.tc : Thread Cert.MixinBwdIdeal.nD Cert.MixinBwdIdeal.τ).loc Cert.MixinBwdIdeal.main_arg1) = m ((c.tc : Thread Cert.MixinBwdIdeal.nD Cert.MixinBwdIdeal.τ).loc Cert.MixinBwdIdeal.main_arg1)
      ∧ r.2.mem ((c.tc : Thread Cert.MixinBwdIdeal.nD Cert.MixinBwdIdeal.τ).loc Cert.MixinBwdIdeal.main_arg2) = m ((c.tc : Thread Cert.MixinBwdIdeal.nD Cert.MixinBwdIdeal.τ).loc Cert.MixinBwdIdeal.main_arg2)
      ∧ r.2.mem ((c.tc : Thread Cert.MixinBwdIdeal.nD Cert.MixinBwdIdeal.τ).loc Cert.MixinBwdIdeal.main_arg3) = m ((c.tc : Thread Cert.MixinBwdIdeal.nD Cert.MixinBwdIdeal.τ).loc Cert.MixinBwdIdeal.main_arg3)
      ∧ r.2.mem ((c.tc : Thread Cert.MixinBwdIdeal.nD Cert.MixinBwdIdeal.τ).loc Cert.MixinBwdIdeal.main_arg4) = m ((c.tc : Thread Cert.MixinBwdIdeal.nD Cert.MixinBwdIdeal.τ).loc Cert.MixinBwdIdeal.main_arg4)
      ∧ r.2.mem ((c.tc : Thread Cert.MixinBwdIdeal.nD Cert.MixinBwdIdeal.τ).loc Cert.MixinBwdIdeal.main_arg5) = m ((c.tc : Thread Cert.MixinBwdIdeal.nD Cert.MixinBwdIdeal.τ).loc Cert.MixinBwdIdeal.main_arg5)
      ∧ r.2.mem ((c.tc : Thread Cert.MixinBwdIdeal.nD Cert.MixinBwdIdeal.τ).loc Cert.MixinBwdIdeal.main_arg6) = m ((c.tc : Thread Cert.MixinBwdIdeal.nD Cert.MixinBwdIdeal.τ).loc Cert.MixinBwdIdeal.main_arg6)
      ∧ r.2.mem ((c.tc : Thread Cert.MixinBwdIdeal.nD Cert.MixinBwdIdeal.τ).loc Cert.MixinBwdIdeal.main_arg7) = m ((c.tc : Thread Cert.MixinBwdIdeal.nD Cert.MixinBwdIdeal.τ).loc Cert.MixinBwdIdeal.main_arg7))
      ∧ r.2.sem = fun _ => 0)

def quiescent_MixinBwdIdeal_pre_mixin_bwd_finite [hMixinBwdIdeal : Cert.MixinBwdIdeal.Facts] [hPre_mixin_bwd_finite : Cert.Pre_mixin_bwd_finite.Facts] : Prop :=
  ∀ (m : (ℓ : Loc Cert.MixinBwdIdeal.nD Cert.MixinBwdIdeal.τ Cert.MixinBwdIdeal.sig) → Buf (Elt Ideal) ℓ) (g : Dev Cert.MixinBwdIdeal.nD → PrngReg), Pre_MixinBwdIdeal_mixin_bwd_finite m →
    θ_run (Cert.MixinBwdIdeal.defs (F := Ideal)) (onTc (τ := Cert.MixinBwdIdeal.τ) (Cert.MixinBwdIdeal.main (F := Ideal))) ⟨m, fun _ => 0, g⟩ (fun r => (∀ c : Dev Cert.MixinBwdIdeal.nD,
      r.2.mem ((c.tc : Thread Cert.MixinBwdIdeal.nD Cert.MixinBwdIdeal.τ).loc Cert.MixinBwdIdeal.main_arg0) = m ((c.tc : Thread Cert.MixinBwdIdeal.nD Cert.MixinBwdIdeal.τ).loc Cert.MixinBwdIdeal.main_arg0)
      ∧ r.2.mem ((c.tc : Thread Cert.MixinBwdIdeal.nD Cert.MixinBwdIdeal.τ).loc Cert.MixinBwdIdeal.main_arg1) = m ((c.tc : Thread Cert.MixinBwdIdeal.nD Cert.MixinBwdIdeal.τ).loc Cert.MixinBwdIdeal.main_arg1)
      ∧ r.2.mem ((c.tc : Thread Cert.MixinBwdIdeal.nD Cert.MixinBwdIdeal.τ).loc Cert.MixinBwdIdeal.main_arg2) = m ((c.tc : Thread Cert.MixinBwdIdeal.nD Cert.MixinBwdIdeal.τ).loc Cert.MixinBwdIdeal.main_arg2)
      ∧ r.2.mem ((c.tc : Thread Cert.MixinBwdIdeal.nD Cert.MixinBwdIdeal.τ).loc Cert.MixinBwdIdeal.main_arg3) = m ((c.tc : Thread Cert.MixinBwdIdeal.nD Cert.MixinBwdIdeal.τ).loc Cert.MixinBwdIdeal.main_arg3)
      ∧ r.2.mem ((c.tc : Thread Cert.MixinBwdIdeal.nD Cert.MixinBwdIdeal.τ).loc Cert.MixinBwdIdeal.main_arg4) = m ((c.tc : Thread Cert.MixinBwdIdeal.nD Cert.MixinBwdIdeal.τ).loc Cert.MixinBwdIdeal.main_arg4)
      ∧ r.2.mem ((c.tc : Thread Cert.MixinBwdIdeal.nD Cert.MixinBwdIdeal.τ).loc Cert.MixinBwdIdeal.main_arg5) = m ((c.tc : Thread Cert.MixinBwdIdeal.nD Cert.MixinBwdIdeal.τ).loc Cert.MixinBwdIdeal.main_arg5)
      ∧ r.2.mem ((c.tc : Thread Cert.MixinBwdIdeal.nD Cert.MixinBwdIdeal.τ).loc Cert.MixinBwdIdeal.main_arg6) = m ((c.tc : Thread Cert.MixinBwdIdeal.nD Cert.MixinBwdIdeal.τ).loc Cert.MixinBwdIdeal.main_arg6)
      ∧ r.2.mem ((c.tc : Thread Cert.MixinBwdIdeal.nD Cert.MixinBwdIdeal.τ).loc Cert.MixinBwdIdeal.main_arg7) = m ((c.tc : Thread Cert.MixinBwdIdeal.nD Cert.MixinBwdIdeal.τ).loc Cert.MixinBwdIdeal.main_arg7))
      ∧ r.2.sem = fun _ => 0)

def quiescent_MixinBwdRefIdeal [hMixinBwdRefIdeal : Cert.MixinBwdRefIdeal.Facts] : Prop :=
  ∀ (m : (ℓ : Loc Cert.MixinBwdRefIdeal.nD Cert.MixinBwdRefIdeal.τ Cert.MixinBwdRefIdeal.sig) → Buf (Elt Ideal) ℓ) (g : Dev Cert.MixinBwdRefIdeal.nD → PrngReg), Pre_MixinBwdRefIdeal m →
    θ_run (Cert.MixinBwdRefIdeal.defs (F := Ideal)) (onTc (τ := Cert.MixinBwdRefIdeal.τ) (Cert.MixinBwdRefIdeal.main (F := Ideal))) ⟨m, fun _ => 0, g⟩ (fun r => (∀ c : Dev Cert.MixinBwdRefIdeal.nD,
      r.2.mem ((c.tc : Thread Cert.MixinBwdRefIdeal.nD Cert.MixinBwdRefIdeal.τ).loc Cert.MixinBwdRefIdeal.main_arg0) = m ((c.tc : Thread Cert.MixinBwdRefIdeal.nD Cert.MixinBwdRefIdeal.τ).loc Cert.MixinBwdRefIdeal.main_arg0)
      ∧ r.2.mem ((c.tc : Thread Cert.MixinBwdRefIdeal.nD Cert.MixinBwdRefIdeal.τ).loc Cert.MixinBwdRefIdeal.main_arg1) = m ((c.tc : Thread Cert.MixinBwdRefIdeal.nD Cert.MixinBwdRefIdeal.τ).loc Cert.MixinBwdRefIdeal.main_arg1)
      ∧ r.2.mem ((c.tc : Thread Cert.MixinBwdRefIdeal.nD Cert.MixinBwdRefIdeal.τ).loc Cert.MixinBwdRefIdeal.main_arg2) = m ((c.tc : Thread Cert.MixinBwdRefIdeal.nD Cert.MixinBwdRefIdeal.τ).loc Cert.MixinBwdRefIdeal.main_arg2)
      ∧ r.2.mem ((c.tc : Thread Cert.MixinBwdRefIdeal.nD Cert.MixinBwdRefIdeal.τ).loc Cert.MixinBwdRefIdeal.main_arg3) = m ((c.tc : Thread Cert.MixinBwdRefIdeal.nD Cert.MixinBwdRefIdeal.τ).loc Cert.MixinBwdRefIdeal.main_arg3)
      ∧ r.2.mem ((c.tc : Thread Cert.MixinBwdRefIdeal.nD Cert.MixinBwdRefIdeal.τ).loc Cert.MixinBwdRefIdeal.main_arg4) = m ((c.tc : Thread Cert.MixinBwdRefIdeal.nD Cert.MixinBwdRefIdeal.τ).loc Cert.MixinBwdRefIdeal.main_arg4)
      ∧ r.2.mem ((c.tc : Thread Cert.MixinBwdRefIdeal.nD Cert.MixinBwdRefIdeal.τ).loc Cert.MixinBwdRefIdeal.main_arg5) = m ((c.tc : Thread Cert.MixinBwdRefIdeal.nD Cert.MixinBwdRefIdeal.τ).loc Cert.MixinBwdRefIdeal.main_arg5)
      ∧ r.2.mem ((c.tc : Thread Cert.MixinBwdRefIdeal.nD Cert.MixinBwdRefIdeal.τ).loc Cert.MixinBwdRefIdeal.main_arg6) = m ((c.tc : Thread Cert.MixinBwdRefIdeal.nD Cert.MixinBwdRefIdeal.τ).loc Cert.MixinBwdRefIdeal.main_arg6)
      ∧ r.2.mem ((c.tc : Thread Cert.MixinBwdRefIdeal.nD Cert.MixinBwdRefIdeal.τ).loc Cert.MixinBwdRefIdeal.main_arg7) = m ((c.tc : Thread Cert.MixinBwdRefIdeal.nD Cert.MixinBwdRefIdeal.τ).loc Cert.MixinBwdRefIdeal.main_arg7))
      ∧ r.2.sem = fun _ => 0)

def quiescent_MixinBwdRefIdeal_pre_mixin_bwd_finite [hMixinBwdRefIdeal : Cert.MixinBwdRefIdeal.Facts] [hPre_mixin_bwd_finite : Cert.Pre_mixin_bwd_finite.Facts] : Prop :=
  ∀ (m : (ℓ : Loc Cert.MixinBwdRefIdeal.nD Cert.MixinBwdRefIdeal.τ Cert.MixinBwdRefIdeal.sig) → Buf (Elt Ideal) ℓ) (g : Dev Cert.MixinBwdRefIdeal.nD → PrngReg), Pre_MixinBwdRefIdeal_mixin_bwd_finite m →
    θ_run (Cert.MixinBwdRefIdeal.defs (F := Ideal)) (onTc (τ := Cert.MixinBwdRefIdeal.τ) (Cert.MixinBwdRefIdeal.main (F := Ideal))) ⟨m, fun _ => 0, g⟩ (fun r => (∀ c : Dev Cert.MixinBwdRefIdeal.nD,
      r.2.mem ((c.tc : Thread Cert.MixinBwdRefIdeal.nD Cert.MixinBwdRefIdeal.τ).loc Cert.MixinBwdRefIdeal.main_arg0) = m ((c.tc : Thread Cert.MixinBwdRefIdeal.nD Cert.MixinBwdRefIdeal.τ).loc Cert.MixinBwdRefIdeal.main_arg0)
      ∧ r.2.mem ((c.tc : Thread Cert.MixinBwdRefIdeal.nD Cert.MixinBwdRefIdeal.τ).loc Cert.MixinBwdRefIdeal.main_arg1) = m ((c.tc : Thread Cert.MixinBwdRefIdeal.nD Cert.MixinBwdRefIdeal.τ).loc Cert.MixinBwdRefIdeal.main_arg1)
      ∧ r.2.mem ((c.tc : Thread Cert.MixinBwdRefIdeal.nD Cert.MixinBwdRefIdeal.τ).loc Cert.MixinBwdRefIdeal.main_arg2) = m ((c.tc : Thread Cert.MixinBwdRefIdeal.nD Cert.MixinBwdRefIdeal.τ).loc Cert.MixinBwdRefIdeal.main_arg2)
      ∧ r.2.mem ((c.tc : Thread Cert.MixinBwdRefIdeal.nD Cert.MixinBwdRefIdeal.τ).loc Cert.MixinBwdRefIdeal.main_arg3) = m ((c.tc : Thread Cert.MixinBwdRefIdeal.nD Cert.MixinBwdRefIdeal.τ).loc Cert.MixinBwdRefIdeal.main_arg3)
      ∧ r.2.mem ((c.tc : Thread Cert.MixinBwdRefIdeal.nD Cert.MixinBwdRefIdeal.τ).loc Cert.MixinBwdRefIdeal.main_arg4) = m ((c.tc : Thread Cert.MixinBwdRefIdeal.nD Cert.MixinBwdRefIdeal.τ).loc Cert.MixinBwdRefIdeal.main_arg4)
      ∧ r.2.mem ((c.tc : Thread Cert.MixinBwdRefIdeal.nD Cert.MixinBwdRefIdeal.τ).loc Cert.MixinBwdRefIdeal.main_arg5) = m ((c.tc : Thread Cert.MixinBwdRefIdeal.nD Cert.MixinBwdRefIdeal.τ).loc Cert.MixinBwdRefIdeal.main_arg5)
      ∧ r.2.mem ((c.tc : Thread Cert.MixinBwdRefIdeal.nD Cert.MixinBwdRefIdeal.τ).loc Cert.MixinBwdRefIdeal.main_arg6) = m ((c.tc : Thread Cert.MixinBwdRefIdeal.nD Cert.MixinBwdRefIdeal.τ).loc Cert.MixinBwdRefIdeal.main_arg6)
      ∧ r.2.mem ((c.tc : Thread Cert.MixinBwdRefIdeal.nD Cert.MixinBwdRefIdeal.τ).loc Cert.MixinBwdRefIdeal.main_arg7) = m ((c.tc : Thread Cert.MixinBwdRefIdeal.nD Cert.MixinBwdRefIdeal.τ).loc Cert.MixinBwdRefIdeal.main_arg7))
      ∧ r.2.sem = fun _ => 0)

def quiescent_PeBwd [hPeBwd : Cert.PeBwd.Facts] : Prop :=
  ∀ (m : (ℓ : Loc Cert.PeBwd.nD Cert.PeBwd.τ Cert.PeBwd.sig) → Buf (Elt Bits) ℓ) (g : Dev Cert.PeBwd.nD → PrngReg), Pre_PeBwd m →
    θ_run (Cert.PeBwd.defs (F := Bits)) (onTc (τ := Cert.PeBwd.τ) (Cert.PeBwd.main (F := Bits))) ⟨m, fun _ => 0, g⟩ (fun r => (∀ c : Dev Cert.PeBwd.nD,
      r.2.mem ((c.tc : Thread Cert.PeBwd.nD Cert.PeBwd.τ).loc Cert.PeBwd.main_arg0) = m ((c.tc : Thread Cert.PeBwd.nD Cert.PeBwd.τ).loc Cert.PeBwd.main_arg0)
      ∧ r.2.mem ((c.tc : Thread Cert.PeBwd.nD Cert.PeBwd.τ).loc Cert.PeBwd.main_arg1) = m ((c.tc : Thread Cert.PeBwd.nD Cert.PeBwd.τ).loc Cert.PeBwd.main_arg1)
      ∧ r.2.mem ((c.tc : Thread Cert.PeBwd.nD Cert.PeBwd.τ).loc Cert.PeBwd.main_arg2) = m ((c.tc : Thread Cert.PeBwd.nD Cert.PeBwd.τ).loc Cert.PeBwd.main_arg2)
      ∧ r.2.mem ((c.tc : Thread Cert.PeBwd.nD Cert.PeBwd.τ).loc Cert.PeBwd.main_arg3) = m ((c.tc : Thread Cert.PeBwd.nD Cert.PeBwd.τ).loc Cert.PeBwd.main_arg3)
      ∧ r.2.mem ((c.tc : Thread Cert.PeBwd.nD Cert.PeBwd.τ).loc Cert.PeBwd.main_arg4) = m ((c.tc : Thread Cert.PeBwd.nD Cert.PeBwd.τ).loc Cert.PeBwd.main_arg4)
      ∧ r.2.mem ((c.tc : Thread Cert.PeBwd.nD Cert.PeBwd.τ).loc Cert.PeBwd.main_arg5) = m ((c.tc : Thread Cert.PeBwd.nD Cert.PeBwd.τ).loc Cert.PeBwd.main_arg5))
      ∧ r.2.sem = fun _ => 0)

def quiescent_PeBwdIdeal [hPeBwdIdeal : Cert.PeBwdIdeal.Facts] : Prop :=
  ∀ (m : (ℓ : Loc Cert.PeBwdIdeal.nD Cert.PeBwdIdeal.τ Cert.PeBwdIdeal.sig) → Buf (Elt Ideal) ℓ) (g : Dev Cert.PeBwdIdeal.nD → PrngReg), Pre_PeBwdIdeal m →
    θ_run (Cert.PeBwdIdeal.defs (F := Ideal)) (onTc (τ := Cert.PeBwdIdeal.τ) (Cert.PeBwdIdeal.main (F := Ideal))) ⟨m, fun _ => 0, g⟩ (fun r => (∀ c : Dev Cert.PeBwdIdeal.nD,
      r.2.mem ((c.tc : Thread Cert.PeBwdIdeal.nD Cert.PeBwdIdeal.τ).loc Cert.PeBwdIdeal.main_arg0) = m ((c.tc : Thread Cert.PeBwdIdeal.nD Cert.PeBwdIdeal.τ).loc Cert.PeBwdIdeal.main_arg0)
      ∧ r.2.mem ((c.tc : Thread Cert.PeBwdIdeal.nD Cert.PeBwdIdeal.τ).loc Cert.PeBwdIdeal.main_arg1) = m ((c.tc : Thread Cert.PeBwdIdeal.nD Cert.PeBwdIdeal.τ).loc Cert.PeBwdIdeal.main_arg1)
      ∧ r.2.mem ((c.tc : Thread Cert.PeBwdIdeal.nD Cert.PeBwdIdeal.τ).loc Cert.PeBwdIdeal.main_arg2) = m ((c.tc : Thread Cert.PeBwdIdeal.nD Cert.PeBwdIdeal.τ).loc Cert.PeBwdIdeal.main_arg2)
      ∧ r.2.mem ((c.tc : Thread Cert.PeBwdIdeal.nD Cert.PeBwdIdeal.τ).loc Cert.PeBwdIdeal.main_arg3) = m ((c.tc : Thread Cert.PeBwdIdeal.nD Cert.PeBwdIdeal.τ).loc Cert.PeBwdIdeal.main_arg3)
      ∧ r.2.mem ((c.tc : Thread Cert.PeBwdIdeal.nD Cert.PeBwdIdeal.τ).loc Cert.PeBwdIdeal.main_arg4) = m ((c.tc : Thread Cert.PeBwdIdeal.nD Cert.PeBwdIdeal.τ).loc Cert.PeBwdIdeal.main_arg4)
      ∧ r.2.mem ((c.tc : Thread Cert.PeBwdIdeal.nD Cert.PeBwdIdeal.τ).loc Cert.PeBwdIdeal.main_arg5) = m ((c.tc : Thread Cert.PeBwdIdeal.nD Cert.PeBwdIdeal.τ).loc Cert.PeBwdIdeal.main_arg5))
      ∧ r.2.sem = fun _ => 0)

def quiescent_PeBwdIdeal_pre_pe_bwd_finite [hPeBwdIdeal : Cert.PeBwdIdeal.Facts] [hPre_pe_bwd_finite : Cert.Pre_pe_bwd_finite.Facts] : Prop :=
  ∀ (m : (ℓ : Loc Cert.PeBwdIdeal.nD Cert.PeBwdIdeal.τ Cert.PeBwdIdeal.sig) → Buf (Elt Ideal) ℓ) (g : Dev Cert.PeBwdIdeal.nD → PrngReg), Pre_PeBwdIdeal_pe_bwd_finite m →
    θ_run (Cert.PeBwdIdeal.defs (F := Ideal)) (onTc (τ := Cert.PeBwdIdeal.τ) (Cert.PeBwdIdeal.main (F := Ideal))) ⟨m, fun _ => 0, g⟩ (fun r => (∀ c : Dev Cert.PeBwdIdeal.nD,
      r.2.mem ((c.tc : Thread Cert.PeBwdIdeal.nD Cert.PeBwdIdeal.τ).loc Cert.PeBwdIdeal.main_arg0) = m ((c.tc : Thread Cert.PeBwdIdeal.nD Cert.PeBwdIdeal.τ).loc Cert.PeBwdIdeal.main_arg0)
      ∧ r.2.mem ((c.tc : Thread Cert.PeBwdIdeal.nD Cert.PeBwdIdeal.τ).loc Cert.PeBwdIdeal.main_arg1) = m ((c.tc : Thread Cert.PeBwdIdeal.nD Cert.PeBwdIdeal.τ).loc Cert.PeBwdIdeal.main_arg1)
      ∧ r.2.mem ((c.tc : Thread Cert.PeBwdIdeal.nD Cert.PeBwdIdeal.τ).loc Cert.PeBwdIdeal.main_arg2) = m ((c.tc : Thread Cert.PeBwdIdeal.nD Cert.PeBwdIdeal.τ).loc Cert.PeBwdIdeal.main_arg2)
      ∧ r.2.mem ((c.tc : Thread Cert.PeBwdIdeal.nD Cert.PeBwdIdeal.τ).loc Cert.PeBwdIdeal.main_arg3) = m ((c.tc : Thread Cert.PeBwdIdeal.nD Cert.PeBwdIdeal.τ).loc Cert.PeBwdIdeal.main_arg3)
      ∧ r.2.mem ((c.tc : Thread Cert.PeBwdIdeal.nD Cert.PeBwdIdeal.τ).loc Cert.PeBwdIdeal.main_arg4) = m ((c.tc : Thread Cert.PeBwdIdeal.nD Cert.PeBwdIdeal.τ).loc Cert.PeBwdIdeal.main_arg4)
      ∧ r.2.mem ((c.tc : Thread Cert.PeBwdIdeal.nD Cert.PeBwdIdeal.τ).loc Cert.PeBwdIdeal.main_arg5) = m ((c.tc : Thread Cert.PeBwdIdeal.nD Cert.PeBwdIdeal.τ).loc Cert.PeBwdIdeal.main_arg5))
      ∧ r.2.sem = fun _ => 0)

def quiescent_PeBwdRefIdeal [hPeBwdRefIdeal : Cert.PeBwdRefIdeal.Facts] : Prop :=
  ∀ (m : (ℓ : Loc Cert.PeBwdRefIdeal.nD Cert.PeBwdRefIdeal.τ Cert.PeBwdRefIdeal.sig) → Buf (Elt Ideal) ℓ) (g : Dev Cert.PeBwdRefIdeal.nD → PrngReg), Pre_PeBwdRefIdeal m →
    θ_run (Cert.PeBwdRefIdeal.defs (F := Ideal)) (onTc (τ := Cert.PeBwdRefIdeal.τ) (Cert.PeBwdRefIdeal.main (F := Ideal))) ⟨m, fun _ => 0, g⟩ (fun r => (∀ c : Dev Cert.PeBwdRefIdeal.nD,
      r.2.mem ((c.tc : Thread Cert.PeBwdRefIdeal.nD Cert.PeBwdRefIdeal.τ).loc Cert.PeBwdRefIdeal.main_arg0) = m ((c.tc : Thread Cert.PeBwdRefIdeal.nD Cert.PeBwdRefIdeal.τ).loc Cert.PeBwdRefIdeal.main_arg0)
      ∧ r.2.mem ((c.tc : Thread Cert.PeBwdRefIdeal.nD Cert.PeBwdRefIdeal.τ).loc Cert.PeBwdRefIdeal.main_arg1) = m ((c.tc : Thread Cert.PeBwdRefIdeal.nD Cert.PeBwdRefIdeal.τ).loc Cert.PeBwdRefIdeal.main_arg1)
      ∧ r.2.mem ((c.tc : Thread Cert.PeBwdRefIdeal.nD Cert.PeBwdRefIdeal.τ).loc Cert.PeBwdRefIdeal.main_arg2) = m ((c.tc : Thread Cert.PeBwdRefIdeal.nD Cert.PeBwdRefIdeal.τ).loc Cert.PeBwdRefIdeal.main_arg2)
      ∧ r.2.mem ((c.tc : Thread Cert.PeBwdRefIdeal.nD Cert.PeBwdRefIdeal.τ).loc Cert.PeBwdRefIdeal.main_arg3) = m ((c.tc : Thread Cert.PeBwdRefIdeal.nD Cert.PeBwdRefIdeal.τ).loc Cert.PeBwdRefIdeal.main_arg3)
      ∧ r.2.mem ((c.tc : Thread Cert.PeBwdRefIdeal.nD Cert.PeBwdRefIdeal.τ).loc Cert.PeBwdRefIdeal.main_arg4) = m ((c.tc : Thread Cert.PeBwdRefIdeal.nD Cert.PeBwdRefIdeal.τ).loc Cert.PeBwdRefIdeal.main_arg4)
      ∧ r.2.mem ((c.tc : Thread Cert.PeBwdRefIdeal.nD Cert.PeBwdRefIdeal.τ).loc Cert.PeBwdRefIdeal.main_arg5) = m ((c.tc : Thread Cert.PeBwdRefIdeal.nD Cert.PeBwdRefIdeal.τ).loc Cert.PeBwdRefIdeal.main_arg5))
      ∧ r.2.sem = fun _ => 0)

def quiescent_PeBwdRefIdeal_pre_pe_bwd_finite [hPeBwdRefIdeal : Cert.PeBwdRefIdeal.Facts] [hPre_pe_bwd_finite : Cert.Pre_pe_bwd_finite.Facts] : Prop :=
  ∀ (m : (ℓ : Loc Cert.PeBwdRefIdeal.nD Cert.PeBwdRefIdeal.τ Cert.PeBwdRefIdeal.sig) → Buf (Elt Ideal) ℓ) (g : Dev Cert.PeBwdRefIdeal.nD → PrngReg), Pre_PeBwdRefIdeal_pe_bwd_finite m →
    θ_run (Cert.PeBwdRefIdeal.defs (F := Ideal)) (onTc (τ := Cert.PeBwdRefIdeal.τ) (Cert.PeBwdRefIdeal.main (F := Ideal))) ⟨m, fun _ => 0, g⟩ (fun r => (∀ c : Dev Cert.PeBwdRefIdeal.nD,
      r.2.mem ((c.tc : Thread Cert.PeBwdRefIdeal.nD Cert.PeBwdRefIdeal.τ).loc Cert.PeBwdRefIdeal.main_arg0) = m ((c.tc : Thread Cert.PeBwdRefIdeal.nD Cert.PeBwdRefIdeal.τ).loc Cert.PeBwdRefIdeal.main_arg0)
      ∧ r.2.mem ((c.tc : Thread Cert.PeBwdRefIdeal.nD Cert.PeBwdRefIdeal.τ).loc Cert.PeBwdRefIdeal.main_arg1) = m ((c.tc : Thread Cert.PeBwdRefIdeal.nD Cert.PeBwdRefIdeal.τ).loc Cert.PeBwdRefIdeal.main_arg1)
      ∧ r.2.mem ((c.tc : Thread Cert.PeBwdRefIdeal.nD Cert.PeBwdRefIdeal.τ).loc Cert.PeBwdRefIdeal.main_arg2) = m ((c.tc : Thread Cert.PeBwdRefIdeal.nD Cert.PeBwdRefIdeal.τ).loc Cert.PeBwdRefIdeal.main_arg2)
      ∧ r.2.mem ((c.tc : Thread Cert.PeBwdRefIdeal.nD Cert.PeBwdRefIdeal.τ).loc Cert.PeBwdRefIdeal.main_arg3) = m ((c.tc : Thread Cert.PeBwdRefIdeal.nD Cert.PeBwdRefIdeal.τ).loc Cert.PeBwdRefIdeal.main_arg3)
      ∧ r.2.mem ((c.tc : Thread Cert.PeBwdRefIdeal.nD Cert.PeBwdRefIdeal.τ).loc Cert.PeBwdRefIdeal.main_arg4) = m ((c.tc : Thread Cert.PeBwdRefIdeal.nD Cert.PeBwdRefIdeal.τ).loc Cert.PeBwdRefIdeal.main_arg4)
      ∧ r.2.mem ((c.tc : Thread Cert.PeBwdRefIdeal.nD Cert.PeBwdRefIdeal.τ).loc Cert.PeBwdRefIdeal.main_arg5) = m ((c.tc : Thread Cert.PeBwdRefIdeal.nD Cert.PeBwdRefIdeal.τ).loc Cert.PeBwdRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v34) = v1 c
          ∧ r.2.mem ((c.tc : Thread Cert.MergeRefIdeal.nD Cert.MergeRefIdeal.τ).loc Cert.MergeRefIdeal.main_v35) = v2 c
          ∧ r.2.mem ((c.tc : Thread Cert.MergeRefIdeal.nD Cert.MergeRefIdeal.τ).loc Cert.MergeRefIdeal.main_v36) = v3 c
          ∧ r.2.mem ((c.tc : Thread Cert.MergeRefIdeal.nD Cert.MergeRefIdeal.τ).loc Cert.MergeRefIdeal.main_v37) = v4 c
          ∧ r.2.mem ((c.tc : Thread Cert.MergeRefIdeal.nD Cert.MergeRefIdeal.τ).loc Cert.MergeRefIdeal.main_v38) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_DwFfnIn_DwFfnInIdeal : Prop :=
  True

def algebraic_DwFfnInIdeal_DwFfnInRefIdeal [hDwFfnInIdeal : Cert.DwFfnInIdeal.Facts] [hDwFfnInRefIdeal : Cert.DwFfnInRefIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInRefIdeal.nD Cert.DwFfnInRefIdeal.τ Cert.DwFfnInRefIdeal.sig) → Buf (Elt Ideal) ℓ) (g' : Dev Cert.DwFfnInRefIdeal.nD → PrngReg), Pre_DwFfnInIdeal m →
    (∀ c : Dev Cert.DwFfnInIdeal.nD,
      m' ((c.tc : Thread Cert.DwFfnInRefIdeal.nD Cert.DwFfnInRefIdeal.τ).loc Cert.DwFfnInRefIdeal.main_arg0) = m ((c.tc : Thread Cert.DwFfnInIdeal.nD Cert.DwFfnInIdeal.τ).loc Cert.DwFfnInIdeal.main_arg0)
      ∧ m' ((c.tc : Thread Cert.DwFfnInRefIdeal.nD Cert.DwFfnInRefIdeal.τ).loc Cert.DwFfnInRefIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v2)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v2) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.DwFfnInRefIdeal.defs (F := Ideal)) (onTc (τ := Cert.DwFfnInRefIdeal.τ) (Cert.DwFfnInRefIdeal.main (F := Ideal))) ⟨m', fun _ => 0, g'⟩ (fun r => ∀ c : Dev Cert.DwFfnInRefIdeal.nD,
          r.2.mem ((c.tc : Thread Cert.DwFfnInRefIdeal.nD Cert.DwFfnInRefIdeal.τ).loc Cert.DwFfnInRefIdeal.main_v9) = v0 c
          ∧ r.2.mem ((c.tc : Thread Cert.DwFfnInRefIdeal.nD Cert.DwFfnInRefIdeal.τ).loc Cert.DwFfnInRefIdeal.main_arg0) = m' ((c.tc : Thread Cert.DwFfnInRefIdeal.nD Cert.DwFfnInRefIdeal.τ).loc Cert.DwFfnInRefIdeal.main_arg0)
          ∧ r.2.mem ((c.tc : Thread Cert.DwFfnInRefIdeal.nD Cert.DwFfnInRefIdeal.τ).loc Cert.DwFfnInRefIdeal.main_arg1) = m' ((c.tc : Thread Cert.DwFfnInRefIdeal.nD Cert.DwFfnInRefIdeal.τ).loc Cert.DwFfnInRefIdeal.main_arg1))

def preserves_DwFfnOut_DwFfnOutIdeal : Prop :=
  True

def algebraic_DwFfnOutIdeal_DwFfnOutRefIdeal [hDwFfnOutIdeal : Cert.DwFfnOutIdeal.Facts] [hDwFfnOutRefIdeal : Cert.DwFfnOutRefIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.DwFfnOutRefIdeal.nD Cert.DwFfnOutRefIdeal.τ Cert.DwFfnOutRefIdeal.sig) → Buf (Elt Ideal) ℓ) (g' : Dev Cert.DwFfnOutRefIdeal.nD → PrngReg), Pre_DwFfnOutIdeal m →
    (∀ c : Dev Cert.DwFfnOutIdeal.nD,
      m' ((c.tc : Thread Cert.DwFfnOutRefIdeal.nD Cert.DwFfnOutRefIdeal.τ).loc Cert.DwFfnOutRefIdeal.main_arg0) = m ((c.tc : Thread Cert.DwFfnOutIdeal.nD Cert.DwFfnOutIdeal.τ).loc Cert.DwFfnOutIdeal.main_arg0)
      ∧ m' ((c.tc : Thread Cert.DwFfnOutRefIdeal.nD Cert.DwFfnOutRefIdeal.τ).loc Cert.DwFfnOutRefIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v1)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v1) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.DwFfnOutRefIdeal.defs (F := Ideal)) (onTc (τ := Cert.DwFfnOutRefIdeal.τ) (Cert.DwFfnOutRefIdeal.main (F := Ideal))) ⟨m', fun _ => 0, g'⟩ (fun r => ∀ c : Dev Cert.DwFfnOutRefIdeal.nD,
          r.2.mem ((c.tc : Thread Cert.DwFfnOutRefIdeal.nD Cert.DwFfnOutRefIdeal.τ).loc Cert.DwFfnOutRefIdeal.main_v8) = v0 c
          ∧ r.2.mem ((c.tc : Thread Cert.DwFfnOutRefIdeal.nD Cert.DwFfnOutRefIdeal.τ).loc Cert.DwFfnOutRefIdeal.main_arg0) = m' ((c.tc : Thread Cert.DwFfnOutRefIdeal.nD Cert.DwFfnOutRefIdeal.τ).loc Cert.DwFfnOutRefIdeal.main_arg0)
          ∧ r.2.mem ((c.tc : Thread Cert.DwFfnOutRefIdeal.nD Cert.DwFfnOutRefIdeal.τ).loc Cert.DwFfnOutRefIdeal.main_arg1) = m' ((c.tc : Thread Cert.DwFfnOutRefIdeal.nD Cert.DwFfnOutRefIdeal.τ).loc Cert.DwFfnOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v2)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v2) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v4) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v2)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v2) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v5) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DwPeGate_DwPeGateIdeal : Prop :=
  True

def algebraic_DwPeGateIdeal_DwPeGateRefIdeal [hDwPeGateIdeal : Cert.DwPeGateIdeal.Facts] [hDwPeGateRefIdeal : Cert.DwPeGateRefIdeal.Facts] : Prop :=
  ∀ (m : (ℓ : Loc Cert.DwPeGateIdeal.nD Cert.DwPeGateIdeal.τ Cert.DwPeGateIdeal.sig) → Buf (Elt Ideal) ℓ) (g : Dev Cert.DwPeGateIdeal.nD → PrngReg)
    (m' : (ℓ : Loc Cert.DwPeGateRefIdeal.nD Cert.DwPeGateRefIdeal.τ Cert.DwPeGateRefIdeal.sig) → Buf (Elt Ideal) ℓ) (g' : Dev Cert.DwPeGateRefIdeal.nD → PrngReg), Pre_DwPeGateIdeal m →
    (∀ c : Dev Cert.DwPeGateIdeal.nD,
      m' ((c.tc : Thread Cert.DwPeGateRefIdeal.nD Cert.DwPeGateRefIdeal.τ).loc Cert.DwPeGateRefIdeal.main_arg0) = m ((c.tc : Thread Cert.DwPeGateIdeal.nD Cert.DwPeGateIdeal.τ).loc Cert.DwPeGateIdeal.main_arg0)
      ∧ m' ((c.tc : Thread Cert.DwPeGateRefIdeal.nD Cert.DwPeGateRefIdeal.τ).loc Cert.DwPeGateRefIdeal.main_arg1) = m ((c.tc : Thread Cert.DwPeGateIdeal.nD Cert.DwPeGateIdeal.τ).loc Cert.DwPeGateIdeal.main_arg1)) →
    ∃ (v0 : (c : Dev Cert.DwPeGateIdeal.nD) → Buf (Elt Ideal) ((c.tc : Thread Cert.DwPeGateIdeal.nD Cert.DwPeGateIdeal.τ).loc Cert.DwPeGateIdeal.main_v2)),
      θ_run (Cert.DwPeGateIdeal.defs (F := Ideal)) (onTc (τ := Cert.DwPeGateIdeal.τ) (Cert.DwPeGateIdeal.main (F := Ideal))) ⟨m, fun _ => 0, g⟩ (fun r => ∀ c : Dev Cert.DwPeGateIdeal.nD,
          r.2.mem ((c.tc : Thread Cert.DwPeGateIdeal.nD Cert.DwPeGateIdeal.τ).loc Cert.DwPeGateIdeal.main_v2) = v0 c
          ∧ r.2.mem ((c.tc : Thread Cert.DwPeGateIdeal.nD Cert.DwPeGateIdeal.τ).loc Cert.DwPeGateIdeal.main_arg0) = m ((c.tc : Thread Cert.DwPeGateIdeal.nD Cert.DwPeGateIdeal.τ).loc Cert.DwPeGateIdeal.main_arg0)
          ∧ r.2.mem ((c.tc : Thread Cert.DwPeGateIdeal.nD Cert.DwPeGateIdeal.τ).loc Cert.DwPeGateIdeal.main_arg1) = m ((c.tc : Thread Cert.DwPeGateIdeal.nD Cert.DwPeGateIdeal.τ).loc Cert.DwPeGateIdeal.main_arg1))
      ∧ θ_run (Cert.DwPeGateRefIdeal.defs (F := Ideal)) (onTc (τ := Cert.DwPeGateRefIdeal.τ) (Cert.DwPeGateRefIdeal.main (F := Ideal))) ⟨m', fun _ => 0, g'⟩ (fun r => ∀ c : Dev Cert.DwPeGateRefIdeal.nD,
          r.2.mem ((c.tc : Thread Cert.DwPeGateRefIdeal.nD Cert.DwPeGateRefIdeal.τ).loc Cert.DwPeGateRefIdeal.main_v5) = v0 c
          ∧ r.2.mem ((c.tc : Thread Cert.DwPeGateRefIdeal.nD Cert.DwPeGateRefIdeal.τ).loc Cert.DwPeGateRefIdeal.main_arg0) = m' ((c.tc : Thread Cert.DwPeGateRefIdeal.nD Cert.DwPeGateRefIdeal.τ).loc Cert.DwPeGateRefIdeal.main_arg0)
          ∧ r.2.mem ((c.tc : Thread Cert.DwPeGateRefIdeal.nD Cert.DwPeGateRefIdeal.τ).loc Cert.DwPeGateRefIdeal.main_arg1) = m' ((c.tc : Thread Cert.DwPeGateRefIdeal.nD Cert.DwPeGateRefIdeal.τ).loc Cert.DwPeGateRefIdeal.main_arg1))

def preserves_DwPeProj_DwPeProjIdeal : Prop :=
  True

def algebraic_DwPeProjIdeal_DwPeProjRefIdeal [hDwPeProjIdeal : Cert.DwPeProjIdeal.Facts] [hDwPeProjRefIdeal : Cert.DwPeProjRefIdeal.Facts] : Prop :=
  ∀ (m : (ℓ : Loc Cert.DwPeProjIdeal.nD Cert.DwPeProjIdeal.τ Cert.DwPeProjIdeal.sig) → Buf (Elt Ideal) ℓ) (g : Dev Cert.DwPeProjIdeal.nD → PrngReg)
    (m' : (ℓ : Loc Cert.DwPeProjRefIdeal.nD Cert.DwPeProjRefIdeal.τ Cert.DwPeProjRefIdeal.sig) → Buf (Elt Ideal) ℓ) (g' : Dev Cert.DwPeProjRefIdeal.nD → PrngReg), Pre_DwPeProjIdeal m →
    (∀ c : Dev Cert.DwPeProjIdeal.nD,
      m' ((c.tc : Thread Cert.DwPeProjRefIdeal.nD Cert.DwPeProjRefIdeal.τ).loc Cert.DwPeProjRefIdeal.main_arg0) = m ((c.tc : Thread Cert.DwPeProjIdeal.nD Cert.DwPeProjIdeal.τ).loc Cert.DwPeProjIdeal.main_arg0)
      ∧ m' ((c.tc : Thread Cert.DwPeProjRefIdeal.nD Cert.DwPeProjRefIdeal.τ).loc Cert.DwPeProjRefIdeal.main_arg1) = m ((c.tc : Thread Cert.DwPeProjIdeal.nD Cert.DwPeProjIdeal.τ).loc Cert.DwPeProjIdeal.main_arg1)) →
    ∃ (v0 : (c : Dev Cert.DwPeProjIdeal.nD) → Buf (Elt Ideal) ((c.tc : Thread Cert.DwPeProjIdeal.nD Cert.DwPeProjIdeal.τ).loc Cert.DwPeProjIdeal.main_v2)),
      θ_run (Cert.DwPeProjIdeal.defs (F := Ideal)) (onTc (τ := Cert.DwPeProjIdeal.τ) (Cert.DwPeProjIdeal.main (F := Ideal))) ⟨m, fun _ => 0, g⟩ (fun r => ∀ c : Dev Cert.DwPeProjIdeal.nD,
          r.2.mem ((c.tc : Thread Cert.DwPeProjIdeal.nD Cert.DwPeProjIdeal.τ).loc Cert.DwPeProjIdeal.main_v2) = v0 c
          ∧ r.2.mem ((c.tc : Thread Cert.DwPeProjIdeal.nD Cert.DwPeProjIdeal.τ).loc Cert.DwPeProjIdeal.main_arg0) = m ((c.tc : Thread Cert.DwPeProjIdeal.nD Cert.DwPeProjIdeal.τ).loc Cert.DwPeProjIdeal.main_arg0)
          ∧ r.2.mem ((c.tc : Thread Cert.DwPeProjIdeal.nD Cert.DwPeProjIdeal.τ).loc Cert.DwPeProjIdeal.main_arg1) = m ((c.tc : Thread Cert.DwPeProjIdeal.nD Cert.DwPeProjIdeal.τ).loc Cert.DwPeProjIdeal.main_arg1))
      ∧ θ_run (Cert.DwPeProjRefIdeal.defs (F := Ideal)) (onTc (τ := Cert.DwPeProjRefIdeal.τ) (Cert.DwPeProjRefIdeal.main (F := Ideal))) ⟨m', fun _ => 0, g'⟩ (fun r => ∀ c : Dev Cert.DwPeProjRefIdeal.nD,
          r.2.mem ((c.tc : Thread Cert.DwPeProjRefIdeal.nD Cert.DwPeProjRefIdeal.τ).loc Cert.DwPeProjRefIdeal.main_v6) = v0 c
          ∧ r.2.mem ((c.tc : Thread Cert.DwPeProjRefIdeal.nD Cert.DwPeProjRefIdeal.τ).loc Cert.DwPeProjRefIdeal.main_arg0) = m' ((c.tc : Thread Cert.DwPeProjRefIdeal.nD Cert.DwPeProjRefIdeal.τ).loc Cert.DwPeProjRefIdeal.main_arg0)
          ∧ r.2.mem ((c.tc : Thread Cert.DwPeProjRefIdeal.nD Cert.DwPeProjRefIdeal.τ).loc Cert.DwPeProjRefIdeal.main_arg1) = m' ((c.tc : Thread Cert.DwPeProjRefIdeal.nD Cert.DwPeProjRefIdeal.τ).loc Cert.DwPeProjRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v25) = v0 c
          ∧ r.2.mem ((c.tc : Thread Cert.FfnFwdRefIdeal.nD Cert.FfnFwdRefIdeal.τ).loc Cert.FfnFwdRefIdeal.main_v26) = v1 c
          ∧ r.2.mem ((c.tc : Thread Cert.FfnFwdRefIdeal.nD Cert.FfnFwdRefIdeal.τ).loc Cert.FfnFwdRefIdeal.main_v29) = v2 c
          ∧ r.2.mem ((c.tc : Thread Cert.FfnFwdRefIdeal.nD Cert.FfnFwdRefIdeal.τ).loc Cert.FfnFwdRefIdeal.main_v32) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_MixinFwd_MixinFwdIdeal : Prop :=
  True

def algebraic_MixinFwdIdeal_MixinFwdRefIdeal [hMixinFwdIdeal : Cert.MixinFwdIdeal.Facts] [hMixinFwdRefIdeal : Cert.MixinFwdRefIdeal.Facts] : Prop :=
  ∀ (m : (ℓ : Loc Cert.MixinFwdIdeal.nD Cert.MixinFwdIdeal.τ Cert.MixinFwdIdeal.sig) → Buf (Elt Ideal) ℓ) (g : Dev Cert.MixinFwdIdeal.nD → PrngReg)
    (m' : (ℓ : Loc Cert.MixinFwdRefIdeal.nD Cert.MixinFwdRefIdeal.τ Cert.MixinFwdRefIdeal.sig) → Buf (Elt Ideal) ℓ) (g' : Dev Cert.MixinFwdRefIdeal.nD → PrngReg), Pre_MixinFwdIdeal m →
    (∀ c : Dev Cert.MixinFwdIdeal.nD,
      m' ((c.tc : Thread Cert.MixinFwdRefIdeal.nD Cert.MixinFwdRefIdeal.τ).loc Cert.MixinFwdRefIdeal.main_arg0) = m ((c.tc : Thread Cert.MixinFwdIdeal.nD Cert.MixinFwdIdeal.τ).loc Cert.MixinFwdIdeal.main_arg0)
      ∧ m' ((c.tc : Thread Cert.MixinFwdRefIdeal.nD Cert.MixinFwdRefIdeal.τ).loc Cert.MixinFwdRefIdeal.main_arg1) = m ((c.tc : Thread Cert.MixinFwdIdeal.nD Cert.MixinFwdIdeal.τ).loc Cert.MixinFwdIdeal.main_arg1)
      ∧ m' ((c.tc : Thread Cert.MixinFwdRefIdeal.nD Cert.MixinFwdRefIdeal.τ).loc Cert.MixinFwdRefIdeal.main_arg2) = m ((c.tc : Thread Cert.MixinFwdIdeal.nD Cert.MixinFwdIdeal.τ).loc Cert.MixinFwdIdeal.main_arg2)) →
    ∃ (v0 : (c : Dev Cert.MixinFwdIdeal.nD) → Buf (Elt Ideal) ((c.tc : Thread Cert.MixinFwdIdeal.nD Cert.MixinFwdIdeal.τ).loc Cert.MixinFwdIdeal.main_v0_0)) (v1 : (c : Dev Cert.MixinFwdIdeal.nD) → Buf (Elt Ideal) ((c.tc : Thread Cert.MixinFwdIdeal.nD Cert.MixinFwdIdeal.τ).loc Cert.MixinFwdIdeal.main_v0_1)) (v2 : (c : Dev Cert.MixinFwdIdeal.nD) → Buf (Elt Ideal) ((c.tc : Thread Cert.MixinFwdIdeal.nD Cert.MixinFwdIdeal.τ).loc Cert.MixinFwdIdeal.main_v0_2)),
      θ_run (Cert.MixinFwdIdeal.defs (F := Ideal)) (onTc (τ := Cert.MixinFwdIdeal.τ) (Cert.MixinFwdIdeal.main (F := Ideal))) ⟨m, fun _ => 0, g⟩ (fun r => ∀ c : Dev Cert.MixinFwdIdeal.nD,
          r.2.mem ((c.tc : Thread Cert.MixinFwdIdeal.nD Cert.MixinFwdIdeal.τ).loc Cert.MixinFwdIdeal.main_v0_0) = v0 c
          ∧ r.2.mem ((c.tc : Thread Cert.MixinFwdIdeal.nD Cert.MixinFwdIdeal.τ).loc Cert.MixinFwdIdeal.main_v0_1) = v1 c
          ∧ r.2.mem ((c.tc : Thread Cert.MixinFwdIdeal.nD Cert.MixinFwdIdeal.τ).loc Cert.MixinFwdIdeal.main_v0_2) = v2 c
          ∧ r.2.mem ((c.tc : Thread Cert.MixinFwdIdeal.nD Cert.MixinFwdIdeal.τ).loc Cert.MixinFwdIdeal.main_arg0) = m ((c.tc : Thread Cert.MixinFwdIdeal.nD Cert.MixinFwdIdeal.τ).loc Cert.MixinFwdIdeal.main_arg0)
          ∧ r.2.mem ((c.tc : Thread Cert.MixinFwdIdeal.nD Cert.MixinFwdIdeal.τ).loc Cert.MixinFwdIdeal.main_arg1) = m ((c.tc : Thread Cert.MixinFwdIdeal.nD Cert.MixinFwdIdeal.τ).loc Cert.MixinFwdIdeal.main_arg1)
          ∧ r.2.mem ((c.tc : Thread Cert.MixinFwdIdeal.nD Cert.MixinFwdIdeal.τ).loc Cert.MixinFwdIdeal.main_arg2) = m ((c.tc : Thread Cert.MixinFwdIdeal.nD Cert.MixinFwdIdeal.τ).loc Cert.MixinFwdIdeal.main_arg2))
      ∧ θ_run (Cert.MixinFwdRefIdeal.defs (F := Ideal)) (onTc (τ := Cert.MixinFwdRefIdeal.τ) (Cert.MixinFwdRefIdeal.main (F := Ideal))) ⟨m', fun _ => 0, g'⟩ (fun r => ∀ c : Dev Cert.MixinFwdRefIdeal.nD,
          r.2.mem ((c.tc : Thread Cert.MixinFwdRefIdeal.nD Cert.MixinFwdRefIdeal.τ).loc Cert.MixinFwdRefIdeal.main_v19) = v0 c
          ∧ r.2.mem ((c.tc : Thread Cert.MixinFwdRefIdeal.nD Cert.MixinFwdRefIdeal.τ).loc Cert.MixinFwdRefIdeal.main_v20) = v1 c
          ∧ r.2.mem ((c.tc : Thread Cert.MixinFwdRefIdeal.nD Cert.MixinFwdRefIdeal.τ).loc Cert.MixinFwdRefIdeal.main_v17) = v2 c
          ∧ r.2.mem ((c.tc : Thread Cert.MixinFwdRefIdeal.nD Cert.MixinFwdRefIdeal.τ).loc Cert.MixinFwdRefIdeal.main_arg0) = m' ((c.tc : Thread Cert.MixinFwdRefIdeal.nD Cert.MixinFwdRefIdeal.τ).loc Cert.MixinFwdRefIdeal.main_arg0)
          ∧ r.2.mem ((c.tc : Thread Cert.MixinFwdRefIdeal.nD Cert.MixinFwdRefIdeal.τ).loc Cert.MixinFwdRefIdeal.main_arg1) = m' ((c.tc : Thread Cert.MixinFwdRefIdeal.nD Cert.MixinFwdRefIdeal.τ).loc Cert.MixinFwdRefIdeal.main_arg1)
          ∧ r.2.mem ((c.tc : Thread Cert.MixinFwdRefIdeal.nD Cert.MixinFwdRefIdeal.τ).loc Cert.MixinFwdRefIdeal.main_arg2) = m' ((c.tc : Thread Cert.MixinFwdRefIdeal.nD Cert.MixinFwdRefIdeal.τ).loc Cert.MixinFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_PeFwd_PeFwdIdeal : Prop :=
  True

def algebraic_PeFwdIdeal_PeFwdRefIdeal [hPeFwdIdeal : Cert.PeFwdIdeal.Facts] [hPeFwdRefIdeal : Cert.PeFwdRefIdeal.Facts] : Prop :=
  ∀ (m : (ℓ : Loc Cert.PeFwdIdeal.nD Cert.PeFwdIdeal.τ Cert.PeFwdIdeal.sig) → Buf (Elt Ideal) ℓ) (g : Dev Cert.PeFwdIdeal.nD → PrngReg)
    (m' : (ℓ : Loc Cert.PeFwdRefIdeal.nD Cert.PeFwdRefIdeal.τ Cert.PeFwdRefIdeal.sig) → Buf (Elt Ideal) ℓ) (g' : Dev Cert.PeFwdRefIdeal.nD → PrngReg), Pre_PeFwdIdeal m →
    (∀ c : Dev Cert.PeFwdIdeal.nD,
      m' ((c.tc : Thread Cert.PeFwdRefIdeal.nD Cert.PeFwdRefIdeal.τ).loc Cert.PeFwdRefIdeal.main_arg0) = m ((c.tc : Thread Cert.PeFwdIdeal.nD Cert.PeFwdIdeal.τ).loc Cert.PeFwdIdeal.main_arg0)
      ∧ m' ((c.tc : Thread Cert.PeFwdRefIdeal.nD Cert.PeFwdRefIdeal.τ).loc Cert.PeFwdRefIdeal.main_arg1) = m ((c.tc : Thread Cert.PeFwdIdeal.nD Cert.PeFwdIdeal.τ).loc Cert.PeFwdIdeal.main_arg1)
      ∧ m' ((c.tc : Thread Cert.PeFwdRefIdeal.nD Cert.PeFwdRefIdeal.τ).loc Cert.PeFwdRefIdeal.main_arg2) = m ((c.tc : Thread Cert.PeFwdIdeal.nD Cert.PeFwdIdeal.τ).loc Cert.PeFwdIdeal.main_arg2)
      ∧ m' ((c.tc : Thread Cert.PeFwdRefIdeal.nD Cert.PeFwdRefIdeal.τ).loc Cert.PeFwdRefIdeal.main_arg3) = m ((c.tc : Thread Cert.PeFwdIdeal.nD Cert.PeFwdIdeal.τ).loc Cert.PeFwdIdeal.main_arg3)
      ∧ m' ((c.tc : Thread Cert.PeFwdRefIdeal.nD Cert.PeFwdRefIdeal.τ).loc Cert.PeFwdRefIdeal.main_arg4) = m ((c.tc : Thread Cert.PeFwdIdeal.nD Cert.PeFwdIdeal.τ).loc Cert.PeFwdIdeal.main_arg4)) →
    ∃ (v0 : (c : Dev Cert.PeFwdIdeal.nD) → Buf (Elt Ideal) ((c.tc : Thread Cert.PeFwdIdeal.nD Cert.PeFwdIdeal.τ).loc Cert.PeFwdIdeal.main_v0_0)) (v1 : (c : Dev Cert.PeFwdIdeal.nD) → Buf (Elt Ideal) ((c.tc : Thread Cert.PeFwdIdeal.nD Cert.PeFwdIdeal.τ).loc Cert.PeFwdIdeal.main_v0_1)),
      θ_run (Cert.PeFwdIdeal.defs (F := Ideal)) (onTc (τ := Cert.PeFwdIdeal.τ) (Cert.PeFwdIdeal.main (F := Ideal))) ⟨m, fun _ => 0, g⟩ (fun r => ∀ c : Dev Cert.PeFwdIdeal.nD,
          r.2.mem ((c.tc : Thread Cert.PeFwdIdeal.nD Cert.PeFwdIdeal.τ).loc Cert.PeFwdIdeal.main_v0_0) = v0 c
          ∧ r.2.mem ((c.tc : Thread Cert.PeFwdIdeal.nD Cert.PeFwdIdeal.τ).loc Cert.PeFwdIdeal.main_v0_1) = v1 c
          ∧ r.2.mem ((c.tc : Thread Cert.PeFwdIdeal.nD Cert.PeFwdIdeal.τ).loc Cert.PeFwdIdeal.main_arg0) = m ((c.tc : Thread Cert.PeFwdIdeal.nD Cert.PeFwdIdeal.τ).loc Cert.PeFwdIdeal.main_arg0)
          ∧ r.2.mem ((c.tc : Thread Cert.PeFwdIdeal.nD Cert.PeFwdIdeal.τ).loc Cert.PeFwdIdeal.main_arg1) = m ((c.tc : Thread Cert.PeFwdIdeal.nD Cert.PeFwdIdeal.τ).loc Cert.PeFwdIdeal.main_arg1)
          ∧ r.2.mem ((c.tc : Thread Cert.PeFwdIdeal.nD Cert.PeFwdIdeal.τ).loc Cert.PeFwdIdeal.main_arg2) = m ((c.tc : Thread Cert.PeFwdIdeal.nD Cert.PeFwdIdeal.τ).loc Cert.PeFwdIdeal.main_arg2)
          ∧ r.2.mem ((c.tc : Thread Cert.PeFwdIdeal.nD Cert.PeFwdIdeal.τ).loc Cert.PeFwdIdeal.main_arg3) = m ((c.tc : Thread Cert.PeFwdIdeal.nD Cert.PeFwdIdeal.τ).loc Cert.PeFwdIdeal.main_arg3)
          ∧ r.2.mem ((c.tc : Thread Cert.PeFwdIdeal.nD Cert.PeFwdIdeal.τ).loc Cert.PeFwdIdeal.main_arg4) = m ((c.tc : Thread Cert.PeFwdIdeal.nD Cert.PeFwdIdeal.τ).loc Cert.PeFwdIdeal.main_arg4))
      ∧ θ_run (Cert.PeFwdRefIdeal.defs (F := Ideal)) (onTc (τ := Cert.PeFwdRefIdeal.τ) (Cert.PeFwdRefIdeal.main (F := Ideal))) ⟨m', fun _ => 0, g'⟩ (fun r => ∀ c : Dev Cert.PeFwdRefIdeal.nD,
          r.2.mem ((c.tc : Thread Cert.PeFwdRefIdeal.nD Cert.PeFwdRefIdeal.τ).loc Cert.PeFwdRefIdeal.main_v25) = v0 c
          ∧ r.2.mem ((c.tc : Thread Cert.PeFwdRefIdeal.nD Cert.PeFwdRefIdeal.τ).loc Cert.PeFwdRefIdeal.main_v26) = v1 c
          ∧ r.2.mem ((c.tc : Thread Cert.PeFwdRefIdeal.nD Cert.PeFwdRefIdeal.τ).loc Cert.PeFwdRefIdeal.main_arg0) = m' ((c.tc : Thread Cert.PeFwdRefIdeal.nD Cert.PeFwdRefIdeal.τ).loc Cert.PeFwdRefIdeal.main_arg0)
          ∧ r.2.mem ((c.tc : Thread Cert.PeFwdRefIdeal.nD Cert.PeFwdRefIdeal.τ).loc Cert.PeFwdRefIdeal.main_arg1) = m' ((c.tc : Thread Cert.PeFwdRefIdeal.nD Cert.PeFwdRefIdeal.τ).loc Cert.PeFwdRefIdeal.main_arg1)
          ∧ r.2.mem ((c.tc : Thread Cert.PeFwdRefIdeal.nD Cert.PeFwdRefIdeal.τ).loc Cert.PeFwdRefIdeal.main_arg2) = m' ((c.tc : Thread Cert.PeFwdRefIdeal.nD Cert.PeFwdRefIdeal.τ).loc Cert.PeFwdRefIdeal.main_arg2)
          ∧ r.2.mem ((c.tc : Thread Cert.PeFwdRefIdeal.nD Cert.PeFwdRefIdeal.τ).loc Cert.PeFwdRefIdeal.main_arg3) = m' ((c.tc : Thread Cert.PeFwdRefIdeal.nD Cert.PeFwdRefIdeal.τ).loc Cert.PeFwdRefIdeal.main_arg3)
          ∧ r.2.mem ((c.tc : Thread Cert.PeFwdRefIdeal.nD Cert.PeFwdRefIdeal.τ).loc Cert.PeFwdRefIdeal.main_arg4) = m' ((c.tc : Thread Cert.PeFwdRefIdeal.nD Cert.PeFwdRefIdeal.τ).loc Cert.PeFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v1_0)) (v1 : (c : Dev Cert.ConvFwdIdeal.nD) → Buf (Elt Ideal) ((c.tc : Thread Cert.ConvFwdIdeal.nD Cert.ConvFwdIdeal.τ).loc Cert.ConvFwdIdeal.main_v1_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1_0) = v0 c
          ∧ r.2.mem ((c.tc : Thread Cert.ConvFwdIdeal.nD Cert.ConvFwdIdeal.τ).loc Cert.ConvFwdIdeal.main_v1_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v253) = v0 c
          ∧ r.2.mem ((c.tc : Thread Cert.ConvFwdRefIdeal.nD Cert.ConvFwdRefIdeal.τ).loc Cert.ConvFwdRefIdeal.main_v229) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)
      ∧ m' ((c.tc : Thread Cert.AdamWRefIdeal.nD Cert.AdamWRefIdeal.τ).loc Cert.AdamWRefIdeal.main_arg5) = m ((c.tc : Thread Cert.AdamWIdeal.nD Cert.AdamWIdeal.τ).loc Cert.AdamWIdeal.main_arg5)
      ∧ m' ((c.tc : Thread Cert.AdamWRefIdeal.nD Cert.AdamWRefIdeal.τ).loc Cert.AdamWRefIdeal.main_arg6) = m ((c.tc : Thread Cert.AdamWIdeal.nD Cert.AdamWIdeal.τ).loc Cert.AdamWIdeal.main_arg6)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
          ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
          ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v8) = v0 c
          ∧ r.2.mem ((c.tc : Thread Cert.AdamWRefIdeal.nD Cert.AdamWRefIdeal.τ).loc Cert.AdamWRefIdeal.main_v32) = v1 c
          ∧ r.2.mem ((c.tc : Thread Cert.AdamWRefIdeal.nD Cert.AdamWRefIdeal.τ).loc Cert.AdamWRefIdeal.main_v13) = v2 c
          ∧ r.2.mem ((c.tc : Thread Cert.AdamWRefIdeal.nD Cert.AdamWRefIdeal.τ).loc Cert.AdamWRefIdeal.main_v19) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4)
          ∧ r.2.mem ((c.tc : Thread Cert.AdamWRefIdeal.nD Cert.AdamWRefIdeal.τ).loc Cert.AdamWRefIdeal.main_arg5) = m' ((c.tc : Thread Cert.AdamWRefIdeal.nD Cert.AdamWRefIdeal.τ).loc Cert.AdamWRefIdeal.main_arg5)
          ∧ r.2.mem ((c.tc : Thread Cert.AdamWRefIdeal.nD Cert.AdamWRefIdeal.τ).loc Cert.AdamWRefIdeal.main_arg6) = m' ((c.tc : Thread Cert.AdamWRefIdeal.nD Cert.AdamWRefIdeal.τ).loc Cert.AdamWRefIdeal.main_arg6))

def preserves_BiasTable_BiasTableIdeal : Prop :=
  True

def algebraic_BiasTableIdeal_BiasTableRefIdeal [hBiasTableIdeal : Cert.BiasTableIdeal.Facts] [hBiasTableRefIdeal : Cert.BiasTableRefIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg)
    (m' : (ℓ : Loc Cert.BiasTableRefIdeal.nD Cert.BiasTableRefIdeal.τ Cert.BiasTableRefIdeal.sig) → Buf (Elt Ideal) ℓ) (g' : Dev Cert.BiasTableRefIdeal.nD → PrngReg), Pre_BiasTableIdeal m →
    (∀ c : Dev Cert.BiasTableIdeal.nD,
      m' ((c.tc : Thread Cert.BiasTableRefIdeal.nD Cert.BiasTableRefIdeal.τ).loc Cert.BiasTableRefIdeal.main_arg0) = m ((c.tc : Thread Cert.BiasTableIdeal.nD Cert.BiasTableIdeal.τ).loc Cert.BiasTableIdeal.main_arg0)
      ∧ m' ((c.tc : Thread Cert.BiasTableRefIdeal.nD Cert.BiasTableRefIdeal.τ).loc Cert.BiasTableRefIdeal.main_arg1) = m ((c.tc : Thread Cert.BiasTableIdeal.nD Cert.BiasTableIdeal.τ).loc Cert.BiasTableIdeal.main_arg1)
      ∧ m' ((c.tc : Thread Cert.BiasTableRefIdeal.nD Cert.BiasTableRefIdeal.τ).loc Cert.BiasTableRefIdeal.main_arg2) = m ((c.tc : Thread Cert.BiasTableIdeal.nD Cert.BiasTableIdeal.τ).loc Cert.BiasTableIdeal.main_arg2)) →
    ∃ (v0 : (c : Dev Cert.BiasTableIdeal.nD) → Buf (Elt Ideal) ((c.tc : Thread Cert.BiasTableIdeal.nD Cert.BiasTableIdeal.τ).loc Cert.BiasTableIdeal.main_v1)),
      θ_run (Cert.BiasTableIdeal.defs (F := Ideal)) (onTc (τ := Cert.BiasTableIdeal.τ) (Cert.BiasTableIdeal.main (F := Ideal))) ⟨m, fun _ => 0, g⟩ (fun r => ∀ c : Dev Cert.BiasTableIdeal.nD,
          r.2.mem ((c.tc : Thread Cert.BiasTableIdeal.nD Cert.BiasTableIdeal.τ).loc Cert.BiasTableIdeal.main_v1) = v0 c
          ∧ r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0)
          ∧ r.2.mem ((c.tc : Thread Cert.BiasTableIdeal.nD Cert.BiasTableIdeal.τ).loc Cert.BiasTableIdeal.main_arg1) = m ((c.tc : Thread Cert.BiasTableIdeal.nD Cert.BiasTableIdeal.τ).loc Cert.BiasTableIdeal.main_arg1)
          ∧ r.2.mem ((c.tc : Thread Cert.BiasTableIdeal.nD Cert.BiasTableIdeal.τ).loc Cert.BiasTableIdeal.main_arg2) = m ((c.tc : Thread Cert.BiasTableIdeal.nD Cert.BiasTableIdeal.τ).loc Cert.BiasTableIdeal.main_arg2))
      ∧ θ_run (Cert.BiasTableRefIdeal.defs (F := Ideal)) (onTc (τ := Cert.BiasTableRefIdeal.τ) (Cert.BiasTableRefIdeal.main (F := Ideal))) ⟨m', fun _ => 0, g'⟩ (fun r => ∀ c : Dev Cert.BiasTableRefIdeal.nD,
          r.2.mem ((c.tc : Thread Cert.BiasTableRefIdeal.nD Cert.BiasTableRefIdeal.τ).loc Cert.BiasTableRefIdeal.main_v8) = v0 c
          ∧ r.2.mem ((c.tc : Thread Cert.BiasTableRefIdeal.nD Cert.BiasTableRefIdeal.τ).loc Cert.BiasTableRefIdeal.main_arg0) = m' ((c.tc : Thread Cert.BiasTableRefIdeal.nD Cert.BiasTableRefIdeal.τ).loc Cert.BiasTableRefIdeal.main_arg0)
          ∧ r.2.mem ((c.tc : Thread Cert.BiasTableRefIdeal.nD Cert.BiasTableRefIdeal.τ).loc Cert.BiasTableRefIdeal.main_arg1) = m' ((c.tc : Thread Cert.BiasTableRefIdeal.nD Cert.BiasTableRefIdeal.τ).loc Cert.BiasTableRefIdeal.main_arg1)
          ∧ r.2.mem ((c.tc : Thread Cert.BiasTableRefIdeal.nD Cert.BiasTableRefIdeal.τ).loc Cert.BiasTableRefIdeal.main_arg2) = m' ((c.tc : Thread Cert.BiasTableRefIdeal.nD Cert.BiasTableRefIdeal.τ).loc Cert.BiasTableRefIdeal.main_arg2))

def preserves_BiasGrad_BiasGradIdeal : Prop :=
  True

def algebraic_BiasGradIdeal_BiasGradRefIdeal [hBiasGradIdeal : Cert.BiasGradIdeal.Facts] [hBiasGradRefIdeal : Cert.BiasGradRefIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)
      ∧ m' ((c.tc : Thread Cert.BiasGradRefIdeal.nD Cert.BiasGradRefIdeal.τ).loc Cert.BiasGradRefIdeal.main_arg1) = m ((c.tc : Thread Cert.BiasGradIdeal.nD Cert.BiasGradIdeal.τ).loc Cert.BiasGradIdeal.main_arg1)) →
    ∃ (v0 : (c : Dev Cert.BiasGradIdeal.nD) → Buf (Elt Ideal) ((c.tc : Thread Cert.BiasGradIdeal.nD Cert.BiasGradIdeal.τ).loc Cert.BiasGradIdeal.main_v0)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v0) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v2) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0)
          ∧ r.2.mem ((c.tc : Thread Cert.BiasGradRefIdeal.nD Cert.BiasGradRefIdeal.τ).loc Cert.BiasGradRefIdeal.main_arg1) = m' ((c.tc : Thread Cert.BiasGradRefIdeal.nD Cert.BiasGradRefIdeal.τ).loc Cert.BiasGradRefIdeal.main_arg1))

def preserves_FfnBwd_FfnBwdIdeal : Prop :=
  True

def algebraic_FfnBwdIdeal_FfnBwdRefIdeal_pre_ffn_bwd_finite [hFfnBwdIdeal : Cert.FfnBwdIdeal.Facts] [hFfnBwdRefIdeal : Cert.FfnBwdRefIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_bwd_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v26_0)) (v1 : (c : Dev Cert.FfnBwdIdeal.nD) → Buf (Elt Ideal) ((c.tc : Thread Cert.FfnBwdIdeal.nD Cert.FfnBwdIdeal.τ).loc Cert.FfnBwdIdeal.main_v26_1)) (v2 : (c : Dev Cert.FfnBwdIdeal.nD) → Buf (Elt Ideal) ((c.tc : Thread Cert.FfnBwdIdeal.nD Cert.FfnBwdIdeal.τ).loc Cert.FfnBwdIdeal.main_v26_2)) (v3 : (c : Dev Cert.FfnBwdIdeal.nD) → Buf (Elt Ideal) ((c.tc : Thread Cert.FfnBwdIdeal.nD Cert.FfnBwdIdeal.τ).loc Cert.FfnBwdIdeal.main_v26_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v26_0) = v0 c
          ∧ r.2.mem ((c.tc : Thread Cert.FfnBwdIdeal.nD Cert.FfnBwdIdeal.τ).loc Cert.FfnBwdIdeal.main_v26_1) = v1 c
          ∧ r.2.mem ((c.tc : Thread Cert.FfnBwdIdeal.nD Cert.FfnBwdIdeal.τ).loc Cert.FfnBwdIdeal.main_v26_2) = v2 c
          ∧ r.2.mem ((c.tc : Thread Cert.FfnBwdIdeal.nD Cert.FfnBwdIdeal.τ).loc Cert.FfnBwdIdeal.main_v26_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v57) = v0 c
          ∧ r.2.mem ((c.tc : Thread Cert.FfnBwdRefIdeal.nD Cert.FfnBwdRefIdeal.τ).loc Cert.FfnBwdRefIdeal.main_v60) = v1 c
          ∧ r.2.mem ((c.tc : Thread Cert.FfnBwdRefIdeal.nD Cert.FfnBwdRefIdeal.τ).loc Cert.FfnBwdRefIdeal.main_v69) = v2 c
          ∧ r.2.mem ((c.tc : Thread Cert.FfnBwdRefIdeal.nD Cert.FfnBwdRefIdeal.τ).loc Cert.FfnBwdRefIdeal.main_v40) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_MixinBwd_MixinBwdIdeal : Prop :=
  True

def algebraic_MixinBwdIdeal_MixinBwdRefIdeal_pre_mixin_bwd_finite [hMixinBwdIdeal : Cert.MixinBwdIdeal.Facts] [hMixinBwdRefIdeal : Cert.MixinBwdRefIdeal.Facts] [hPre_mixin_bwd_finite : Cert.Pre_mixin_bwd_finite.Facts] : Prop :=
  ∀ (m : (ℓ : Loc Cert.MixinBwdIdeal.nD Cert.MixinBwdIdeal.τ Cert.MixinBwdIdeal.sig) → Buf (Elt Ideal) ℓ) (g : Dev Cert.MixinBwdIdeal.nD → PrngReg)
    (m' : (ℓ : Loc Cert.MixinBwdRefIdeal.nD Cert.MixinBwdRefIdeal.τ Cert.MixinBwdRefIdeal.sig) → Buf (Elt Ideal) ℓ) (g' : Dev Cert.MixinBwdRefIdeal.nD → PrngReg), Pre_MixinBwdIdeal_mixin_bwd_finite m →
    (∀ c : Dev Cert.MixinBwdIdeal.nD,
      m' ((c.tc : Thread Cert.MixinBwdRefIdeal.nD Cert.MixinBwdRefIdeal.τ).loc Cert.MixinBwdRefIdeal.main_arg0) = m ((c.tc : Thread Cert.MixinBwdIdeal.nD Cert.MixinBwdIdeal.τ).loc Cert.MixinBwdIdeal.main_arg0)
      ∧ m' ((c.tc : Thread Cert.MixinBwdRefIdeal.nD Cert.MixinBwdRefIdeal.τ).loc Cert.MixinBwdRefIdeal.main_arg1) = m ((c.tc : Thread Cert.MixinBwdIdeal.nD Cert.MixinBwdIdeal.τ).loc Cert.MixinBwdIdeal.main_arg1)
      ∧ m' ((c.tc : Thread Cert.MixinBwdRefIdeal.nD Cert.MixinBwdRefIdeal.τ).loc Cert.MixinBwdRefIdeal.main_arg2) = m ((c.tc : Thread Cert.MixinBwdIdeal.nD Cert.MixinBwdIdeal.τ).loc Cert.MixinBwdIdeal.main_arg2)
      ∧ m' ((c.tc : Thread Cert.MixinBwdRefIdeal.nD Cert.MixinBwdRefIdeal.τ).loc Cert.MixinBwdRefIdeal.main_arg3) = m ((c.tc : Thread Cert.MixinBwdIdeal.nD Cert.MixinBwdIdeal.τ).loc Cert.MixinBwdIdeal.main_arg3)
      ∧ m' ((c.tc : Thread Cert.MixinBwdRefIdeal.nD Cert.MixinBwdRefIdeal.τ).loc Cert.MixinBwdRefIdeal.main_arg4) = m ((c.tc : Thread Cert.MixinBwdIdeal.nD Cert.MixinBwdIdeal.τ).loc Cert.MixinBwdIdeal.main_arg4)
      ∧ m' ((c.tc : Thread Cert.MixinBwdRefIdeal.nD Cert.MixinBwdRefIdeal.τ).loc Cert.MixinBwdRefIdeal.main_arg5) = m ((c.tc : Thread Cert.MixinBwdIdeal.nD Cert.MixinBwdIdeal.τ).loc Cert.MixinBwdIdeal.main_arg5)
      ∧ m' ((c.tc : Thread Cert.MixinBwdRefIdeal.nD Cert.MixinBwdRefIdeal.τ).loc Cert.MixinBwdRefIdeal.main_arg6) = m ((c.tc : Thread Cert.MixinBwdIdeal.nD Cert.MixinBwdIdeal.τ).loc Cert.MixinBwdIdeal.main_arg6)
      ∧ m' ((c.tc : Thread Cert.MixinBwdRefIdeal.nD Cert.MixinBwdRefIdeal.τ).loc Cert.MixinBwdRefIdeal.main_arg7) = m ((c.tc : Thread Cert.MixinBwdIdeal.nD Cert.MixinBwdIdeal.τ).loc Cert.MixinBwdIdeal.main_arg7)) →
    ∃ (v0 : (c : Dev Cert.MixinBwdIdeal.nD) → Buf (Elt Ideal) ((c.tc : Thread Cert.MixinBwdIdeal.nD Cert.MixinBwdIdeal.τ).loc Cert.MixinBwdIdeal.main_v0_0)) (v1 : (c : Dev Cert.MixinBwdIdeal.nD) → Buf (Elt Ideal) ((c.tc : Thread Cert.MixinBwdIdeal.nD Cert.MixinBwdIdeal.τ).loc Cert.MixinBwdIdeal.main_v0_1)) (v2 : (c : Dev Cert.MixinBwdIdeal.nD) → Buf (Elt Ideal) ((c.tc : Thread Cert.MixinBwdIdeal.nD Cert.MixinBwdIdeal.τ).loc Cert.MixinBwdIdeal.main_v0_2)),
      θ_run (Cert.MixinBwdIdeal.defs (F := Ideal)) (onTc (τ := Cert.MixinBwdIdeal.τ) (Cert.MixinBwdIdeal.main (F := Ideal))) ⟨m, fun _ => 0, g⟩ (fun r => ∀ c : Dev Cert.MixinBwdIdeal.nD,
          r.2.mem ((c.tc : Thread Cert.MixinBwdIdeal.nD Cert.MixinBwdIdeal.τ).loc Cert.MixinBwdIdeal.main_v0_0) = v0 c
          ∧ r.2.mem ((c.tc : Thread Cert.MixinBwdIdeal.nD Cert.MixinBwdIdeal.τ).loc Cert.MixinBwdIdeal.main_v0_1) = v1 c
          ∧ r.2.mem ((c.tc : Thread Cert.MixinBwdIdeal.nD Cert.MixinBwdIdeal.τ).loc Cert.MixinBwdIdeal.main_v0_2) = v2 c
          ∧ r.2.mem ((c.tc : Thread Cert.MixinBwdIdeal.nD Cert.MixinBwdIdeal.τ).loc Cert.MixinBwdIdeal.main_arg0) = m ((c.tc : Thread Cert.MixinBwdIdeal.nD Cert.MixinBwdIdeal.τ).loc Cert.MixinBwdIdeal.main_arg0)
          ∧ r.2.mem ((c.tc : Thread Cert.MixinBwdIdeal.nD Cert.MixinBwdIdeal.τ).loc Cert.MixinBwdIdeal.main_arg1) = m ((c.tc : Thread Cert.MixinBwdIdeal.nD Cert.MixinBwdIdeal.τ).loc Cert.MixinBwdIdeal.main_arg1)
          ∧ r.2.mem ((c.tc : Thread Cert.MixinBwdIdeal.nD Cert.MixinBwdIdeal.τ).loc Cert.MixinBwdIdeal.main_arg2) = m ((c.tc : Thread Cert.MixinBwdIdeal.nD Cert.MixinBwdIdeal.τ).loc Cert.MixinBwdIdeal.main_arg2)
          ∧ r.2.mem ((c.tc : Thread Cert.MixinBwdIdeal.nD Cert.MixinBwdIdeal.τ).loc Cert.MixinBwdIdeal.main_arg3) = m ((c.tc : Thread Cert.MixinBwdIdeal.nD Cert.MixinBwdIdeal.τ).loc Cert.MixinBwdIdeal.main_arg3)
          ∧ r.2.mem ((c.tc : Thread Cert.MixinBwdIdeal.nD Cert.MixinBwdIdeal.τ).loc Cert.MixinBwdIdeal.main_arg4) = m ((c.tc : Thread Cert.MixinBwdIdeal.nD Cert.MixinBwdIdeal.τ).loc Cert.MixinBwdIdeal.main_arg4)
          ∧ r.2.mem ((c.tc : Thread Cert.MixinBwdIdeal.nD Cert.MixinBwdIdeal.τ).loc Cert.MixinBwdIdeal.main_arg5) = m ((c.tc : Thread Cert.MixinBwdIdeal.nD Cert.MixinBwdIdeal.τ).loc Cert.MixinBwdIdeal.main_arg5)
          ∧ r.2.mem ((c.tc : Thread Cert.MixinBwdIdeal.nD Cert.MixinBwdIdeal.τ).loc Cert.MixinBwdIdeal.main_arg6) = m ((c.tc : Thread Cert.MixinBwdIdeal.nD Cert.MixinBwdIdeal.τ).loc Cert.MixinBwdIdeal.main_arg6)
          ∧ r.2.mem ((c.tc : Thread Cert.MixinBwdIdeal.nD Cert.MixinBwdIdeal.τ).loc Cert.MixinBwdIdeal.main_arg7) = m ((c.tc : Thread Cert.MixinBwdIdeal.nD Cert.MixinBwdIdeal.τ).loc Cert.MixinBwdIdeal.main_arg7))
      ∧ θ_run (Cert.MixinBwdRefIdeal.defs (F := Ideal)) (onTc (τ := Cert.MixinBwdRefIdeal.τ) (Cert.MixinBwdRefIdeal.main (F := Ideal))) ⟨m', fun _ => 0, g'⟩ (fun r => ∀ c : Dev Cert.MixinBwdRefIdeal.nD,
          r.2.mem ((c.tc : Thread Cert.MixinBwdRefIdeal.nD Cert.MixinBwdRefIdeal.τ).loc Cert.MixinBwdRefIdeal.main_v39) = v0 c
          ∧ r.2.mem ((c.tc : Thread Cert.MixinBwdRefIdeal.nD Cert.MixinBwdRefIdeal.τ).loc Cert.MixinBwdRefIdeal.main_v22) = v1 c
          ∧ r.2.mem ((c.tc : Thread Cert.MixinBwdRefIdeal.nD Cert.MixinBwdRefIdeal.τ).loc Cert.MixinBwdRefIdeal.main_v40) = v2 c
          ∧ r.2.mem ((c.tc : Thread Cert.MixinBwdRefIdeal.nD Cert.MixinBwdRefIdeal.τ).loc Cert.MixinBwdRefIdeal.main_arg0) = m' ((c.tc : Thread Cert.MixinBwdRefIdeal.nD Cert.MixinBwdRefIdeal.τ).loc Cert.MixinBwdRefIdeal.main_arg0)
          ∧ r.2.mem ((c.tc : Thread Cert.MixinBwdRefIdeal.nD Cert.MixinBwdRefIdeal.τ).loc Cert.MixinBwdRefIdeal.main_arg1) = m' ((c.tc : Thread Cert.MixinBwdRefIdeal.nD Cert.MixinBwdRefIdeal.τ).loc Cert.MixinBwdRefIdeal.main_arg1)
          ∧ r.2.mem ((c.tc : Thread Cert.MixinBwdRefIdeal.nD Cert.MixinBwdRefIdeal.τ).loc Cert.MixinBwdRefIdeal.main_arg2) = m' ((c.tc : Thread Cert.MixinBwdRefIdeal.nD Cert.MixinBwdRefIdeal.τ).loc Cert.MixinBwdRefIdeal.main_arg2)
          ∧ r.2.mem ((c.tc : Thread Cert.MixinBwdRefIdeal.nD Cert.MixinBwdRefIdeal.τ).loc Cert.MixinBwdRefIdeal.main_arg3) = m' ((c.tc : Thread Cert.MixinBwdRefIdeal.nD Cert.MixinBwdRefIdeal.τ).loc Cert.MixinBwdRefIdeal.main_arg3)
          ∧ r.2.mem ((c.tc : Thread Cert.MixinBwdRefIdeal.nD Cert.MixinBwdRefIdeal.τ).loc Cert.MixinBwdRefIdeal.main_arg4) = m' ((c.tc : Thread Cert.MixinBwdRefIdeal.nD Cert.MixinBwdRefIdeal.τ).loc Cert.MixinBwdRefIdeal.main_arg4)
          ∧ r.2.mem ((c.tc : Thread Cert.MixinBwdRefIdeal.nD Cert.MixinBwdRefIdeal.τ).loc Cert.MixinBwdRefIdeal.main_arg5) = m' ((c.tc : Thread Cert.MixinBwdRefIdeal.nD Cert.MixinBwdRefIdeal.τ).loc Cert.MixinBwdRefIdeal.main_arg5)
          ∧ r.2.mem ((c.tc : Thread Cert.MixinBwdRefIdeal.nD Cert.MixinBwdRefIdeal.τ).loc Cert.MixinBwdRefIdeal.main_arg6) = m' ((c.tc : Thread Cert.MixinBwdRefIdeal.nD Cert.MixinBwdRefIdeal.τ).loc Cert.MixinBwdRefIdeal.main_arg6)
          ∧ r.2.mem ((c.tc : Thread Cert.MixinBwdRefIdeal.nD Cert.MixinBwdRefIdeal.τ).loc Cert.MixinBwdRefIdeal.main_arg7) = m' ((c.tc : Thread Cert.MixinBwdRefIdeal.nD Cert.MixinBwdRefIdeal.τ).loc Cert.MixinBwdRefIdeal.main_arg7))

def preserves_PeBwd_PeBwdIdeal : Prop :=
  True

def algebraic_PeBwdIdeal_PeBwdRefIdeal_pre_pe_bwd_finite [hPeBwdIdeal : Cert.PeBwdIdeal.Facts] [hPeBwdRefIdeal : Cert.PeBwdRefIdeal.Facts] [hPre_pe_bwd_finite : Cert.Pre_pe_bwd_finite.Facts] : Prop :=
  ∀ (m : (ℓ : Loc Cert.PeBwdIdeal.nD Cert.PeBwdIdeal.τ Cert.PeBwdIdeal.sig) → Buf (Elt Ideal) ℓ) (g : Dev Cert.PeBwdIdeal.nD → PrngReg)
    (m' : (ℓ : Loc Cert.PeBwdRefIdeal.nD Cert.PeBwdRefIdeal.τ Cert.PeBwdRefIdeal.sig) → Buf (Elt Ideal) ℓ) (g' : Dev Cert.PeBwdRefIdeal.nD → PrngReg), Pre_PeBwdIdeal_pe_bwd_finite m →
    (∀ c : Dev Cert.PeBwdIdeal.nD,
      m' ((c.tc : Thread Cert.PeBwdRefIdeal.nD Cert.PeBwdRefIdeal.τ).loc Cert.PeBwdRefIdeal.main_arg0) = m ((c.tc : Thread Cert.PeBwdIdeal.nD Cert.PeBwdIdeal.τ).loc Cert.PeBwdIdeal.main_arg0)
      ∧ m' ((c.tc : Thread Cert.PeBwdRefIdeal.nD Cert.PeBwdRefIdeal.τ).loc Cert.PeBwdRefIdeal.main_arg1) = m ((c.tc : Thread Cert.PeBwdIdeal.nD Cert.PeBwdIdeal.τ).loc Cert.PeBwdIdeal.main_arg1)
      ∧ m' ((c.tc : Thread Cert.PeBwdRefIdeal.nD Cert.PeBwdRefIdeal.τ).loc Cert.PeBwdRefIdeal.main_arg2) = m ((c.tc : Thread Cert.PeBwdIdeal.nD Cert.PeBwdIdeal.τ).loc Cert.PeBwdIdeal.main_arg2)
      ∧ m' ((c.tc : Thread Cert.PeBwdRefIdeal.nD Cert.PeBwdRefIdeal.τ).loc Cert.PeBwdRefIdeal.main_arg3) = m ((c.tc : Thread Cert.PeBwdIdeal.nD Cert.PeBwdIdeal.τ).loc Cert.PeBwdIdeal.main_arg3)
      ∧ m' ((c.tc : Thread Cert.PeBwdRefIdeal.nD Cert.PeBwdRefIdeal.τ).loc Cert.PeBwdRefIdeal.main_arg4) = m ((c.tc : Thread Cert.PeBwdIdeal.nD Cert.PeBwdIdeal.τ).loc Cert.PeBwdIdeal.main_arg4)
      ∧ m' ((c.tc : Thread Cert.PeBwdRefIdeal.nD Cert.PeBwdRefIdeal.τ).loc Cert.PeBwdRefIdeal.main_arg5) = m ((c.tc : Thread Cert.PeBwdIdeal.nD Cert.PeBwdIdeal.τ).loc Cert.PeBwdIdeal.main_arg5)) →
    ∃ (v0 : (c : Dev Cert.PeBwdIdeal.nD) → Buf (Elt Ideal) ((c.tc : Thread Cert.PeBwdIdeal.nD Cert.PeBwdIdeal.τ).loc Cert.PeBwdIdeal.main_v13_0)) (v1 : (c : Dev Cert.PeBwdIdeal.nD) → Buf (Elt Ideal) ((c.tc : Thread Cert.PeBwdIdeal.nD Cert.PeBwdIdeal.τ).loc Cert.PeBwdIdeal.main_v13_1)) (v2 : (c : Dev Cert.PeBwdIdeal.nD) → Buf (Elt Ideal) ((c.tc : Thread Cert.PeBwdIdeal.nD Cert.PeBwdIdeal.τ).loc Cert.PeBwdIdeal.main_v13_2)) (v3 : (c : Dev Cert.PeBwdIdeal.nD) → Buf (Elt Ideal) ((c.tc : Thread Cert.PeBwdIdeal.nD Cert.PeBwdIdeal.τ).loc Cert.PeBwdIdeal.main_v13_3)),
      θ_run (Cert.PeBwdIdeal.defs (F := Ideal)) (onTc (τ := Cert.PeBwdIdeal.τ) (Cert.PeBwdIdeal.main (F := Ideal))) ⟨m, fun _ => 0, g⟩ (fun r => ∀ c : Dev Cert.PeBwdIdeal.nD,
          r.2.mem ((c.tc : Thread Cert.PeBwdIdeal.nD Cert.PeBwdIdeal.τ).loc Cert.PeBwdIdeal.main_v13_0) = v0 c
          ∧ r.2.mem ((c.tc : Thread Cert.PeBwdIdeal.nD Cert.PeBwdIdeal.τ).loc Cert.PeBwdIdeal.main_v13_1) = v1 c
          ∧ r.2.mem ((c.tc : Thread Cert.PeBwdIdeal.nD Cert.PeBwdIdeal.τ).loc Cert.PeBwdIdeal.main_v13_2) = v2 c
          ∧ r.2.mem ((c.tc : Thread Cert.PeBwdIdeal.nD Cert.PeBwdIdeal.τ).loc Cert.PeBwdIdeal.main_v13_3) = v3 c
          ∧ r.2.mem ((c.tc : Thread Cert.PeBwdIdeal.nD Cert.PeBwdIdeal.τ).loc Cert.PeBwdIdeal.main_arg0) = m ((c.tc : Thread Cert.PeBwdIdeal.nD Cert.PeBwdIdeal.τ).loc Cert.PeBwdIdeal.main_arg0)
          ∧ r.2.mem ((c.tc : Thread Cert.PeBwdIdeal.nD Cert.PeBwdIdeal.τ).loc Cert.PeBwdIdeal.main_arg1) = m ((c.tc : Thread Cert.PeBwdIdeal.nD Cert.PeBwdIdeal.τ).loc Cert.PeBwdIdeal.main_arg1)
          ∧ r.2.mem ((c.tc : Thread Cert.PeBwdIdeal.nD Cert.PeBwdIdeal.τ).loc Cert.PeBwdIdeal.main_arg2) = m ((c.tc : Thread Cert.PeBwdIdeal.nD Cert.PeBwdIdeal.τ).loc Cert.PeBwdIdeal.main_arg2)
          ∧ r.2.mem ((c.tc : Thread Cert.PeBwdIdeal.nD Cert.PeBwdIdeal.τ).loc Cert.PeBwdIdeal.main_arg3) = m ((c.tc : Thread Cert.PeBwdIdeal.nD Cert.PeBwdIdeal.τ).loc Cert.PeBwdIdeal.main_arg3)
          ∧ r.2.mem ((c.tc : Thread Cert.PeBwdIdeal.nD Cert.PeBwdIdeal.τ).loc Cert.PeBwdIdeal.main_arg4) = m ((c.tc : Thread Cert.PeBwdIdeal.nD Cert.PeBwdIdeal.τ).loc Cert.PeBwdIdeal.main_arg4)
          ∧ r.2.mem ((c.tc : Thread Cert.PeBwdIdeal.nD Cert.PeBwdIdeal.τ).loc Cert.PeBwdIdeal.main_arg5) = m ((c.tc : Thread Cert.PeBwdIdeal.nD Cert.PeBwdIdeal.τ).loc Cert.PeBwdIdeal.main_arg5))
      ∧ θ_run (Cert.PeBwdRefIdeal.defs (F := Ideal)) (onTc (τ := Cert.PeBwdRefIdeal.τ) (Cert.PeBwdRefIdeal.main (F := Ideal))) ⟨m', fun _ => 0, g'⟩ (fun r => ∀ c : Dev Cert.PeBwdRefIdeal.nD,
          r.2.mem ((c.tc : Thread Cert.PeBwdRefIdeal.nD Cert.PeBwdRefIdeal.τ).loc Cert.PeBwdRefIdeal.main_v56) = v0 c
          ∧ r.2.mem ((c.tc : Thread Cert.PeBwdRefIdeal.nD Cert.PeBwdRefIdeal.τ).loc Cert.PeBwdRefIdeal.main_v57) = v1 c
          ∧ r.2.mem ((c.tc : Thread Cert.PeBwdRefIdeal.nD Cert.PeBwdRefIdeal.τ).loc Cert.PeBwdRefIdeal.main_v58) = v2 c
          ∧ r.2.mem ((c.tc : Thread Cert.PeBwdRefIdeal.nD Cert.PeBwdRefIdeal.τ).loc Cert.PeBwdRefIdeal.main_v39) = v3 c
          ∧ r.2.mem ((c.tc : Thread Cert.PeBwdRefIdeal.nD Cert.PeBwdRefIdeal.τ).loc Cert.PeBwdRefIdeal.main_arg0) = m' ((c.tc : Thread Cert.PeBwdRefIdeal.nD Cert.PeBwdRefIdeal.τ).loc Cert.PeBwdRefIdeal.main_arg0)
          ∧ r.2.mem ((c.tc : Thread Cert.PeBwdRefIdeal.nD Cert.PeBwdRefIdeal.τ).loc Cert.PeBwdRefIdeal.main_arg1) = m' ((c.tc : Thread Cert.PeBwdRefIdeal.nD Cert.PeBwdRefIdeal.τ).loc Cert.PeBwdRefIdeal.main_arg1)
          ∧ r.2.mem ((c.tc : Thread Cert.PeBwdRefIdeal.nD Cert.PeBwdRefIdeal.τ).loc Cert.PeBwdRefIdeal.main_arg2) = m' ((c.tc : Thread Cert.PeBwdRefIdeal.nD Cert.PeBwdRefIdeal.τ).loc Cert.PeBwdRefIdeal.main_arg2)
          ∧ r.2.mem ((c.tc : Thread Cert.PeBwdRefIdeal.nD Cert.PeBwdRefIdeal.τ).loc Cert.PeBwdRefIdeal.main_arg3) = m' ((c.tc : Thread Cert.PeBwdRefIdeal.nD Cert.PeBwdRefIdeal.τ).loc Cert.PeBwdRefIdeal.main_arg3)
          ∧ r.2.mem ((c.tc : Thread Cert.PeBwdRefIdeal.nD Cert.PeBwdRefIdeal.τ).loc Cert.PeBwdRefIdeal.main_arg4) = m' ((c.tc : Thread Cert.PeBwdRefIdeal.nD Cert.PeBwdRefIdeal.τ).loc Cert.PeBwdRefIdeal.main_arg4)
          ∧ r.2.mem ((c.tc : Thread Cert.PeBwdRefIdeal.nD Cert.PeBwdRefIdeal.τ).loc Cert.PeBwdRefIdeal.main_arg5) = m' ((c.tc : Thread Cert.PeBwdRefIdeal.nD Cert.PeBwdRefIdeal.τ).loc Cert.PeBwdRefIdeal.main_arg5))

def Claim : Prop :=
  ∃ (hMerge : Cert.Merge.Facts) (hMergeIdeal : Cert.MergeIdeal.Facts) (hMergeRefIdeal : Cert.MergeRefIdeal.Facts) (hDwFfnIn : Cert.DwFfnIn.Facts) (hDwFfnInIdeal : Cert.DwFfnInIdeal.Facts) (hDwFfnInRefIdeal : Cert.DwFfnInRefIdeal.Facts) (hDwFfnOut : Cert.DwFfnOut.Facts) (hDwFfnOutIdeal : Cert.DwFfnOutIdeal.Facts) (hDwFfnOutRefIdeal : Cert.DwFfnOutRefIdeal.Facts) (hDwIn : Cert.DwIn.Facts) (hDwInIdeal : Cert.DwInIdeal.Facts) (hDwInRefIdeal : Cert.DwInRefIdeal.Facts) (hDwO : Cert.DwO.Facts) (hDwOIdeal : Cert.DwOIdeal.Facts) (hDwORefIdeal : Cert.DwORefIdeal.Facts) (hDwBranch : Cert.DwBranch.Facts) (hDwBranchIdeal : Cert.DwBranchIdeal.Facts) (hDwBranchRefIdeal : Cert.DwBranchRefIdeal.Facts) (hDwPeGate : Cert.DwPeGate.Facts) (hDwPeGateIdeal : Cert.DwPeGateIdeal.Facts) (hDwPeGateRefIdeal : Cert.DwPeGateRefIdeal.Facts) (hDwPeProj : Cert.DwPeProj.Facts) (hDwPeProjIdeal : Cert.DwPeProjIdeal.Facts) (hDwPeProjRefIdeal : Cert.DwPeProjRefIdeal.Facts) (hFfnFwd : Cert.FfnFwd.Facts) (hFfnFwdIdeal : Cert.FfnFwdIdeal.Facts) (hFfnFwdRefIdeal : Cert.FfnFwdRefIdeal.Facts) (hMixinFwd : Cert.MixinFwd.Facts) (hMixinFwdIdeal : Cert.MixinFwdIdeal.Facts) (hMixinFwdRefIdeal : Cert.MixinFwdRefIdeal.Facts) (hMergeFwd : Cert.MergeFwd.Facts) (hMergeFwdIdeal : Cert.MergeFwdIdeal.Facts) (hMergeFwdRefIdeal : Cert.MergeFwdRefIdeal.Facts) (hPeFwd : Cert.PeFwd.Facts) (hPeFwdIdeal : Cert.PeFwdIdeal.Facts) (hPeFwdRefIdeal : Cert.PeFwdRefIdeal.Facts) (hConvFwd : Cert.ConvFwd.Facts) (hConvFwdIdeal : Cert.ConvFwdIdeal.Facts) (hConvFwdRefIdeal : Cert.ConvFwdRefIdeal.Facts) (hLoss : Cert.Loss.Facts) (hLossIdeal : Cert.LossIdeal.Facts) (hLossRefIdeal : Cert.LossRefIdeal.Facts) (hAdamW : Cert.AdamW.Facts) (hAdamWIdeal : Cert.AdamWIdeal.Facts) (hAdamWRefIdeal : Cert.AdamWRefIdeal.Facts) (hBiasTable : Cert.BiasTable.Facts) (hBiasTableIdeal : Cert.BiasTableIdeal.Facts) (hBiasTableRefIdeal : Cert.BiasTableRefIdeal.Facts) (hBiasGrad : Cert.BiasGrad.Facts) (hBiasGradIdeal : Cert.BiasGradIdeal.Facts) (hBiasGradRefIdeal : Cert.BiasGradRefIdeal.Facts) (hFfnBwd : Cert.FfnBwd.Facts) (hFfnBwdIdeal : Cert.FfnBwdIdeal.Facts) (hFfnBwdRefIdeal : Cert.FfnBwdRefIdeal.Facts) (hMixinBwd : Cert.MixinBwd.Facts) (hMixinBwdIdeal : Cert.MixinBwdIdeal.Facts) (hMixinBwdRefIdeal : Cert.MixinBwdRefIdeal.Facts) (hPeBwd : Cert.PeBwd.Facts) (hPeBwdIdeal : Cert.PeBwdIdeal.Facts) (hPeBwdRefIdeal : Cert.PeBwdRefIdeal.Facts) (hPre_ffn_bwd_finite : Cert.Pre_ffn_bwd_finite.Facts) (hPre_mixin_bwd_finite : Cert.Pre_mixin_bwd_finite.Facts) (hPre_pe_bwd_finite : Cert.Pre_pe_bwd_finite.Facts),
    quiescent_Merge (hMerge := hMerge)
    ∧ quiescent_MergeIdeal (hMergeIdeal := hMergeIdeal)
    ∧ quiescent_MergeRefIdeal (hMergeRefIdeal := hMergeRefIdeal)
    ∧ quiescent_DwFfnIn (hDwFfnIn := hDwFfnIn)
    ∧ quiescent_DwFfnInIdeal (hDwFfnInIdeal := hDwFfnInIdeal)
    ∧ quiescent_DwFfnInRefIdeal (hDwFfnInRefIdeal := hDwFfnInRefIdeal)
    ∧ quiescent_DwFfnOut (hDwFfnOut := hDwFfnOut)
    ∧ quiescent_DwFfnOutIdeal (hDwFfnOutIdeal := hDwFfnOutIdeal)
    ∧ quiescent_DwFfnOutRefIdeal (hDwFfnOutRefIdeal := hDwFfnOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwO (hDwO := hDwO)
    ∧ quiescent_DwOIdeal (hDwOIdeal := hDwOIdeal)
    ∧ quiescent_DwORefIdeal (hDwORefIdeal := hDwORefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DwPeGate (hDwPeGate := hDwPeGate)
    ∧ quiescent_DwPeGateIdeal (hDwPeGateIdeal := hDwPeGateIdeal)
    ∧ quiescent_DwPeGateRefIdeal (hDwPeGateRefIdeal := hDwPeGateRefIdeal)
    ∧ quiescent_DwPeProj (hDwPeProj := hDwPeProj)
    ∧ quiescent_DwPeProjIdeal (hDwPeProjIdeal := hDwPeProjIdeal)
    ∧ quiescent_DwPeProjRefIdeal (hDwPeProjRefIdeal := hDwPeProjRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixinFwd (hMixinFwd := hMixinFwd)
    ∧ quiescent_MixinFwdIdeal (hMixinFwdIdeal := hMixinFwdIdeal)
    ∧ quiescent_MixinFwdRefIdeal (hMixinFwdRefIdeal := hMixinFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PeFwd (hPeFwd := hPeFwd)
    ∧ quiescent_PeFwdIdeal (hPeFwdIdeal := hPeFwdIdeal)
    ∧ quiescent_PeFwdRefIdeal (hPeFwdRefIdeal := hPeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Loss (hLoss := hLoss)
    ∧ quiescent_LossIdeal (hLossIdeal := hLossIdeal)
    ∧ quiescent_LossRefIdeal (hLossRefIdeal := hLossRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_BiasTable (hBiasTable := hBiasTable)
    ∧ quiescent_BiasTableIdeal (hBiasTableIdeal := hBiasTableIdeal)
    ∧ quiescent_BiasTableRefIdeal (hBiasTableRefIdeal := hBiasTableRefIdeal)
    ∧ quiescent_BiasGrad (hBiasGrad := hBiasGrad)
    ∧ quiescent_BiasGradIdeal (hBiasGradIdeal := hBiasGradIdeal)
    ∧ quiescent_BiasGradRefIdeal (hBiasGradRefIdeal := hBiasGradRefIdeal)
    ∧ quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdRefIdeal (hFfnBwdRefIdeal := hFfnBwdRefIdeal)
    ∧ quiescent_FfnBwdRefIdeal_pre_ffn_bwd_finite (hFfnBwdRefIdeal := hFfnBwdRefIdeal) (hPre_ffn_bwd_finite := hPre_ffn_bwd_finite)
    ∧ quiescent_MixinBwd (hMixinBwd := hMixinBwd)
    ∧ quiescent_MixinBwdIdeal (hMixinBwdIdeal := hMixinBwdIdeal)
    ∧ quiescent_MixinBwdIdeal_pre_mixin_bwd_finite (hMixinBwdIdeal := hMixinBwdIdeal) (hPre_mixin_bwd_finite := hPre_mixin_bwd_finite)
    ∧ quiescent_MixinBwdRefIdeal (hMixinBwdRefIdeal := hMixinBwdRefIdeal)
    ∧ quiescent_MixinBwdRefIdeal_pre_mixin_bwd_finite (hMixinBwdRefIdeal := hMixinBwdRefIdeal) (hPre_mixin_bwd_finite := hPre_mixin_bwd_finite)
    ∧ quiescent_PeBwd (hPeBwd := hPeBwd)
    ∧ quiescent_PeBwdIdeal (hPeBwdIdeal := hPeBwdIdeal)
    ∧ quiescent_PeBwdIdeal_pre_pe_bwd_finite (hPeBwdIdeal := hPeBwdIdeal) (hPre_pe_bwd_finite := hPre_pe_bwd_finite)
    ∧ quiescent_PeBwdRefIdeal (hPeBwdRefIdeal := hPeBwdRefIdeal)
    ∧ quiescent_PeBwdRefIdeal_pre_pe_bwd_finite (hPeBwdRefIdeal := hPeBwdRefIdeal) (hPre_pe_bwd_finite := hPre_pe_bwd_finite)
    ∧ preserves_Merge_MergeIdeal
    ∧ algebraic_MergeIdeal_MergeRefIdeal (hMergeIdeal := hMergeIdeal) (hMergeRefIdeal := hMergeRefIdeal)
    ∧ preserves_DwFfnIn_DwFfnInIdeal
    ∧ algebraic_DwFfnInIdeal_DwFfnInRefIdeal (hDwFfnInIdeal := hDwFfnInIdeal) (hDwFfnInRefIdeal := hDwFfnInRefIdeal)
    ∧ preserves_DwFfnOut_DwFfnOutIdeal
    ∧ algebraic_DwFfnOutIdeal_DwFfnOutRefIdeal (hDwFfnOutIdeal := hDwFfnOutIdeal) (hDwFfnOutRefIdeal := hDwFfnOutRefIdeal)
    ∧ preserves_DwIn_DwInIdeal
    ∧ algebraic_DwInIdeal_DwInRefIdeal (hDwInIdeal := hDwInIdeal) (hDwInRefIdeal := hDwInRefIdeal)
    ∧ preserves_DwO_DwOIdeal
    ∧ algebraic_DwOIdeal_DwORefIdeal (hDwOIdeal := hDwOIdeal) (hDwORefIdeal := hDwORefIdeal)
    ∧ preserves_DwBranch_DwBranchIdeal
    ∧ algebraic_DwBranchIdeal_DwBranchRefIdeal (hDwBranchIdeal := hDwBranchIdeal) (hDwBranchRefIdeal := hDwBranchRefIdeal)
    ∧ preserves_DwPeGate_DwPeGateIdeal
    ∧ algebraic_DwPeGateIdeal_DwPeGateRefIdeal (hDwPeGateIdeal := hDwPeGateIdeal) (hDwPeGateRefIdeal := hDwPeGateRefIdeal)
    ∧ preserves_DwPeProj_DwPeProjIdeal
    ∧ algebraic_DwPeProjIdeal_DwPeProjRefIdeal (hDwPeProjIdeal := hDwPeProjIdeal) (hDwPeProjRefIdeal := hDwPeProjRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixinFwd_MixinFwdIdeal
    ∧ algebraic_MixinFwdIdeal_MixinFwdRefIdeal (hMixinFwdIdeal := hMixinFwdIdeal) (hMixinFwdRefIdeal := hMixinFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PeFwd_PeFwdIdeal
    ∧ algebraic_PeFwdIdeal_PeFwdRefIdeal (hPeFwdIdeal := hPeFwdIdeal) (hPeFwdRefIdeal := hPeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Loss_LossIdeal
    ∧ algebraic_LossIdeal_LossRefIdeal (hLossIdeal := hLossIdeal) (hLossRefIdeal := hLossRefIdeal)
    ∧ preserves_AdamW_AdamWIdeal
    ∧ algebraic_AdamWIdeal_AdamWRefIdeal (hAdamWIdeal := hAdamWIdeal) (hAdamWRefIdeal := hAdamWRefIdeal)
    ∧ preserves_BiasTable_BiasTableIdeal
    ∧ algebraic_BiasTableIdeal_BiasTableRefIdeal (hBiasTableIdeal := hBiasTableIdeal) (hBiasTableRefIdeal := hBiasTableRefIdeal)
    ∧ preserves_BiasGrad_BiasGradIdeal
    ∧ algebraic_BiasGradIdeal_BiasGradRefIdeal (hBiasGradIdeal := hBiasGradIdeal) (hBiasGradRefIdeal := hBiasGradRefIdeal)
    ∧ preserves_FfnBwd_FfnBwdIdeal
    ∧ algebraic_FfnBwdIdeal_FfnBwdRefIdeal_pre_ffn_bwd_finite (hFfnBwdIdeal := hFfnBwdIdeal) (hFfnBwdRefIdeal := hFfnBwdRefIdeal) (hPre_ffn_bwd_finite := hPre_ffn_bwd_finite)
    ∧ preserves_MixinBwd_MixinBwdIdeal
    ∧ algebraic_MixinBwdIdeal_MixinBwdRefIdeal_pre_mixin_bwd_finite (hMixinBwdIdeal := hMixinBwdIdeal) (hMixinBwdRefIdeal := hMixinBwdRefIdeal) (hPre_mixin_bwd_finite := hPre_mixin_bwd_finite)
    ∧ preserves_PeBwd_PeBwdIdeal
    ∧ algebraic_PeBwdIdeal_PeBwdRefIdeal_pre_pe_bwd_finite (hPeBwdIdeal := hPeBwdIdeal) (hPeBwdRefIdeal := hPeBwdRefIdeal) (hPre_pe_bwd_finite := hPre_pe_bwd_finite)
-- ==== Pre_ffn_bwd_finite.lean ====
abbrev S8192x1024 : Shape := ⟨2, ![8192, 1024]⟩
abbrev S1x1024 : Shape := ⟨2, ![1, 1024]⟩
abbrev S8x1024x704 : Shape := ⟨3, ![8, 1024, 704]⟩
abbrev S8x352x1024 : Shape := ⟨3, ![8, 352, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8x1024x704 : S_.BroadcastsInDim S8x1024x704 (![] : Fin 0 → Fin S8x1024x704.rank)
  bcast_S_S8x352x1024 : S_.BroadcastsInDim S8x352x1024 (![] : Fin 0 → Fin S8x352x1024.rank)

variable [Facts]

def fn {F : FTy → Type} [FloatOps F] (main_arg0 : FVec F S8192x1024 .f32) (main_arg1 : FVec F S8192x1024 .f32) (main_arg2 : FVec F S1x1024 .f32) (main_arg3 : FVec F S8x1024x704 .bf16) (main_arg4 : FVec F S8x352x1024 .bf16) : IVec S8192x1024 1 × IVec S8192x1024 1 × IVec S1x1024 1 × IVec S8x1024x704 1 × IVec S8x352x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8x1024x704 .bf16 := Host.absf main_arg3
  let main_cst_2 : FVec F S_ .bf16 := constant S_ .bf16 0x7F80#16
  let main_v10 : FVec F S8x1024x704 .bf16 := broadcastInDim S8x1024x704 ![] bcast_S_S8x1024x704 main_cst_2
  let main_v11 : IVec S8x1024x704 1 := cmpf .olt main_v9 main_v10
  let main_v12 : FVec F S8x352x1024 .bf16 := Host.absf main_arg4
  let main_cst_3 : FVec F S_ .bf16 := constant S_ .bf16 0x7F80#16
  let main_v13 : FVec F S8x352x1024 .bf16 := broadcastInDim S8x352x1024 ![] bcast_S_S8x352x1024 main_cst_3
  let main_v14 : IVec S8x352x1024 1 := cmpf .olt main_v12 main_v13
  (main_v2, main_v5, main_v8, main_v11, main_v14)
-- ==== Pre_mixin_bwd_finite.lean ====
abbrev S8192x1024 : Shape := ⟨2, ![8192, 1024]⟩
abbrev S1x1024 : Shape := ⟨2, ![1, 1024]⟩
abbrev S8192x512 : Shape := ⟨2, ![8192, 512]⟩
abbrev S8192x256 : Shape := ⟨2, ![8192, 256]⟩
abbrev S8192x2048 : Shape := ⟨2, ![8192, 2048]⟩
abbrev S1024x3840 : Shape := ⟨2, ![1024, 3840]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x512 : S_.BroadcastsInDim S8192x512 (![] : Fin 0 → Fin S8192x512.rank)
  bcast_S_S8192x256 : S_.BroadcastsInDim S8192x256 (![] : Fin 0 → Fin S8192x256.rank)
  bcast_S_S8192x2048 : S_.BroadcastsInDim S8192x2048 (![] : Fin 0 → Fin S8192x2048.rank)
  bcast_S_S1024x3840 : S_.BroadcastsInDim S1024x3840 (![] : Fin 0 → Fin S1024x3840.rank)

variable [Facts]

def fn_part1 {F : FTy → Type} [FloatOps F] (main_arg6 : FVec F S8192x2048 .bf16) (main_arg7 : FVec F S1024x3840 .bf16) (main_v2 : IVec S8192x1024 1) (main_v5 : IVec S8192x1024 1) (main_v8 : IVec S1x1024 1) (main_v11 : IVec S8192x512 1) (main_v14 : IVec S8192x256 1) (main_v17 : IVec S8192x1024 1) : IVec S8192x1024 1 × IVec S8192x1024 1 × IVec S1x1024 1 × IVec S8192x512 1 × IVec S8192x256 1 × IVec S8192x1024 1 × IVec S8192x2048 1 × IVec S1024x3840 1 :=
  let main_v18 : FVec F S8192x2048 .bf16 := Host.absf main_arg6
  let main_cst_5 : FVec F S_ .bf16 := constant S_ .bf16 0x7F80#16
  let main_v19 : FVec F S8192x2048 .bf16 := broadcastInDim S8192x2048 ![] bcast_S_S8192x2048 main_cst_5
  let main_v20 : IVec S8192x2048 1 := cmpf .olt main_v18 main_v19
  let main_v21 : FVec F S1024x3840 .bf16 := Host.absf main_arg7
  let main_cst_6 : FVec F S_ .bf16 := constant S_ .bf16 0x7F80#16
  let main_v22 : FVec F S1024x3840 .bf16 := broadcastInDim S1024x3840 ![] bcast_S_S1024x3840 main_cst_6
  let main_v23 : IVec S1024x3840 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1x1024 .f32) (main_arg3 : FVec F S8192x512 .f32) (main_arg4 : FVec F S8192x256 .f32) (main_arg5 : FVec F S8192x1024 .f32) (main_arg6 : FVec F S8192x2048 .bf16) (main_arg7 : FVec F S1024x3840 .bf16) : IVec S8192x1024 1 × IVec S8192x1024 1 × IVec S1x1024 1 × IVec S8192x512 1 × IVec S8192x256 1 × IVec S8192x1024 1 × IVec S8192x2048 1 × IVec S1024x3840 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_arg7 main_v2 main_v5 main_v8 main_v11 main_v14 main_v17
-- ==== Pre_pe_bwd_finite.lean ====
abbrev S8192x1024 : Shape := ⟨2, ![8192, 1024]⟩
abbrev S1x1024 : Shape := ⟨2, ![1, 1024]⟩
abbrev S4x1x8192x256 : Shape := ⟨4, ![4, 1, 8192, 256]⟩
abbrev S256x1024 : Shape := ⟨2, ![256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S4x1x8192x256 : S_.BroadcastsInDim S4x1x8192x256 (![] : Fin 0 → Fin S4x1x8192x256.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1x1024 .f32) (main_arg3 : FVec F S4x1x8192x256 .f32) (main_arg4 : FVec F S256x1024 .bf16) (main_arg5 : FVec F S1024x1024 .bf16) : IVec S8192x1024 1 × IVec S8192x1024 1 × IVec S1x1024 1 × IVec S4x1x8192x256 1 × IVec S256x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4x1x8192x256 .f32 := Host.absf main_arg3
  let main_cst_2 : FVec F S_ .f32 := constant S_ .f32 0x7F800000#32
  let main_v10 : FVec F S4x1x8192x256 .f32 := broadcastInDim S4x1x8192x256 ![] bcast_S_S4x1x8192x256 main_cst_2
  let main_v11 : IVec S4x1x8192x256 1 := cmpf .olt main_v9 main_v10
  let main_v12 : FVec F S256x1024 .bf16 := Host.absf main_arg4
  let main_cst_3 : FVec F S_ .bf16 := constant S_ .bf16 0x7F80#16
  let main_v13 : FVec F S256x1024 .bf16 := broadcastInDim S256x1024 ![] bcast_S_S256x1024 main_cst_3
  let main_v14 : IVec S256x1024 1 := cmpf .olt main_v12 main_v13
  let main_v15 : FVec F S1024x1024 .bf16 := Host.absf main_arg5
  let main_cst_4 : FVec F S_ .bf16 := constant S_ .bf16 0x7F80#16
  let main_v16 : FVec F S1024x1024 .bf16 := broadcastInDim S1024x1024 ![] bcast_S_S1024x1024 main_cst_4
  let main_v17 : IVec S1024x1024 1 := cmpf .olt main_v15 main_v16
  (main_v2, main_v5, main_v8, main_v11, main_v14, main_v17)
-- ==== Merge.lean ====
abbrev S8192x1024 : Shape := ⟨2, ![8192, 1024]⟩
abbrev S8192x512 : Shape := ⟨2, ![8192, 512]⟩
abbrev S1024x3840 : Shape := ⟨2, ![1024, 3840]⟩
abbrev S512x1024 : Shape := ⟨2, ![512, 1024]⟩
abbrev S1024x1024 : Shape := ⟨2, ![1024, 1024]⟩
abbrev S8192x2048 : Shape := ⟨2, ![8192, 2048]⟩
abbrev S512x512 : Shape := ⟨2, ![512, 512]⟩
abbrev S512x2048 : Shape := ⟨2, ![512, 2048]⟩
abbrev S1024x2048 : Shape := ⟨2, ![1024, 2048]⟩

abbrev nBuf : Space → Nat
  | .hbm => 14
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S1024x3840, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x512, .f32⟩
  | .hbm, ⟨9, _⟩ => ⟨S8192x512, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3840, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | .local _ .vmem, ⟨23, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S8192x1024 : Shape := ⟨2, ![8192, 1024]⟩
abbrev S8192x512 : Shape := ⟨2, ![8192, 512]⟩
abbrev S1024x3840 : Shape := ⟨2, ![1024, 3840]⟩
abbrev S512x1024 : Shape := ⟨2, ![512, 1024]⟩
abbrev S1024x1024 : Shape := ⟨2, ![1024, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S1024x3840, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S1024x3840, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x2048, .f32⟩
  | .hbm, ⟨43, _⟩ => ⟨S8192x2048, .f32⟩
  | .hbm, ⟨44, _⟩ => ⟨S8192x512, .f32⟩
  | .hbm, ⟨45, _⟩ => ⟨S8192x512, .f32⟩
  | .hbm, ⟨46, _⟩ => ⟨S8192x1024, .bf16⟩
  | .hbm, ⟨47, _⟩ => ⟨S8192x1024, .bf16⟩
  | .hbm, ⟨48, _⟩ => ⟨S8192x1024, .bf16⟩
  | .hbm, ⟨49, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== DwFfnIn.lean ====
abbrev S8192x1024 : Shape := ⟨2, ![8192, 1024]⟩
abbrev S2x4x8192x704 : Shape := ⟨4, ![2, 4, 8192, 704]⟩
abbrev S1x8192x1024 : Shape := ⟨3, ![1, 8192, 1024]⟩
abbrev S8x8192x704 : Shape := ⟨3, ![8, 8192, 704]⟩
abbrev S8x1024x704 : Shape := ⟨3, ![8, 1024, 704]⟩
abbrev S1x4096x1024 : Shape := ⟨3, ![1, 4096, 1024]⟩
abbrev S1x4096x704 : Shape := ⟨3, ![1, 4096, 704]⟩
abbrev S1x1024x704 : Shape := ⟨3, ![1, 1024, 704]⟩
abbrev S1024x704 : Shape := ⟨2, ![1024, 704]⟩
abbrev S4096x1024 : Shape := ⟨2, ![4096, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x4x8192x704, .bf16⟩
  | .hbm, ⟨2, _⟩ => ⟨S1x8192x1024, .bf16⟩
  | .hbm, ⟨3, _⟩ => ⟨S8x8192x704, .bf16⟩
  | .hbm, ⟨4, _⟩ => ⟨S8x1024x704, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnInRefIdeal.lean ====
abbrev S8192x1024 : Shape := ⟨2, ![8192, 1024]⟩
abbrev S2x4x8192x704 : Shape := ⟨4, ![2, 4, 8192, 704]⟩
abbrev S8x8192x704 : Shape := ⟨3, ![8, 8192, 704]⟩
abbrev S8192x8x704 : Shape := ⟨3, ![8192, 8, 704]⟩
abbrev S8192x5632 : Shape := ⟨2, ![8192, 5632]⟩
abbrev S5632x1024 : Shape := ⟨2, ![5632, 1024]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x8192x704, .bf16⟩
  | .hbm, ⟨2, _⟩ => ⟨S8x8192x704, .bf16⟩
  | .hbm, ⟨3, _⟩ => ⟨S8192x8x704, .bf16⟩
  | .hbm, ⟨4, _⟩ => ⟨S8192x5632, .bf16⟩
  | .hbm, ⟨5, _⟩ => ⟨S8192x1024, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x8x704, .f32⟩
  | .hbm, ⟨10, _⟩ => ⟨S8x1024x704, .f32⟩
  | .hbm, ⟨11, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== DwFfnOut.lean ====
abbrev S4x8192x704 : Shape := ⟨3, ![4, 8192, 704]⟩
abbrev S8192x1024 : Shape := ⟨2, ![8192, 1024]⟩
abbrev S1x8192x1024 : Shape := ⟨3, ![1, 8192, 1024]⟩
abbrev S4x704x1024 : Shape := ⟨3, ![4, 704, 1024]⟩
abbrev S1x2048x704 : Shape := ⟨3, ![1, 2048, 704]⟩
abbrev S1x2048x1024 : Shape := ⟨3, ![1, 2048, 1024]⟩
abbrev S1x704x1024 : Shape := ⟨3, ![1, 704, 1024]⟩
abbrev S704x1024 : Shape := ⟨2, ![704, 1024]⟩
abbrev S2048x704 : Shape := ⟨2, ![2048, 704]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S1x8192x1024, .f32⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnOutRefIdeal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwIn.lean ====
abbrev S8192x1024 : Shape := ⟨2, ![8192, 1024]⟩
abbrev S8192x3840 : Shape := ⟨2, ![8192, 3840]⟩
abbrev S1x8192x1024 : Shape := ⟨3, ![1, 8192, 1024]⟩
abbrev S1x8192x3840 : Shape := ⟨3, ![1, 8192, 3840]⟩
abbrev S1x1024x3840 : Shape := ⟨3, ![1, 1024, 3840]⟩
abbrev S1x4096x1024 : Shape := ⟨3, ![1, 4096, 1024]⟩
abbrev S1x4096x1280 : Shape := ⟨3, ![1, 4096, 1280]⟩
abbrev S1x1024x1280 : Shape := ⟨3, ![1, 1024, 1280]⟩
abbrev S1024x1280 : Shape := ⟨2, ![1024, 1280]⟩
abbrev S4096x1024 : Shape := ⟨2, ![4096, 1024]⟩
abbrev S4096x1280 : Shape := ⟨2, ![4096, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S1x8192x1024, .bf16⟩
  | .hbm, ⟨3, _⟩ => ⟨S1x8192x3840, .bf16⟩
  | .hbm, ⟨4, _⟩ => ⟨S1x1024x3840, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1280, .bf16⟩
  | .local _ .vmem, ⟨3, _⟩ => ⟨S1x4096x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x3840 : Shape := ⟨2, ![8192, 3840]⟩
abbrev S3840x1024 : Shape := ⟨2, ![3840, 1024]⟩
abbrev S1024x3840 : Shape := ⟨2, ![1024, 3840]⟩
abbrev S1x1024x3840 : Shape := ⟨3, ![1, 1024, 3840]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S8192x1024, .f32⟩
  | .hbm, ⟨3, _⟩ => ⟨S8192x3840, .f32⟩
  | .hbm, ⟨4, _⟩ => ⟨S3840x1024, .f32⟩
  | .hbm, ⟨5, _⟩ => ⟨S1024x3840, .f32⟩
  | .hbm, ⟨6, _⟩ => ⟨S1024x3840, .bf16⟩
  | .hbm, ⟨7, _⟩ => ⟨S1x1024x3840, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwO.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x8192x1024, .bf16⟩
  | .hbm, ⟨3, _⟩ => ⟨S1x8192x1024, .f32⟩
  | .hbm, ⟨4, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwORefIdeal.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwBranch.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x2048x512 : Shape := ⟨3, ![1, 2048, 512]⟩
abbrev S1x2048x1024 : Shape := ⟨3, ![1, 2048, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1x8192x512, .bf16⟩
  | .hbm, ⟨3, _⟩ => ⟨S1x8192x1024, .bf16⟩
  | .hbm, ⟨4, _⟩ => ⟨S1x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchRefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩
abbrev S1x512x1024 : Shape := ⟨3, ![1, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1x512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwPeGate.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x8192x1024, .bf16⟩
  | .hbm, ⟨4, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwPeGateRefIdeal.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwPeProj.lean ====
abbrev S4x1x8192x256 : Shape := ⟨4, ![4, 1, 8192, 256]⟩
abbrev S8192x1024 : Shape := ⟨2, ![8192, 1024]⟩
abbrev S4x8192x256 : Shape := ⟨3, ![4, 8192, 256]⟩
abbrev S1x8192x1024 : Shape := ⟨3, ![1, 8192, 1024]⟩
abbrev S1x256x1024 : Shape := ⟨3, ![1, 256, 1024]⟩
abbrev S1x2048x256 : Shape := ⟨3, ![1, 2048, 256]⟩
abbrev S1x2048x1024 : Shape := ⟨3, ![1, 2048, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x1x8192x256, .f32⟩
  | .hbm, ⟨1, _⟩ => ⟨S8192x1024, .bf16⟩
  | .hbm, ⟨2, _⟩ => ⟨S4x8192x256, .f32⟩
  | .hbm, ⟨3, _⟩ => ⟨S1x8192x1024, .bf16⟩
  | .hbm, ⟨4, _⟩ => ⟨S1x256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S256x1024, .f32⟩
  | _, _ => ⟨S4x1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwPeProjRefIdeal.lean ====
abbrev S4x1x8192x256 : Shape := ⟨4, ![4, 1, 8192, 256]⟩
abbrev S8192x1024 : Shape := ⟨2, ![8192, 1024]⟩
abbrev S1x1x8192x256 : Shape := ⟨4, ![1, 1, 8192, 256]⟩
abbrev S8192x256 : Shape := ⟨2, ![8192, 256]⟩
abbrev S1024x256 : Shape := ⟨2, ![1024, 256]⟩
abbrev S256x1024 : Shape := ⟨2, ![256, 1024]⟩
abbrev S1x256x1024 : Shape := ⟨3, ![1, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x1x8192x256, .f32⟩
  | .hbm, ⟨1, _⟩ => ⟨S8192x1024, .bf16⟩
  | .hbm, ⟨2, _⟩ => ⟨S1x1x8192x256, .f32⟩
  | .hbm, ⟨3, _⟩ => ⟨S8192x256, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | .hbm, ⟨8, _⟩ => ⟨S1x256x1024, .bf16⟩
  | _, _ => ⟨S4x1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S8x1024x704 : Shape := ⟨3, ![8, 1024, 704]⟩
abbrev S8x352x1024 : Shape := ⟨3, ![8, 352, 1024]⟩
abbrev S4x8192x704 : Shape := ⟨3, ![4, 8192, 704]⟩
abbrev S1024x1024 : Shape := ⟨2, ![1024, 1024]⟩
abbrev S1x1024x704 : Shape := ⟨3, ![1, 1024, 704]⟩
abbrev S2x352x1024 : Shape := ⟨3, ![2, 352, 1024]⟩
abbrev S1024 : Shape := ⟨1, ![1024]⟩
abbrev S1024x1 : Shape := ⟨2, ![1024, 1]⟩
abbrev S704x1024 : Shape := ⟨2, ![704, 1024]⟩
abbrev S256x1024 : Shape := ⟨2, ![256, 1024]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 8
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S8x352x1024, .bf16⟩
  | .hbm, ⟨4, _⟩ => ⟨S8192x1024, .f32⟩
  | .hbm, ⟨5, _⟩ => ⟨S8192x1024, .bf16⟩
  | .hbm, ⟨6, _⟩ => ⟨S4x8192x704, .bf16⟩
  | .hbm, ⟨7, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S2x352x1024, .bf16⟩
  | .local _ .vmem, ⟨8, _⟩ => ⟨S2x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v129 : BitVec 1 := Scalar.cmpi .eq arg1 c3_i32
  let v130 : BitVec 32 := Scalar.extui v129
  let c0_i32_95 : BitVec 32 := 0#32
  let v131 : BitVec 1 := Scalar.cmpi .ne v130 c0_i32_95
  v131

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdRefIdeal.lean ====
abbrev S8192x1024 : Shape := ⟨2, ![8192, 1024]⟩
abbrev S1x1024 : Shape := ⟨2, ![1, 1024]⟩
abbrev S8x1024x704 : Shape := ⟨3, ![8, 1024, 704]⟩
abbrev S8x352x1024 : Shape := ⟨3, ![8, 352, 1024]⟩
abbrev S1024x8x704 : Shape := ⟨3, ![1024, 8, 704]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x704, .bf16⟩
  | .hbm, ⟨3, _⟩ => ⟨S8x352x1024, .bf16⟩
  | .hbm, ⟨4, _⟩ => ⟨S1024x8x704, .bf16⟩
  | .hbm, ⟨5, _⟩ => ⟨S1024x5632, .bf16⟩
  | .hbm, ⟨6, _⟩ => ⟨S1024x5632, .f32⟩
  | .hbm, ⟨7, _⟩ => ⟨S2816x1024, .bf16⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x4x704, .f32⟩
  | .hbm, ⟨44, _⟩ => ⟨S4x8192x704, .f32⟩
  | .hbm, ⟨45, _⟩ => ⟨S4x8192x704, .bf16⟩
  | .hbm, ⟨46, _⟩ => ⟨S8192x4x704, .f32⟩
  | .hbm, ⟨47, _⟩ => ⟨S4x8192x704, .f32⟩
  | .hbm, ⟨48, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== MixinFwd.lean ====
abbrev S8192x1024 : Shape := ⟨2, ![8192, 1024]⟩
abbrev S1x1024 : Shape := ⟨2, ![1, 1024]⟩
abbrev S1024x3840 : Shape := ⟨2, ![1024, 3840]⟩
abbrev S8192x768 : Shape := ⟨2, ![8192, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3840, .bf16⟩
  | .hbm, ⟨3, _⟩ => ⟨S8192x1024, .bf16⟩
  | .hbm, ⟨4, _⟩ => ⟨S8192x768, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x1024, .bf16⟩
  | .local _ .vmem, ⟨5, _⟩ => ⟨S512x1024, .bf16⟩
  | .local _ .vmem, ⟨6, _⟩ => ⟨S512x768, .f32⟩
  | .local _ .vmem, ⟨7, _⟩ => ⟨S512x768, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixinFwdRefIdeal.lean ====
abbrev S8192x1024 : Shape := ⟨2, ![8192, 1024]⟩
abbrev S1x1024 : Shape := ⟨2, ![1, 1024]⟩
abbrev S1024x3840 : Shape := ⟨2, ![1024, 3840]⟩
abbrev S_ : Shape := ⟨0, ![]⟩
abbrev S8192 : Shape := ⟨1, ![8192]⟩
abbrev S8192x1 : Shape := ⟨2, ![8192, 1]⟩
abbrev S8192x3840 : Shape := ⟨2, ![8192, 3840]⟩
abbrev S8192x512 : Shape := ⟨2, ![8192, 512]⟩
abbrev S8192x128 : Shape := ⟨2, ![8192, 128]⟩
abbrev S8192x2048 : Shape := ⟨2, ![8192, 2048]⟩
abbrev S8192x768 : Shape := ⟨2, ![8192, 768]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3840, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x3840, .f32⟩
  | .hbm, ⟨19, _⟩ => ⟨S8192x3840, .f32⟩
  | .hbm, ⟨20, _⟩ => ⟨S8192x512, .f32⟩
  | .hbm, ⟨21, _⟩ => ⟨S8192x128, .f32⟩
  | .hbm, ⟨22, _⟩ => ⟨S8192x128, .f32⟩
  | .hbm, ⟨23, _⟩ => ⟨S8192x1024, .f32⟩
  | .hbm, ⟨24, _⟩ => ⟨S8192x2048, .f32⟩
  | .hbm, ⟨25, _⟩ => ⟨S8192x1024, .bf16⟩
  | .hbm, ⟨26, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== MergeFwd.lean ====
abbrev S8192x1024 : Shape := ⟨2, ![8192, 1024]⟩
abbrev S8192x512 : Shape := ⟨2, ![8192, 512]⟩
abbrev S1024x3840 : Shape := ⟨2, ![1024, 3840]⟩
abbrev S512x1024 : Shape := ⟨2, ![512, 1024]⟩
abbrev S1024x1024 : Shape := ⟨2, ![1024, 1024]⟩
abbrev S512x512 : Shape := ⟨2, ![512, 512]⟩
abbrev S1024x2048 : Shape := ⟨2, ![1024, 2048]⟩
abbrev S512x2048 : Shape := ⟨2, ![512, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S1024x3840, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3840, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x1024 : Shape := ⟨2, ![8192, 1024]⟩
abbrev S8192x512 : Shape := ⟨2, ![8192, 512]⟩
abbrev S1024x3840 : Shape := ⟨2, ![1024, 3840]⟩
abbrev S512x1024 : Shape := ⟨2, ![512, 1024]⟩
abbrev S1024x1024 : Shape := ⟨2, ![1024, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S1024x3840, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x1024, .f32⟩
  | .hbm, ⟨9, _⟩ => ⟨S1024x3840, .f32⟩
  | .hbm, ⟨10, _⟩ => ⟨S1024x2048, .f32⟩
  | .hbm, ⟨11, _⟩ => ⟨S8192x2048, .f32⟩
  | .hbm, ⟨12, _⟩ => ⟨S8192x512, .f32⟩
  | .hbm, ⟨13, _⟩ => ⟨S512x1024, .f32⟩
  | .hbm, ⟨14, _⟩ => ⟨S8192x1024, .f32⟩
  | .hbm, ⟨15, _⟩ => ⟨S8192x512, .f32⟩
  | .hbm, ⟨16, _⟩ => ⟨S512x1024, .f32⟩
  | .hbm, ⟨17, _⟩ => ⟨S8192x1024, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== PeFwd.lean ====
abbrev S8192x1024 : Shape := ⟨2, ![8192, 1024]⟩
abbrev S1x1024 : Shape := ⟨2, ![1, 1024]⟩
abbrev S4x1x8192x256 : Shape := ⟨4, ![4, 1, 8192, 256]⟩
abbrev S256x1024 : Shape := ⟨2, ![256, 1024]⟩
abbrev S1024x1024 : Shape := ⟨2, ![1024, 1024]⟩
abbrev S512x1024 : Shape := ⟨2, ![512, 1024]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x8192x256, .f32⟩
  | .hbm, ⟨3, _⟩ => ⟨S256x1024, .bf16⟩
  | .hbm, ⟨4, _⟩ => ⟨S1024x1024, .bf16⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x512x256, .f32⟩
  | .local _ .vmem, ⟨4, _⟩ => ⟨S1x1x512x256, .f32⟩
  | .local _ .vmem, ⟨5, _⟩ => ⟨S256x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PeFwdRefIdeal.lean ====
abbrev S8192x1024 : Shape := ⟨2, ![8192, 1024]⟩
abbrev S1x1024 : Shape := ⟨2, ![1, 1024]⟩
abbrev S4x1x8192x256 : Shape := ⟨4, ![4, 1, 8192, 256]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1x8192x256 : Shape := ⟨4, ![1, 1, 8192, 256]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x8192x256, .f32⟩
  | .hbm, ⟨3, _⟩ => ⟨S256x1024, .bf16⟩
  | .hbm, ⟨4, _⟩ => ⟨S1024x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1x1x8192x256, .f32⟩
  | .hbm, ⟨21, _⟩ => ⟨S8192x256, .f32⟩
  | .hbm, ⟨22, _⟩ => ⟨S256x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== ConvFwd.lean ====
abbrev S8192x1024 : Shape := ⟨2, ![8192, 1024]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S8192x512 : Shape := ⟨2, ![8192, 512]⟩
abbrev S16x1024 : Shape := ⟨2, ![16, 1024]⟩
abbrev S512x1024 : Shape := ⟨2, ![512, 1024]⟩
abbrev S512x512 : Shape := ⟨2, ![512, 512]⟩
abbrev S544x1024 : Shape := ⟨2, ![544, 1024]⟩
abbrev S544x1 : Shape := ⟨2, ![544, 1]⟩
abbrev S544x512 : Shape := ⟨2, ![544, 512]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S8192x512, .bf16⟩
  | .hbm, ⟨9, _⟩ => ⟨S8192x512, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.addi v0 c32_i32_0
  let c511_i32 : BitVec 32 := 511#32
  let v2 : BitVec 32 := Scalar.minsi v1 c511_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvFwdRefIdeal.lean ====
abbrev S8192x1024 : Shape := ⟨2, ![8192, 1024]⟩
abbrev S31x512 : Shape := ⟨2, ![31, 512]⟩
abbrev S1x512 : Shape := ⟨2, ![1, 512]⟩
abbrev S8192x512 : Shape := ⟨2, ![8192, 512]⟩
abbrev S_ : Shape := ⟨0, ![]⟩
abbrev S8222x512 : Shape := ⟨2, ![8222, 512]⟩
abbrev S512 : Shape := ⟨1, ![512]⟩
abbrev S8192 : Shape := ⟨1, ![8192]⟩
abbrev S8192x1 : Shape := ⟨2, ![8192, 1]⟩

abbrev nBuf : Space → Nat
  | .hbm => 277
  | .vmem => 0
  | .smem => 0
  | _ => 0

abbrev hbmTy0_0 (i : Nat) : BufTy := match i % 128 with
  | 0 => ⟨S8192x1024, .f32⟩
  | 1 => ⟨S31x512, .f32⟩
  | 2 => ⟨S1x512, .f32⟩
  | 3 => ⟨S1x512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .i32⟩
  | 17 => ⟨S_, .f32⟩
  | 18 => ⟨S8222x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S1x512, .f32⟩
  | 53 => ⟨S8192x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S1x512, .f32⟩
  | 81 => ⟨S8192x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S1x512, .f32⟩
  | 109 => ⟨S8192x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S1x512, .f32⟩
  | 116 => ⟨S8192x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S1x512, .f32⟩
  | 123 => ⟨S8192x512, .f32⟩
  | 124 => ⟨S8192x512, .f32⟩
  | 125 => ⟨S8192x512, .f32⟩
  | 126 => ⟨S8192x512, .f32⟩
  | 127 => ⟨S1x512, .f32⟩
  | _ => ⟨S8192x1024, .f32⟩

abbrev hbmTy0_1 (i : Nat) : BufTy := match i % 128 with
  | 0 => ⟨S512, .f32⟩
  | 1 => ⟨S1x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x512, .f32⟩
  | 119 => ⟨S8192x512, .f32⟩
  | 120 => ⟨S8192x512, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x512, .f32⟩
  | _ => ⟨S8192x1024, .f32⟩

abbrev hbmTy0_2 (i : Nat) : BufTy := match i % 128 with
  | 0 => ⟨S8192x512, .f32⟩
  | 1 => ⟨S_, .f32⟩
  | 2 => ⟨S8192x1, .f32⟩
  | 3 => ⟨S8192x1, .f32⟩
  | 4 => ⟨S8192x1, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S8192x512, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_2 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_4 : Ref sig .tc := ⟨.hbm, 249, rfl⟩
abbrev main_v237 : Ref sig .tc := ⟨.hbm, 250, rfl⟩
abbrev main_v238 : Ref sig .tc := ⟨.hbm, 251, rfl⟩
abbrev main_cst_5 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_cst_6 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v252 : Ref sig .tc := ⟨.hbm, 275, rfl⟩
abbrev main_v253 : Ref sig .tc := ⟨.hbm, 276, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S512x1024 : Shape := ⟨2, ![512, 1024]⟩
abbrev S64x8x1024 : Shape := ⟨3, ![64, 8, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1024x8x8x128 : Shape := ⟨4, ![1024, 8, 8, 128]⟩
abbrev S1024x8x128 : Shape := ⟨3, ![1024, 8, 128]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x8x8x128, .f32⟩
  | .hbm, ⟨28, _⟩ => ⟨S_, .f32⟩
  | .hbm, ⟨29, _⟩ => ⟨S1024x8x128, .f32⟩
  | .hbm, ⟨30, _⟩ => ⟨S_, .f32⟩
  | .hbm, ⟨31, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== AdamW.lean ====
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWRefIdeal.lean ====
abbrev S8x128x1024 : Shape := ⟨3, ![8, 128, 1024]⟩
abbrev S512x1024 : Shape := ⟨2, ![512, 1024]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== BiasTable.lean ====
abbrev S32x8 : Shape := ⟨2, ![32, 8]⟩
abbrev S32x49152 : Shape := ⟨2, ![32, 49152]⟩
abbrev S1x49152 : Shape := ⟨2, ![1, 49152]⟩
abbrev S8x32 : Shape := ⟨2, ![8, 32]⟩
abbrev S8x49152 : Shape := ⟨2, ![8, 49152]⟩
abbrev S32x6144 : Shape := ⟨2, ![32, 6144]⟩
abbrev S1x6144 : Shape := ⟨2, ![1, 6144]⟩
abbrev S8x6144 : Shape := ⟨2, ![8, 6144]⟩

abbrev nBuf : Space → Nat
  | .hbm => 5
  | .vmem => 7
  | .smem => 0
  | _ => 0

abbrev bufTy : (tb : Table) → Fin (tcTables nBuf tb) → BufTy
  | .hbm, ⟨0, _⟩ => ⟨S32x8, .f32⟩
  | .hbm, ⟨1, _⟩ => ⟨S32x49152, .f32⟩
  | .hbm, ⟨2, _⟩ => ⟨S1x49152, .f32⟩
  | .hbm, ⟨3, _⟩ => ⟨S8x32, .f32⟩
  | .hbm, ⟨4, _⟩ => ⟨S8x49152, .f32⟩
  | .local _ .vmem, ⟨0, _⟩ => ⟨S8x32, .f32⟩
  | .local _ .vmem, ⟨1, _⟩ => ⟨S32x6144, .f32⟩
  | .local _ .vmem, ⟨2, _⟩ => ⟨S32x6144, .f32⟩
  | .local _ .vmem, ⟨3, _⟩ => ⟨S1x6144, .f32⟩
  | .local _ .vmem, ⟨4, _⟩ => ⟨S1x6144, .f32⟩
  | .local _ .vmem, ⟨5, _⟩ => ⟨S8x6144, .f32⟩
  | .local _ .vmem, ⟨6, _⟩ => ⟨S8x6144, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BiasTableRefIdeal.lean ====
abbrev S32x8 : Shape := ⟨2, ![32, 8]⟩
abbrev S32x49152 : Shape := ⟨2, ![32, 49152]⟩
abbrev S1x49152 : Shape := ⟨2, ![1, 49152]⟩
abbrev S8x32 : Shape := ⟨2, ![8, 32]⟩
abbrev S8x32x1 : Shape := ⟨3, ![8, 32, 1]⟩
abbrev S1x32x49152 : Shape := ⟨3, ![1, 32, 49152]⟩
abbrev S8x32x49152 : Shape := ⟨3, ![8, 32, 49152]⟩
abbrev S_ : Shape := ⟨0, ![]⟩
abbrev S8x49152 : Shape := ⟨2, ![8, 49152]⟩

abbrev nBuf : Space → Nat
  | .hbm => 13
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x49152, .f32⟩
  | .hbm, ⟨2, _⟩ => ⟨S1x49152, .f32⟩
  | .hbm, ⟨3, _⟩ => ⟨S8x32, .f32⟩
  | .hbm, ⟨4, _⟩ => ⟨S8x32x1, .f32⟩
  | .hbm, ⟨5, _⟩ => ⟨S1x32x49152, .f32⟩
  | .hbm, ⟨6, _⟩ => ⟨S8x32x49152, .f32⟩
  | .hbm, ⟨7, _⟩ => ⟨S8x32x49152, .f32⟩
  | .hbm, ⟨8, _⟩ => ⟨S8x32x49152, .f32⟩
  | .hbm, ⟨9, _⟩ => ⟨S_, .f32⟩
  | .hbm, ⟨10, _⟩ => ⟨S8x49152, .f32⟩
  | .hbm, ⟨11, _⟩ => ⟨S8x49152, .f32⟩
  | .hbm, ⟨12, _⟩ => ⟨S8x49152, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== BiasGrad.lean ====
abbrev S8x49152 : Shape := ⟨2, ![8, 49152]⟩
abbrev S32x49152 : Shape := ⟨2, ![32, 49152]⟩
abbrev S8x32 : Shape := ⟨2, ![8, 32]⟩
abbrev S8x6144 : Shape := ⟨2, ![8, 6144]⟩
abbrev S32x6144 : Shape := ⟨2, ![32, 6144]⟩

abbrev nBuf : Space → Nat
  | .hbm => 3
  | .vmem => 5
  | .smem => 0
  | _ => 0

abbrev bufTy : (tb : Table) → Fin (tcTables nBuf tb) → BufTy
  | .hbm, ⟨0, _⟩ => ⟨S8x49152, .f32⟩
  | .hbm, ⟨1, _⟩ => ⟨S32x49152, .f32⟩
  | .hbm, ⟨2, _⟩ => ⟨S8x32, .f32⟩
  | .local _ .vmem, ⟨0, _⟩ => ⟨S8x6144, .f32⟩
  | .local _ .vmem, ⟨1, _⟩ => ⟨S8x6144, .f32⟩
  | .local _ .vmem, ⟨2, _⟩ => ⟨S32x6144, .f32⟩
  | .local _ .vmem, ⟨3, _⟩ => ⟨S32x6144, .f32⟩
  | .local _ .vmem, ⟨4, _⟩ => ⟨S8x32, .f32⟩
  | _, _ => ⟨S8x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasGradRefIdeal.lean ====
abbrev S8x49152 : Shape := ⟨2, ![8, 49152]⟩
abbrev S32x49152 : Shape := ⟨2, ![32, 49152]⟩
abbrev S_ : Shape := ⟨0, ![]⟩
abbrev S8x32 : Shape := ⟨2, ![8, 32]⟩

abbrev nBuf : Space → Nat
  | .hbm => 6
  | .vmem => 0
  | .smem => 0
  | _ => 0

abbrev bufTy : (tb : Table) → Fin (tcTables nBuf tb) → BufTy
  | .hbm, ⟨0, _⟩ => ⟨S8x49152, .f32⟩
  | .hbm, ⟨1, _⟩ => ⟨S32x49152, .f32⟩
  | .hbm, ⟨2, _⟩ => ⟨S_, .f32⟩
  | .hbm, ⟨3, _⟩ => ⟨S8x32, .f32⟩
  | .hbm, ⟨4, _⟩ => ⟨S8x49152, .f32⟩
  | .hbm, ⟨5, _⟩ => ⟨S8x32, .f32⟩
  | _, _ => ⟨S8x49152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S8x1024x704 : Shape := ⟨3, ![8, 1024, 704]⟩
abbrev S8x352x1024 : Shape := ⟨3, ![8, 352, 1024]⟩
abbrev S1024x8x704 : Shape := ⟨3, ![1024, 8, 704]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S2x4x8192x704 : Shape := ⟨4, ![2, 4, 8192, 704]⟩
abbrev S1024x1024 : Shape := ⟨2, ![1024, 1024]⟩
abbrev S1x1024x704 : Shape := ⟨3, ![1, 1024, 704]⟩
abbrev S2x352x1024 : Shape := ⟨3, ![2, 352, 1024]⟩
abbrev S2x1x1024x704 : Shape := ⟨4, ![2, 1, 1024, 704]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩
abbrev S1x1x256x704 : Shape := ⟨4, ![1, 1, 256, 704]⟩
abbrev S1024x704 : Shape := ⟨2, ![1024, 704]⟩
abbrev S1024 : Shape := ⟨1, ![1024]⟩
abbrev S1024x1 : Shape := ⟨2, ![1024, 1]⟩

abbrev nBuf : Space → Nat
  | .hbm => 38
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x1024x704, .bf16⟩
  | .hbm, ⟨4, _⟩ => ⟨S8x352x1024, .bf16⟩
  | .hbm, ⟨5, _⟩ => ⟨S1024x8x704, .bf16⟩
  | .hbm, ⟨6, _⟩ => ⟨S1024x5632, .bf16⟩
  | .hbm, ⟨7, _⟩ => ⟨S1024x5632, .f32⟩
  | .hbm, ⟨8, _⟩ => ⟨S2816x1024, .bf16⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S8192x4x704, .f32⟩
  | .hbm, ⟨32, _⟩ => ⟨S4x8192x704, .f32⟩
  | .hbm, ⟨33, _⟩ => ⟨S4x8192x704, .bf16⟩
  | .hbm, ⟨34, _⟩ => ⟨S8192x1024, .f32⟩
  | .hbm, ⟨35, _⟩ => ⟨S4x8192x704, .bf16⟩
  | .hbm, ⟨36, _⟩ => ⟨S2x4x8192x704, .bf16⟩
  | .hbm, ⟨37, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S2x352x1024, .bf16⟩
  | .local _ .vmem, ⟨12, _⟩ => ⟨S2x352x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024x704, .bf16⟩
  | .local _ .vmem, ⟨16, _⟩ => ⟨S1x1024x704, .bf16⟩
  | .local _ .vmem, ⟨17, _⟩ => ⟨S2x1x1024x704, .bf16⟩
  | .local _ .vmem, ⟨18, _⟩ => ⟨S2x1x1024x704, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_150 : BitVec 32 := 0#32
  ![v1.toNat, 0]
def k0_cond3 (i : grid0.Coords) : BitVec 1 :=
  let arg1 : BitVec 32 := BitVec.ofNat 32 (i 1).val
  let c3_i32 : BitVec 32 := 3#32
  let v208 : BitVec 1 := Scalar.cmpi .eq arg1 c3_i32
  let v209 : BitVec 32 := Scalar.extui v208
  let c0_i32_149 : BitVec 32 := 0#32
  let v210 : BitVec 1 := Scalar.cmpi .ne v209 c0_i32_149
  v210

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_150 : BitVec 32 := 0#32
  ![v1.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnBwdRefIdeal.lean ====
abbrev S8192x1024 : Shape := ⟨2, ![8192, 1024]⟩
abbrev S1x1024 : Shape := ⟨2, ![1, 1024]⟩
abbrev S8x1024x704 : Shape := ⟨3, ![8, 1024, 704]⟩
abbrev S8x352x1024 : Shape := ⟨3, ![8, 352, 1024]⟩
abbrev S1024x8x704 : Shape := ⟨3, ![1024, 8, 704]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8192x4x704 : Shape := ⟨3, ![8192, 4, 704]⟩
abbrev S4x8192x704 : Shape := ⟨3, ![4, 8192, 704]⟩
abbrev S1x4x8192x704 : Shape := ⟨4, ![1, 4, 8192, 704]⟩
abbrev S2x4x8192x704 : Shape := ⟨4, ![2, 4, 8192, 704]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x1024x704, .bf16⟩
  | .hbm, ⟨4, _⟩ => ⟨S8x352x1024, .bf16⟩
  | .hbm, ⟨5, _⟩ => ⟨S1024x8x704, .bf16⟩
  | .hbm, ⟨6, _⟩ => ⟨S1024x5632, .bf16⟩
  | .hbm, ⟨7, _⟩ => ⟨S1024x5632, .f32⟩
  | .hbm, ⟨8, _⟩ => ⟨S2816x1024, .bf16⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x5632, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x4x704, .f32⟩
  | .hbm, ⟨89, _⟩ => ⟨S4x8192x704, .f32⟩
  | .hbm, ⟨90, _⟩ => ⟨S4x8192x704, .bf16⟩
  | .hbm, ⟨91, _⟩ => ⟨S8192x4x704, .f32⟩
  | .hbm, ⟨92, _⟩ => ⟨S4x8192x704, .f32⟩
  | .hbm, ⟨93, _⟩ => ⟨S4x8192x704, .bf16⟩
  | .hbm, ⟨94, _⟩ => ⟨S8192x4x704, .f32⟩
  | .hbm, ⟨95, _⟩ => ⟨S4x8192x704, .f32⟩
  | .hbm, ⟨96, _⟩ => ⟨S4x8192x704, .bf16⟩
  | .hbm, ⟨97, _⟩ => ⟨S1x4x8192x704, .bf16⟩
  | .hbm, ⟨98, _⟩ => ⟨S1x4x8192x704, .bf16⟩
  | .hbm, ⟨99, _⟩ => ⟨S2x4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v23_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v23_1 : Ref sig .tc := ⟨.hbm, 43, rfl⟩
abbrev main_v23_0 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== MixinBwd.lean ====
abbrev S8192x1024 : Shape := ⟨2, ![8192, 1024]⟩
abbrev S1x1024 : Shape := ⟨2, ![1, 1024]⟩
abbrev S8192x512 : Shape := ⟨2, ![8192, 512]⟩
abbrev S8192x256 : Shape := ⟨2, ![8192, 256]⟩
abbrev S8192x2048 : Shape := ⟨2, ![8192, 2048]⟩
abbrev S1024x3840 : Shape := ⟨2, ![1024, 3840]⟩
abbrev S8192x3840 : Shape := ⟨2, ![8192, 3840]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S512x3840 : Shape := ⟨2, ![512, 3840]⟩
abbrev S1024x1792 : Shape := ⟨2, ![1024, 1792]⟩
abbrev S1024x512 : Shape := ⟨2, ![1024, 512]⟩
abbrev S1024x256 : Shape := ⟨2, ![1024, 256]⟩
abbrev S1024x1024 : Shape := ⟨2, ![1024, 1024]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x512, .f32⟩
  | .hbm, ⟨4, _⟩ => ⟨S8192x256, .f32⟩
  | .hbm, ⟨5, _⟩ => ⟨S8192x1024, .f32⟩
  | .hbm, ⟨6, _⟩ => ⟨S8192x2048, .bf16⟩
  | .hbm, ⟨7, _⟩ => ⟨S1024x3840, .bf16⟩
  | .hbm, ⟨8, _⟩ => ⟨S8192x1024, .f32⟩
  | .hbm, ⟨9, _⟩ => ⟨S1x1024, .f32⟩
  | .hbm, ⟨10, _⟩ => ⟨S8192x3840, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S1024x3840, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x3840, .bf16⟩
  | .local _ .vmem, ⟨18, _⟩ => ⟨S512x3840, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3840 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3840 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixinBwdRefIdeal.lean ====
abbrev S8192x1024 : Shape := ⟨2, ![8192, 1024]⟩
abbrev S1x1024 : Shape := ⟨2, ![1, 1024]⟩
abbrev S8192x512 : Shape := ⟨2, ![8192, 512]⟩
abbrev S8192x256 : Shape := ⟨2, ![8192, 256]⟩
abbrev S8192x2048 : Shape := ⟨2, ![8192, 2048]⟩
abbrev S1024x3840 : Shape := ⟨2, ![1024, 3840]⟩
abbrev S8192x3840 : Shape := ⟨2, ![8192, 3840]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x512, .f32⟩
  | .hbm, ⟨4, _⟩ => ⟨S8192x256, .f32⟩
  | .hbm, ⟨5, _⟩ => ⟨S8192x1024, .f32⟩
  | .hbm, ⟨6, _⟩ => ⟨S8192x2048, .bf16⟩
  | .hbm, ⟨7, _⟩ => ⟨S1024x3840, .bf16⟩
  | .hbm, ⟨8, _⟩ => ⟨S8192x2048, .f32⟩
  | .hbm, ⟨9, _⟩ => ⟨S8192x3840, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x3840, .f32⟩
  | .hbm, ⟨30, _⟩ => ⟨S8192x3840, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x3840, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== PeBwd.lean ====
abbrev S8192x1024 : Shape := ⟨2, ![8192, 1024]⟩
abbrev S1x1024 : Shape := ⟨2, ![1, 1024]⟩
abbrev S4x1x8192x256 : Shape := ⟨4, ![4, 1, 8192, 256]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S1x1x512x256 : Shape := ⟨4, ![1, 1, 512, 256]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 26
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1x8192x256, .f32⟩
  | .hbm, ⟨4, _⟩ => ⟨S256x1024, .bf16⟩
  | .hbm, ⟨5, _⟩ => ⟨S1024x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1x512x256, .f32⟩
  | .local _ .vmem, ⟨8, _⟩ => ⟨S1x1x512x256, .f32⟩
  | .local _ .vmem, ⟨9, _⟩ => ⟨S256x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PeBwdRefIdeal.lean ====
abbrev S8192x1024 : Shape := ⟨2, ![8192, 1024]⟩
abbrev S1x1024 : Shape := ⟨2, ![1, 1024]⟩
abbrev S4x1x8192x256 : Shape := ⟨4, ![4, 1, 8192, 256]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1x8192x256 : Shape := ⟨4, ![1, 1, 8192, 256]⟩
abbrev S8192x256 : Shape := ⟨2, ![8192, 256]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1x8192x256, .f32⟩
  | .hbm, ⟨4, _⟩ => ⟨S256x1024, .bf16⟩
  | .hbm, ⟨5, _⟩ => ⟨S1024x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S1x1x8192x256, .f32⟩
  | .hbm, ⟨28, _⟩ => ⟨S8192x256, .f32⟩
  | .hbm, ⟨29, _⟩ => ⟨S256x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Proof.Index.lean ====
module

public import Idealize.ShloMosaic.Lib.Pointwise
public import Idealize.ShloMosaic.Lib.Pipeline.ValueKit

@[expose] public section

noncomputable section

/-! # Equality of indices, coordinate by coordinate, and the product of two blocks of tokens -/

namespace Cert.Index

open Idealize.ShloMosaic

/-- Two indices of a matrix with the same row and the same column are one. -/
theorem ext2 {p q : Nat} {i j : (⟨2, ![p, q]⟩ : Shape).Idx} (h0 : (i 0).val = (j 0).val) (h1 : (i 1).val = (j 1).val) : i = j :=
  funext fun a => match a with
    | ⟨0, _⟩ => Fin.ext h0
    | ⟨1, _⟩ => Fin.ext h1

/-- Two indices of a stack of matrices with the same three coordinates are one. -/
theorem ext3 {p q r : Nat} {i j : (⟨3, ![p, q, r]⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

/-- Two indices with the same four coordinates are one. -/
theorem ext4 {p q r s : Nat} {i j : (⟨4, ![p, q, r, s]⟩ : Shape).Idx} (h0 : (i 0).val = (j 0).val) (h1 : (i 1).val = (j 1).val)
    (h2 : (i 2).val = (j 2).val) (h3 : (i 3).val = (j 3).val) : i = j :=
  funext fun a => match a with
    | ⟨0, _⟩ => Fin.ext h0
    | ⟨1, _⟩ => Fin.ext h1
    | ⟨2, _⟩ => Fin.ext h2
    | ⟨3, _⟩ => Fin.ext h3

/-- What a grid point of a weight gradient adds to its accumulator: the product of two blocks of `n` tokens, contracted over
the tokens. -/
def part {n p q : Nat} (x : (⟨3, ![1, n, p]⟩ : Shape).Idx → EReal) (w : (⟨3, ![1, n, q]⟩ : Shape).Idx → EReal)
    (j : (⟨2, ![p, q]⟩ : Shape).Idx) : EReal :=
  ∑ k : Fin n, x (ix3 0 k (j 0)) * w (ix3 0 k (j 1))

/-- A factor that is neither negative nor infinite goes through a sum of extended reals, whatever the terms are. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The constant `0.5`, a half of the extended reals. -/
abbrev half : EReal := Ideal.ofBits .f32 0x3F000000#32

theorem half_eq : half = ((1 / 2 : ℝ) : EReal) := by
  simp [Ideal.ofBits, Ideal.ieee, -EReal.coe_mul]; norm_num
theorem half_nonneg : 0 ≤ half := by rw [half_eq]; exact_mod_cast (by norm_num : (0 : ℝ) ≤ 1 / 2)
theorem half_ne_top : half ≠ ⊤ := by rw [half_eq]; exact EReal.coe_ne_top _

end Cert.Index

end
-- ==== Proof.DwFfnIn.lean ====
module

public import proofs.«01_k».proof.Defs
public import proofs.«01_k».proof.Proof.Gen.DwFfnIn.Frame
public import proofs.«01_k».proof.Proof.Gen.DwFfnInIdeal.Value
public import proofs.«01_k».proof.Proof.Gen.DwFfnInRefIdeal.Read
public import proofs.«01_k».proof.Proof.Gen.DwFfnInRefIdeal.Run
public import proofs.«01_k».proof.Proof.Index
public import Idealize.ShloMosaic.Lib.Quiescent

@[expose] public section

set_option maxRecDepth 16384

noncomputable section

/-! # The gradient of the feed-forward block's first weight

Each of the 8 blocks of columns is summed over two grid points of 4096 tokens each. -/

namespace Cert.DwFfnInIdeal.Block

open Cert.DwFfnInIdeal Cert.DwFfnInIdeal.Gen Cert.Index Idealize.ShloMosaic Idealize.ShloMosaic.TcCoe Idealize.SL.Sem
open Cert.DwFfnInRefIdeal.Read (val_main_v0 val_main_v1 val_main_v2 val_main_v3 val_main_v4 val_main_v5 val_main_v6 val_main_v7
  val_main_v8 val_main_v9)

variable (m : (ℓ : Loc nD τ sig) → Buf (Elt Ideal) ℓ)

/-! Device `c`'s argument arrays. -/

abbrev A0 (c : Dev nD) : FVec Ideal S8192x1024 .bf16 := m ((c : Thread nD τ).loc main_arg0)
abbrev A1 (c : Dev nD) : FVec Ideal S2x4x8192x704 .bf16 := m ((c : Thread nD τ).loc main_arg1)

/-- A point adds its part to the accumulator; -/
theorem pay2_apply (a : Vec Ideal S1024x704 .f32) (x : Vec Ideal S1x4096x1024 .bf16) (w : Vec Ideal S1x4096x704 .bf16) (j : S1024x704.Idx) :
    k0_pay2 (F := Ideal) a x w j = a j + part x w j := by
  pointwise [k0_pay2, part]

/-- the first point of a run starts from zero; -/
theorem pay1_apply (j : S1024x704.Idx) : k0_pay1 (F := Ideal) j = 0 := by
  pointwise [k0_pay1]

/-- the last one writes the accumulator out. -/
theorem pay3_apply (a : Vec Ideal S1024x704 .f32) (j : S1x1024x704.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 2 = 1) (j : S1024x704.Idx) :
    (outsAt0 m c t.val t.isLt).2 j = 0 + ∑ s : Fin 2, part (iblk m c 0 ⟨2 * (t.val / 2) + s.val, by have := t.isLt; omega⟩)
      (iblk m c 1 ⟨2 * (t.val / 2) + s.val, by have := t.isLt; omega⟩) j :=
  Pipeline.eq_sum_fin_of_reset_step_apply_of_flush (fun n h => (outsAt0 m c n h).2) 2 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      rw [outsAt0_B m c t h (by omega)]; frame_out
      exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S1x8192x1024.Idx) : V m c main_v0 y = A0 m c (ix2 (y 1) (y 2)) := by
  unfold V hostOps0
  after_results
  pointwise []

theorem V1 (c : Dev nD) (y : S8x8192x704.Idx) : V m c main_v1 y = val_main_v0 (F := Ideal) (A1 m c) y := by
  unfold V hostOps0
  after_results
  rfl

theorem e0 : ∀ t : Fin cfg0.N, win0_0.index t = ![0, t.val % 2, 0] := (by decide +kernel : ∀ t : Fin grid0.N, _)
theorem e1 : ∀ t : Fin cfg0.N, win0_1.index t = ![t.val / 2, t.val % 2, 0] := (by decide +kernel : ∀ t : Fin grid0.N, _)
theorem e2 : ∀ t : Fin cfg0.N, win0_2.index t = ![t.val / 2, 0, 0] := (by decide +kernel : ∀ t : Fin grid0.N, _)

/-- The reference at an index: one contraction over all tokens. -/
theorem ref_apply (a : FVec Ideal S8192x1024 .bf16) (b : FVec Ideal S2x4x8192x704 .bf16) (j : S8x1024x704.Idx) :
    val_main_v9 (F := Ideal) a b j
      = ∑ l : Fin 8192, a (ix2 l (j 1)) * val_main_v0 (F := Ideal) b (ix3 (j 0) l (j 2)) := by
  pointwise [val_main_v9, val_main_v8, val_main_v7,
    val_main_v6, val_main_v5, val_main_v4,
    val_main_v3, val_main_v2, val_main_v1]
  exact Finset.sum_congr rfl fun x _ => mul_comm _ _

/-! The blocks of a grid point: the tokens of its place in the run, the columns of its run. -/

theorem blk0 (c : Dev nD) (t : Fin cfg0.N) (k : Fin 4096) (r : Fin 1024) :
    iblk m c 0 t (ix3 0 k r) = A0 m c (ix2 ⟨t.val % 2 * 4096 + k.val, by omega⟩ r) := by
  blk_simp [iblk]
  refine (V0 m c _).trans (congrArg (A0 m c) (ext2 ?_ ?_))
  · blk_simp [e0]
  · blk_simp [e0]

theorem blk1 (c : Dev nD) (t : Fin cfg0.N) (k : Fin 4096) (r : Fin 704) :
    iblk m c 1 t (ix3 0 k r) = val_main_v0 (F := Ideal) (A1 m c)
      (ix3 ⟨t.val / 2, by have := t.isLt; have hN : cfg0.N = 16 := N_0; omega⟩ ⟨t.val % 2 * 4096 + k.val, by omega⟩ r) := by
  blk_simp [iblk]
  refine (V1 m c _).trans (congrArg (val_main_v0 (F := Ideal) (A1 m c)) (ext3 ?_ ?_ ?_))
  · blk_simp [e1]
    rfl
  · blk_simp [e1]
  · blk_simp [e1]

/-- The kernel's result array is the reference's value. -/
theorem final (c : Dev nD) : (dats m 0 c).arrAt 2 cfg0.N = val_main_v9 (F := Ideal) (A0 m c) (A1 m c) := by
  refine (dats m 0 c).arrAt_eq_of_covers 2 _ (by decide +kernel) fun t hf y => ?_
  have h1 : t.val % 2 = 1 := (flush0_2 t).mp hf
  have hacc := acc_eq m c t h1
  blk_simp
  rw [after0_2]
  rw [outsAt0_B m c t (by omega) h1] at hacc ⊢
  frame_out
  frame_out at hacc
  rw [pay3_apply, hacc, zero_add, ref_apply]
  refine Fin.sum_mul_add_congr fun s k hl => ?_
  have hs := s.isLt
  refine congrArg₂ (· * ·) ((blk0 m c _ k _).trans (congrArg (A0 m c) (ext2 ?_ ?_)))
    ((blk1 m c _ k _).trans (congrArg (val_main_v0 (F := Ideal) (A1 m c)) (ext3 ?_ ?_ ?_)))
  · show (2 * (t.val / 2) + s.val) % 2 * 4096 + k.val = s.val * 4096 + k.val
    omega
  · blk_simp [e2]
  · refine Eq.trans (b := t.val / 2) (show (2 * (t.val / 2) + s.val) / 2 = t.val / 2 by omega) ?_
    blk_simp [e2]
  · show (2 * (t.val / 2) + s.val) % 2 * 4096 + k.val = s.val * 4096 + k.val
    omega
  · blk_simp [e2]

/-! ## The claims -/

theorem frameP : Cert.quiescent_DwFfnIn (hDwFfnIn := Cert.DwFfnIn.Gen.facts) := fun m ρ _ => Cert.DwFfnIn.Gen.frame m ρ

theorem framePI : Cert.quiescent_DwFfnInIdeal (hDwFfnInIdeal := Cert.DwFfnInIdeal.Gen.facts) := fun m ρ _ => Cert.DwFfnInIdeal.Gen.frame m ρ

/-- The reference ends with every counter at zero and its arguments as they were. -/
theorem frameRI : Cert.quiescent_DwFfnInRefIdeal (hDwFfnInRefIdeal := Cert.DwFfnInRefIdeal.Gen.facts) := fun m ρ _ =>
  (θ_run Cert.DwFfnInRefIdeal.defs _ _).mono
    (fun r h => ⟨fun c => (h c).2, Idealize.ShloMosaic.sem_eq_zero_of_no_sems (by decide) r.2⟩)
    (Cert.DwFfnInRefIdeal.Value.run (F := Ideal) m ρ)

/-- Over the extended reals the kernel leaves in its result array what the reference computes. -/
theorem algebraic : Cert.algebraic_DwFfnInIdeal_DwFfnInRefIdeal (hDwFfnInIdeal := Cert.DwFfnInIdeal.Gen.facts)
    (hDwFfnInRefIdeal := Cert.DwFfnInRefIdeal.Gen.facts) := by
  intro m ρ m' ρ' _ hag
  refine ⟨fun c => val_main_v9 (F := Ideal) (A0 m c) (A1 m c), ?_, ?_⟩
  · refine (θ_run Cert.DwFfnInIdeal.defs _ _).mono (fun r h c => ?_) (Cert.DwFfnInIdeal.Value.run_blocks (F := Ideal) m ρ)
    obtain ⟨h2, hrest⟩ := h c
    exact ⟨h2.trans (final m c), hrest⟩
  · refine (θ_run Cert.DwFfnInRefIdeal.defs _ _).mono (fun r h c => ?_) (Cert.DwFfnInRefIdeal.Value.run (F := Ideal) m' ρ')
    obtain ⟨h9, hrest⟩ := h c
    obtain ⟨a0, a1⟩ := hag c
    refine ⟨h9.trans ((Cert.DwFfnInRefIdeal.Read.val_main_v9_eq ..).trans ?_), hrest⟩
    rw [a0, a1]

end Cert.DwFfnInIdeal.Block
end
-- ==== Proof.DwFfnOut.lean ====
module

public import proofs.«01_k».proof.Defs
public import proofs.«01_k».proof.Proof.Gen.DwFfnOut.Frame
public import proofs.«01_k».proof.Proof.Gen.DwFfnOutIdeal.Value
public import proofs.«01_k».proof.Proof.Gen.DwFfnOutRefIdeal.Read
public import proofs.«01_k».proof.Proof.Gen.DwFfnOutRefIdeal.Run
public import proofs.«01_k».proof.Proof.Index
public import Idealize.ShloMosaic.Lib.Quiescent

@[expose] public section

set_option maxRecDepth 16384

noncomputable section

/-! # The gradient of the feed-forward block's second weight

Each of the 4 blocks of rows is summed over four grid points of 2048 tokens each, and the half step's factor applied to the sum. -/

namespace Cert.DwFfnOutIdeal.Block

open Cert.DwFfnOutIdeal Cert.DwFfnOutIdeal.Gen Cert.Index Idealize.ShloMosaic Idealize.ShloMosaic.TcCoe Idealize.SL.Sem
open Cert.DwFfnOutRefIdeal.Read (val_main_v0 val_main_v1 val_main_v2 val_main_v3 val_main_v4 val_main_v5 val_main_v6
  val_main_v7 val_main_v8 val_main_cst)

variable (m : (ℓ : Loc nD τ sig) → Buf (Elt Ideal) ℓ)

/-! Device `c`'s argument arrays. -/

abbrev A0 (c : Dev nD) : FVec Ideal S4x8192x704 .bf16 := m ((c : Thread nD τ).loc main_arg0)
abbrev A1 (c : Dev nD) : FVec Ideal S8192x1024 .f32 := m ((c : Thread nD τ).loc main_arg1)

/-- A point adds its part to the accumulator; -/
theorem pay2_apply (a : Vec Ideal S704x1024 .f32) (x : Vec Ideal S1x2048x704 .bf16) (w : Vec Ideal S1x2048x1024 .f32) (j : S704x1024.Idx) :
    k0_pay2 (F := Ideal) a x w j = a j + part x w j := by
  pointwise [k0_pay2, part]

/-- the first point of a run starts from zero; -/
theorem pay1_apply (j : S704x1024.Idx) : k0_pay1 (F := Ideal) j = 0 := by
  pointwise [k0_pay1]

/-- the last one writes the accumulator out. -/
theorem pay3_apply (a : Vec Ideal S704x1024 .f32) (j : S1x704x1024.Idx) : k0_pay3 (F := Ideal) a j = a (ix2 (j 1) (j 2)) * half := by
  pointwise [k0_pay3]

/-- What the accumulator holds at the end of a run: the sum of its points' parts. -/
theorem acc_eq (c : Dev nD) (t : Fin cfg0.N) (h1 : t.val % 4 = 3) (j : S704x1024.Idx) :
    (outsAt0 m c t.val t.isLt).2 j = 0 + ∑ s : Fin 4, part (iblk m c 0 ⟨4 * (t.val / 4) + s.val, by have := t.isLt; omega⟩)
      (iblk m c 1 ⟨4 * (t.val / 4) + s.val, by have := t.isLt; omega⟩) j :=
  Pipeline.eq_sum_fin_of_reset_step_apply_of_flush (fun n h => (outsAt0 m c n h).2) 4 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      by_cases h3 : t.val % 4 = 3
      · rw [outsAt0_C m c t h h3]; frame_out
        exact (pay2_apply _ _ _ j).trans (congrArg (· + part (iblk m c 0 t) (iblk m c 1 t) j) (congrFun (Memref.IsWhole.read_unread _ _) j))
      · rw [outsAt0_B m c t h h3]; frame_out
        exact (pay2_apply _ _ _ j).trans (congrArg (· + part (iblk m c 0 t) (iblk m c 1 t) j) (congrFun (Memref.IsWhole.read_unread _ _) j)))
    t h1 j

/-! The arrays the grid reads: the host's reshapes of the arguments. -/

theorem V1 (c : Dev nD) (y : S1x8192x1024.Idx) : V m c main_v0 y = A1 m c (ix2 (y 1) (y 2)) := by
  unfold V hostOps0
  after_results
  pointwise []

theorem e0 : ∀ t : Fin cfg0.N, win0_0.index t = ![t.val / 4, t.val % 4, 0] := (by decide +kernel : ∀ t : Fin grid0.N, _)
theorem e1 : ∀ t : Fin cfg0.N, win0_1.index t = ![0, t.val % 4, 0] := (by decide +kernel : ∀ t : Fin grid0.N, _)
theorem e2 : ∀ t : Fin cfg0.N, win0_2.index t = ![t.val / 4, 0, 0] := (by decide +kernel : ∀ t : Fin grid0.N, _)

/-- The reference at an index: one contraction over all tokens. -/
theorem ref_apply (a : FVec Ideal S4x8192x704 .bf16) (b : FVec Ideal S8192x1024 .f32) (j : S4x704x1024.Idx) :
    val_main_v8 (F := Ideal) a b j = (∑ l : Fin 8192, a (ix3 (j 0) l (j 1)) * b (ix2 l (j 2))) * half := by
  pointwise [val_main_v8, val_main_v7, val_main_v6, val_main_v5, val_main_v4, val_main_v3, val_main_v2, val_main_v1, val_main_v0, val_main_cst]
  rw [sum_mul_of_nonneg _ _ half_nonneg half_ne_top]
  refine Finset.sum_congr rfl fun x _ => ?_
  show half * b (ix2 x (j 2)) * a (ix3 (j 0) x (j 1)) = _
  rw [mul_comm, mul_comm half, mul_assoc]

/-! The blocks of a grid point: the tokens of its place in the run, the columns of its run. -/

theorem blk0 (c : Dev nD) (t : Fin cfg0.N) (k : Fin 2048) (r : Fin 704) :
    iblk m c 0 t (ix3 0 k r) = A0 m c (ix3 ⟨t.val / 4, by have := t.isLt; have hN : cfg0.N = 16 := N_0; omega⟩
      ⟨t.val % 4 * 2048 + k.val, by omega⟩ r) := by
  blk_simp [iblk]
  refine (congrFun (V_main_arg0 m c) _).trans (congrArg (A0 m c) (ext3 ?_ ?_ ?_))
  · blk_simp [e0]
    rfl
  · blk_simp [e0]
  · blk_simp [e0]

theorem blk1 (c : Dev nD) (t : Fin cfg0.N) (k : Fin 2048) (r : Fin 1024) :
    iblk m c 1 t (ix3 0 k r) = A1 m c (ix2 ⟨t.val % 4 * 2048 + k.val, by omega⟩ r) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v8 (F := Ideal) (A0 m c) (A1 m c) := by
  refine (dats m 0 c).arrAt_eq_of_covers 2 _ (by decide +kernel) fun t hf y => ?_
  have h1 : t.val % 4 = 3 := (flush0_2 t).mp hf
  have hacc := acc_eq m c t h1
  blk_simp
  rw [after0_2]
  rw [outsAt0_C m c t (by omega) h1] at hacc ⊢
  frame_out
  frame_out at hacc
  rw [pay3_apply, hacc, zero_add, ref_apply]
  refine congrArg (· * half) ?_
  refine Fin.sum_mul_add_congr fun s k hl => ?_
  have hs := s.isLt
  refine congrArg₂ (· * ·) ((blk0 m c _ k _).trans (congrArg (A0 m c) (ext3 ?_ ?_ ?_)))
    ((blk1 m c _ k _).trans (congrArg (A1 m c) (ext2 ?_ ?_)))
  · refine Eq.trans (b := t.val / 4) (show (4 * (t.val / 4) + s.val) / 4 = t.val / 4 by omega) ?_
    blk_simp [e2]
  · show (4 * (t.val / 4) + s.val) % 4 * 2048 + k.val = s.val * 2048 + k.val
    omega
  · blk_simp [e2]
  · show (4 * (t.val / 4) + s.val) % 4 * 2048 + k.val = s.val * 2048 + k.val
    omega
  · blk_simp [e2]

/-! ## The claims -/

theorem frameP : Cert.quiescent_DwFfnOut (hDwFfnOut := Cert.DwFfnOut.Gen.facts) := fun m ρ _ => Cert.DwFfnOut.Gen.frame m ρ

theorem framePI : Cert.quiescent_DwFfnOutIdeal (hDwFfnOutIdeal := Cert.DwFfnOutIdeal.Gen.facts) := fun m ρ _ => Cert.DwFfnOutIdeal.Gen.frame m ρ

/-- The reference ends with every counter at zero and its arguments as they were. -/
theorem frameRI : Cert.quiescent_DwFfnOutRefIdeal (hDwFfnOutRefIdeal := Cert.DwFfnOutRefIdeal.Gen.facts) := fun m ρ _ =>
  (θ_run Cert.DwFfnOutRefIdeal.defs _ _).mono
    (fun r h => ⟨fun c => (h c).2, Idealize.ShloMosaic.sem_eq_zero_of_no_sems (by decide) r.2⟩)
    (Cert.DwFfnOutRefIdeal.Value.run (F := Ideal) m ρ)

/-- Over the extended reals the kernel leaves in its result array what the reference computes. -/
theorem algebraic : Cert.algebraic_DwFfnOutIdeal_DwFfnOutRefIdeal (hDwFfnOutIdeal := Cert.DwFfnOutIdeal.Gen.facts)
    (hDwFfnOutRefIdeal := Cert.DwFfnOutRefIdeal.Gen.facts) := by
  intro m ρ m' ρ' _ hag
  refine ⟨fun c => val_main_v8 (F := Ideal) (A0 m c) (A1 m c), ?_, ?_⟩
  · refine (θ_run Cert.DwFfnOutIdeal.defs _ _).mono (fun r h c => ?_) (Cert.DwFfnOutIdeal.Value.run_blocks (F := Ideal) m ρ)
    obtain ⟨h2, hrest⟩ := h c
    exact ⟨h2.trans (final m c), hrest⟩
  · refine (θ_run Cert.DwFfnOutRefIdeal.defs _ _).mono (fun r h c => ?_) (Cert.DwFfnOutRefIdeal.Value.run (F := Ideal) m' ρ')
    obtain ⟨h8, hrest⟩ := h c
    obtain ⟨a0, a1⟩ := hag c
    refine ⟨h8.trans ((Cert.DwFfnOutRefIdeal.Read.val_main_v8_eq ..).trans ?_), hrest⟩
    rw [a0, a1]

end Cert.DwFfnOutIdeal.Block
end
-- ==== Proof.DwIn.lean ====
module

public import proofs.«01_k».proof.Defs
public import proofs.«01_k».proof.Proof.Gen.DwIn.Frame
public import proofs.«01_k».proof.Proof.Gen.DwInIdeal.Value
public import proofs.«01_k».proof.Proof.Gen.DwInRefIdeal.Read
public import proofs.«01_k».proof.Proof.Gen.DwInRefIdeal.Run
public import proofs.«01_k».proof.Proof.Index
public import Idealize.ShloMosaic.Lib.Quiescent

@[expose] public section

set_option maxRecDepth 16384

noncomputable section

/-! # The gradient of the joined input projection's weight

Each of the three blocks of 1280 columns is summed over two grid points of 4096 tokens each. -/

namespace Cert.DwInIdeal.Block

open Cert.DwInIdeal Cert.DwInIdeal.Gen Cert.Index Idealize.ShloMosaic Idealize.ShloMosaic.TcCoe Idealize.SL.Sem
open Cert.DwInRefIdeal.Read (val_main_v0 val_main_v1 val_main_v2 val_main_v3 val_main_v4 val_main_v5)

variable (m : (ℓ : Loc nD τ sig) → Buf (Elt Ideal) ℓ)

/-! Device `c`'s argument arrays. -/

abbrev A0 (c : Dev nD) : FVec Ideal S8192x1024 .bf16 := m ((c : Thread nD τ).loc main_arg0)
abbrev A1 (c : Dev nD) : FVec Ideal S8192x3840 .bf16 := m ((c : Thread nD τ).loc main_arg1)

/-- A point adds its part to the accumulator; -/
theorem pay2_apply (a : Vec Ideal S1024x1280 .f32) (x : Vec Ideal S1x4096x1024 .bf16) (w : Vec Ideal S1x4096x1280 .bf16) (j : S1024x1280.Idx) :
    k0_pay2 (F := Ideal) a x w j = a j + part x w j := by
  pointwise [k0_pay2, part]

/-- the first point of a run starts from zero; -/
theorem pay1_apply (j : S1024x1280.Idx) : k0_pay1 (F := Ideal) j = 0 := by
  pointwise [k0_pay1]

/-- the last one writes the accumulator out. -/
theorem pay3_apply (a : Vec Ideal S1024x1280 .f32) (j : S1x1024x1280.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 2 = 1) (j : S1024x1280.Idx) :
    (outsAt0 m c t.val t.isLt).2 j = 0 + ∑ s : Fin 2, part (iblk m c 0 ⟨2 * (t.val / 2) + s.val, by have := t.isLt; omega⟩)
      (iblk m c 1 ⟨2 * (t.val / 2) + s.val, by have := t.isLt; omega⟩) j :=
  Pipeline.eq_sum_fin_of_reset_step_apply_of_flush (fun n h => (outsAt0 m c n h).2) 2 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      rw [outsAt0_B m c t h (by omega)]; frame_out
      exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S1x8192x1024.Idx) : V m c main_v0 y = A0 m c (ix2 (y 1) (y 2)) := by
  unfold V hostOps0
  after_results
  pointwise []

theorem V1 (c : Dev nD) (y : S1x8192x3840.Idx) : V m c main_v1 y = A1 m c (ix2 (y 1) (y 2)) := by
  unfold V hostOps0
  after_results
  pointwise []

theorem e0 : ∀ t : Fin cfg0.N, win0_0.index t = ![0, t.val % 2, 0] := (by decide +kernel : ∀ t : Fin grid0.N, _)
theorem e1 : ∀ t : Fin cfg0.N, win0_1.index t = ![0, t.val % 2, t.val / 2] := (by decide +kernel : ∀ t : Fin grid0.N, _)
theorem e2 : ∀ t : Fin cfg0.N, win0_2.index t = ![0, 0, t.val / 2] := (by decide +kernel : ∀ t : Fin grid0.N, _)

/-- The reference at an index: one contraction over all tokens. -/
theorem ref_apply (a : FVec Ideal S8192x1024 .bf16) (b : FVec Ideal S8192x3840 .bf16) (j : S1x1024x3840.Idx) :
    val_main_v5 (F := Ideal) a b j = ∑ l : Fin 8192, a (ix2 l (j 1)) * b (ix2 l (j 2)) := by
  pointwise [val_main_v5, val_main_v4, val_main_v3, val_main_v2, val_main_v1, val_main_v0]
  exact Finset.sum_congr rfl fun x _ => mul_comm _ _

/-! The blocks of a grid point: the tokens of its place in the run, the columns of its run. -/

theorem blk0 (c : Dev nD) (t : Fin cfg0.N) (k : Fin 4096) (r : Fin 1024) :
    iblk m c 0 t (ix3 0 k r) = A0 m c (ix2 ⟨t.val % 2 * 4096 + k.val, by omega⟩ r) := by
  blk_simp [iblk]
  refine (V0 m c _).trans (congrArg (A0 m c) (ext2 ?_ ?_))
  · blk_simp [e0]
  · blk_simp [e0]

theorem blk1 (c : Dev nD) (t : Fin cfg0.N) (k : Fin 4096) (r : Fin 1280) :
    iblk m c 1 t (ix3 0 k r) = A1 m c (ix2 ⟨t.val % 2 * 4096 + k.val, by omega⟩
      ⟨t.val / 2 * 1280 + r.val, by have := t.isLt; have hN : cfg0.N = 6 := N_0; omega⟩) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v5 (F := Ideal) (A0 m c) (A1 m c) := by
  refine (dats m 0 c).arrAt_eq_of_covers 2 _ (by decide +kernel) fun t hf y => ?_
  have h1 : t.val % 2 = 1 := (flush0_2 t).mp hf
  have hacc := acc_eq m c t h1
  blk_simp
  rw [after0_2]
  rw [outsAt0_B m c t (by omega) h1] at hacc ⊢
  frame_out
  frame_out at hacc
  rw [pay3_apply, hacc, zero_add, ref_apply]
  refine Fin.sum_mul_add_congr fun s k hl => ?_
  have hs := s.isLt
  refine congrArg₂ (· * ·) ((blk0 m c _ k _).trans (congrArg (A0 m c) (ext2 ?_ ?_)))
    ((blk1 m c _ k _).trans (congrArg (A1 m c) (ext2 ?_ ?_)))
  · show (2 * (t.val / 2) + s.val) % 2 * 4096 + k.val = s.val * 4096 + k.val
    omega
  · blk_simp [e2]
  · show (2 * (t.val / 2) + s.val) % 2 * 4096 + k.val = s.val * 4096 + k.val
    omega
  · refine Eq.trans (b := t.val / 2 * 1280 + (y 2).val) (show (2 * (t.val / 2) + s.val) / 2 * 1280 + (y 2).val = _ by
      rw [show (2 * (t.val / 2) + s.val) / 2 = t.val / 2 by omega]) ?_
    blk_simp [e2]

/-! ## The claims -/

theorem frameP : Cert.quiescent_DwIn (hDwIn := Cert.DwIn.Gen.facts) := fun m ρ _ => Cert.DwIn.Gen.frame m ρ

theorem framePI : Cert.quiescent_DwInIdeal (hDwInIdeal := Cert.DwInIdeal.Gen.facts) := fun m ρ _ => Cert.DwInIdeal.Gen.frame m ρ

/-- The reference ends with every counter at zero and its arguments as they were. -/
theorem frameRI : Cert.quiescent_DwInRefIdeal (hDwInRefIdeal := Cert.DwInRefIdeal.Gen.facts) := fun m ρ _ =>
  (θ_run Cert.DwInRefIdeal.defs _ _).mono
    (fun r h => ⟨fun c => (h c).2, Idealize.ShloMosaic.sem_eq_zero_of_no_sems (by decide) r.2⟩)
    (Cert.DwInRefIdeal.Value.run (F := Ideal) m ρ)

/-- Over the extended reals the kernel leaves in its result array what the reference computes. -/
theorem algebraic : Cert.algebraic_DwInIdeal_DwInRefIdeal (hDwInIdeal := Cert.DwInIdeal.Gen.facts)
    (hDwInRefIdeal := Cert.DwInRefIdeal.Gen.facts) := by
  intro m ρ m' ρ' _ hag
  refine ⟨fun c => val_main_v5 (F := Ideal) (A0 m c) (A1 m c), ?_, ?_⟩
  · refine (θ_run Cert.DwInIdeal.defs _ _).mono (fun r h c => ?_) (Cert.DwInIdeal.Value.run_blocks (F := Ideal) m ρ)
    obtain ⟨h2, hrest⟩ := h c
    exact ⟨h2.trans (final m c), hrest⟩
  · refine (θ_run Cert.DwInRefIdeal.defs _ _).mono (fun r h c => ?_) (Cert.DwInRefIdeal.Value.run (F := Ideal) m' ρ')
    obtain ⟨h9, hrest⟩ := h c
    obtain ⟨a0, a1⟩ := hag c
    refine ⟨h9.trans ((Cert.DwInRefIdeal.Read.val_main_v5_eq ..).trans ?_), hrest⟩
    rw [a0, a1]

end Cert.DwInIdeal.Block
end
-- ==== Proof.DwO.lean ====
module

public import proofs.«01_k».proof.Defs
public import proofs.«01_k».proof.Proof.Gen.DwO.Frame
public import proofs.«01_k».proof.Proof.Gen.DwOIdeal.Value
public import proofs.«01_k».proof.Proof.Gen.DwORefIdeal.Read
public import proofs.«01_k».proof.Proof.Gen.DwORefIdeal.Run
public import proofs.«01_k».proof.Proof.Index
public import Idealize.ShloMosaic.Lib.Quiescent

@[expose] public section

set_option maxRecDepth 16384

noncomputable section

/-! # The gradient of the merge's output projection

One block, summed over four grid points of 2048 tokens each. -/

namespace Cert.DwOIdeal.Block

open Cert.DwOIdeal Cert.DwOIdeal.Gen Cert.Index Idealize.ShloMosaic Idealize.ShloMosaic.TcCoe Idealize.SL.Sem
open Cert.DwORefIdeal.Read (val_main_v0 val_main_v1 val_main_v2 val_main_v3 val_main_v4)

variable (m : (ℓ : Loc nD τ sig) → Buf (Elt Ideal) ℓ)

/-! Device `c`'s argument arrays. -/

abbrev A0 (c : Dev nD) : FVec Ideal S8192x1024 .bf16 := m ((c : Thread nD τ).loc main_arg0)
abbrev A1 (c : Dev nD) : FVec Ideal S8192x1024 .f32 := m ((c : Thread nD τ).loc main_arg1)

/-- A point adds its part to the accumulator; -/
theorem pay2_apply (a : Vec Ideal S1024x1024 .f32) (x : Vec Ideal S1x2048x1024 .bf16) (w : Vec Ideal S1x2048x1024 .f32) (j : S1024x1024.Idx) :
    k0_pay2 (F := Ideal) a x w j = a j + part x w j := by
  pointwise [k0_pay2, part]

/-- the first point of a run starts from zero; -/
theorem pay1_apply (j : S1024x1024.Idx) : k0_pay1 (F := Ideal) j = 0 := by
  pointwise [k0_pay1]

/-- the last one writes the accumulator out. -/
theorem pay3_apply (a : Vec Ideal S1024x1024 .f32) (j : S1x1024x1024.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 4 = 3) (j : S1024x1024.Idx) :
    (outsAt0 m c t.val t.isLt).2 j = 0 + ∑ s : Fin 4, part (iblk m c 0 ⟨4 * (t.val / 4) + s.val, by have := t.isLt; omega⟩)
      (iblk m c 1 ⟨4 * (t.val / 4) + s.val, by have := t.isLt; omega⟩) j :=
  Pipeline.eq_sum_fin_of_reset_step_apply_of_flush (fun n h => (outsAt0 m c n h).2) 4 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      by_cases h3 : t.val % 4 = 3
      · rw [outsAt0_C m c t h h3]; frame_out
        exact (pay2_apply _ _ _ j).trans (congrArg (· + part (iblk m c 0 t) (iblk m c 1 t) j) (congrFun (Memref.IsWhole.read_unread _ _) j))
      · rw [outsAt0_B m c t h h3]; frame_out
        exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S1x8192x1024.Idx) : V m c main_v0 y = A0 m c (ix2 (y 1) (y 2)) := by
  unfold V hostOps0
  after_results
  pointwise []

theorem V1 (c : Dev nD) (y : S1x8192x1024.Idx) : V m c main_v1 y = A1 m c (ix2 (y 1) (y 2)) := by
  unfold V hostOps0
  after_results
  pointwise []

theorem e0 : ∀ t : Fin cfg0.N, win0_0.index t = ![0, t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, 0, 0] := (by decide +kernel : ∀ t : Fin grid0.N, _)

/-- The reference at an index: one contraction over all tokens. -/
theorem ref_apply (a : FVec Ideal S8192x1024 .bf16) (b : FVec Ideal S8192x1024 .f32) (j : S1x1024x1024.Idx) :
    val_main_v4 (F := Ideal) a b j = ∑ l : Fin 8192, a (ix2 l (j 1)) * b (ix2 l (j 2)) := by
  pointwise [val_main_v4, val_main_v3, val_main_v2, val_main_v1, val_main_v0]
  exact Finset.sum_congr rfl fun x _ => mul_comm _ _

/-! The blocks of a grid point: the tokens of its place in the run, the columns of its run. -/

theorem blk0 (c : Dev nD) (t : Fin cfg0.N) (k : Fin 2048) (r : Fin 1024) :
    iblk m c 0 t (ix3 0 k r) = A0 m c (ix2 ⟨t.val * 2048 + k.val, by have := t.isLt; have hN : cfg0.N = 4 := N_0; omega⟩ r) := by
  blk_simp [iblk]
  refine (V0 m c _).trans (congrArg (A0 m c) (ext2 ?_ ?_))
  · blk_simp [e0]
  · blk_simp [e0]

theorem blk1 (c : Dev nD) (t : Fin cfg0.N) (k : Fin 2048) (r : Fin 1024) :
    iblk m c 1 t (ix3 0 k r) = A1 m c (ix2 ⟨t.val * 2048 + k.val, by have := t.isLt; have hN : cfg0.N = 4 := N_0; omega⟩ r) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v4 (F := Ideal) (A0 m c) (A1 m c) := by
  refine (dats m 0 c).arrAt_eq_of_covers 2 _ (by decide +kernel) fun t hf y => ?_
  have h1 : t.val % 4 = 3 := (flush0_2 t).mp hf
  have hacc := acc_eq m c t h1
  blk_simp
  rw [after0_2]
  rw [outsAt0_C m c t (by omega) h1] at hacc ⊢
  frame_out
  frame_out at hacc
  rw [pay3_apply, hacc, zero_add, ref_apply]
  refine Fin.sum_mul_add_congr fun s k hl => ?_
  have hN : t.val < 4 := lt_of_lt_of_eq t.isLt N_0
  refine congrArg₂ (· * ·) ((blk0 m c _ k _).trans (congrArg (A0 m c) (ext2 ?_ ?_)))
    ((blk1 m c _ k _).trans (congrArg (A1 m c) (ext2 ?_ ?_)))
  · show (4 * (t.val / 4) + s.val) * 2048 + k.val = s.val * 2048 + k.val
    rw [Nat.div_eq_of_lt hN, Nat.mul_zero, Nat.zero_add]
  · blk_simp [e2]
  · show (4 * (t.val / 4) + s.val) * 2048 + k.val = s.val * 2048 + k.val
    rw [Nat.div_eq_of_lt hN, Nat.mul_zero, Nat.zero_add]
  · blk_simp [e2]

/-! ## The claims -/

theorem frameP : Cert.quiescent_DwO (hDwO := Cert.DwO.Gen.facts) := fun m ρ _ => Cert.DwO.Gen.frame m ρ

theorem framePI : Cert.quiescent_DwOIdeal (hDwOIdeal := Cert.DwOIdeal.Gen.facts) := fun m ρ _ => Cert.DwOIdeal.Gen.frame m ρ

/-- The reference ends with every counter at zero and its arguments as they were. -/
theorem frameRI : Cert.quiescent_DwORefIdeal (hDwORefIdeal := Cert.DwORefIdeal.Gen.facts) := fun m ρ _ =>
  (θ_run Cert.DwORefIdeal.defs _ _).mono
    (fun r h => ⟨fun c => (h c).2, Idealize.ShloMosaic.sem_eq_zero_of_no_sems (by decide) r.2⟩)
    (Cert.DwORefIdeal.Value.run (F := Ideal) m ρ)

/-- Over the extended reals the kernel leaves in its result array what the reference computes. -/
theorem algebraic : Cert.algebraic_DwOIdeal_DwORefIdeal (hDwOIdeal := Cert.DwOIdeal.Gen.facts)
    (hDwORefIdeal := Cert.DwORefIdeal.Gen.facts) := by
  intro m ρ m' ρ' _ hag
  refine ⟨fun c => val_main_v4 (F := Ideal) (A0 m c) (A1 m c), ?_, ?_⟩
  · refine (θ_run Cert.DwOIdeal.defs _ _).mono (fun r h c => ?_) (Cert.DwOIdeal.Value.run_blocks (F := Ideal) m ρ)
    obtain ⟨h2, hrest⟩ := h c
    exact ⟨h2.trans (final m c), hrest⟩
  · refine (θ_run Cert.DwORefIdeal.defs _ _).mono (fun r h c => ?_) (Cert.DwORefIdeal.Value.run (F := Ideal) m' ρ')
    obtain ⟨h4, hrest⟩ := h c
    obtain ⟨a0, a1⟩ := hag c
    refine ⟨h4.trans ((Cert.DwORefIdeal.Read.val_main_v4_eq ..).trans ?_), hrest⟩
    rw [a0, a1]

end Cert.DwOIdeal.Block
end
-- ==== Proof.DwBranch.lean ====
module

public import proofs.«01_k».proof.Defs
public import proofs.«01_k».proof.Proof.Gen.DwBranch.Frame
public import proofs.«01_k».proof.Proof.Gen.DwBranchIdeal.Value
public import proofs.«01_k».proof.Proof.Gen.DwBranchRefIdeal.Read
public import proofs.«01_k».proof.Proof.Gen.DwBranchRefIdeal.Run
public import proofs.«01_k».proof.Proof.Index
public import Idealize.ShloMosaic.Lib.Quiescent

@[expose] public section

set_option maxRecDepth 16384

noncomputable section

/-! # The gradient of a branch's output projection, the attention's or the convolution's

One block, summed over four grid points of 2048 tokens each. -/

namespace Cert.DwBranchIdeal.Block

open Cert.DwBranchIdeal Cert.DwBranchIdeal.Gen Cert.Index Idealize.ShloMosaic Idealize.ShloMosaic.TcCoe Idealize.SL.Sem
open Cert.DwBranchRefIdeal.Read (val_main_v0 val_main_v1 val_main_v2 val_main_v3 val_main_v4 val_main_v5)

variable (m : (ℓ : Loc nD τ sig) → Buf (Elt Ideal) ℓ)

/-! Device `c`'s argument arrays. -/

abbrev A0 (c : Dev nD) : FVec Ideal S8192x512 .bf16 := m ((c : Thread nD τ).loc main_arg0)
abbrev A1 (c : Dev nD) : FVec Ideal S8192x1024 .bf16 := m ((c : Thread nD τ).loc main_arg1)

/-- A point adds its part to the accumulator; -/
theorem pay2_apply (a : Vec Ideal S512x1024 .f32) (x : Vec Ideal S1x2048x512 .bf16) (w : Vec Ideal S1x2048x1024 .bf16) (j : S512x1024.Idx) :
    k0_pay2 (F := Ideal) a x w j = a j + part x w j := by
  pointwise [k0_pay2, part]

/-- the first point of a run starts from zero; -/
theorem pay1_apply (j : S512x1024.Idx) : k0_pay1 (F := Ideal) j = 0 := by
  pointwise [k0_pay1]

/-- the last one writes the accumulator out. -/
theorem pay3_apply (a : Vec Ideal S512x1024 .f32) (j : S1x512x1024.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 4 = 3) (j : S512x1024.Idx) :
    (outsAt0 m c t.val t.isLt).2 j = 0 + ∑ s : Fin 4, part (iblk m c 0 ⟨4 * (t.val / 4) + s.val, by have := t.isLt; omega⟩)
      (iblk m c 1 ⟨4 * (t.val / 4) + s.val, by have := t.isLt; omega⟩) j :=
  Pipeline.eq_sum_fin_of_reset_step_apply_of_flush (fun n h => (outsAt0 m c n h).2) 4 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      by_cases h3 : t.val % 4 = 3
      · rw [outsAt0_C m c t h h3]; frame_out
        exact (pay2_apply _ _ _ j).trans (congrArg (· + part (iblk m c 0 t) (iblk m c 1 t) j) (congrFun (Memref.IsWhole.read_unread _ _) j))
      · rw [outsAt0_B m c t h h3]; frame_out
        exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S1x8192x512.Idx) : V m c main_v0 y = A0 m c (ix2 (y 1) (y 2)) := by
  unfold V hostOps0
  after_results
  pointwise []

theorem V1 (c : Dev nD) (y : S1x8192x1024.Idx) : V m c main_v1 y = A1 m c (ix2 (y 1) (y 2)) := by
  unfold V hostOps0
  after_results
  pointwise []

theorem e0 : ∀ t : Fin cfg0.N, win0_0.index t = ![0, t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, 0, 0] := (by decide +kernel : ∀ t : Fin grid0.N, _)

/-- The reference at an index: one contraction over all tokens. -/
theorem ref_apply (a : FVec Ideal S8192x512 .bf16) (b : FVec Ideal S8192x1024 .bf16) (j : S1x512x1024.Idx) :
    val_main_v5 (F := Ideal) a b j = ∑ l : Fin 8192, a (ix2 l (j 1)) * b (ix2 l (j 2)) := by
  pointwise [val_main_v5, val_main_v4, val_main_v3, val_main_v2, val_main_v1, val_main_v0]
  exact Finset.sum_congr rfl fun x _ => mul_comm _ _

/-! The blocks of a grid point: the tokens of its place in the run, the columns of its run. -/

theorem blk0 (c : Dev nD) (t : Fin cfg0.N) (k : Fin 2048) (r : Fin 512) :
    iblk m c 0 t (ix3 0 k r) = A0 m c (ix2 ⟨t.val * 2048 + k.val, by have := t.isLt; have hN : cfg0.N = 4 := N_0; omega⟩ r) := by
  blk_simp [iblk]
  refine (V0 m c _).trans (congrArg (A0 m c) (ext2 ?_ ?_))
  · blk_simp [e0]
  · blk_simp [e0]

theorem blk1 (c : Dev nD) (t : Fin cfg0.N) (k : Fin 2048) (r : Fin 1024) :
    iblk m c 1 t (ix3 0 k r) = A1 m c (ix2 ⟨t.val * 2048 + k.val, by have := t.isLt; have hN : cfg0.N = 4 := N_0; omega⟩ r) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v5 (F := Ideal) (A0 m c) (A1 m c) := by
  refine (dats m 0 c).arrAt_eq_of_covers 2 _ (by decide +kernel) fun t hf y => ?_
  have h1 : t.val % 4 = 3 := (flush0_2 t).mp hf
  have hacc := acc_eq m c t h1
  blk_simp
  rw [after0_2]
  rw [outsAt0_C m c t (by omega) h1] at hacc ⊢
  frame_out
  frame_out at hacc
  rw [pay3_apply, hacc, zero_add, ref_apply]
  refine Fin.sum_mul_add_congr fun s k hl => ?_
  have hN : t.val < 4 := lt_of_lt_of_eq t.isLt N_0
  refine congrArg₂ (· * ·) ((blk0 m c _ k _).trans (congrArg (A0 m c) (ext2 ?_ ?_)))
    ((blk1 m c _ k _).trans (congrArg (A1 m c) (ext2 ?_ ?_)))
  · show (4 * (t.val / 4) + s.val) * 2048 + k.val = s.val * 2048 + k.val
    rw [Nat.div_eq_of_lt hN, Nat.mul_zero, Nat.zero_add]
  · blk_simp [e2]
  · show (4 * (t.val / 4) + s.val) * 2048 + k.val = s.val * 2048 + k.val
    rw [Nat.div_eq_of_lt hN, Nat.mul_zero, Nat.zero_add]
  · blk_simp [e2]

/-! ## The claims -/

theorem frameP : Cert.quiescent_DwBranch (hDwBranch := Cert.DwBranch.Gen.facts) := fun m ρ _ => Cert.DwBranch.Gen.frame m ρ

theorem framePI : Cert.quiescent_DwBranchIdeal (hDwBranchIdeal := Cert.DwBranchIdeal.Gen.facts) := fun m ρ _ => Cert.DwBranchIdeal.Gen.frame m ρ

/-- The reference ends with every counter at zero and its arguments as they were. -/
theorem frameRI : Cert.quiescent_DwBranchRefIdeal (hDwBranchRefIdeal := Cert.DwBranchRefIdeal.Gen.facts) := fun m ρ _ =>
  (θ_run Cert.DwBranchRefIdeal.defs _ _).mono
    (fun r h => ⟨fun c => (h c).2, Idealize.ShloMosaic.sem_eq_zero_of_no_sems (by decide) r.2⟩)
    (Cert.DwBranchRefIdeal.Value.run (F := Ideal) m ρ)

/-- Over the extended reals the kernel leaves in its result array what the reference computes. -/
theorem algebraic : Cert.algebraic_DwBranchIdeal_DwBranchRefIdeal (hDwBranchIdeal := Cert.DwBranchIdeal.Gen.facts)
    (hDwBranchRefIdeal := Cert.DwBranchRefIdeal.Gen.facts) := by
  intro m ρ m' ρ' _ hag
  refine ⟨fun c => val_main_v5 (F := Ideal) (A0 m c) (A1 m c), ?_, ?_⟩
  · refine (θ_run Cert.DwBranchIdeal.defs _ _).mono (fun r h c => ?_) (Cert.DwBranchIdeal.Value.run_blocks (F := Ideal) m ρ)
    obtain ⟨h2, hrest⟩ := h c
    exact ⟨h2.trans (final m c), hrest⟩
  · refine (θ_run Cert.DwBranchRefIdeal.defs _ _).mono (fun r h c => ?_) (Cert.DwBranchRefIdeal.Value.run (F := Ideal) m' ρ')
    obtain ⟨h5, hrest⟩ := h c
    obtain ⟨a0, a1⟩ := hag c
    refine ⟨h5.trans ((Cert.DwBranchRefIdeal.Read.val_main_v5_eq ..).trans ?_), hrest⟩
    rw [a0, a1]

end Cert.DwBranchIdeal.Block
end
-- ==== Proof.MergeBlock.lean ====
module

public import proofs.«01_k».proof.Proof.Gen.MergeIdeal.Value
public import proofs.«01_k».proof.Proof.Gen.MergeRefIdeal.Read
public import Idealize.ShloMosaic.Lib.Pointwise
public import Idealize.ShloMosaic.Lib.Pipeline.ValueKit

@[expose] public section

set_option maxRecDepth 16384

noncomputable section

/-! # The gated merge's gradient, one block of rows

A grid point works on 512 consecutive rows. Below, `R` says which row of the whole array a row of the block is, and every value
the body computes from the blocks is shown to be the block of the value the reference computes from the whole arrays. -/

namespace Cert.MergeIdeal.Block

open Cert.MergeIdeal Cert.MergeIdeal.Gen Idealize.ShloMosaic Idealize.ShloMosaic.TcCoe
open Cert.MergeRefIdeal.Read (val_main_v8 val_main_v9 val_main_v10 val_main_v20 val_main_v21 val_main_v24 val_main_v26 val_main_v27
  val_main_v28 val_main_v29 val_main_v30 val_main_v33 val_main_v34 val_main_v35 val_main_v36 val_main_v37 val_main_v38)

variable (R : Fin 512 → Fin 8192)

/-- The rows `R` of an array with 1024 columns. -/
def b1 {φ : FTy} (X : FVec Ideal S8192x1024 φ) : FVec Ideal S512x1024 φ := fun y => X (ix2 (R (y 0)) (y 1))
/-- The rows `R` of an array with 512 columns. -/
def b5 {φ : FTy} (X : FVec Ideal S8192x512 φ) : FVec Ideal S512x512 φ := fun y => X (ix2 (R (y 0)) (y 1))
/-- The rows `R` of an array with 2048 columns. -/
def b2 {φ : FTy} (X : FVec Ideal S8192x2048 φ) : FVec Ideal S512x2048 φ := fun y => X (ix2 (R (y 0)) (y 1))

variable (X0 : FVec Ideal S8192x1024 .f32) (X1 : FVec Ideal S8192x1024 .bf16) (X2 X3 : FVec Ideal S8192x512 .bf16)
  (X4 : FVec Ideal S1024x3840 .bf16) (X5 X6 : FVec Ideal S512x1024 .bf16) (X7 : FVec Ideal S1024x1024 .bf16)

/-- The gate's columns of the joined input weight. -/
abbrev wg : FVec Ideal S1024x2048 .bf16 := fun y => X4 (Cert.MergeRefIdeal.Read.idx_main_v7 y)

theorem gate_eq : k0_pay8 (F := Ideal) (b1 R X1) (wg X4) = b2 R (val_main_v8 (F := Ideal) X1 X4) := by
  funext j
  pointwise [k0_pay8, b1, b2, wg, Cert.MergeRefIdeal.Read.val_main_v8, Cert.MergeRefIdeal.Read.val_main_v0,
    Cert.MergeRefIdeal.Read.val_main_v7, Cert.MergeRefIdeal.Read.val_main_v3]
  refine Finset.sum_congr rfl fun x _ => congrArg (X1 (ix2 (R (j 0)) x) * X4 ·) ?_
  idx_ext

/-- The attention half of the gate. -/
theorem sig_attn_eq : k0_pay9 (F := Ideal) (b1 R X1) (wg X4) = b1 R (val_main_v20 (F := Ideal) X1 X4) := by
  unfold k0_pay9
  rw [gate_eq]
  funext j
  pointwise [b1, b2, Cert.MergeRefIdeal.Read.val_main_v20, Cert.MergeRefIdeal.Read.val_main_v16,
    Cert.MergeRefIdeal.Read.val_main_v15, Cert.MergeRefIdeal.Read.val_main_v14, Cert.MergeRefIdeal.Read.val_main_v13,
    Cert.MergeRefIdeal.Read.val_main_v12, Cert.MergeRefIdeal.Read.val_main_v11, Cert.MergeRefIdeal.Read.val_main_cst,
    Cert.MergeRefIdeal.Read.val_main_cst_0]
  rw [zero_sub]

/-- The convolution half of the gate. -/
theorem sig_conv_eq : k0_pay10 (F := Ideal) (b1 R X1) (wg X4) = b1 R (val_main_v21 (F := Ideal) X1 X4) := by
  unfold k0_pay10
  rw [gate_eq]
  funext j
  pointwise [b1, b2, Cert.MergeRefIdeal.Read.val_main_v21, Cert.MergeRefIdeal.Read.val_main_v16,
    Cert.MergeRefIdeal.Read.val_main_v15, Cert.MergeRefIdeal.Read.val_main_v14, Cert.MergeRefIdeal.Read.val_main_v13,
    Cert.MergeRefIdeal.Read.val_main_v12, Cert.MergeRefIdeal.Read.val_main_v11, Cert.MergeRefIdeal.Read.val_main_cst,
    Cert.MergeRefIdeal.Read.val_main_cst_0]
  rw [zero_sub]

/-- The attention branch's output projection. -/
theorem y_attn_eq : k0_pay11 (F := Ideal) (b5 R X2) X5 = b1 R (val_main_v9 (F := Ideal) X2 X5) := by
  funext j
  pointwise [k0_pay11, b1, b5, Cert.MergeRefIdeal.Read.val_main_v9, Cert.MergeRefIdeal.Read.val_main_v1,
    Cert.MergeRefIdeal.Read.val_main_v4]

/-- The convolution branch's output projection. -/
theorem y_conv_eq : k0_pay12 (F := Ideal) (b5 R X3) X6 = b1 R (val_main_v10 (F := Ideal) X3 X6) := by
  funext j
  pointwise [k0_pay12, b1, b5, Cert.MergeRefIdeal.Read.val_main_v10, Cert.MergeRefIdeal.Read.val_main_v2,
    Cert.MergeRefIdeal.Read.val_main_v5]

/-- The cotangent of the merged value. -/
theorem dmix_eq : k0_pay1 (F := Ideal) (k0_pay14 (b1 R X0)) X7 = b1 R (val_main_v26 (F := Ideal) X0 X7) := by
  funext j
  pointwise [k0_pay1, k0_pay14, b1, Cert.MergeRefIdeal.Read.val_main_v26, Cert.MergeRefIdeal.Read.val_main_v6]

/-- The merged value itself. -/
theorem mix_eq : k0_pay13 (F := Ideal) (b1 R X1) (b5 R X2) (b5 R X3) (wg X4) X5 X6
    = b1 R (val_main_v35 (F := Ideal) X1 X2 X3 X4 X5 X6) := by
  unfold k0_pay13
  rw [sig_attn_eq, sig_conv_eq, y_attn_eq, y_conv_eq]
  rfl

/-- The cotangent of the attention branch. -/
theorem dya_eq : k0_pay2 (F := Ideal) (b1 R (val_main_v20 (F := Ideal) X1 X4)) (k0_pay14 (b1 R X0)) X7
    = b1 R (val_main_v36 (F := Ideal) X0 X1 X4 X7) := by
  unfold k0_pay2
  rw [dmix_eq]
  funext j
  exact mul_comm (val_main_v26 (F := Ideal) X0 X7 (ix2 (R (j 0)) (j 1))) (val_main_v20 (F := Ideal) X1 X4 (ix2 (R (j 0)) (j 1)))

/-- The cotangent of the convolution branch. -/
theorem dyc_eq : k0_pay3 (F := Ideal) (b1 R (val_main_v21 (F := Ideal) X1 X4)) (k0_pay14 (b1 R X0)) X7
    = b1 R (val_main_v37 (F := Ideal) X0 X1 X4 X7) := by
  unfold k0_pay3
  rw [dmix_eq]
  funext j
  exact mul_comm (val_main_v26 (F := Ideal) X0 X7 (ix2 (R (j 0)) (j 1))) (val_main_v21 (F := Ideal) X1 X4 (ix2 (R (j 0)) (j 1)))

/-- The cotangent of the attention output. -/
theorem do_eq : k0_pay6 (F := Ideal) (b1 R (val_main_v20 (F := Ideal) X1 X4)) (k0_pay14 (b1 R X0)) X7 X5
    = b5 R (val_main_v33 (F := Ideal) X0 X1 X4 X5 X7) := by
  unfold k0_pay6
  rw [dya_eq]
  funext j
  pointwise [b1, b5, Cert.MergeRefIdeal.Read.val_main_v33, Cert.MergeRefIdeal.Read.val_main_v36, Cert.MergeRefIdeal.Read.val_main_v4]

/-- The cotangent of the convolution output. -/
theorem dc_eq : k0_pay7 (F := Ideal) (b1 R (val_main_v21 (F := Ideal) X1 X4)) (k0_pay14 (b1 R X0)) X7 X6
    = b5 R (val_main_v34 (F := Ideal) X0 X1 X4 X6 X7) := by
  unfold k0_pay7
  rw [dyc_eq]
  funext j
  pointwise [b1, b5, Cert.MergeRefIdeal.Read.val_main_v34, Cert.MergeRefIdeal.Read.val_main_v37, Cert.MergeRefIdeal.Read.val_main_v5]

/-- The cotangent of the gate's attention half, at a column below 1024. -/
theorem dg_attn_eq (r : Fin 512) (l : Fin 1024) :
    k0_pay4 (F := Ideal) (b1 R (val_main_v20 (F := Ideal) X1 X4)) (b1 R (val_main_v9 (F := Ideal) X2 X5)) (k0_pay14 (b1 R X0)) X7 (ix2 r l)
    = val_main_v38 (F := Ideal) X0 X1 X2 X3 X4 X5 X6 X7 (ix2 (R r) ⟨l.val, by omega⟩) := by
  unfold k0_pay4
  rw [dmix_eq]
  pointwise [b1, Cert.MergeRefIdeal.Read.val_main_v38, Cert.MergeRefIdeal.Read.val_main_v32, Cert.MergeRefIdeal.Read.val_main_v31,
    Cert.MergeRefIdeal.Read.val_main_v30, Cert.MergeRefIdeal.Read.val_main_v28, Cert.MergeRefIdeal.Read.val_main_v20, Cert.MergeRefIdeal.Read.val_main_v19,
    Cert.MergeRefIdeal.Read.val_main_v18, Cert.MergeRefIdeal.Read.val_main_v17, Cert.MergeRefIdeal.Read.val_main_cst_1]
  exact mul_assoc _ _ _

/-- The cotangent of the gate's convolution half, at a column from 1024 on. -/
theorem dg_conv_eq (r : Fin 512) (l : Fin 1024) :
    k0_pay5 (F := Ideal) (b1 R (val_main_v21 (F := Ideal) X1 X4)) (b1 R (val_main_v10 (F := Ideal) X3 X6)) (k0_pay14 (b1 R X0)) X7 (ix2 r l)
    = val_main_v38 (F := Ideal) X0 X1 X2 X3 X4 X5 X6 X7 (ix2 (R r) ⟨1024 + l.val, by omega⟩) := by
  unfold k0_pay5
  rw [dmix_eq]
  pointwise [b1, Cert.MergeRefIdeal.Read.val_main_v38, Cert.MergeRefIdeal.Read.val_main_v32, Cert.MergeRefIdeal.Read.val_main_v31,
    Cert.MergeRefIdeal.Read.val_main_v30, Cert.MergeRefIdeal.Read.val_main_v28, Cert.MergeRefIdeal.Read.val_main_v21, Cert.MergeRefIdeal.Read.val_main_v19,
    Cert.MergeRefIdeal.Read.val_main_v18, Cert.MergeRefIdeal.Read.val_main_v17, Cert.MergeRefIdeal.Read.val_main_cst_1]
  exact mul_assoc _ _ _

/-! ## The six blocks a point stores -/

theorem ld_wg (X4 : Vec Ideal S1024x3840 .bf16) : View.ld (Val := Elt Ideal) X4 r0_2 = wg X4 :=
  funext fun y => congrArg X4 (funext fun a => Fin.ext (by
    match a with
    | ⟨0, _⟩ => show 0 + 1 * (y 0).val = (y 0).val; omega
    | ⟨1, _⟩ => show 1792 + 1 * (y 1).val = 1792 + (y 1).val; omega))

theorem hz : (![0, 0] : Fin 2 → Nat) = fun _ => 0 := funext fun a => by fin_cases a <;> rfl

theorem ld1 {e : EltTy} (X : Vec Ideal S512x1024 e) : View.ld (Val := Elt Ideal) X r0_0 = X := View.ld_unit_zero hz _ X
theorem ld5 {e : EltTy} (X : Vec Ideal S512x512 e) : View.ld (Val := Elt Ideal) X r0_1 = X := View.ld_unit_zero hz _ X
theorem ld7 {e : EltTy} (X : Vec Ideal S1024x1024 e) : View.ld (Val := Elt Ideal) X r0_3 = X := View.ld_unit_zero hz _ X

theorem out8 : out0_8 (F := Ideal) (b1 R X0) (b1 R X1) (b5 R X2) (b5 R X3) X4 X5 X6 X7
    = b5 (φ := .f32) R (val_main_v33 (F := Ideal) X0 X1 X4 X5 X7) := by
  unfold_out out0_8
  rw [View.canon_unit_zero hz, ld1, ld1, ld1, ld7, ld_wg, sig_attn_eq, do_eq]

theorem out9 : out0_9 (F := Ideal) (b1 R X0) (b1 R X1) (b5 R X2) (b5 R X3) X4 X5 X6 X7
    = b5 (φ := .f32) R (val_main_v34 (F := Ideal) X0 X1 X4 X6 X7) := by
  unfold_out out0_9
  rw [View.canon_unit_zero hz, ld1, ld1, ld1, ld7, ld_wg, sig_conv_eq, dc_eq]

theorem out10 : out0_10 (F := Ideal) (b1 R X0) (b1 R X1) (b5 R X2) (b5 R X3) X4 X5 X6 X7
    = b1 (φ := .bf16) R (val_main_v35 (F := Ideal) X1 X2 X3 X4 X5 X6) := by
  unfold_out out0_10
  rw [View.canon_unit_zero hz, ld1, ld1, ld1, ld5, ld5, ld_wg, mix_eq]

theorem out11 : out0_11 (F := Ideal) (b1 R X0) (b1 R X1) (b5 R X2) (b5 R X3) X4 X5 X6 X7
    = b1 (φ := .bf16) R (val_main_v36 (F := Ideal) X0 X1 X4 X7) := by
  unfold_out out0_11
  rw [View.canon_unit_zero hz, ld1, ld1, ld7, ld_wg, sig_attn_eq, dya_eq]

theorem out12 : out0_12 (F := Ideal) (b1 R X0) (b1 R X1) (b5 R X2) (b5 R X3) X4 X5 X6 X7
    = b1 (φ := .bf16) R (val_main_v37 (F := Ideal) X0 X1 X4 X7) := by
  unfold_out out0_12
  rw [View.canon_unit_zero hz, ld1, ld1, ld7, ld_wg, sig_conv_eq, dyc_eq]

theorem out13 : out0_13 (F := Ideal) (b1 R X0) (b1 R X1) (b5 R X2) (b5 R X3) X4 X5 X6 X7
    = b2 (φ := .bf16) R (val_main_v38 (F := Ideal) X0 X1 X2 X3 X4 X5 X6 X7) := by
  unfold_out out0_13
  rw [ld1, ld1, ld1, ld1, ld5, ld5, ld7, ld_wg, sig_attn_eq, sig_conv_eq, y_attn_eq, y_conv_eq]
  funext y
  refine View.canon_apply_of_pieces (Val := Elt Ideal) (b2 (φ := .bf16) R (val_main_v38 (F := Ideal) X0 X1 X2 X3 X4 X5 X6 X7)) _ ?_ y (cover0_13 _ _ y)
  intro pc hpc
  rcases List.mem_cons.mp hpc with rfl | hpc
  · intro x
    refine (congrArg _ (eq_ix2 x)).trans ((dg_conv_eq R X0 X1 X2 X3 X4 X5 X6 X7 (x 0) (x 1)).trans ?_)
    refine congrArg (val_main_v38 (F := Ideal) X0 X1 X2 X3 X4 X5 X6 X7) (funext fun a => ?_)
    match a with
    | ⟨0, _⟩ => exact congrArg R (Fin.ext (by show (x 0).val = 0 + 1 * (x 0).val; omega))
    | ⟨1, _⟩ => exact Fin.ext (by show 1024 + (x 1).val = 1024 + 1 * (x 1).val; omega)
  rcases List.mem_cons.mp hpc with rfl | hpc
  · intro x
    refine (congrArg _ (eq_ix2 x)).trans ((dg_attn_eq R X0 X1 X2 X3 X4 X5 X6 X7 (x 0) (x 1)).trans ?_)
    refine congrArg (val_main_v38 (F := Ideal) X0 X1 X2 X3 X4 X5 X6 X7) (funext fun a => ?_)
    match a with
    | ⟨0, _⟩ => exact congrArg R (Fin.ext (by show (x 0).val = 0 + 1 * (x 0).val; omega))
    | ⟨1, _⟩ => exact Fin.ext (by show (x 1).val = 0 + 1 * (x 1).val; omega)
  nomatch hpc

/-! ## The blocks of a grid point -/

/-- Row `r` of point `t`'s block is row `512 t + r` of the array. -/
def Rt (t : Fin cfg0.N) (r : Fin 512) : Fin 8192 :=
  ⟨t.val * 512 + r.val, by have := t.isLt; have hN : cfg0.N = 16 := N_0; omega⟩

variable (m : (ℓ : Loc nD τ sig) → Buf (Elt Ideal) ℓ)

theorem eA : ∀ t : Fin cfg0.N, win0_0.index t = ![t.val, 0] := (by decide +kernel : ∀ t : Fin grid0.N, _)
theorem eB : ∀ t : Fin cfg0.N, win0_1.index t = ![t.val, 0] := (by decide +kernel : ∀ t : Fin grid0.N, _)
theorem eC : ∀ t : Fin cfg0.N, win0_2.index t = ![t.val, 0] := (by decide +kernel : ∀ t : Fin grid0.N, _)
theorem eD : ∀ t : Fin cfg0.N, win0_3.index t = ![t.val, 0] := (by decide +kernel : ∀ t : Fin grid0.N, _)
theorem eE : ∀ t : Fin cfg0.N, win0_4.index t = ![0, 0] := (by decide +kernel : ∀ t : Fin grid0.N, _)
theorem eF : ∀ t : Fin cfg0.N, win0_5.index t = ![0, 0] := (by decide +kernel : ∀ t : Fin grid0.N, _)
theorem eG : ∀ t : Fin cfg0.N, win0_6.index t = ![0, 0] := (by decide +kernel : ∀ t : Fin grid0.N, _)
theorem eH : ∀ t : Fin cfg0.N, win0_7.index t = ![0, 0] := (by decide +kernel : ∀ t : Fin grid0.N, _)

/-! Device `c`'s argument arrays. -/

abbrev A0 (c : Dev nD) : FVec Ideal S8192x1024 .f32 := m ((c : Thread nD τ).loc main_arg0)
abbrev A1 (c : Dev nD) : FVec Ideal S8192x1024 .bf16 := m ((c : Thread nD τ).loc main_arg1)
abbrev A2 (c : Dev nD) : FVec Ideal S8192x512 .bf16 := m ((c : Thread nD τ).loc main_arg2)
abbrev A3 (c : Dev nD) : FVec Ideal S8192x512 .bf16 := m ((c : Thread nD τ).loc main_arg3)
abbrev A4 (c : Dev nD) : FVec Ideal S1024x3840 .bf16 := m ((c : Thread nD τ).loc main_arg4)
abbrev A5 (c : Dev nD) : FVec Ideal S512x1024 .bf16 := m ((c : Thread nD τ).loc main_arg5)
abbrev A6 (c : Dev nD) : FVec Ideal S512x1024 .bf16 := m ((c : Thread nD τ).loc main_arg6)
abbrev A7 (c : Dev nD) : FVec Ideal S1024x1024 .bf16 := m ((c : Thread nD τ).loc main_arg7)

/-- Two indices of a matrix with the same row and the same column are one. -/
theorem ext2 {p q : Nat} {i j : (⟨2, ![p, q]⟩ : Shape).Idx} (h0 : (i 0).val = (j 0).val) (h1 : (i 1).val = (j 1).val) : i = j :=
  funext fun a => match a with
    | ⟨0, _⟩ => Fin.ext h0
    | ⟨1, _⟩ => Fin.ext h1

/-! Their blocks: of the first four the point's rows, the weights whole. -/

theorem blk0 (c : Dev nD) (t : Fin cfg0.N) : iblk m c 0 t = b1 (φ := .f32) (Rt t) (A0 m c) := by
  funext y
  blk_simp [iblk]
  exact congrArg (A0 m c) (ext2 (by blk_simp [eA, Rt]) (by blk_simp [eA]))

theorem blk1 (c : Dev nD) (t : Fin cfg0.N) : iblk m c 1 t = b1 (φ := .bf16) (Rt t) (A1 m c) := by
  funext y
  blk_simp [iblk]
  exact congrArg (A1 m c) (ext2 (by blk_simp [eB, Rt]) (by blk_simp [eB]))

theorem blk2 (c : Dev nD) (t : Fin cfg0.N) : iblk m c 2 t = b5 (φ := .bf16) (Rt t) (A2 m c) := by
  funext y
  blk_simp [iblk]
  exact congrArg (A2 m c) (ext2 (by blk_simp [eC, Rt]) (by blk_simp [eC]))

theorem blk3 (c : Dev nD) (t : Fin cfg0.N) : iblk m c 3 t = b5 (φ := .bf16) (Rt t) (A3 m c) := by
  funext y
  blk_simp [iblk]
  exact congrArg (A3 m c) (ext2 (by blk_simp [eD, Rt]) (by blk_simp [eD]))

theorem blk4 (c : Dev nD) (t : Fin cfg0.N) : iblk m c 4 t = A4 m c := by
  funext y
  blk_simp [iblk]
  exact congrArg (A4 m c) (ext2 (by blk_simp [eE]) (by blk_simp [eE]))

theorem blk5 (c : Dev nD) (t : Fin cfg0.N) : iblk m c 5 t = A5 m c := by
  funext y
  blk_simp [iblk]
  exact congrArg (A5 m c) (ext2 (by blk_simp [eF]) (by blk_simp [eF]))

theorem blk6 (c : Dev nD) (t : Fin cfg0.N) : iblk m c 6 t = A6 m c := by
  funext y
  blk_simp [iblk]
  exact congrArg (A6 m c) (ext2 (by blk_simp [eG]) (by blk_simp [eG]))

theorem blk7 (c : Dev nD) (t : Fin cfg0.N) : iblk m c 7 t = A7 m c := by
  funext y
  blk_simp [iblk]
  exact congrArg (A7 m c) (ext2 (by blk_simp [eH]) (by blk_simp [eH]))

/-! ## The arrays after the run: the reference's values -/

theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)

theorem final8 (c : Dev nD) : (dats m 0 c).arrAt 8 cfg0.N = val_main_v33 (F := Ideal) (A0 m c) (A1 m c) (A4 m c) (A5 m c) (A7 m c) := by
  refine (dats m 0 c).arrAt_eq_of_covers 8 _ (by decide +kernel) fun t hf y => ?_
  blk_simp
  rw [after0_8, blk0, blk1, blk2, blk3, blk4, blk5, blk6, blk7, out8]
  exact congrArg (val_main_v33 (F := Ideal) (A0 m c) (A1 m c) (A4 m c) (A5 m c) (A7 m c)) (ext2 (by blk_simp [e8, Rt]) (by blk_simp [e8]))

theorem final9 (c : Dev nD) : (dats m 0 c).arrAt 9 cfg0.N = val_main_v34 (F := Ideal) (A0 m c) (A1 m c) (A4 m c) (A6 m c) (A7 m c) := by
  refine (dats m 0 c).arrAt_eq_of_covers 9 _ (by decide +kernel) fun t hf y => ?_
  blk_simp
  rw [after0_9, blk0, blk1, blk2, blk3, blk4, blk5, blk6, blk7, out9]
  exact congrArg (val_main_v34 (F := Ideal) (A0 m c) (A1 m c) (A4 m c) (A6 m c) (A7 m c)) (ext2 (by blk_simp [e9, Rt]) (by blk_simp [e9]))

theorem final10 (c : Dev nD) : (dats m 0 c).arrAt 10 cfg0.N = val_main_v35 (F := Ideal) (A1 m c) (A2 m c) (A3 m c) (A4 m c) (A5 m c) (A6 m c) := by
  refine (dats m 0 c).arrAt_eq_of_covers 10 _ (by decide +kernel) fun t hf y => ?_
  blk_simp
  rw [after0_10, blk0, blk1, blk2, blk3, blk4, blk5, blk6, blk7, out10]
  exact congrArg (val_main_v35 (F := Ideal) (A1 m c) (A2 m c) (A3 m c) (A4 m c) (A5 m c) (A6 m c)) (ext2 (by blk_simp [e10, Rt]) (by blk_simp [e10]))

theorem final11 (c : Dev nD) : (dats m 0 c).arrAt 11 cfg0.N = val_main_v36 (F := Ideal) (A0 m c) (A1 m c) (A4 m c) (A7 m c) := by
  refine (dats m 0 c).arrAt_eq_of_covers 11 _ (by decide +kernel) fun t hf y => ?_
  blk_simp
  rw [after0_11, blk0, blk1, blk2, blk3, blk4, blk5, blk6, blk7, out11]
  exact congrArg (val_main_v36 (F := Ideal) (A0 m c) (A1 m c) (A4 m c) (A7 m c)) (ext2 (by blk_simp [e11, Rt]) (by blk_simp [e11]))

theorem final12 (c : Dev nD) : (dats m 0 c).arrAt 12 cfg0.N = val_main_v37 (F := Ideal) (A0 m c) (A1 m c) (A4 m c) (A7 m c) := by
  refine (dats m 0 c).arrAt_eq_of_covers 12 _ (by decide +kernel) fun t hf y => ?_
  blk_simp
  rw [after0_12, blk0, blk1, blk2, blk3, blk4, blk5, blk6, blk7, out12]
  exact congrArg (val_main_v37 (F := Ideal) (A0 m c) (A1 m c) (A4 m c) (A7 m c)) (ext2 (by blk_simp [e12, Rt]) (by blk_simp [e12]))

theorem final13 (c : Dev nD) : (dats m 0 c).arrAt 13 cfg0.N = val_main_v38 (F := Ideal) (A0 m c) (A1 m c) (A2 m c) (A3 m c) (A4 m c) (A5 m c) (A6 m c) (A7 m c) := by
  refine (dats m 0 c).arrAt_eq_of_covers 13 _ (by decide +kernel) fun t hf y => ?_
  blk_simp
  rw [after0_13, blk0, blk1, blk2, blk3, blk4, blk5, blk6, blk7, out13]
  exact congrArg (val_main_v38 (F := Ideal) (A0 m c) (A1 m c) (A2 m c) (A3 m c) (A4 m c) (A5 m c) (A6 m c) (A7 m c)) (ext2 (by blk_simp [e13, Rt]) (by blk_simp [e13]))

end Cert.MergeIdeal.Block

end
-- ==== Proof.MergeValue.lean ====
module

public import proofs.«01_k».proof.Defs
public import Idealize.ShloMosaic.Lib.Quiescent
public import proofs.«01_k».proof.Proof.Gen.Merge.Frame
public import proofs.«01_k».proof.Proof.MergeBlock

@[expose] public section

set_option maxRecDepth 16384

noncomputable section

/-! # The claims about the gated merge's gradient -/

namespace Cert.MergeIdeal.Block

open Cert.MergeRefIdeal.Read
open Idealize.ShloMosaic Idealize.ShloMosaic.TcCoe Idealize.SL.Sem

/-- The kernel program ends and frees what it holds, in floats and in real numbers alike. -/
theorem frameP : Cert.quiescent_Merge (hMerge := Cert.Merge.Gen.facts) := fun m ρ _ => Cert.Merge.Gen.frame m ρ
theorem framePI : Cert.quiescent_MergeIdeal (hMergeIdeal := Cert.MergeIdeal.Gen.facts) := fun m ρ _ => Cert.MergeIdeal.Gen.frame m ρ

/-- The reference program runs to its end, its arguments unchanged; it holds no semaphore. -/
theorem frameRI : Cert.quiescent_MergeRefIdeal (hMergeRefIdeal := Cert.MergeRefIdeal.Gen.facts) := fun m ρ _ =>
  (θ_run Cert.MergeRefIdeal.defs _ _).mono (fun r h => ⟨fun c => (h c).2.2.2.2.2.2,
      Idealize.ShloMosaic.sem_eq_zero_of_no_sems (by decide) r.2⟩)
    (Cert.MergeRefIdeal.Value.run (F := Ideal) m ρ)

/-- Over the extended reals the kernel leaves in its six result arrays what the reference computes. -/
theorem algebraic : Cert.algebraic_MergeIdeal_MergeRefIdeal (hMergeIdeal := Cert.MergeIdeal.Gen.facts)
    (hMergeRefIdeal := Cert.MergeRefIdeal.Gen.facts) := by
  intro m ρ m' ρ' _ hag
  refine ⟨fun c => val_main_v33 (F := Ideal) (A0 m c) (A1 m c) (A4 m c) (A5 m c) (A7 m c),
    fun c => val_main_v34 (F := Ideal) (A0 m c) (A1 m c) (A4 m c) (A6 m c) (A7 m c),
    fun c => val_main_v35 (F := Ideal) (A1 m c) (A2 m c) (A3 m c) (A4 m c) (A5 m c) (A6 m c),
    fun c => val_main_v36 (F := Ideal) (A0 m c) (A1 m c) (A4 m c) (A7 m c),
    fun c => val_main_v37 (F := Ideal) (A0 m c) (A1 m c) (A4 m c) (A7 m c),
    fun c => val_main_v38 (F := Ideal) (A0 m c) (A1 m c) (A2 m c) (A3 m c) (A4 m c) (A5 m c) (A6 m c) (A7 m c), ?_, ?_⟩
  · refine (θ_run Cert.MergeIdeal.defs _ _).mono (fun r h c => ?_) (Cert.MergeIdeal.Value.run_blocks (F := Ideal) m ρ)
    obtain ⟨h8, h9, h10, h11, h12, h13, hrest⟩ := h c
    exact ⟨h8.trans (final8 m c), h9.trans (final9 m c), h10.trans (final10 m c), h11.trans (final11 m c),
      h12.trans (final12 m c), h13.trans (final13 m c), hrest⟩
  · refine (θ_run Cert.MergeRefIdeal.defs _ _).mono (fun r h c => ?_) (Cert.MergeRefIdeal.Value.run (F := Ideal) m' ρ')
    obtain ⟨h33, h34, h35, h36, h37, h38, hrest⟩ := h c
    obtain ⟨a0, a1, a2, a3, a4, a5, a6, a7⟩ := hag c
    refine ⟨h33.trans ((val_main_v33_eq ..).trans ?_), h34.trans ((val_main_v34_eq ..).trans ?_),
      h35.trans ((val_main_v35_eq ..).trans ?_), h36.trans ((val_main_v36_eq ..).trans ?_),
      h37.trans ((val_main_v37_eq ..).trans ?_), h38.trans ((val_main_v38_eq ..).trans ?_), hrest⟩
    · rw [a0, a1, a4, a5, a7]
    · rw [a0, a1, a4, a6, a7]
    · rw [a1, a2, a3, a4, a5, a6]
    · rw [a0, a1, a4, a7]
    · rw [a0, a1, a4, a7]
    · rw [a0, a1, a2, a3, a4, a5, a6, a7]

end Cert.MergeIdeal.Block

end
-- ==== Proof.Rows.lean ====
module

public import Idealize.ShloMosaic.Lib.Pointwise

@[expose] public section

noncomputable section

/-! # Blocks of rows and the root-mean-square norm of a row

The step's row-wise kernels work on a block of consecutive rows. `rows R X` are the rows `R` of `X`; `normed X g` is every row of
`X` divided by the root of its mean square (a small constant added) and scaled by `g`. Norm and choice of rows commute by
definition. -/

namespace Cert.Rows

open Idealize.ShloMosaic

variable {n p q : Nat}

/-- The rows `R` of `X`. -/
def rows (R : Fin p → Fin n) (X : (⟨2, ![n, q]⟩ : Shape).Idx → EReal) : (⟨2, ![p, q]⟩ : Shape).Idx → EReal :=
  fun y => X (ix2 (R (y 0)) (y 1))

/-- The number of columns of a row, and the constant added to the mean, as the programs write them. -/
abbrev width : EReal := Ideal.ofBits .f32 0x44800000#32
abbrev small : EReal := Ideal.ofBits .f32 0x358637BD#32

/-- One over the root of the row's mean square. -/
def scale (x : Fin 1024 → EReal) : EReal := Ideal.rsqrt (Ideal.div (∑ l, x l * x l) width + small)

/-- Every row of `X` normed and scaled by `g`. -/
def normed (X : (⟨2, ![n, 1024]⟩ : Shape).Idx → EReal) (g : (⟨2, ![1, 1024]⟩ : Shape).Idx → EReal) :
    (⟨2, ![n, 1024]⟩ : Shape).Idx → EReal :=
  fun j => X j * scale (fun l => X (ix2 (j 0) l)) * g (ix2 0 (j 1))

theorem normed_rows (R : Fin p → Fin n) (X : (⟨2, ![n, 1024]⟩ : Shape).Idx → EReal) (g : (⟨2, ![1, 1024]⟩ : Shape).Idx → EReal) :
    normed (rows R X) g = rows R (normed X g) := rfl

/-- A function of a gate's argument: one over one plus `exp` of its negative. -/
def sigm (x : EReal) : EReal := Ideal.div 1 (1 + Ideal.exp (-x))

end Cert.Rows

end
-- ==== Proof.PeFwd.lean ====
module

public import proofs.«01_k».proof.Defs
public import proofs.«01_k».proof.Proof.Gen.PeFwd.Frame
public import proofs.«01_k».proof.Proof.Gen.PeFwdIdeal.Value
public import proofs.«01_k».proof.Proof.Gen.PeFwdRefIdeal.Read
public import proofs.«01_k».proof.Proof.Gen.PeFwdRefIdeal.Run
public import proofs.«01_k».proof.Proof.Index
public import proofs.«01_k».proof.Proof.Rows
public import Idealize.ShloMosaic.Lib.Quiescent

@[expose] public section

set_option maxRecDepth 16384

noncomputable section

/-! # The per-layer embedding's gated addition

A grid point norms 512 rows, multiplies them by the gate's weight, and adds the gated projection of the embedding's rows. -/

namespace Cert.PeFwdIdeal.Block

open Cert.PeFwdIdeal Cert.PeFwdIdeal.Gen Cert.Index Cert.Rows Idealize.ShloMosaic Idealize.ShloMosaic.TcCoe Idealize.SL.Sem
open Cert.PeFwdRefIdeal.Read

variable (X : FVec Ideal S8192x1024 .f32) (G : FVec Ideal S1x1024 .f32) (P : FVec Ideal S4x1x8192x256 .f32)
  (Wp : FVec Ideal S256x1024 .bf16) (Wg : FVec Ideal S1024x1024 .bf16)

/-- The rows `R` of layer 1's embedding, as the kernel's window holds them. -/
def emb (R : Fin 512 → Fin 8192) : FVec Ideal S1x1x512x256 .f32 := fun y => P (ix4 1 0 (R (y 2)) (y 3))

/-- The value at one row and column: the row `x` of the normed input, the row `p` of the embedding, the input `h`. -/
def val (x : Fin 1024 → EReal) (p : Fin 256 → EReal) (h : EReal) (l : Fin 1024) : EReal :=
  h + (∑ k, p k * Wp (ix2 k l)) * sigm (∑ k, x k * Wg (ix2 k l))

/-! ## The reference -/

theorem ref_norm : val_main_v11 (F := Ideal) X G = normed X G := by
  funext j
  pointwise [val_main_v0, val_main_cst, val_main_v1, val_main_v2, val_main_cst_0, val_main_v3, val_main_v4, val_main_cst_1,
    val_main_v5, val_main_v6, val_main_v7, val_main_v8, val_main_v9, val_main_v10, val_main_v11, normed, scale]

theorem ref_hn : val_main_v26 (F := Ideal) X G = normed X G := by
  rw [← ref_norm]; rfl

theorem ref_val (j : S8192x1024.Idx) : val_main_v25 (F := Ideal) X G P Wp Wg j
    = val Wp Wg (fun k => normed X G (ix2 (j 0) k)) (fun k => P (ix4 1 0 (j 0) k)) (X j) (j 1) := by
  pointwise [val_main_v25, val_main_v24, val_main_v23, val_main_v22, val_main_cst_3, val_main_v21, val_main_v20, val_main_cst_2,
    val_main_v19, val_main_v18, val_main_v17, val_main_v16, val_main_v15, val_main_v14, val_main_v13, val_main_v12, ref_norm, val, sigm]

/-! ## A grid point -/

variable (R : Fin 512 → Fin 8192)

theorem pay_norm (x : FVec Ideal S512x1024 .f32) : k0_pay1 (F := Ideal) x G = normed x G := by
  funext j
  pointwise [k0_pay1, normed, scale]

theorem pay_val (j : S512x1024.Idx) : k0_pay2 (F := Ideal) (rows R X) G Wg (rows R X) (emb P R) Wp j
    = val_main_v25 (F := Ideal) X G P Wp Wg (ix2 (R (j 0)) (j 1)) := by
  refine Eq.trans ?_ (ref_val X G P Wp Wg (ix2 (R (j 0)) (j 1))).symm
  pointwise [k0_pay2, pay_norm, normed_rows, emb, val, sigm]
  rw [zero_sub]
  rfl

theorem hz : (![0, 0] : Fin 2 → Nat) = fun _ => 0 := funext fun a => by fin_cases a <;> rfl
theorem hz4 : (![0, 0, 0, 0] : Fin 4 → Nat) = fun _ => 0 := funext fun a => by fin_cases a <;> rfl

theorem out5 : out0_5 (F := Ideal) (rows R X) G (emb P R) Wp Wg = rows R (val_main_v25 (F := Ideal) X G P Wp Wg) := by
  unfold out0_5
  rw [View.canon_unit_zero hz, View.ld_unit_zero hz, View.ld_unit_zero hz, View.ld_unit_zero hz, View.ld_unit_zero hz4, View.ld_unit_zero hz]
  exact funext fun j => pay_val X G P Wp Wg R j

theorem out6 : out0_6 (F := Ideal) (rows R X) G (emb P R) Wp Wg = rows R (val_main_v26 (F := Ideal) X G) := by
  unfold out0_6
  rw [View.canon_unit_zero hz, View.ld_unit_zero hz, View.ld_unit_zero hz, pay_norm, ref_hn, normed_rows]

/-! ## The blocks of a grid point -/

/-- Row `r` of point `t`'s block is row `512 t + r` of the array. -/
def Rt (t : Fin cfg0.N) (r : Fin 512) : Fin 8192 :=
  ⟨t.val * 512 + r.val, by have := t.isLt; have hN : cfg0.N = 16 := N_0; omega⟩

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![1, 0, t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

/-! Device `c`'s argument arrays. -/

abbrev A0 (c : Dev nD) : FVec Ideal S8192x1024 .f32 := m ((c : Thread nD τ).loc main_arg0)
abbrev A1 (c : Dev nD) : FVec Ideal S1x1024 .f32 := m ((c : Thread nD τ).loc main_arg1)
abbrev A2 (c : Dev nD) : FVec Ideal S4x1x8192x256 .f32 := m ((c : Thread nD τ).loc main_arg2)
abbrev A3 (c : Dev nD) : FVec Ideal S256x1024 .bf16 := m ((c : Thread nD τ).loc main_arg3)
abbrev A4 (c : Dev nD) : FVec Ideal S1024x1024 .bf16 := m ((c : Thread nD τ).loc main_arg4)

/-! Their blocks: of the activations the point's rows, the weights whole. -/

theorem blk0 (c : Dev nD) (t : Fin cfg0.N) : iblk m c 0 t = rows (Rt t) (A0 m c) := by
  funext y
  blk_simp [iblk]
  exact congrArg (A0 m c) (ext2 (by blk_simp [e0, Rt]) (by blk_simp [e0]))

theorem blk1 (c : Dev nD) (t : Fin cfg0.N) : iblk m c 1 t = A1 m c := by
  funext y
  blk_simp [iblk]
  exact congrArg (A1 m c) (ext2 (by blk_simp [e1]) (by blk_simp [e1]))

theorem blk2 (c : Dev nD) (t : Fin cfg0.N) : iblk m c 2 t = emb (A2 m c) (Rt t) := by
  funext y
  blk_simp [iblk]
  exact congrArg (A2 m c) (ext4 (by blk_simp [e2]; rfl) (by blk_simp [e2]; rfl) (by blk_simp [e2, Rt]) (by blk_simp [e2]))

theorem blk3 (c : Dev nD) (t : Fin cfg0.N) : iblk m c 3 t = A3 m c := by
  funext y
  blk_simp [iblk]
  exact congrArg (A3 m c) (ext2 (by blk_simp [e3]) (by blk_simp [e3]))

theorem blk4 (c : Dev nD) (t : Fin cfg0.N) : iblk m c 4 t = A4 m c := by
  funext y
  blk_simp [iblk]
  exact congrArg (A4 m c) (ext2 (by blk_simp [e4]) (by blk_simp [e4]))

/-! ## The arrays after the run: the reference's values -/

theorem final5 (c : Dev nD) : (dats m 0 c).arrAt 5 cfg0.N = val_main_v25 (F := Ideal) (A0 m c) (A1 m c) (A2 m c) (A3 m c) (A4 m c) := by
  refine (dats m 0 c).arrAt_eq_of_covers 5 _ (by decide +kernel) fun t hf y => ?_
  blk_simp
  rw [after0_5, blk0, blk1, blk2, blk3, blk4, out5]
  exact congrArg (val_main_v25 (F := Ideal) (A0 m c) (A1 m c) (A2 m c) (A3 m c) (A4 m c)) (ext2 (by blk_simp [e5, Rt]) (by blk_simp [e5]))

theorem final6 (c : Dev nD) : (dats m 0 c).arrAt 6 cfg0.N = val_main_v26 (F := Ideal) (A0 m c) (A1 m c) := by
  refine (dats m 0 c).arrAt_eq_of_covers 6 _ (by decide +kernel) fun t hf y => ?_
  blk_simp
  rw [after0_6, blk0, blk1, blk2, blk3, blk4, out6]
  exact congrArg (val_main_v26 (F := Ideal) (A0 m c) (A1 m c)) (ext2 (by blk_simp [e6, Rt]) (by blk_simp [e6]))

/-! ## The claims -/

theorem frameP : Cert.quiescent_PeFwd (hPeFwd := Cert.PeFwd.Gen.facts) := fun m ρ _ => Cert.PeFwd.Gen.frame m ρ
theorem framePI : Cert.quiescent_PeFwdIdeal (hPeFwdIdeal := Cert.PeFwdIdeal.Gen.facts) := fun m ρ _ => Cert.PeFwdIdeal.Gen.frame m ρ

theorem frameRI : Cert.quiescent_PeFwdRefIdeal (hPeFwdRefIdeal := Cert.PeFwdRefIdeal.Gen.facts) := fun m ρ _ =>
  (θ_run Cert.PeFwdRefIdeal.defs _ _).mono (fun r h => ⟨fun c => (h c).2.2,
      Idealize.ShloMosaic.sem_eq_zero_of_no_sems (by decide) r.2⟩)
    (Cert.PeFwdRefIdeal.Value.run (F := Ideal) m ρ)

/-- The kernel leaves in its result arrays what the reference computes. -/
theorem algebraic : Cert.algebraic_PeFwdIdeal_PeFwdRefIdeal (hPeFwdIdeal := Cert.PeFwdIdeal.Gen.facts)
    (hPeFwdRefIdeal := Cert.PeFwdRefIdeal.Gen.facts) := by
  intro m ρ m' ρ' _ hag
  refine ⟨fun c => val_main_v25 (F := Ideal) (A0 m c) (A1 m c) (A2 m c) (A3 m c) (A4 m c), fun c => val_main_v26 (F := Ideal) (A0 m c) (A1 m c), ?_, ?_⟩
  · refine (θ_run Cert.PeFwdIdeal.defs _ _).mono (fun r h c => ?_) (Cert.PeFwdIdeal.Value.run_blocks (F := Ideal) m ρ)
    obtain ⟨h5, h6, hrest⟩ := h c
    exact ⟨h5.trans (final5 m c), h6.trans (final6 m c), hrest⟩
  · refine (θ_run Cert.PeFwdRefIdeal.defs _ _).mono (fun r h c => ?_) (Cert.PeFwdRefIdeal.Value.run (F := Ideal) m' ρ')
    obtain ⟨h5, h6, hrest⟩ := h c
    obtain ⟨a0, a1, a2, a3, a4⟩ := hag c
    refine ⟨h5.trans ((val_main_v25_eq ..).trans ?_), h6.trans ((val_main_v26_eq ..).trans ?_), hrest⟩
    · rw [a0, a1, a2, a3, a4]
    · rw [a0, a1]

end Cert.PeFwdIdeal.Block

end
-- ==== Proof.MergeFwd.lean ====
module

public import proofs.«01_k».proof.Defs
public import proofs.«01_k».proof.Proof.Gen.MergeFwd.Frame
public import proofs.«01_k».proof.Proof.Gen.MergeFwdIdeal.Value
public import proofs.«01_k».proof.Proof.Gen.MergeFwdRefIdeal.Read
public import proofs.«01_k».proof.Proof.Gen.MergeFwdRefIdeal.Run
public import proofs.«01_k».proof.Proof.Index
public import proofs.«01_k».proof.Proof.Rows
public import Idealize.ShloMosaic.Lib.Quiescent

@[expose] public section

set_option maxRecDepth 16384

noncomputable section

/-! # The gated merge

A grid point works on 512 rows: the gate's product and its two halves, the two branches' output projections, their gated sum and
its product with the last weight. -/

namespace Cert.MergeFwdIdeal.Block

open Cert.MergeFwdIdeal Cert.MergeFwdIdeal.Gen Cert.Index Cert.Rows Idealize.ShloMosaic Idealize.ShloMosaic.TcCoe Idealize.SL.Sem
open Cert.MergeFwdRefIdeal.Read

variable (X0 : FVec Ideal S8192x1024 .f32) (X1 : FVec Ideal S8192x1024 .bf16) (X2 X3 : FVec Ideal S8192x512 .bf16)
  (X4 : FVec Ideal S1024x3840 .bf16) (X5 X6 : FVec Ideal S512x1024 .bf16) (X7 : FVec Ideal S1024x1024 .bf16)

/-- The gate's argument at column `l`, for a row `u`. -/
def gate (u : Fin 1024 → EReal) (l : Fin 2048) : EReal := ∑ k, u k * X4 (ix2 k ⟨1792 + l.val, by omega⟩)
/-- The merged value at column `l`, for a row `u` of the normed input and the rows `o`, `v` of the two branches. -/
def mix (u : Fin 1024 → EReal) (o v : Fin 512 → EReal) (l : Fin 1024) : EReal :=
  sigm (gate X4 u ⟨l.val, by omega⟩) * (∑ k, o k * X5 (ix2 k l)) + sigm (gate X4 u ⟨1024 + l.val, by omega⟩) * (∑ k, v k * X6 (ix2 k l))

/-! ## The reference -/

theorem ref_gate (i : Fin 8192) (l : Fin 2048) :
    val_main_v15 (F := Ideal) X1 X4 (ix2 i l) = sigm (gate X4 (fun k => X1 (ix2 i k)) l) := by
  pointwise [val_main_v15, val_main_v14, val_main_cst_0, val_main_v13, val_main_v12, val_main_cst, val_main_v11, val_main_v10,
    val_main_v3, val_main_v2, val_main_v1, val_main_v0, sigm, gate]

theorem ref_mix (i : Fin 8192) (l : Fin 1024) : val_main_v20 (F := Ideal) X1 X2 X3 X4 X5 X6 (ix2 i l)
    = mix X4 X5 X6 (fun k => X1 (ix2 i k)) (fun k => X2 (ix2 i k)) (fun k => X3 (ix2 i k)) l := by
  pointwise [val_main_v20, val_main_v19, val_main_v18, val_main_v17, val_main_v16, val_main_v9, val_main_v8, val_main_v7,
    val_main_v6, val_main_v5, val_main_v4, ref_gate, mix]

theorem ref_val (j : S8192x1024.Idx) : val_main_v23 (F := Ideal) X0 X1 X2 X3 X4 X5 X6 X7 j = X0 j
    + ∑ l, mix X4 X5 X6 (fun k => X1 (ix2 (j 0) k)) (fun k => X2 (ix2 (j 0) k)) (fun k => X3 (ix2 (j 0) k)) l * X7 (ix2 l (j 1)) := by
  pointwise [val_main_v23, val_main_v22, val_main_v21, ref_mix]

/-! ## A grid point -/

variable (R : Fin 512 → Fin 8192)

theorem hz : (![0, 0] : Fin 2 → Nat) = fun _ => 0 := funext fun a => by fin_cases a <;> rfl

theorem out8 : out0_8 (F := Ideal) (rows R X0) (rows R X1) (rows R X2) (rows R X3) X4 X5 X6 X7
    = rows R (val_main_v23 (F := Ideal) X0 X1 X2 X3 X4 X5 X6 X7) := by
  unfold out0_8
  rw [View.canon_unit_zero hz, View.ld_unit_zero hz, View.ld_unit_zero hz, View.ld_unit_zero hz, View.ld_unit_zero hz, View.ld_unit_zero hz,
    View.ld_unit_zero hz, View.ld_unit_zero hz]
  funext j
  refine Eq.trans ?_ (ref_val X0 X1 X2 X3 X4 X5 X6 X7 (ix2 (R (j 0)) (j 1))).symm
  pointwise [k0_pay1, mix, gate, sigm, rows]
  simp only [zero_sub]

/-! ## The blocks of a grid point -/

/-- Row `r` of point `t`'s block is row `512 t + r` of the array. -/
def Rt (t : Fin cfg0.N) (r : Fin 512) : Fin 8192 :=
  ⟨t.val * 512 + r.val, by have := t.isLt; have hN : cfg0.N = 16 := N_0; omega⟩

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)

/-! Device `c`'s argument arrays. -/

abbrev A0 (c : Dev nD) : FVec Ideal S8192x1024 .f32 := m ((c : Thread nD τ).loc main_arg0)
abbrev A1 (c : Dev nD) : FVec Ideal S8192x1024 .bf16 := m ((c : Thread nD τ).loc main_arg1)
abbrev A2 (c : Dev nD) : FVec Ideal S8192x512 .bf16 := m ((c : Thread nD τ).loc main_arg2)
abbrev A3 (c : Dev nD) : FVec Ideal S8192x512 .bf16 := m ((c : Thread nD τ).loc main_arg3)
abbrev A4 (c : Dev nD) : FVec Ideal S1024x3840 .bf16 := m ((c : Thread nD τ).loc main_arg4)
abbrev A5 (c : Dev nD) : FVec Ideal S512x1024 .bf16 := m ((c : Thread nD τ).loc main_arg5)
abbrev A6 (c : Dev nD) : FVec Ideal S512x1024 .bf16 := m ((c : Thread nD τ).loc main_arg6)
abbrev A7 (c : Dev nD) : FVec Ideal S1024x1024 .bf16 := m ((c : Thread nD τ).loc main_arg7)

/-! Their blocks: of the activations the point's rows, the weights whole. -/

theorem blk0 (c : Dev nD) (t : Fin cfg0.N) : iblk m c 0 t = rows (Rt t) (A0 m c) := by
  funext y
  blk_simp [iblk]
  exact congrArg (A0 m c) (ext2 (by blk_simp [e0, Rt]) (by blk_simp [e0]))

theorem blk1 (c : Dev nD) (t : Fin cfg0.N) : iblk m c 1 t = rows (Rt t) (A1 m c) := by
  funext y
  blk_simp [iblk]
  exact congrArg (A1 m c) (ext2 (by blk_simp [e1, Rt]) (by blk_simp [e1]))

theorem blk2 (c : Dev nD) (t : Fin cfg0.N) : iblk m c 2 t = rows (Rt t) (A2 m c) := by
  funext y
  blk_simp [iblk]
  exact congrArg (A2 m c) (ext2 (by blk_simp [e2, Rt]) (by blk_simp [e2]))

theorem blk3 (c : Dev nD) (t : Fin cfg0.N) : iblk m c 3 t = rows (Rt t) (A3 m c) := by
  funext y
  blk_simp [iblk]
  exact congrArg (A3 m c) (ext2 (by blk_simp [e3, Rt]) (by blk_simp [e3]))

theorem blk4 (c : Dev nD) (t : Fin cfg0.N) : iblk m c 4 t = A4 m c := by
  funext y
  blk_simp [iblk]
  exact congrArg (A4 m c) (ext2 (by blk_simp [e4]) (by blk_simp [e4]))

theorem blk5 (c : Dev nD) (t : Fin cfg0.N) : iblk m c 5 t = A5 m c := by
  funext y
  blk_simp [iblk]
  exact congrArg (A5 m c) (ext2 (by blk_simp [e5]) (by blk_simp [e5]))

theorem blk6 (c : Dev nD) (t : Fin cfg0.N) : iblk m c 6 t = A6 m c := by
  funext y
  blk_simp [iblk]
  exact congrArg (A6 m c) (ext2 (by blk_simp [e6]) (by blk_simp [e6]))

theorem blk7 (c : Dev nD) (t : Fin cfg0.N) : iblk m c 7 t = A7 m c := by
  funext y
  blk_simp [iblk]
  exact congrArg (A7 m c) (ext2 (by blk_simp [e7]) (by blk_simp [e7]))

/-! ## The arrays after the run: the reference's values -/

theorem final8 (c : Dev nD) : (dats m 0 c).arrAt 8 cfg0.N = val_main_v23 (F := Ideal) (A0 m c) (A1 m c) (A2 m c) (A3 m c) (A4 m c) (A5 m c) (A6 m c) (A7 m c) := by
  refine (dats m 0 c).arrAt_eq_of_covers 8 _ (by decide +kernel) fun t hf y => ?_
  blk_simp
  rw [after0_8, blk0, blk1, blk2, blk3, blk4, blk5, blk6, blk7, out8]
  exact congrArg (val_main_v23 (F := Ideal) (A0 m c) (A1 m c) (A2 m c) (A3 m c) (A4 m c) (A5 m c) (A6 m c) (A7 m c)) (ext2 (by blk_simp [e8, Rt]) (by blk_simp [e8]))

/-! ## The claims -/

theorem frameP : Cert.quiescent_MergeFwd (hMergeFwd := Cert.MergeFwd.Gen.facts) := fun m ρ _ => Cert.MergeFwd.Gen.frame m ρ
theorem framePI : Cert.quiescent_MergeFwdIdeal (hMergeFwdIdeal := Cert.MergeFwdIdeal.Gen.facts) := fun m ρ _ => Cert.MergeFwdIdeal.Gen.frame m ρ

theorem frameRI : Cert.quiescent_MergeFwdRefIdeal (hMergeFwdRefIdeal := Cert.MergeFwdRefIdeal.Gen.facts) := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

/-- The kernel leaves in its result arrays what the reference computes. -/
theorem algebraic : Cert.algebraic_MergeFwdIdeal_MergeFwdRefIdeal (hMergeFwdIdeal := Cert.MergeFwdIdeal.Gen.facts)
    (hMergeFwdRefIdeal := Cert.MergeFwdRefIdeal.Gen.facts) := by
  intro m ρ m' ρ' _ hag
  refine ⟨fun c => val_main_v23 (F := Ideal) (A0 m c) (A1 m c) (A2 m c) (A3 m c) (A4 m c) (A5 m c) (A6 m c) (A7 m c), ?_, ?_⟩
  · refine (θ_run Cert.MergeFwdIdeal.defs _ _).mono (fun r h c => ?_) (Cert.MergeFwdIdeal.Value.run_blocks (F := Ideal) m ρ)
    obtain ⟨h8, hrest⟩ := h c
    exact ⟨h8.trans (final8 m c), hrest⟩
  · refine (θ_run Cert.MergeFwdRefIdeal.defs _ _).mono (fun r h c => ?_) (Cert.MergeFwdRefIdeal.Value.run (F := Ideal) m' ρ')
    obtain ⟨h8, hrest⟩ := h c
    obtain ⟨a0, a1, a2, a3, a4, a5, a6, a7⟩ := hag c
    refine ⟨h8.trans ((val_main_v23_eq ..).trans ?_), hrest⟩
    · rw [a0, a1, a2, a3, a4, a5, a6, a7]

end Cert.MergeFwdIdeal.Block

end
-- ==== Proof.MixinFwd.lean ====
module

public import proofs.«01_k».proof.Defs
public import proofs.«01_k».proof.Proof.Gen.MixinFwd.Frame
public import proofs.«01_k».proof.Proof.Gen.MixinFwdIdeal.Value
public import proofs.«01_k».proof.Proof.Gen.MixinFwdRefIdeal.Read
public import proofs.«01_k».proof.Proof.Gen.MixinFwdRefIdeal.Run
public import proofs.«01_k».proof.Proof.Index
public import proofs.«01_k».proof.Proof.Rows
public import Idealize.ShloMosaic.Lib.Quiescent

@[expose] public section

set_option maxRecDepth 16384

noncomputable section

/-! # The mixer's input projection

A grid point norms 512 rows and multiplies them by the weight's first 1792 columns; the reference multiplies by all columns and
splits the product. -/

namespace Cert.MixinFwdIdeal.Block

open Cert.MixinFwdIdeal Cert.MixinFwdIdeal.Gen Cert.Index Cert.Rows Idealize.ShloMosaic Idealize.ShloMosaic.TcCoe Idealize.SL.Sem
open Cert.MixinFwdRefIdeal.Read

variable (X : FVec Ideal S8192x1024 .f32) (G : FVec Ideal S1x1024 .f32) (W : FVec Ideal S1024x3840 .bf16)

/-! ## The reference -/

theorem ref_norm : val_main_v11 (F := Ideal) X G = normed X G := by
  funext j
  pointwise [val_main_v0, val_main_cst, val_main_v1, val_main_v2, val_main_cst_0, val_main_v3, val_main_v4, val_main_cst_1,
    val_main_v5, val_main_v6, val_main_v7, val_main_v8, val_main_v9, val_main_v10, val_main_v11, normed, scale]

/-- Column `l` of row `i` of the projection. -/
def proj (i : Fin 8192) (l : Fin 3840) : EReal := ∑ x, normed X G (ix2 i x) * W (ix2 x l)

theorem ref_proj (i : Fin 8192) (l : Fin 3840) : val_main_v13 (F := Ideal) X G W (ix2 i l) = proj X G W i l := by
  pointwise [val_main_v13, val_main_v12, ref_norm, proj]

/-- The result before the split: columns 0 to 1791. -/
theorem ref_un : val_main_v19 (F := Ideal) X G = normed X G := by
  rw [← ref_norm]; rfl

theorem ref_qkv (i : Fin 8192) (l : Fin 768) : val_main_v20 (F := Ideal) X G W (ix2 i l) = proj X G W i ⟨l.val, by omega⟩ := by
  pointwise [val_main_v20, val_main_v14, val_main_v15, val_main_v16]
  split
  · exact ref_proj X G W i ⟨l.val, _⟩
  split
  · exact (ref_proj X G W i ⟨512 + (l.val - 512), by omega⟩).trans (congrArg (proj X G W i) (Fin.ext (by show 512 + (l.val - 512) = l.val; omega)))
  · exact (ref_proj X G W i ⟨640 + (l.val - 512 - 128), by omega⟩).trans
      (congrArg (proj X G W i) (Fin.ext (by show 640 + (l.val - 512 - 128) = l.val; omega)))

theorem ref_cvg (i : Fin 8192) (l : Fin 1024) : val_main_v17 (F := Ideal) X G W (ix2 i l) = proj X G W i ⟨768 + l.val, by omega⟩ := by
  pointwise [val_main_v17]
  exact ref_proj X G W i ⟨768 + l.val, by omega⟩

/-! ## A grid point -/

variable (x : FVec Ideal S512x1024 .f32) (w : FVec Ideal S1024x1792 .bf16)

theorem pay_norm : k0_pay1 (F := Ideal) x G = normed x G := by
  funext j
  pointwise [k0_pay1, normed, scale]

theorem pay_proj (j : S512x1792.Idx) : k0_pay2 (F := Ideal) x G w j = ∑ l, normed x G (ix2 (j 0) l) * w (ix2 l (j 1)) := by
  pointwise [k0_pay2, pay_norm]

theorem hz : (![0, 0] : Fin 2 → Nat) = fun _ => 0 := funext fun a => by fin_cases a <;> rfl

variable (R : Fin 512 → Fin 8192)

theorem out3 : out0_3 (F := Ideal) (rows R X) G W = rows R (val_main_v19 (F := Ideal) X G) := by
  unfold out0_3
  rw [View.canon_unit_zero hz, View.ld_unit_zero hz, View.ld_unit_zero hz, pay_norm, ref_un, normed_rows]

theorem out4 : out0_4 (F := Ideal) (rows R X) G W = rows R (val_main_v20 (F := Ideal) X G W) := by
  unfold out0_4
  rw [View.canon_unit_zero hz, View.ld_unit_zero hz, View.ld_unit_zero hz]
  funext j
  refine Eq.trans ?_ (ref_qkv X G W (R (j 0)) (j 1)).symm
  pointwise [k0_pay3, pay_proj, normed_rows, proj]
  rfl

theorem out5 : out0_5 (F := Ideal) (rows R X) G W = rows R (val_main_v17 (F := Ideal) X G W) := by
  unfold out0_5
  rw [View.canon_unit_zero hz, View.ld_unit_zero hz, View.ld_unit_zero hz]
  funext j
  refine Eq.trans ?_ (ref_cvg X G W (R (j 0)) (j 1)).symm
  pointwise [k0_pay4, pay_proj, normed_rows, proj]
  rfl

/-! ## The blocks of a grid point -/

/-- Row `r` of point `t`'s block is row `512 t + r` of the array. -/
def Rt (t : Fin cfg0.N) (r : Fin 512) : Fin 8192 :=
  ⟨t.val * 512 + r.val, by have := t.isLt; have hN : cfg0.N = 16 := N_0; omega⟩

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

/-! Device `c`'s argument arrays. -/

abbrev A0 (c : Dev nD) : FVec Ideal S8192x1024 .f32 := m ((c : Thread nD τ).loc main_arg0)
abbrev A1 (c : Dev nD) : FVec Ideal S1x1024 .f32 := m ((c : Thread nD τ).loc main_arg1)
abbrev A2 (c : Dev nD) : FVec Ideal S1024x3840 .bf16 := m ((c : Thread nD τ).loc main_arg2)

theorem blk0 (c : Dev nD) (t : Fin cfg0.N) : iblk m c 0 t = rows (Rt t) (A0 m c) := by
  funext y
  blk_simp [iblk]
  exact congrArg (A0 m c) (ext2 (by blk_simp [e0, Rt]) (by blk_simp [e0]))

theorem blk1 (c : Dev nD) (t : Fin cfg0.N) : iblk m c 1 t = A1 m c := by
  funext y
  blk_simp [iblk]
  exact congrArg (A1 m c) (ext2 (by blk_simp [e1]) (by blk_simp [e1]))

theorem blk2 (c : Dev nD) (t : Fin cfg0.N) : iblk m c 2 t = A2 m c := by
  funext y
  blk_simp [iblk]
  exact congrArg (A2 m c) (ext2 (by blk_simp [e2]) (by blk_simp [e2]))

/-! ## The arrays after the run: the reference's values -/

theorem final3 (c : Dev nD) : (dats m 0 c).arrAt 3 cfg0.N = val_main_v19 (F := Ideal) (A0 m c) (A1 m c) := by
  refine (dats m 0 c).arrAt_eq_of_covers 3 _ (by decide +kernel) fun t hf y => ?_
  blk_simp
  rw [after0_3, blk0, blk1, blk2, out3]
  exact congrArg (val_main_v19 (F := Ideal) (A0 m c) (A1 m c)) (ext2 (by blk_simp [e3, Rt]) (by blk_simp [e3]))

theorem final4 (c : Dev nD) : (dats m 0 c).arrAt 4 cfg0.N = val_main_v20 (F := Ideal) (A0 m c) (A1 m c) (A2 m c) := by
  refine (dats m 0 c).arrAt_eq_of_covers 4 _ (by decide +kernel) fun t hf y => ?_
  blk_simp
  rw [after0_4, blk0, blk1, blk2, out4]
  exact congrArg (val_main_v20 (F := Ideal) (A0 m c) (A1 m c) (A2 m c)) (ext2 (by blk_simp [e4, Rt]) (by blk_simp [e4]))

theorem final5 (c : Dev nD) : (dats m 0 c).arrAt 5 cfg0.N = val_main_v17 (F := Ideal) (A0 m c) (A1 m c) (A2 m c) := by
  refine (dats m 0 c).arrAt_eq_of_covers 5 _ (by decide +kernel) fun t hf y => ?_
  blk_simp
  rw [after0_5, blk0, blk1, blk2, out5]
  exact congrArg (val_main_v17 (F := Ideal) (A0 m c) (A1 m c) (A2 m c)) (ext2 (by blk_simp [e5, Rt]) (by blk_simp [e5]))

/-! ## The claims -/

theorem frameP : Cert.quiescent_MixinFwd (hMixinFwd := Cert.MixinFwd.Gen.facts) := fun m ρ _ => Cert.MixinFwd.Gen.frame m ρ
theorem framePI : Cert.quiescent_MixinFwdIdeal (hMixinFwdIdeal := Cert.MixinFwdIdeal.Gen.facts) := fun m ρ _ => Cert.MixinFwdIdeal.Gen.frame m ρ

theorem frameRI : Cert.quiescent_MixinFwdRefIdeal (hMixinFwdRefIdeal := Cert.MixinFwdRefIdeal.Gen.facts) := fun m ρ _ =>
  (θ_run Cert.MixinFwdRefIdeal.defs _ _).mono (fun r h => ⟨fun c => (h c).2.2.2,
      Idealize.ShloMosaic.sem_eq_zero_of_no_sems (by decide) r.2⟩)
    (Cert.MixinFwdRefIdeal.Value.run (F := Ideal) m ρ)

/-- The kernel leaves the normed rows and the two parts of the projection that the reference computes. -/
theorem algebraic : Cert.algebraic_MixinFwdIdeal_MixinFwdRefIdeal (hMixinFwdIdeal := Cert.MixinFwdIdeal.Gen.facts)
    (hMixinFwdRefIdeal := Cert.MixinFwdRefIdeal.Gen.facts) := by
  intro m ρ m' ρ' _ hag
  refine ⟨fun c => val_main_v19 (F := Ideal) (A0 m c) (A1 m c), fun c => val_main_v20 (F := Ideal) (A0 m c) (A1 m c) (A2 m c),
    fun c => val_main_v17 (F := Ideal) (A0 m c) (A1 m c) (A2 m c), ?_, ?_⟩
  · refine (θ_run Cert.MixinFwdIdeal.defs _ _).mono (fun r h c => ?_) (Cert.MixinFwdIdeal.Value.run_blocks (F := Ideal) m ρ)
    obtain ⟨h3, h4, h5, hrest⟩ := h c
    exact ⟨h3.trans (final3 m c), h4.trans (final4 m c), h5.trans (final5 m c), hrest⟩
  · refine (θ_run Cert.MixinFwdRefIdeal.defs _ _).mono (fun r h c => ?_) (Cert.MixinFwdRefIdeal.Value.run (F := Ideal) m' ρ')
    obtain ⟨h19, h20, h17, hrest⟩ := h c
    obtain ⟨a0, a1, a2⟩ := hag c
    refine ⟨h19.trans ((val_main_v19_eq ..).trans ?_), h20.trans ((val_main_v20_eq ..).trans ?_),
      h17.trans ((val_main_v17_eq ..).trans ?_), hrest⟩
    · rw [a0, a1]
    · rw [a0, a1, a2]
    · rw [a0, a1, a2]

end Cert.MixinFwdIdeal.Block

end
-- ==== Proof.FfnRun.lean ====
module

public import proofs.«01_k».proof.Proof.Gen.FfnFwdIdeal.Skeleton
public import proofs.«01_k».proof.Proof.Gen.FfnFwdIdeal.Frame

@[expose] public section

set_option maxRecDepth 16384

noncomputable section

/-! # The runs of the feed-forward block's body

A block of 1024 rows is met by four consecutive points, one for each quarter of the inner width.  The first point norms the rows
(case `first`), every point adds its quarter's product to the running sum, and the last one writes the residual sum (case `last`).
Each run finds, as lists of pieces, what it leaves in the buffers it stores into. -/

namespace Cert.FfnFwdIdeal.Hand

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The pieces a run writes. -/
abbrev Pieces (F : FTy → Type) [FloatOps F] (S : Shape) (e : EltTy) := List (View.Piece (Elt F) S e)

/-- The point's rows begin here: the norm is taken. -/
abbrev isFirst (i : grid0.Coords) : Prop := k0_cond1 i = 1#1
/-- The point's rows end here: the result is written. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1x1024x704 .bf16) (harg4 : arg4.IsWhole) (arg5 : Memref sig .tc .vmem S1x1024x704 .bf16) (harg5 : arg5.IsWhole)
  (arg6 : Memref sig .tc .vmem S2x352x1024 .bf16) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1x1024x704 .bf16) (harg9 : arg9.IsWhole)
  (arg10 : Memref sig .tc .vmem S1x1024x704 .bf16) (harg10 : arg10.IsWhole) (arg11 : Memref sig .tc .vmem S1024x1024 .bf16) (harg11 : arg11.IsWhole)
  (arg12 : Memref sig .tc .vmem S1024x1024 .f32) (harg12 : arg12.IsWhole)

/-- A buffer at some contents. -/
abbrev some_ {S : Shape} {e : EltTy} (a : Memref sig .tc .vmem S e) : sProp 𝕄 := iprop(∃ d, owns (c : Thread nD τ) a fullShare d)
/-- A buffer with pieces written over some contents. -/
abbrev wrote {S : Shape} {e : EltTy} (a : Memref sig .tc .vmem S e) (L : Pieces F S e) : sProp 𝕄 :=
  iprop(∃ f, a.view.loc (c : Thread nD τ) ↦[a.view.set]{fullShare} a.view.writes (Elt F) f L)

set_option maxHeartbeats 4000000 in
/-- The first of a block of rows' four points. -/
noncomputable def runFirst (h1 : isFirst i) (h2 : ¬isLast i)
    (x : Vec F S1024x1024 .f32) (g : Vec F S1x1024 .f32) (wg wu : Vec F S1x1024x704 .bf16) (wo : Vec F S2x352x1024 .bf16) :
    Σ' (L8 : Pieces F S1024x1024 .bf16) (L9 L10 : Pieces F S1x1024x704 .bf16) (L11 : Pieces F S1024x1024 .bf16),
      { L12 : Pieces F S1024x1024 .f32 //
      ∀ (E : Set ℕ) (K : PUnit → sProp 𝕄),
        iprop(owns (c : Thread nD τ) arg2 fullShare x ∗ owns (c : Thread nD τ) arg3 fullShare g
            ∗ owns (c : Thread nD τ) arg4 fullShare wg ∗ owns (c : Thread nD τ) arg5 fullShare wu ∗ owns (c : Thread nD τ) arg6 fullShare wo
            ∗ some_ (F := F) c arg8 ∗ some_ (F := F) c arg9 ∗ some_ (F := F) c arg10 ∗ some_ (F := F) c arg11 ∗ some_ (F := F) c arg12
            ∗ (iprop(owns (c : Thread nD τ) arg2 fullShare x ∗ owns (c : Thread nD τ) arg3 fullShare g
                ∗ owns (c : Thread nD τ) arg4 fullShare wg ∗ owns (c : Thread nD τ) arg5 fullShare wu ∗ owns (c : Thread nD τ) arg6 fullShare wo
                ∗ wrote c arg8 L8 ∗ wrote c arg9 L9 ∗ wrote c arg10 L10 ∗ wrote c arg11 L11 ∗ wrote c arg12 L12) -∗ K ⟨⟩))
          ⊢ wp frame (wpE (defs₀ (F := F)) Variants.none c none) E
              (cc0_ffn2_fwd i arg2 harg2 arg3 harg3 arg4 harg4 arg5 harg5 arg6 harg6 arg7 harg7 arg8 harg8 arg9 harg9 arg10 harg10
                arg11 harg11 arg12 harg12) K } := by
  refine ⟨?_, ?_, ?_, ?_, ?_, fun E K => ?run⟩
  case run =>
    rw [cc0_ffn2_fwd_eq_skeleton]
    unfold cc0_ffn2_fwd_skel
    simp only [k0_part1_eq_skeleton, k0_part2_eq_skeleton, k0_part3_eq_skeleton, k0_part4_eq_skeleton]
    unfold k0_part1_skel k0_part2_skel k0_part3_skel k0_part4_skel
    unfold some_ wrote owns
    iintro ⟨⟨%f2, %e2, H2⟩, ⟨%f3, %e3, H3⟩, ⟨%f4, %e4, H4⟩, ⟨%f5, %e5, H5⟩, ⟨%f6, %e6, H6⟩, ⟨%d8, %f8, -, H8⟩, ⟨%d9, %f9, -, H9⟩,
      ⟨%d10, %f10, -, H10⟩, ⟨%d11, %f11, -, H11⟩, ⟨%d12, %f12, -, H12⟩, Hk⟩
    obtain rfl := harg2.eq_unread e2; obtain rfl := harg3.eq_unread e3; obtain rfl := harg4.eq_unread e4
    obtain rfl := harg5.eq_unread e5; obtain rfl := harg6.eq_unread e6
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    isplitl [H11]; · iexists _; iexact H11
    iexists _; iexact H12

set_option maxHeartbeats 4000000 in
/-- A point in the middle: the normed rows and the running sum are found as the point before left them. -/
noncomputable def runMiddle (h1 : ¬isFirst i) (h2 : ¬isLast i)
    (wg wu : Vec F S1x1024x704 .bf16) (wo : Vec F S2x352x1024 .bf16) (xn : Vec F S1024x1024 .bf16) (acc : Vec F S1024x1024 .f32) :
    Σ' (L9 L10 : Pieces F S1x1024x704 .bf16),
      { L12 : Pieces F S1024x1024 .f32 //
      ∀ (E : Set ℕ) (K : PUnit → sProp 𝕄),
        iprop(owns (c : Thread nD τ) arg4 fullShare wg ∗ owns (c : Thread nD τ) arg5 fullShare wu ∗ owns (c : Thread nD τ) arg6 fullShare wo
            ∗ some_ (F := F) c arg9 ∗ some_ (F := F) c arg10 ∗ owns (c : Thread nD τ) arg11 fullShare xn ∗ owns (c : Thread nD τ) arg12 fullShare acc
            ∗ (iprop(owns (c : Thread nD τ) arg4 fullShare wg ∗ owns (c : Thread nD τ) arg5 fullShare wu ∗ owns (c : Thread nD τ) arg6 fullShare wo
                ∗ wrote c arg9 L9 ∗ wrote c arg10 L10 ∗ owns (c : Thread nD τ) arg11 fullShare xn ∗ wrote c arg12 L12) -∗ K ⟨⟩))
          ⊢ wp frame (wpE (defs₀ (F := F)) Variants.none c none) E
              (cc0_ffn2_fwd i arg2 harg2 arg3 harg3 arg4 harg4 arg5 harg5 arg6 harg6 arg7 harg7 arg8 harg8 arg9 harg9 arg10 harg10
                arg11 harg11 arg12 harg12) K } := by
  refine ⟨?_, ?_, ?_, fun E K => ?run⟩
  case run =>
    rw [cc0_ffn2_fwd_eq_skeleton]
    unfold cc0_ffn2_fwd_skel
    simp only [k0_part1_eq_skeleton, k0_part2_eq_skeleton, k0_part3_eq_skeleton, k0_part4_eq_skeleton]
    unfold k0_part1_skel k0_part2_skel k0_part3_skel k0_part4_skel
    unfold some_ wrote owns
    iintro ⟨⟨%f4, %e4, H4⟩, ⟨%f5, %e5, H5⟩, ⟨%f6, %e6, H6⟩, ⟨%d9, %f9, -, H9⟩, ⟨%d10, %f10, -, H10⟩, ⟨%f11, %e11, H11⟩,
      ⟨%f12, %e12, H12⟩, Hk⟩
    obtain rfl := harg4.eq_unread e4; obtain rfl := harg5.eq_unread e5; obtain rfl := harg6.eq_unread e6
    obtain rfl := harg11.eq_unread e11; obtain rfl := harg12.eq_unread e12
    sl_exec (disch := first | sl_exact h1 | sl_exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H9]; · iexists _; iexact H9
    isplitl [H10]; · iexists _; iexact H10
    isplitl [H11]
    · iexists _; isplitr; · ipureintro; exact harg11.read_unread _
      iexact H11
    iexists _; iexact H12

set_option maxHeartbeats 4000000 in
/-- The last of the four points: as in the middle, and the rows plus half the running sum are written to the result's block. -/
noncomputable def runLast (h1 : ¬isFirst i) (h2 : isLast i) (x : Vec F S1024x1024 .f32)
    (wg wu : Vec F S1x1024x704 .bf16) (wo : Vec F S2x352x1024 .bf16) (xn : Vec F S1024x1024 .bf16) (acc : Vec F S1024x1024 .f32) :
    Σ' (L7 : Pieces F S1024x1024 .f32) (L9 L10 : Pieces F S1x1024x704 .bf16),
      { L12 : Pieces F S1024x1024 .f32 //
      ∀ (E : Set ℕ) (K : PUnit → sProp 𝕄),
        iprop(owns (c : Thread nD τ) arg2 fullShare x
            ∗ owns (c : Thread nD τ) arg4 fullShare wg ∗ owns (c : Thread nD τ) arg5 fullShare wu ∗ owns (c : Thread nD τ) arg6 fullShare wo
            ∗ some_ (F := F) c arg7 ∗ some_ (F := F) c arg9 ∗ some_ (F := F) c arg10 ∗ owns (c : Thread nD τ) arg11 fullShare xn
            ∗ owns (c : Thread nD τ) arg12 fullShare acc
            ∗ (iprop(owns (c : Thread nD τ) arg2 fullShare x
                ∗ owns (c : Thread nD τ) arg4 fullShare wg ∗ owns (c : Thread nD τ) arg5 fullShare wu ∗ owns (c : Thread nD τ) arg6 fullShare wo
                ∗ wrote c arg7 L7 ∗ wrote c arg9 L9 ∗ wrote c arg10 L10 ∗ owns (c : Thread nD τ) arg11 fullShare xn ∗ wrote c arg12 L12)
                -∗ K ⟨⟩))
          ⊢ wp frame (wpE (defs₀ (F := F)) Variants.none c none) E
              (cc0_ffn2_fwd i arg2 harg2 arg3 harg3 arg4 harg4 arg5 harg5 arg6 harg6 arg7 harg7 arg8 harg8 arg9 harg9 arg10 harg10
                arg11 harg11 arg12 harg12) K } := by
  refine ⟨?_, ?_, ?_, ?_, fun E K => ?run⟩
  case run =>
    rw [cc0_ffn2_fwd_eq_skeleton]
    unfold cc0_ffn2_fwd_skel
    simp only [k0_part1_eq_skeleton, k0_part2_eq_skeleton, k0_part3_eq_skeleton, k0_part4_eq_skeleton]
    unfold k0_part1_skel k0_part2_skel k0_part3_skel k0_part4_skel
    unfold some_ wrote owns
    iintro ⟨⟨%f2, %e2, H2⟩, ⟨%f4, %e4, H4⟩, ⟨%f5, %e5, H5⟩, ⟨%f6, %e6, H6⟩, ⟨%d7, %f7, -, H7⟩, ⟨%d9, %f9, -, H9⟩, ⟨%d10, %f10, -, H10⟩,
      ⟨%f11, %e11, H11⟩, ⟨%f12, %e12, H12⟩, Hk⟩
    obtain rfl := harg2.eq_unread e2
    obtain rfl := harg4.eq_unread e4; obtain rfl := harg5.eq_unread e5; obtain rfl := harg6.eq_unread e6
    obtain rfl := harg11.eq_unread e11; obtain rfl := harg12.eq_unread e12
    sl_exec (disch := first | sl_exact h1 | sl_exact h2)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H9]; · iexists _; iexact H9
    isplitl [H10]; · iexists _; iexact H10
    isplitl [H11]
    · iexists _; isplitr; · ipureintro; exact harg11.read_unread _
      iexact H11
    iexists _; iexact H12

end Cert.FfnFwdIdeal.Hand

end
-- ==== Proof.FfnFrame.lean ====
module

public import proofs.«01_k».proof.Proof.FfnRun
public import Idealize.ShloMosaic.Lib.Claim

@[expose] public section

set_option maxRecDepth 16384

noncomputable section

/-! # The frame of the feed-forward block's forward call

What the buffers hold after each point, the obligation at a point, and the launch. -/

namespace Cert.FfnFwdIdeal.Hand

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point of the pipeline -/

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
/-- The scratch that holds the normed rows. -/
abbrev keep : Memref sig .tc .vmem S1024x1024 .bf16 := Memref.whole cc0_scratch0
/-- The scratch that holds the running sum. -/
abbrev total : Memref sig .tc .vmem S1024x1024 .f32 := Memref.whole cc0_scratch1

theorem not_last {t : Fin cfg0.N} (h : isFirst (grid0.coords t)) : ¬isLast (grid0.coords t) := fun h' => by
  have a := (isFirst_iff t).mp h
  have b := (isLast_iff t).mp h'
  omega

abbrev atFirst (c : Dev nD) (t : Fin cfg0.N) (h : isFirst (grid0.coords t)) :=
  runFirst (F := F) c (grid0.coords t) (st0_0 t) (hs0_0 t) (st0_1 t) (hs0_1 t) (st0_2 t) (hs0_2 t) (st0_3 t) (hs0_3 t) (st0_4 t) (hs0_4 t)
    (st0_5 t) (hs0_5 t) (st0_6 t) (hs0_6 t) (st0_7 t) (hs0_7 t) (st0_8 t) (hs0_8 t) keep (Memref.isWhole_whole _) total (Memref.isWhole_whole _)
    h (not_last h) (iblk m c 0 t) (iblk m c 1 t) (iblk m c 2 t) (iblk m c 3 t) (iblk m c 4 t)

abbrev atMiddle (c : Dev nD) (t : Fin cfg0.N) (h : ¬isFirst (grid0.coords t)) (h' : ¬isLast (grid0.coords t))
    (xn : Vec F S1024x1024 .bf16) (acc : Vec F S1024x1024 .f32) :=
  runMiddle (F := F) c (grid0.coords t) (st0_0 t) (hs0_0 t) (st0_1 t) (hs0_1 t) (st0_2 t) (hs0_2 t) (st0_3 t) (hs0_3 t) (st0_4 t) (hs0_4 t)
    (st0_5 t) (hs0_5 t) (st0_6 t) (hs0_6 t) (st0_7 t) (hs0_7 t) (st0_8 t) (hs0_8 t) keep (Memref.isWhole_whole _) total (Memref.isWhole_whole _)
    h h' (iblk m c 2 t) (iblk m c 3 t) (iblk m c 4 t) xn acc

abbrev atLast (c : Dev nD) (t : Fin cfg0.N) (h : ¬isFirst (grid0.coords t)) (h' : isLast (grid0.coords t))
    (xn : Vec F S1024x1024 .bf16) (acc : Vec F S1024x1024 .f32) :=
  runLast (F := F) c (grid0.coords t) (st0_0 t) (hs0_0 t) (st0_1 t) (hs0_1 t) (st0_2 t) (hs0_2 t) (st0_3 t) (hs0_3 t) (st0_4 t) (hs0_4 t)
    (st0_5 t) (hs0_5 t) (st0_6 t) (hs0_6 t) (st0_7 t) (hs0_7 t) (st0_8 t) (hs0_8 t) keep (Memref.isWhole_whole _) total (Memref.isWhole_whole _)
    h h' (iblk m c 0 t) (iblk m c 2 t) (iblk m c 3 t) (iblk m c 4 t) xn acc

/-! ## What the pieces leave -/

/-- One buffer of each shape and width, through which the contents are stated. -/
abbrev viewRow : View sig .tc .vmem S1024x1024 .f32 := total.view
abbrev viewNorm : View sig .tc .vmem S1024x1024 .bf16 := keep.view
abbrev viewHid : View sig .tc .vmem S1x1024x704 .bf16 := (Memref.whole cc0_stg7_0 : Memref sig .tc .vmem S1x1024x704 .bf16).view

/-- What the output, the normed rows' output, the two saved factors, and the two scratches hold. -/
structure State (F : FTy → Type) [FloatOps F] where
  y : Vec F S1024x1024 .f32
  out : Vec F S1024x1024 .bf16
  gate : Vec F S1x1024x704 .bf16
  up : Vec F S1x1024x704 .bf16
  xn : Vec F S1024x1024 .bf16
  acc : Vec F S1024x1024 .f32

section
variable (c : Dev nD) (t : Fin cfg0.N)

def firstOut (h : isFirst (grid0.coords t)) : Vec F S1024x1024 .bf16 :=
  viewNorm.read (Elt F) (viewNorm.writes (Elt F) viewNorm.junk (atFirst m c t h).1)
def firstGate (h : isFirst (grid0.coords t)) : Vec F S1x1024x704 .bf16 :=
  viewHid.read (Elt F) (viewHid.writes (Elt F) viewHid.junk (atFirst m c t h).2.1)
def firstUp (h : isFirst (grid0.coords t)) : Vec F S1x1024x704 .bf16 :=
  viewHid.read (Elt F) (viewHid.writes (Elt F) viewHid.junk (atFirst m c t h).2.2.1)
def firstXn (h : isFirst (grid0.coords t)) : Vec F S1024x1024 .bf16 :=
  viewNorm.read (Elt F) (viewNorm.writes (Elt F) viewNorm.junk (atFirst m c t h).2.2.2.1)
def firstAcc (h : isFirst (grid0.coords t)) : Vec F S1024x1024 .f32 :=
  viewRow.read (Elt F) (viewRow.writes (Elt F) viewRow.junk (atFirst m c t h).2.2.2.2.1)

variable (xn : Vec F S1024x1024 .bf16) (acc : Vec F S1024x1024 .f32)

def middleGate (h : ¬isFirst (grid0.coords t)) (h' : ¬isLast (grid0.coords t)) : Vec F S1x1024x704 .bf16 :=
  viewHid.read (Elt F) (viewHid.writes (Elt F) viewHid.junk (atMiddle m c t h h' xn acc).1)
def middleUp (h : ¬isFirst (grid0.coords t)) (h' : ¬isLast (grid0.coords t)) : Vec F S1x1024x704 .bf16 :=
  viewHid.read (Elt F) (viewHid.writes (Elt F) viewHid.junk (atMiddle m c t h h' xn acc).2.1)
def middleAcc (h : ¬isFirst (grid0.coords t)) (h' : ¬isLast (grid0.coords t)) : Vec F S1024x1024 .f32 :=
  viewRow.read (Elt F) (viewRow.writes (Elt F) viewRow.junk (atMiddle m c t h h' xn acc).2.2.1)

def lastY (h : ¬isFirst (grid0.coords t)) (h' : isLast (grid0.coords t)) : Vec F S1024x1024 .f32 :=
  viewRow.read (Elt F) (viewRow.writes (Elt F) viewRow.junk (atLast m c t h h' xn acc).1)
def lastGate (h : ¬isFirst (grid0.coords t)) (h' : isLast (grid0.coords t)) : Vec F S1x1024x704 .bf16 :=
  viewHid.read (Elt F) (viewHid.writes (Elt F) viewHid.junk (atLast m c t h h' xn acc).2.1)
def lastUp (h : ¬isFirst (grid0.coords t)) (h' : isLast (grid0.coords t)) : Vec F S1x1024x704 .bf16 :=
  viewHid.read (Elt F) (viewHid.writes (Elt F) viewHid.junk (atLast m c t h h' xn acc).2.2.1)
def lastAcc (h : ¬isFirst (grid0.coords t)) (h' : isLast (grid0.coords t)) : Vec F S1024x1024 .f32 :=
  viewRow.read (Elt F) (viewRow.writes (Elt F) viewRow.junk (atLast m c t h h' xn acc).2.2.2.1)

/-! Every list of pieces covers its buffer. -/

theorem cover_firstOut (h : isFirst (grid0.coords t)) (y : S1024x1024.Idx) : ∃ pc ∈ (atFirst m c t h).1, y ∈ pc.1.set :=
  View.cover_of_tiledL (atFirst m c t h).1 S1024x1024.size (by sl_kernel_rfl) y
theorem cover_firstGate (h : isFirst (grid0.coords t)) (y : S1x1024x704.Idx) : ∃ pc ∈ (atFirst m c t h).2.1, y ∈ pc.1.set :=
  View.cover_of_tiledL (atFirst m c t h).2.1 S1x256x704.size (by sl_kernel_rfl) y
theorem cover_firstUp (h : isFirst (grid0.coords t)) (y : S1x1024x704.Idx) : ∃ pc ∈ (atFirst m c t h).2.2.1, y ∈ pc.1.set :=
  View.cover_of_tiledL (atFirst m c t h).2.2.1 S1x256x704.size (by sl_kernel_rfl) y
theorem cover_firstXn (h : isFirst (grid0.coords t)) (y : S1024x1024.Idx) : ∃ pc ∈ (atFirst m c t h).2.2.2.1, y ∈ pc.1.set :=
  View.cover_of_tiledL (atFirst m c t h).2.2.2.1 S1024x1024.size (by sl_kernel_rfl) y
theorem cover_firstAcc (h : isFirst (grid0.coords t)) (y : S1024x1024.Idx) : ∃ pc ∈ (atFirst m c t h).2.2.2.2.1, y ∈ pc.1.set :=
  View.cover_of_tiledL (atFirst m c t h).2.2.2.2.1 S256x1024.size (by sl_kernel_rfl) y

theorem cover_middleGate (h : ¬isFirst (grid0.coords t)) (h' : ¬isLast (grid0.coords t)) (y : S1x1024x704.Idx) :
    ∃ pc ∈ (atMiddle m c t h h' xn acc).1, y ∈ pc.1.set :=
  View.cover_of_tiledL (atMiddle m c t h h' xn acc).1 S1x256x704.size (by sl_kernel_rfl) y
theorem cover_middleUp (h : ¬isFirst (grid0.coords t)) (h' : ¬isLast (grid0.coords t)) (y : S1x1024x704.Idx) :
    ∃ pc ∈ (atMiddle m c t h h' xn acc).2.1, y ∈ pc.1.set :=
  View.cover_of_tiledL (atMiddle m c t h h' xn acc).2.1 S1x256x704.size (by sl_kernel_rfl) y
theorem cover_middleAcc (h : ¬isFirst (grid0.coords t)) (h' : ¬isLast (grid0.coords t)) (y : S1024x1024.Idx) :
    ∃ pc ∈ (atMiddle m c t h h' xn acc).2.2.1, y ∈ pc.1.set :=
  View.cover_of_tiledL (atMiddle m c t h h' xn acc).2.2.1 S256x1024.size (by sl_kernel_rfl) y

theorem cover_lastY (h : ¬isFirst (grid0.coords t)) (h' : isLast (grid0.coords t)) (y : S1024x1024.Idx) :
    ∃ pc ∈ (atLast m c t h h' xn acc).1, y ∈ pc.1.set :=
  View.cover_of_tiledL (atLast m c t h h' xn acc).1 S1024x1024.size (by sl_kernel_rfl) y
theorem cover_lastGate (h : ¬isFirst (grid0.coords t)) (h' : isLast (grid0.coords t)) (y : S1x1024x704.Idx) :
    ∃ pc ∈ (atLast m c t h h' xn acc).2.1, y ∈ pc.1.set :=
  View.cover_of_tiledL (atLast m c t h h' xn acc).2.1 S1x256x704.size (by sl_kernel_rfl) y
theorem cover_lastUp (h : ¬isFirst (grid0.coords t)) (h' : isLast (grid0.coords t)) (y : S1x1024x704.Idx) :
    ∃ pc ∈ (atLast m c t h h' xn acc).2.2.1, y ∈ pc.1.set :=
  View.cover_of_tiledL (atLast m c t h h' xn acc).2.2.1 S1x256x704.size (by sl_kernel_rfl) y
theorem cover_lastAcc (h : ¬isFirst (grid0.coords t)) (h' : isLast (grid0.coords t)) (y : S1024x1024.Idx) :
    ∃ pc ∈ (atLast m c t h h' xn acc).2.2.2.1, y ∈ pc.1.set :=
  View.cover_of_tiledL (atLast m c t h h' xn acc).2.2.2.1 S256x1024.size (by sl_kernel_rfl) y

/-- What the buffers hold after a point, from what they held before it. -/
def step (s : State F) : State F :=
  if h : isFirst (grid0.coords t) then
    ⟨s.y, firstOut m c t h, firstGate m c t h, firstUp m c t h, firstXn m c t h, firstAcc m c t h⟩
  else if h' : isLast (grid0.coords t) then
    ⟨lastY m c t s.xn s.acc h h', s.out, lastGate m c t s.xn s.acc h h', lastUp m c t s.xn s.acc h h', s.xn, lastAcc m c t s.xn s.acc h h'⟩
  else
    ⟨s.y, s.out, middleGate m c t s.xn s.acc h h', middleUp m c t s.xn s.acc h h', s.xn, middleAcc m c t s.xn s.acc h h'⟩

end

/-- Contents nothing is said of. -/
def blank : State F :=
  ⟨viewRow.read (Elt F) viewRow.junk, viewNorm.read (Elt F) viewNorm.junk, viewHid.read (Elt F) viewHid.junk,
    viewHid.read (Elt F) viewHid.junk, viewNorm.read (Elt F) viewNorm.junk, viewRow.read (Elt F) viewRow.junk⟩

/-- What the buffers hold after point `n`. -/
def state (c : Dev nD) : (n : ℕ) → n < cfg0.N → State F
  | 0, hn => step m c ⟨0, hn⟩ blank
  | n + 1, hn => step m c ⟨n + 1, hn⟩ (state c n (Nat.lt_of_succ_lt hn))

/-- What the buffers hold when point `t` starts, if it is not the first point. -/
abbrev prior (c : Dev nD) (t : Fin cfg0.N) : State F := state m c (t.val - 1) (Nat.lt_of_le_of_lt (Nat.sub_le _ _) t.isLt)

theorem state_of_pos (c : Dev nD) (t : Fin cfg0.N) (h : t.val ≠ 0) : state m c t.val t.isLt = step m c t (prior m c t) := by
  obtain ⟨n, hn⟩ := t
  cases n with
  | zero => exact absurd rfl h
  | succ n => rfl

theorem pos_of_not_first {t : Fin cfg0.N} (h : ¬isFirst (grid0.coords t)) : t.val ≠ 0 := fun h0 =>
  h ((isFirst_iff t).mpr (by rw [h0]))

theorem state_middle (c : Dev nD) (t : Fin cfg0.N) (h : ¬isFirst (grid0.coords t)) (h' : ¬isLast (grid0.coords t)) :
    state m c t.val t.isLt = ⟨(prior m c t).y, (prior m c t).out, middleGate m c t (prior m c t).xn (prior m c t).acc h h',
      middleUp m c t (prior m c t).xn (prior m c t).acc h h', (prior m c t).xn, middleAcc m c t (prior m c t).xn (prior m c t).acc h h'⟩ := by
  rw [state_of_pos m c t (pos_of_not_first h)]
  exact (dif_neg h).trans (dif_neg h')

theorem state_last (c : Dev nD) (t : Fin cfg0.N) (h : ¬isFirst (grid0.coords t)) (h' : isLast (grid0.coords t)) :
    state m c t.val t.isLt = ⟨lastY m c t (prior m c t).xn (prior m c t).acc h h', (prior m c t).out,
      lastGate m c t (prior m c t).xn (prior m c t).acc h h', lastUp m c t (prior m c t).xn (prior m c t).acc h h', (prior m c t).xn,
      lastAcc m c t (prior m c t).xn (prior m c t).acc h h'⟩ := by
  rw [state_of_pos m c t (pos_of_not_first h)]
  exact (dif_neg h).trans (dif_pos h')

theorem state_first (c : Dev nD) (t : Fin cfg0.N) (h : isFirst (grid0.coords t)) :
    ∃ y, state m c t.val t.isLt = ⟨y, firstOut m c t h, firstGate m c t h, firstUp m c t h, firstXn m c t h, firstAcc m c t h⟩ := by
  obtain ⟨n, hn⟩ := t
  cases n with
  | zero => exact ⟨_, dif_pos h⟩
  | succ n => exact ⟨_, dif_pos h⟩

theorem out_stays (c : Dev nD) (t : Fin cfg0.N) (h : ¬isFirst (grid0.coords t)) :
    (state m c t.val t.isLt).out = (prior m c t).out := by
  by_cases h' : isLast (grid0.coords t)
  · rw [state_last m c t h h']
  · rw [state_middle m c t h h']

/-! The state's parts after each sort of point. -/

theorem xn_first (c : Dev nD) (t : Fin cfg0.N) (h : isFirst (grid0.coords t)) : (state m c t.val t.isLt).xn = firstXn m c t h := by
  obtain ⟨y, e⟩ := state_first m c t h
  rw [e]
theorem out_first (c : Dev nD) (t : Fin cfg0.N) (h : isFirst (grid0.coords t)) : (state m c t.val t.isLt).out = firstOut m c t h := by
  obtain ⟨y, e⟩ := state_first m c t h
  rw [e]
theorem gate_first (c : Dev nD) (t : Fin cfg0.N) (h : isFirst (grid0.coords t)) : (state m c t.val t.isLt).gate = firstGate m c t h := by
  obtain ⟨y, e⟩ := state_first m c t h
  rw [e]
theorem up_first (c : Dev nD) (t : Fin cfg0.N) (h : isFirst (grid0.coords t)) : (state m c t.val t.isLt).up = firstUp m c t h := by
  obtain ⟨y, e⟩ := state_first m c t h
  rw [e]
theorem acc_first (c : Dev nD) (t : Fin cfg0.N) (h : isFirst (grid0.coords t)) : (state m c t.val t.isLt).acc = firstAcc m c t h := by
  obtain ⟨y, e⟩ := state_first m c t h
  rw [e]

theorem xn_stays (c : Dev nD) (t : Fin cfg0.N) (h : ¬isFirst (grid0.coords t)) : (state m c t.val t.isLt).xn = (prior m c t).xn := by
  by_cases h' : isLast (grid0.coords t)
  · rw [state_last m c t h h']
  · rw [state_middle m c t h h']

section
variable (c : Dev nD) (t : Fin cfg0.N) (h : ¬isFirst (grid0.coords t))

theorem gate_middle (h' : ¬isLast (grid0.coords t)) :
    (state m c t.val t.isLt).gate = middleGate m c t (prior m c t).xn (prior m c t).acc h h' := by rw [state_middle m c t h h']
theorem up_middle (h' : ¬isLast (grid0.coords t)) :
    (state m c t.val t.isLt).up = middleUp m c t (prior m c t).xn (prior m c t).acc h h' := by rw [state_middle m c t h h']
theorem acc_middle (h' : ¬isLast (grid0.coords t)) :
    (state m c t.val t.isLt).acc = middleAcc m c t (prior m c t).xn (prior m c t).acc h h' := by rw [state_middle m c t h h']
theorem gate_last (h' : isLast (grid0.coords t)) :
    (state m c t.val t.isLt).gate = lastGate m c t (prior m c t).xn (prior m c t).acc h h' := by rw [state_last m c t h h']
theorem up_last (h' : isLast (grid0.coords t)) :
    (state m c t.val t.isLt).up = lastUp m c t (prior m c t).xn (prior m c t).acc h h' := by rw [state_last m c t h h']
theorem acc_last (h' : isLast (grid0.coords t)) :
    (state m c t.val t.isLt).acc = lastAcc m c t (prior m c t).xn (prior m c t).acc h h' := by rw [state_last m c t h h']
theorem y_last (h' : isLast (grid0.coords t)) :
    (state m c t.val t.isLt).y = lastY m c t (prior m c t).xn (prior m c t).acc h h' := by rw [state_last m c t h h']
end

seal state

/-! ## The proof data -/

/-- Before the first point the scratches hold anything, afterwards what the point before left. -/
def Phi (c : Dev nD) : (n : ℕ) → n ≤ cfg0.N → sProp 𝕄
  | 0, _ => Pipeline.ΦA spec0 c
  | n + 1, hn => iprop(iprop(owns (c : Thread nD τ) keep fullShare (state m c n hn).xn ∗ owns (c : Thread nD τ) total fullShare (state m c n hn).acc)
      ∗ (∃ r, prngReg c r))

theorem Phi_pos (c : Dev nD) (n : ℕ) (h : n ≤ cfg0.N) (hz : n ≠ 0) :
    Phi m c n h = iprop(iprop(owns (c : Thread nD τ) keep fullShare (state m c (n - 1) (by omega)).xn
      ∗ owns (c : Thread nD τ) total fullShare (state m c (n - 1) (by omega)).acc) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) keep fullShare d) ∗ (∃ d, owns (c : Thread nD τ) total fullShare d)) ∗ (∃ r, prngReg c r)) := by
  unfold Pipeline.ΦA; rw [scopedRest0_eq]; simp only [keep, total, owns_whole]; try rfl

/-- Each input's buffer stays at its block; the outputs' are at the state; the normed rows stay in their output's buffer until the
    block is written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (state m c t.val t.isLt).y
    | ⟨6, _⟩ => (state m c t.val t.isLt).out
    | ⟨7, _⟩ => (state m c t.val t.isLt).gate
    | ⟨8, _⟩ => (state m c t.val t.isLt).up
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (state m c t.val t.isLt).y := by dsimp only [dats]
theorem after_6 (c : Dev nD) (t : Fin cfg0.N) : (dats m 0 c).after 6 t = (state m c t.val t.isLt).out := by dsimp only [dats]
theorem after_7 (c : Dev nD) (t : Fin cfg0.N) : (dats m 0 c).after 7 t = (state m c t.val t.isLt).gate := by dsimp only [dats]
theorem after_8 (c : Dev nD) (t : Fin cfg0.N) : (dats m 0 c).after 8 t = (state m c t.val t.isLt).up := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## Where the outputs are idle -/

theorem idle_5 : ∀ t : Fin cfg0.N, ¬isLast (grid0.coords t) → cfg0.idle 5 (grid0.coords t) = true :=
  (by decide +kernel : ∀ t : Fin grid0.N, ¬isLast (grid0.coords t) → idle0 5 (grid0.coords t) = true)
theorem live_5 : ∀ t : Fin cfg0.N, isLast (grid0.coords t) → cfg0.idle 5 (grid0.coords t) = false :=
  (by decide +kernel : ∀ t : Fin grid0.N, isLast (grid0.coords t) → idle0 5 (grid0.coords t) = false)
theorem idle_6 : ∀ t : Fin cfg0.N, ¬isFirst (grid0.coords t) → cfg0.idle 6 (grid0.coords t) = true :=
  (by decide +kernel : ∀ t : Fin grid0.N, ¬isFirst (grid0.coords t) → idle0 6 (grid0.coords t) = true)
theorem live_6 : ∀ t : Fin cfg0.N, isFirst (grid0.coords t) → cfg0.idle 6 (grid0.coords t) = false :=
  (by decide +kernel : ∀ t : Fin grid0.N, isFirst (grid0.coords t) → idle0 6 (grid0.coords t) = false)
theorem stay_5 (t : Fin cfg0.N) (h : ¬isLast (grid0.coords t)) : (cfg0.win 5).flush t = false :=
  Bool.eq_false_iff.mpr fun hf => h ((isLast_iff t).mpr ((flush0_5 t).mp hf))
theorem stay_6 (t : Fin cfg0.N) (h : ¬isLast (grid0.coords t)) : (cfg0.win 6).flush t = false :=
  Bool.eq_false_iff.mpr fun hf => h ((isLast_iff t).mpr ((flush0_6 t).mp hf))
theorem goes_6 (t : Fin cfg0.N) (h : isLast (grid0.coords t)) : (cfg0.win 6).flush t = true :=
  (flush0_6 t).mpr ((isLast_iff t).mp h)

/-- The normed rows the first point of a block wrote are still in their buffer at the others. -/
theorem before_6 (c : Dev nD) (n : ℕ) : ∀ (hn : n < cfg0.N), ¬isFirst (grid0.coords ⟨n, hn⟩) → ∀ d,
    (dats m 0 c).before 6 ⟨n, hn⟩ d = (state m c n hn).out := by
  induction n with
  | zero => exact fun hn h => absurd ((isFirst_iff ⟨0, hn⟩).mpr rfl) h
  | succ n ih =>
    intro hn h d
    have hn' : n < cfg0.N := Nat.lt_of_succ_lt hn
    have hl : ¬isLast (grid0.coords ⟨n, hn'⟩) := fun hl => h ((isFirst_iff _).mpr (by
      have := (isLast_iff _).mp hl; dsimp only at this ⊢; omega))
    rw [out_stays m c ⟨n + 1, hn⟩ h, (dats m 0 c).before_of_pos 6 ⟨n + 1, hn⟩ (Nat.succ_ne_zero n) rfl d]
    rw [stay_6 ⟨n + 1 - 1, Nat.lt_of_le_of_lt (Nat.sub_le _ _) hn⟩ hl, if_neg Bool.false_ne_true]
    unfold Dat.left
    by_cases h1 : isFirst (grid0.coords ⟨n, hn'⟩)
    · rw [live_6 ⟨n + 1 - 1, Nat.lt_of_le_of_lt (Nat.sub_le _ _) hn⟩ h1]
      show (dats m 0 c).kept 6 ⟨n, hn'⟩ d = _
      unfold Dat.kept
      rw [Pipeline.fill_of_clip_none 6 _ (fun _ => rfl) d ((dats m 0 c).after 6 _), Window.fill_cut]
      exact after_6 m c ⟨n, hn'⟩
    · rw [idle_6 ⟨n + 1 - 1, Nat.lt_of_le_of_lt (Nat.sub_le _ _) hn⟩ h1]
      exact ih hn' h1 d

/-! ## The obligation at a point -/

/-- Pieces that cover a buffer leave it at what they leave in any other. -/
theorem held_of_wrote (c : Dev nD) {S : Shape} {e : EltTy} (a : Memref sig .tc .vmem S e) (v : View sig .tc .vmem S e) (L : Pieces F S e)
    (h : ∀ y, ∃ pc ∈ L, y ∈ pc.1.set) :
    (wrote c a L : sProp 𝕄) ⊢ owns (c : Thread nD τ) a fullShare (v.read (Elt F) (v.writes (Elt F) v.junk L)) := by
  unfold wrote owns
  iintro ⟨%f, H⟩
  iexists _; isplitr
  swap; · iexact H
  ipureintro; exact View.read_writes_of_cover _ _ _ _ _ h

/-- The invariant at any point, the scratches' contents forgotten. -/
theorem Phi_some (c : Dev nD) (n : ℕ) (h : n ≤ cfg0.N) :
    Phi m c n h ⊢ iprop(iprop(some_ (F := F) c keep ∗ some_ (F := F) c total) ∗ (∃ r, prngReg c r)) := by
  by_cases hz : n = 0
  · subst hz
    show Pipeline.ΦA spec0 c ⊢ _
    rw [PhiA_eq]
    try exact Idealize.SL.BI.Entails.refl _
  · rw [Phi_pos m c n h hz]
    iintro ⟨⟨H0, H1⟩, Hg⟩
    isplitl [H0 H1]
    · isplitl [H0]
      · iexists _; iexact H0
      iexists _; iexact H1
    iexact Hg

theorem Phi_succ (c : Dev nD) (t : Fin cfg0.N) : (dats m 0 c).Φ t.succ
    = iprop(iprop(owns (c : Thread nD τ) keep fullShare (state m c t.val t.isLt).xn
        ∗ owns (c : Thread nD τ) total fullShare (state m c t.val t.isLt).acc) ∗ (∃ r, prngReg c r)) := rfl

/-- A window the body writes at the point, or only reads, is left at its contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window the body leaves alone at a point that writes it back must hold what is written back. -/
theorem leaves_goes (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 3200000 in
theorem body_first (c : Dev nD) (t : Fin cfg0.N) (h : isFirst (grid0.coords t)) :
    bodyPre m c t ⊢ wp frame (wpE (defs₀ (F := F)) Variants.none c none) Set.univ (bodyAt0 t) (fun _ => bodyPost m c t) := by
  obtain ⟨y, hy⟩ := state_first m c t h
  unfold bodyPre bodyPost bodyAt0
  simp only [before_0, before_1, before_2, before_3, before_4]
  rw [show (dats m 0 c).owesAt () t.succ = (dats m 0 c).owesAt () t.castSucc from rfl, Phi_succ, Phi_castSucc]
  rw [leaves_live m c 0 t rfl, leaves_live m c 1 t rfl, leaves_live m c 2 t rfl, leaves_live m c 3 t rfl, leaves_live m c 4 t rfl,
    Dat.leavesExact_idle (dats m 0 c) 5 t (idle_5 t (not_last h)) (stay_5 t (not_last h)), leaves_live m c 6 t (live_6 t h),
    leaves_live m c 7 t rfl, leaves_live m c 8 t rfl]
  rw [after_0, after_1, after_2, after_3, after_4, after_6, after_7, after_8, hy]
  dsimp only
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HQ := (Phi_some m c t.val (Nat.le_of_lt t.isLt)) $$ HP
  icases HQ with ⟨⟨HS0, HS1⟩, Hg⟩
  iapply ((atFirst m c t h).2.2.2.2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H6, H7, H8, HS0, HS1⟩
  isplitl [HS0 HS1 Hg]
  · isplitl [HS0 HS1]
    · isplitl [HS0]
      · iapply (held_of_wrote c keep viewNorm _ (cover_firstXn m c t h)) $$ HS0
      iapply (held_of_wrote c total viewRow _ (cover_firstAcc m c t h)) $$ HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iapply (held_of_wrote c (st0_6 t) viewNorm _ (cover_firstOut m c t h)) $$ H6
  isplitl [H7]; · iapply (held_of_wrote c (st0_7 t) viewHid _ (cover_firstGate m c t h)) $$ H7
  iapply (held_of_wrote c (st0_8 t) viewHid _ (cover_firstUp m c t h)) $$ H8

set_option maxHeartbeats 3200000 in
theorem body_middle (c : Dev nD) (t : Fin cfg0.N) (h : ¬isFirst (grid0.coords t)) (h' : ¬isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, Phi_succ, Phi_castSucc,
    Phi_pos m c t.val _ (pos_of_not_first h)]
  rw [leaves_live m c 0 t rfl, leaves_live m c 1 t rfl, leaves_live m c 2 t rfl, leaves_live m c 3 t rfl, leaves_live m c 4 t rfl,
    Dat.leavesExact_idle (dats m 0 c) 5 t (idle_5 t h') (stay_5 t h'), Dat.leavesExact_idle (dats m 0 c) 6 t (idle_6 t h) (stay_6 t h'),
    leaves_live m c 7 t rfl, leaves_live m c 8 t rfl]
  rw [after_0, after_1, after_2, after_3, after_4, after_7, after_8, state_middle m c t h h']
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atMiddle m c t h h' (prior m c t).xn (prior m c t).acc).2.2.2 Set.univ _)
  isplitl [H2]; · iexact H2
  isplitl [H3]; · iexact H3
  isplitl [H4]; · iexact H4
  isplitl [H7]; · iexists _; iexact H7
  isplitl [H8]; · iexists _; iexact H8
  isplitl [HS0]; · iexact HS0
  isplitl [HS1]; · iexact HS1
  iintro ⟨H2, H3, H4, H7, H8, HS0, HS1⟩
  isplitl [HS0 HS1 Hg]
  · isplitl [HS0 HS1]
    · isplitl [HS0]
      · iexact HS0
      iapply (held_of_wrote c total viewRow _ (cover_middleAcc m c t _ _ h h')) $$ HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply (held_of_wrote c (st0_7 t) viewHid _ (cover_middleGate m c t _ _ h h')) $$ H7
  iapply (held_of_wrote c (st0_8 t) viewHid _ (cover_middleUp m c t _ _ h h')) $$ H8

set_option maxHeartbeats 3200000 in
theorem body_last (c : Dev nD) (t : Fin cfg0.N) (h : ¬isFirst (grid0.coords t)) (h' : isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_6 m c t.val t.isLt h]
  rw [show (dats m 0 c).owesAt () t.succ = (dats m 0 c).owesAt () t.castSucc from rfl, Phi_succ, Phi_castSucc,
    Phi_pos m c t.val _ (pos_of_not_first h)]
  rw [leaves_live m c 0 t rfl, leaves_live m c 1 t rfl, leaves_live m c 2 t rfl, leaves_live m c 3 t rfl, leaves_live m c 4 t rfl,
    leaves_live m c 5 t (live_5 t h'), leaves_goes m c 6 t (goes_6 t h'), leaves_live m c 7 t rfl, leaves_live m c 8 t rfl]
  rw [after_0, after_1, after_2, after_3, after_4, after_5, after_6, after_7, after_8, state_last m c t h h']
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atLast m c t h h' (prior m c t).xn (prior m c t).acc).2.2.2.2 Set.univ _)
  isplitl [H0]; · iexact H0
  isplitl [H2]; · iexact H2
  isplitl [H3]; · iexact H3
  isplitl [H4]; · iexact H4
  isplitl [H5]; · iexists _; iexact H5
  isplitl [H7]; · iexists _; iexact H7
  isplitl [H8]; · iexists _; iexact H8
  isplitl [HS0]; · iexact HS0
  isplitl [HS1]; · iexact HS1
  iintro ⟨H0, H2, H3, H4, H5, H7, H8, HS0, HS1⟩
  isplitl [HS0 HS1 Hg]
  · isplitl [HS0 HS1]
    · isplitl [HS0]
      · iexact HS0
      iapply (held_of_wrote c total viewRow _ (cover_lastAcc m c t _ _ h h')) $$ HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (held_of_wrote c (st0_5 t) viewRow _ (cover_lastY m c t _ _ h h')) $$ H5
  isplitl [H6]; · iexact H6
  isplitl [H7]; · iapply (held_of_wrote c (st0_7 t) viewHid _ (cover_lastGate m c t _ _ h h')) $$ H7
  iapply (held_of_wrote c (st0_8 t) viewHid _ (cover_lastUp m c t _ _ h h')) $$ H8

theorem sound_body (c : Dev nD) (t : Fin cfg0.N) :
    bodyPre m c t ⊢ wp frame (wpE (defs₀ (F := F)) Variants.none c none) Set.univ (bodyAt0 t) (fun _ => bodyPost m c t) := by
  by_cases h : isFirst (grid0.coords t)
  · exact body_first m c t h
  by_cases h' : isLast (grid0.coords t)
  · exact body_last m c t h h'
  · exact body_middle m c t h h'

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [PhiA_eq]
  exact Phi_some m c _ (Nat.le_of_lt_succ (Fin.last cfg0.N).isLt)

/-! ## The launch -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnFwdIdeal.Hand

end
-- ==== Proof.FfnFwd.lean ====
module

public import proofs.«01_k».proof.Defs
public import proofs.«01_k».proof.Proof.Gen.FfnFwd.Frame
public import proofs.«01_k».proof.Proof.Gen.FfnFwdRefIdeal.Read
public import proofs.«01_k».proof.Proof.Gen.FfnFwdRefIdeal.Run
public import proofs.«01_k».proof.Proof.FfnFrame
public import proofs.«01_k».proof.Proof.Index
public import proofs.«01_k».proof.Proof.Rows
public import Idealize.ShloMosaic.Lib.Quiescent
public import Idealize.ShloMosaic.Lib.Pipeline.ValueKit
public import Idealize.ShloMosaic.Lib.Pipeline.ReadBack

@[expose] public section

set_option maxRecDepth 16384

/-! # The feed-forward layer

The first product's two factors, block by block of their columns, and the sum over the blocks of the second product: the values the
kernel leaves, and the reference's. -/

noncomputable section

namespace Cert.FfnFwdIdeal.Block

open Cert.FfnFwdIdeal Cert.FfnFwdIdeal.Gen Cert.FfnFwdIdeal.Hand Cert.Index Cert.Rows Idealize.ShloMosaic Idealize.ShloMosaic.TcCoe Idealize.SL.Sem
open Cert.FfnFwdRefIdeal.Read

/-! ## What a point computes -/

section
variable (m : (ℓ : Loc nD τ sig) → Buf (Elt Ideal) ℓ)

variable (x : FVec Ideal S1024x1024 .f32) (g : FVec Ideal S1x1024 .f32) (xn : FVec Ideal S1024x1024 .bf16) (wg wu : FVec Ideal S1x1024x704 .bf16)
  (wo : FVec Ideal S2x352x1024 .bf16) (acc : FVec Ideal S1024x1024 .f32)

theorem pay_norm : k0_pay3 (F := Ideal) x g = normed x g := by
  funext j
  pointwise [k0_pay3, normed, scale]

theorem pay_keep : k0_pay4 (F := Ideal) x g = normed x g := by
  funext j
  pointwise [k0_pay4, pay_norm]

theorem pay_zero (j) : k0_pay5 (F := Ideal) j = 0 := by
  pointwise [k0_pay5]

/-- The product of the normed rows with one block of a weight's columns. -/
def prod (w : FVec Ideal S1x1024x704 .bf16) : FVec Ideal S1x1024x704 .bf16 := fun y => ∑ k, xn (ix2 (y 1) k) * w (ix3 0 k (y 2))

/-- The hidden rows. -/
def hid (r : Fin 1024) (l : Fin 704) : EReal := prod xn wg (ix3 0 r l) * sigm (prod xn wg (ix3 0 r l)) * prod xn wu (ix3 0 r l)

/-- What a point adds to the running sum. -/
def added (j : S1024x1024.Idx) : EReal :=
  ∑ l : Fin 704, hid xn wg wu (j 0) l * wo (ix3 ⟨l.val / 352, by omega⟩ ⟨l.val % 352, by omega⟩ (j 1))

/-! The four parts of a block's rows. -/

abbrev R0 : Rect S1024x1024 := Rect.unit ![0, 0] ![256, 1024] inb_S1024x1024_S256x1024_0_0
abbrev R256 : Rect S1024x1024 := Rect.unit ![256, 0] ![256, 1024] inb_S1024x1024_S256x1024_256_0
abbrev R512 : Rect S1024x1024 := Rect.unit ![512, 0] ![256, 1024] inb_S1024x1024_S256x1024_512_0
abbrev R768 : Rect S1024x1024 := Rect.unit ![768, 0] ![256, 1024] inb_S1024x1024_S256x1024_768_0

theorem emb3 (o : Nat) (inb) (x : (Rect.unit (s := S1x1024x704) ![0, o, 0] ![1, 256, 704] inb).shape.Idx) (h : o + (x 1).val < 1024) :
    (Rect.unit (s := S1x1024x704) ![0, o, 0] ![1, 256, 704] inb).emb x = ix3 0 ⟨o + (x 1).val, h⟩ (x 2) :=
  ext3 (by show 0 + 1 * (x 0).val = 0; have : (x 0).val < 1 := (x 0).isLt; omega) (by show o + 1 * (x 1).val = o + (x 1).val; omega)
    (by show 0 + 1 * (x 2).val = (x 2).val; omega)

theorem emb2 (o : Nat) (inb) (x : (Rect.unit (s := S1024x1024) ![o, 0] ![256, 1024] inb).shape.Idx) (h : o + (x 0).val < 1024) :
    (Rect.unit (s := S1024x1024) ![o, 0] ![256, 1024] inb).emb x = ix2 ⟨o + (x 0).val, h⟩ (x 1) :=
  ext2 (by show o + 1 * (x 0).val = o + (x 0).val; omega) (by show 0 + 1 * (x 1).val = (x 1).val; omega)

theorem lt_of_part (o : Nat) (ho : o + 256 ≤ 1024) (a : Fin 256) : o + a.val < 1024 := by omega

/-- The stores of the gate's rows, and of the other factor's. -/
abbrev gateL (w : FVec Ideal S1x1024x704 .bf16) : Pieces Ideal S1x1024x704 .bf16 :=
  [⟨Rect.unit ![0, 768, 0] ![1, 256, 704] inb_S1x1024x704_S1x256x704_0_768_0,
      k0_pay27 (F := Ideal) (View.ld (Val := Elt Ideal) (e' := .bf16) xn R768) w⟩,
    ⟨Rect.unit ![0, 512, 0] ![1, 256, 704] inb_S1x1024x704_S1x256x704_0_512_0,
      k0_pay21 (F := Ideal) (View.ld (Val := Elt Ideal) (e' := .bf16) xn R512) w⟩,
    ⟨Rect.unit ![0, 256, 0] ![1, 256, 704] inb_S1x1024x704_S1x256x704_0_256_0,
      k0_pay15 (F := Ideal) (View.ld (Val := Elt Ideal) (e' := .bf16) xn R256) w⟩,
    ⟨Rect.unit ![0, 0, 0] ![1, 256, 704] inb_S1x1024x704_S1x256x704_0_0_0,
      k0_pay9 (F := Ideal) (View.ld (Val := Elt Ideal) (e' := .bf16) xn R0) w⟩]

theorem gate_canon (w : FVec Ideal S1x1024x704 .bf16) : View.canon (gateL xn w) = prod xn w := by
  funext y
  refine View.canon_apply_of_pieces _ _ (View.PiecesOf.mem ?_) y
    (View.cover_of_tiledL (gateL xn w) S1x256x704.size (by sl_kernel_rfl) y)
  refine And.intro ?_ (And.intro ?_ (And.intro ?_ (And.intro ?_ trivial)))
  · intro x
    dsimp only
    rw [emb3 768 _ x (lt_of_part 768 (by decide) (x 1))]
    pointwise [k0_pay27, k0_pay25, prod]
  · intro x
    dsimp only
    rw [emb3 512 _ x (lt_of_part 512 (by decide) (x 1))]
    pointwise [k0_pay21, k0_pay19, prod]
  · intro x
    dsimp only
    rw [emb3 256 _ x (lt_of_part 256 (by decide) (x 1))]
    pointwise [k0_pay15, k0_pay13, prod]
  · intro x
    dsimp only
    rw [emb3 0 _ x (lt_of_part 0 (by decide) (x 1))]
    pointwise [k0_pay9, k0_pay7, prod]

/-- The stores of the running sum. -/
abbrev accL : Pieces Ideal S1024x1024 .f32 :=
  [⟨Rect.unit ![768, 0] ![256, 1024] inb_S1024x1024_S256x1024_768_0,
      k0_pay1 (F := Ideal) (k0_pay29 (k0_pay6 (F := Ideal) wo) (View.ld (Val := Elt Ideal) (e' := .bf16) xn R768) wg wu
        (View.ld (Val := Elt Ideal) (e' := .f32) acc R768))⟩,
    ⟨Rect.unit ![512, 0] ![256, 1024] inb_S1024x1024_S256x1024_512_0,
      k0_pay24 (F := Ideal) (View.ld (Val := Elt Ideal) (e' := .f32) acc R512)
        (k0_pay23 (F := Ideal) (k0_pay6 wo) (View.ld (Val := Elt Ideal) (e' := .bf16) xn R512) wg wu)⟩,
    ⟨Rect.unit ![256, 0] ![256, 1024] inb_S1024x1024_S256x1024_256_0,
      k0_pay18 (F := Ideal) (k0_pay6 wo) (View.ld (Val := Elt Ideal) (e' := .f32) acc R256)
        (k0_pay17 (F := Ideal) (View.ld (Val := Elt Ideal) (e' := .bf16) xn R256) wg wu)⟩,
    ⟨Rect.unit ![0, 0] ![256, 1024] inb_S1024x1024_S256x1024_0_0,
      k0_pay12 (F := Ideal) (k0_pay6 wo) (k0_pay11 (F := Ideal) (View.ld (Val := Elt Ideal) (e' := .bf16) xn R0) wg wu)
        (View.ld (Val := Elt Ideal) (e' := .f32) acc R0)⟩]

theorem acc_canon (L : Pieces Ideal S1024x1024 .f32) (y : S1024x1024.Idx) :
    View.canon (accL xn wg wu wo acc ++ L) y = acc y + added xn wg wu wo y := by
  refine View.canon_append_of_piecesOf (fun y => acc y + added xn wg wu wo y) L _ ?_ y
    (View.cover_of_tiledL (accL xn wg wu wo acc) S256x1024.size (by sl_kernel_rfl) y)
  refine And.intro ?_ (And.intro ?_ (And.intro ?_ (And.intro ?_ trivial)))
  · intro x
    dsimp only
    rw [emb2 768 _ x (lt_of_part 768 (by decide) (x 0))]
    pointwise [k0_pay1, k0_pay29, k0_pay25, k0_pay26, k0_pay6, added, hid, prod, sigm]
    simp only [zero_sub]
  · intro x
    dsimp only
    rw [emb2 512 _ x (lt_of_part 512 (by decide) (x 0))]
    pointwise [k0_pay24, k0_pay23, k0_pay19, k0_pay20, k0_pay6, added, hid, prod, sigm]
    simp only [zero_sub]
  · intro x
    dsimp only
    rw [emb2 256 _ x (lt_of_part 256 (by decide) (x 0))]
    pointwise [k0_pay18, k0_pay17, k0_pay13, k0_pay14, k0_pay6, added, hid, prod, sigm]
    simp only [zero_sub]
  · intro x
    dsimp only
    rw [emb2 0 _ x (lt_of_part 0 (by decide) (x 0))]
    pointwise [k0_pay12, k0_pay11, k0_pay7, k0_pay8, k0_pay6, added, hid, prod, sigm]
    simp only [zero_sub]

/-- A load of the whole running sum. -/
theorem readCov_all (L : Pieces Ideal S1024x1024 .f32) (y : S1024x1024.Idx) :
    (View.whole cc0_scratch1).readCov (Val := Elt Ideal) L
      (Rect.unit (s := S1024x1024) ![0, 0] ![1024, 1024] inb_S1024x1024_S1024x1024_0_0).toLoadRect y = View.canon L y := by
  rw [View.readCov_eq_canon']
  exact congrArg (View.canon L) (ext2 (by show 0 + 1 * (y 0).val = _; omega) (by show 0 + 1 * (y 1).val = _; omega))

/-! ## A grid point -/

variable (c : Dev nD) (t : Fin cfg0.N)

/-- The normed rows of the point's block. -/
abbrev nrm : FVec Ideal S1024x1024 .bf16 := normed (iblk m c 0 t) (iblk m c 1 t)

theorem first_out (h) : firstOut m c t h = nrm m c t := by
  unfold firstOut atFirst; frame_out; exact pay_norm _ _
theorem first_xn (h) : firstXn m c t h = nrm m c t := by
  unfold firstXn atFirst; frame_out; exact pay_keep _ _
theorem first_gate (h) : firstGate m c t h = prod (nrm m c t) (iblk m c 2 t) := by
  unfold firstGate atFirst; frame_out
  simp (disch := decide) only [View.readCov_fill, pay_keep]
  exact gate_canon _ _
theorem first_up (h) : firstUp m c t h = prod (nrm m c t) (iblk m c 3 t) := by
  unfold firstUp atFirst; frame_out
  simp (disch := decide) only [View.readCov_fill, pay_keep]
  exact gate_canon _ _
theorem first_acc (h) (y) : firstAcc m c t h y = 0 + added (nrm m c t) (iblk m c 2 t) (iblk m c 3 t) (iblk m c 4 t) y := by
  unfold firstAcc atFirst; frame_out
  simp (disch := decide) only [↓ View.readCov_skip, View.readCov_fill, pay_keep]
  rw [← pay_zero y]
  exact acc_canon _ _ _ _ _ [_] y

theorem middle_gate (h h') : middleGate m c t xn acc h h' = prod xn (iblk m c 2 t) := by
  unfold middleGate atMiddle; frame_out
  simp only [read_unread_whole]
  exact gate_canon _ _
theorem middle_up (h h') : middleUp m c t xn acc h h' = prod xn (iblk m c 3 t) := by
  unfold middleUp atMiddle; frame_out
  simp only [read_unread_whole]
  exact gate_canon _ _
theorem middle_acc (h h') (y) : middleAcc m c t xn acc h h' y = acc y + added xn (iblk m c 2 t) (iblk m c 3 t) (iblk m c 4 t) y := by
  unfold middleAcc atMiddle; frame_out
  simp only [read_unread_whole]
  exact acc_canon _ _ _ _ _ [] y

theorem last_gate (h h') : lastGate m c t xn acc h h' = prod xn (iblk m c 2 t) := by
  unfold lastGate atLast; frame_out
  simp only [read_unread_whole]
  exact gate_canon _ _
theorem last_up (h h') : lastUp m c t xn acc h h' = prod xn (iblk m c 3 t) := by
  unfold lastUp atLast; frame_out
  simp only [read_unread_whole]
  exact gate_canon _ _
theorem last_acc (h h') (y) : lastAcc m c t xn acc h h' y = acc y + added xn (iblk m c 2 t) (iblk m c 3 t) (iblk m c 4 t) y := by
  unfold lastAcc atLast; frame_out
  simp only [read_unread_whole]
  exact acc_canon _ _ _ _ _ [] y
theorem last_y (h h') (y) : lastY m c t xn acc h h' y = (show EReal from iblk m c 0 t y) + half * lastAcc m c t xn acc h h' y := by
  unfold lastY lastAcc atLast; frame_out
  pointwise [k0_pay2]
  rw [readCov_all]

end

/-! ## The state after each point -/

section
variable (m : (ℓ : Loc nD τ sig) → Buf (Elt Ideal) ℓ)

/-- The block of 1024 rows that a point works on. -/
def Rt (t : Fin cfg0.N) (r : Fin 1024) : Fin 8192 := ⟨t.val / 4 * 1024 + r.val, by have := t.isLt; have : t.val < 32 := this; omega⟩

theorem e0 : ∀ t : Fin cfg0.N, win0_0.index t = ![t.val / 4, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val % 4, 0, 0] := (by decide +kernel : ∀ t : Fin grid0.N, _)
theorem e3 : ∀ t : Fin cfg0.N, win0_3.index t = ![4 + t.val % 4, 0, 0] := (by decide +kernel : ∀ t : Fin grid0.N, _)
theorem e4 : ∀ t : Fin cfg0.N, win0_4.index t = ![t.val % 4, 0, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![t.val / 4, 0] := (by decide +kernel : ∀ t : Fin grid0.N, _)
theorem e7 : ∀ t : Fin cfg0.N, win0_7.index t = ![t.val % 4, t.val / 4, 0] := (by decide +kernel : ∀ t : Fin grid0.N, _)
theorem e8 : ∀ t : Fin cfg0.N, win0_8.index t = ![t.val % 4, t.val / 4, 0] := (by decide +kernel : ∀ t : Fin grid0.N, _)

/-! Device `c`'s argument arrays, and their blocks at a point. -/

abbrev A0 (c : Dev nD) : FVec Ideal S8192x1024 .f32 := m ((c : Thread nD τ).loc main_arg0)
abbrev A1 (c : Dev nD) : FVec Ideal S1x1024 .f32 := m ((c : Thread nD τ).loc main_arg1)
abbrev A2 (c : Dev nD) : FVec Ideal S8x1024x704 .bf16 := m ((c : Thread nD τ).loc main_arg2)
abbrev A3 (c : Dev nD) : FVec Ideal S8x352x1024 .bf16 := m ((c : Thread nD τ).loc main_arg3)

variable (c : Dev nD) (t : Fin cfg0.N)

theorem blk0 : iblk m c 0 t = rows (Rt t) (A0 m c) := by
  funext y
  blk_simp [iblk]
  exact congrArg (A0 m c) (ext2 (by blk_simp [e0, Rt]) (by blk_simp [e0]))

theorem blk1 : iblk m c 1 t = A1 m c := by
  funext y
  blk_simp [iblk]
  exact congrArg (A1 m c) (ext2 (by blk_simp [e1]) (by blk_simp [e1]))

theorem blk2 : iblk m c 2 t = fun y => A2 m c (ix3 ⟨t.val % 4, by omega⟩ (y 1) (y 2)) := by
  funext y
  blk_simp [iblk]
  exact congrArg (A2 m c) (ext3 (by have : (y 0).val < 1 := (y 0).isLt; blk_simp [e2]) (by blk_simp [e2]) (by blk_simp [e2]))

theorem blk3 : iblk m c 3 t = fun y => A2 m c (ix3 ⟨4 + t.val % 4, by omega⟩ (y 1) (y 2)) := by
  funext y
  blk_simp [iblk]
  exact congrArg (A2 m c) (ext3 (by have : (y 0).val < 1 := (y 0).isLt; blk_simp [e3]) (by blk_simp [e3]) (by blk_simp [e3]))

theorem blk4 : iblk m c 4 t = fun y => A3 m c (ix3 ⟨t.val % 4 * 2 + (y 0).val, by have : (y 0).val < 2 := (y 0).isLt; omega⟩ (y 1) (y 2)) := by
  funext y
  blk_simp [iblk]
  exact congrArg (A3 m c) (ext3 (by blk_simp [e4]) (by blk_simp [e4]) (by blk_simp [e4]))

/-- The normed rows of the whole array. -/
abbrev N (c : Dev nD) : FVec Ideal S8192x1024 .f32 := normed (A0 m c) (A1 m c)

theorem nrm_eq : nrm m c t = rows (Rt t) (N m c) := by
  rw [nrm, blk0, blk1]; rfl

theorem Rt_pred (h : ¬t.val % 4 = 0) (hp : t.val - 1 < cfg0.N) : Rt ⟨t.val - 1, hp⟩ = Rt t := by
  funext r; simp only [Rt, Fin.mk.injEq]; omega

theorem at_prior (e : FVec Ideal S1024x1024 .bf16) (h : ¬isFirst (grid0.coords t)) (hp)
    (i : e = rows (Rt ⟨t.val - 1, hp⟩) (N m c)) : e = rows (Rt t) (N m c) :=
  i.trans (congrArg (rows · (N m c)) (Rt_pred t (fun h0 => h ((isFirst_iff t).mpr h0)) hp))

/-- Through a run of points the kept rows are the normed rows of its block. -/
theorem kept (n : Nat) (hn : n < cfg0.N) : (state m c n hn).xn = rows (Rt ⟨n, hn⟩) (N m c) ∧ (state m c n hn).out = rows (Rt ⟨n, hn⟩) (N m c) := by
  induction n with
  | zero =>
    have h : isFirst (grid0.coords ⟨0, hn⟩) := (isFirst_iff _).mpr rfl
    rw [← nrm_eq]
    exact ⟨(xn_first m c ⟨0, hn⟩ h).trans (first_xn m c _ h), (out_first m c ⟨0, hn⟩ h).trans (first_out m c _ h)⟩
  | succ n ih =>
    by_cases h : isFirst (grid0.coords ⟨n + 1, hn⟩)
    · rw [← nrm_eq]
      exact ⟨(xn_first m c ⟨n + 1, hn⟩ h).trans (first_xn m c _ h), (out_first m c ⟨n + 1, hn⟩ h).trans (first_out m c _ h)⟩
    · have i := ih (Nat.lt_of_succ_lt hn)
      exact ⟨(xn_stays m c ⟨n + 1, hn⟩ h).trans (at_prior m c _ _ h _ i.1), (out_stays m c ⟨n + 1, hn⟩ h).trans (at_prior m c _ _ h _ i.2)⟩

theorem prior_xn (h : ¬isFirst (grid0.coords t)) : (prior m c t).xn = rows (Rt t) (N m c) :=
  at_prior m c t _ h (Nat.lt_of_le_of_lt (Nat.sub_le _ _) t.isLt) (kept m c (t.val - 1) _).1

theorem gate_at : (state m c t.val t.isLt).gate = prod (rows (Rt t) (N m c)) (iblk m c 2 t) := by
  by_cases h : isFirst (grid0.coords t)
  · rw [gate_first m c t h, first_gate, nrm_eq]
  · by_cases h' : isLast (grid0.coords t)
    · rw [gate_last m c t h h', last_gate, prior_xn m c t h]
    · rw [gate_middle m c t h h', middle_gate, prior_xn m c t h]

theorem up_at : (state m c t.val t.isLt).up = prod (rows (Rt t) (N m c)) (iblk m c 3 t) := by
  by_cases h : isFirst (grid0.coords t)
  · rw [up_first m c t h, first_up, nrm_eq]
  · by_cases h' : isLast (grid0.coords t)
    · rw [up_last m c t h h', last_up, prior_xn m c t h]
    · rw [up_middle m c t h h', middle_up, prior_xn m c t h]

/-- What point `t` adds to the sum. -/
def term (t : Fin cfg0.N) (y : S1024x1024.Idx) : EReal :=
  added (rows (Rt t) (N m c)) (iblk m c 2 t) (iblk m c 3 t) (iblk m c 4 t) y

theorem acc_start (h : t.val % 4 = 0) (y) : (state m c t.val t.isLt).acc y = 0 + term m c t y := by
  have h := (isFirst_iff t).mpr h
  rw [acc_first m c t h, first_acc, nrm_eq, term]

theorem acc_next (h : ¬t.val % 4 = 0) (y) : (state m c t.val t.isLt).acc y = (prior m c t).acc y + term m c t y := by
  have h : ¬isFirst (grid0.coords t) := fun h0 => h ((isFirst_iff t).mp h0)
  by_cases h' : isLast (grid0.coords t)
  · rw [acc_last m c t h h', last_acc, prior_xn m c t h, term]
  · rw [acc_middle m c t h h', middle_acc, prior_xn m c t h, term]

/-- At the end of a run the sum is that of its four points' parts. -/
theorem acc_end (h : t.val % 4 = 3) (y) : (state m c t.val t.isLt).acc y =
    0 + ∑ s : Fin 4, term m c ⟨4 * (t.val / 4) + s.val, Pipeline.run_point_lt_of_flush t h s⟩ y :=
  Pipeline.eq_sum_fin_of_reset_step_apply_of_flush (fun n h => (state m c n h).acc) 4 (fun _ => 0) (term m c)
    (acc_start m c) (acc_next m c) t h y

theorem y_end (h : t.val % 4 = 3) (y) : (state m c t.val t.isLt).y y = (show EReal from iblk m c 0 t y) + half * (state m c t.val t.isLt).acc y := by
  have h0 : ¬isFirst (grid0.coords t) := fun h0 => by have := (isFirst_iff t).mp h0; omega
  have h' := (isLast_iff t).mpr h
  rw [y_last m c t h0 h', acc_last m c t h0 h', last_y]

end

/-! ## The reference's arrays -/

section
variable (X : FVec Ideal S8192x1024 .f32) (G : FVec Ideal S1x1024 .f32) (WI : FVec Ideal S8x1024x704 .bf16) (WO : FVec Ideal S8x352x1024 .bf16)

theorem ref_norm : val_main_v16 (F := Ideal) X G = normed X G := by
  funext j
  pointwise [val_main_v5, val_main_cst, val_main_v6, val_main_v7, val_main_cst_0, val_main_v8, val_main_v9, val_main_cst_1,
    val_main_v10, val_main_v11, val_main_v12, val_main_v13, val_main_v14, val_main_v15, val_main_v16, normed, scale]

theorem ref_out : val_main_v26 (F := Ideal) X G = normed X G := by
  funext j
  pointwise [val_main_v26, ref_norm]

/-- Column `l` of block `b` of the first product, at row `i`. -/
def col (b : Fin 8) (i : Fin 8192) (l : Fin 704) : EReal := ∑ k, normed X G (ix2 i k) * WI (ix3 b k l)

theorem ref_gate (i : Fin 8192) (l : Fin 2816) :
    val_main_v18 (F := Ideal) X G WI (ix2 i l) = col X G WI ⟨l.val / 704, by omega⟩ i ⟨l.val % 704, by omega⟩ := by
  pointwise [val_main_v18, val_main_v17, val_main_v2, val_main_v1, val_main_v0, ref_norm, col]

theorem ref_up (i : Fin 8192) (l : Fin 2816) :
    val_main_v19 (F := Ideal) X G WI (ix2 i l) = col X G WI ⟨4 + l.val / 704, by omega⟩ i ⟨l.val % 704, by omega⟩ := by
  pointwise [val_main_v19, val_main_v17, val_main_v2, val_main_v1, val_main_v0, ref_norm, col]
  refine Finset.sum_congr rfl fun k _ => congrArg (_ * WI ·) (ext3 ?_ rfl ?_)
  · show (2816 + l.val) / 704 = 4 + l.val / 704; omega
  · show (2816 + l.val) % 704 = l.val % 704; omega

theorem ref_gs (b : Fin 4) (i : Fin 8192) (l : Fin 704) :
    val_main_v29 (F := Ideal) X G WI (ix3 b i l) = col X G WI ⟨b.val, by omega⟩ i l := by
  pointwise [val_main_v29, val_main_v28, val_main_v27]
  refine (ref_gate X G WI i _).trans ?_
  congr 1
  · exact Fin.ext (by show (b.val * 704 + l.val) / 704 = b.val; omega)
  · exact Fin.ext (by show (b.val * 704 + l.val) % 704 = l.val; omega)

theorem ref_us (b : Fin 4) (i : Fin 8192) (l : Fin 704) :
    val_main_v32 (F := Ideal) X G WI (ix3 b i l) = col X G WI ⟨4 + b.val, by omega⟩ i l := by
  pointwise [val_main_v32, val_main_v31, val_main_v30]
  refine (ref_up X G WI i _).trans ?_
  congr 1
  · exact Fin.ext (by show 4 + (b.val * 704 + l.val) / 704 = 4 + b.val; omega)
  · exact Fin.ext (by show (b.val * 704 + l.val) % 704 = l.val; omega)

/-- Lane `l` of the second product, at row `i` and column `j`. -/
def lane (i : Fin 8192) (j : Fin 1024) (l : Fin 2816) : EReal :=
  val_main_v18 (F := Ideal) X G WI (ix2 i l) * sigm (val_main_v18 (F := Ideal) X G WI (ix2 i l)) * val_main_v19 (F := Ideal) X G WI (ix2 i l)
    * WO (ix3 ⟨l.val / 352, by omega⟩ ⟨l.val % 352, by omega⟩ j)

theorem ref_y (i : Fin 8192) (j : Fin 1024) :
    val_main_v25 (F := Ideal) X G WI WO (ix2 i j) = X (ix2 i j) + half * ∑ l, lane X G WI WO i j l := by
  pointwise [val_main_v25, val_main_v24, val_main_v23, val_main_cst_2, val_main_v22, val_main_v21, val_main_v20, val_main_call0_v5,
    val_main_call0_v4, val_main_call0_cst_0, val_main_call0_v3, val_main_call0_v2, val_main_call0_cst, val_main_call0_v1, val_main_call0_v0,
    val_main_v4, val_main_v3, lane, sigm, half]

end

/-! ## The arrays after the run -/

section
variable (m : (ℓ : Loc nD τ sig) → Buf (Elt Ideal) ℓ) (c : Dev nD)

theorem gate_col (t : Fin cfg0.N) (r : Fin 1024) (l : Fin 704) :
    prod (rows (Rt t) (N m c)) (iblk m c 2 t) (ix3 0 r l) = col (A0 m c) (A1 m c) (A2 m c) ⟨t.val % 4, by omega⟩ (Rt t r) l := by
  rw [blk2]; rfl

theorem up_col (t : Fin cfg0.N) (r : Fin 1024) (l : Fin 704) :
    prod (rows (Rt t) (N m c)) (iblk m c 3 t) (ix3 0 r l) = col (A0 m c) (A1 m c) (A2 m c) ⟨4 + t.val % 4, by omega⟩ (Rt t r) l := by
  rw [blk3]; rfl

theorem hid_col (t : Fin cfg0.N) (r : Fin 1024) (l : Fin 704) : hid (rows (Rt t) (N m c)) (iblk m c 2 t) (iblk m c 3 t) r l =
    col (A0 m c) (A1 m c) (A2 m c) ⟨t.val % 4, by omega⟩ (Rt t r) l * sigm (col (A0 m c) (A1 m c) (A2 m c) ⟨t.val % 4, by omega⟩ (Rt t r) l)
      * col (A0 m c) (A1 m c) (A2 m c) ⟨4 + t.val % 4, by omega⟩ (Rt t r) l := by
  rw [hid, gate_col, up_col]

/-- A point's part of the sum: 704 lanes of the second product. -/
theorem term_eq (t : Fin cfg0.N) (r j : Fin 1024) : term m c t (ix2 r j) =
    ∑ k : Fin 704, lane (A0 m c) (A1 m c) (A2 m c) (A3 m c) (Rt t r) j ⟨t.val % 4 * 704 + k.val, by omega⟩ := by
  unfold term added
  refine Finset.sum_congr rfl fun k _ => ?_
  rw [lane, ref_gate, ref_up]
  refine congrArg₂ (fun a b : EReal => a * b) ((hid_col m c t r k).trans (congrArg₂ (fun a b : EReal => a * b) ?_ ?_))
    ((congrFun (blk4 m c t) _).trans (congrArg (A3 m c) (ext3 ?_ ?_ rfl)))
  · refine congrArg (fun a : EReal => a * sigm a) ?_
    congr 1
    · exact Fin.ext (by show t.val % 4 = (t.val % 4 * 704 + k.val) / 704; omega)
    · exact Fin.ext (by show k.val = (t.val % 4 * 704 + k.val) % 704; omega)
  · congr 1
    · exact Fin.ext (by show 4 + t.val % 4 = 4 + (t.val % 4 * 704 + k.val) / 704; omega)
    · exact Fin.ext (by show k.val = (t.val % 4 * 704 + k.val) % 704; omega)
  · show t.val % 4 * 2 + k.val / 352 = (t.val % 4 * 704 + k.val) / 352; omega
  · show k.val % 352 = (t.val % 4 * 704 + k.val) % 352; omega

/-! A block at its point, as the reference has it. -/

theorem y_block (t : Fin cfg0.N) (h3 : t.val % 4 = 3) (r j : Fin 1024) : (state m c t.val t.isLt).y (ix2 r j) =
    val_main_v25 (F := Ideal) (A0 m c) (A1 m c) (A2 m c) (A3 m c) (ix2 (Rt t r) j) := by
  refine (y_end m c t h3 (ix2 r j)).trans ?_
  rw [ref_y, blk0, acc_end m c t h3 (ix2 r j), zero_add]
  refine congrArg (A0 m c (ix2 (Rt t r) j) + half * ·) ?_
  refine (Finset.sum_congr rfl fun s _ => term_eq m c _ r j).trans (Fin.sum_mul_add_congr fun s k hl => ?_)
  have h4 := s.isLt
  exact congrArg₂ (fun i l => lane (A0 m c) (A1 m c) (A2 m c) (A3 m c) i j l)
    (Fin.ext (by show (4 * (t.val / 4) + s.val) / 4 * 1024 + r.val = t.val / 4 * 1024 + r.val; omega))
    (Fin.ext (by show (4 * (t.val / 4) + s.val) % 4 * 704 + k.val = s.val * 704 + k.val; omega))

theorem gate_block (t : Fin cfg0.N) (r : Fin 1024) (l : Fin 704) : (state m c t.val t.isLt).gate (ix3 0 r l) =
    val_main_v29 (F := Ideal) (A0 m c) (A1 m c) (A2 m c) (ix3 ⟨t.val % 4, by omega⟩ (Rt t r) l) := by
  rw [gate_at, ref_gs]
  exact gate_col m c t r l

theorem up_block (t : Fin cfg0.N) (r : Fin 1024) (l : Fin 704) : (state m c t.val t.isLt).up (ix3 0 r l) =
    val_main_v32 (F := Ideal) (A0 m c) (A1 m c) (A2 m c) (ix3 ⟨t.val % 4, by omega⟩ (Rt t r) l) := by
  rw [up_at, ref_us]
  exact up_col m c t r l

/-! The arrays, block by block. -/

theorem final5 : (dats m 0 c).arrAt 5 cfg0.N = val_main_v25 (F := Ideal) (A0 m c) (A1 m c) (A2 m c) (A3 m c) := by
  refine (dats m 0 c).arrAt_eq_of_covers 5 _ (by decide +kernel) fun t hf y => ?_
  have h3 : t.val % 4 = 3 := (flush0_5 t).mp hf
  blk_simp
  rw [after_5]
  refine (congrArg (state m c t.val t.isLt).y (ext2 rfl rfl : y = ix2 (y 0) (y 1))).trans ((y_block m c t h3 (y 0) (y 1)).trans ?_)
  exact (congrArg (val_main_v25 (F := Ideal) (A0 m c) (A1 m c) (A2 m c) (A3 m c))
    (ext2 (by blk_simp [e5, Rt]) (by blk_simp [e5])))

theorem final6 : (dats m 0 c).arrAt 6 cfg0.N = val_main_v26 (F := Ideal) (A0 m c) (A1 m c) := by
  refine (dats m 0 c).arrAt_eq_of_covers 6 _ (by decide +kernel) fun t hf y => ?_
  blk_simp
  rw [after_6, (kept m c t.val t.isLt).2, ref_out]
  exact congrArg (N m c) (ext2 (by blk_simp [e6, Rt]) (by blk_simp [e6]))

theorem final7 : (dats m 0 c).arrAt 7 cfg0.N = val_main_v29 (F := Ideal) (A0 m c) (A1 m c) (A2 m c) := by
  refine (dats m 0 c).arrAt_eq_of_covers 7 _ (by decide +kernel) fun t hf y => ?_
  have h0 : (y 0).val < 1 := (y 0).isLt
  blk_simp
  rw [after_7]
  refine (congrArg (state m c t.val t.isLt).gate (ext3 (by show (y 0).val = 0; omega) rfl rfl : y = ix3 0 (y 1) (y 2))).trans ((gate_block m c t (y 1) (y 2)).trans ?_)
  exact (congrArg (val_main_v29 (F := Ideal) (A0 m c) (A1 m c) (A2 m c))
    (ext3 (by blk_simp [e7]) (by blk_simp [e7, Rt]) (by blk_simp [e7])))

theorem final8 : (dats m 0 c).arrAt 8 cfg0.N = val_main_v32 (F := Ideal) (A0 m c) (A1 m c) (A2 m c) := by
  refine (dats m 0 c).arrAt_eq_of_covers 8 _ (by decide +kernel) fun t hf y => ?_
  have h0 : (y 0).val < 1 := (y 0).isLt
  blk_simp
  rw [after_8]
  refine (congrArg (state m c t.val t.isLt).up (ext3 (by show (y 0).val = 0; omega) rfl rfl : y = ix3 0 (y 1) (y 2))).trans ((up_block m c t (y 1) (y 2)).trans ?_)
  exact (congrArg (val_main_v32 (F := Ideal) (A0 m c) (A1 m c) (A2 m c))
    (ext3 (by blk_simp [e8]) (by blk_simp [e8, Rt]) (by blk_simp [e8])))

end

/-! ## The claims -/

/-- The program at the two readings of its floats is one text. -/
theorem body_same : Cert.FfnFwd.defs₀ (F := Bits) = Cert.FfnFwdIdeal.defs₀ (F := Bits) := by
  unfold Cert.FfnFwd.defs₀ Cert.FfnFwdIdeal.defs₀
  congr 1
  funext x y
  match x, y with
  | 0, (t, s) => rfl

theorem defs_same : Cert.FfnFwd.defs (F := Bits) = Cert.FfnFwdIdeal.defs (F := Bits) := by
  unfold Cert.FfnFwd.defs; rw [body_same]; rfl

theorem frameP : Cert.quiescent_FfnFwd (hFfnFwd := Cert.FfnFwd.Gen.facts) := fun m ρ _ => by
  rw [defs_same]; exact Hand.frame (F := Bits) m ρ
theorem framePI : Cert.quiescent_FfnFwdIdeal (hFfnFwdIdeal := Cert.FfnFwdIdeal.Gen.facts) := fun m ρ _ => Hand.frame m ρ

theorem frameRI : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2.2,
      Idealize.ShloMosaic.sem_eq_zero_of_no_sems (by decide) r.2⟩)
    (Cert.FfnFwdRefIdeal.Value.run (F := Ideal) m ρ)

/-- The kernel leaves the layer's output, the normed rows and the two factors' columns that the reference computes. -/
theorem algebraic : Cert.algebraic_FfnFwdIdeal_FfnFwdRefIdeal (hFfnFwdIdeal := Cert.FfnFwdIdeal.Gen.facts)
    (hFfnFwdRefIdeal := Cert.FfnFwdRefIdeal.Gen.facts) := by
  intro m ρ m' ρ' _ hag
  refine ⟨fun c => val_main_v25 (F := Ideal) (A0 m c) (A1 m c) (A2 m c) (A3 m c), fun c => val_main_v26 (F := Ideal) (A0 m c) (A1 m c),
    fun c => val_main_v29 (F := Ideal) (A0 m c) (A1 m c) (A2 m c), fun c => val_main_v32 (F := Ideal) (A0 m c) (A1 m c) (A2 m c), ?_, ?_⟩
  · refine (θ_run Cert.FfnFwdIdeal.defs _ _).mono (fun r h c => ?_) (θ_run_and (Hand.run_main m ρ) (Hand.frame m ρ))
    exact ⟨((h.1 c).1 5).trans (final5 m c), ((h.1 c).1 6).trans (final6 m c), ((h.1 c).1 7).trans (final7 m c),
      ((h.1 c).1 8).trans (final8 m c), h.2.1 c⟩
  · refine (θ_run Cert.FfnFwdRefIdeal.defs _ _).mono (fun r h c => ?_) (Cert.FfnFwdRefIdeal.Value.run (F := Ideal) m' ρ')
    obtain ⟨h25, h26, h29, h32, hrest⟩ := h c
    obtain ⟨a0, a1, a2, a3⟩ := hag c
    refine ⟨h25.trans ((val_main_v25_eq ..).trans ?_), h26.trans ((val_main_v26_eq ..).trans ?_),
      h29.trans ((val_main_v29_eq ..).trans ?_), h32.trans ((val_main_v32_eq ..).trans ?_), hrest⟩
    · rw [a0, a1, a2, a3]
    · rw [a0, a1]
    · rw [a0, a1, a2]
    · rw [a0, a1, a2]

end Cert.FfnFwdIdeal.Block

end
-- ==== Proof.DwPeGate.lean ====
module

public import proofs.«01_k».proof.Defs
public import proofs.«01_k».proof.Proof.Gen.DwPeGate.Frame
public import proofs.«01_k».proof.Proof.Gen.DwPeGateIdeal.Value
public import proofs.«01_k».proof.Proof.Gen.DwPeGateRefIdeal.Read
public import proofs.«01_k».proof.Proof.Gen.DwPeGateRefIdeal.Run
public import proofs.«01_k».proof.Proof.Index
public import Idealize.ShloMosaic.Lib.Quiescent

@[expose] public section

set_option maxRecDepth 16384

noncomputable section

/-! # The gradient of the layer embedding's gate

One block, summed over four grid points of 2048 tokens each. -/

namespace Cert.DwPeGateIdeal.Block

open Cert.DwPeGateIdeal Cert.DwPeGateIdeal.Gen Cert.Index Idealize.ShloMosaic Idealize.ShloMosaic.TcCoe Idealize.SL.Sem
open Cert.DwPeGateRefIdeal.Read (val_main_v0 val_main_v1 val_main_v2 val_main_v3 val_main_v4 val_main_v5)

variable (m : (ℓ : Loc nD τ sig) → Buf (Elt Ideal) ℓ)

/-! Device `c`'s argument arrays. -/

abbrev A0 (c : Dev nD) : FVec Ideal S8192x1024 .bf16 := m ((c : Thread nD τ).loc main_arg0)
abbrev A1 (c : Dev nD) : FVec Ideal S8192x1024 .bf16 := m ((c : Thread nD τ).loc main_arg1)

/-- A point adds its part to the accumulator; -/
theorem pay2_apply (a : Vec Ideal S1024x1024 .f32) (x : Vec Ideal S1x2048x1024 .bf16) (w : Vec Ideal S1x2048x1024 .bf16) (j : S1024x1024.Idx) :
    k0_pay2 (F := Ideal) a x w j = a j + part x w j := by
  pointwise [k0_pay2, part]

/-- the first point of a run starts from zero; -/
theorem pay1_apply (j : S1024x1024.Idx) : k0_pay1 (F := Ideal) j = 0 := by
  pointwise [k0_pay1]

/-- the last one writes the accumulator out. -/
theorem pay3_apply (a : Vec Ideal S1024x1024 .f32) (j : S1x1024x1024.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 4 = 3) (j : S1024x1024.Idx) :
    (outsAt0 m c t.val t.isLt).2 j = 0 + ∑ s : Fin 4, part (iblk m c 0 ⟨4 * (t.val / 4) + s.val, by have := t.isLt; omega⟩)
      (iblk m c 1 ⟨4 * (t.val / 4) + s.val, by have := t.isLt; omega⟩) j :=
  Pipeline.eq_sum_fin_of_reset_step_apply_of_flush (fun n h => (outsAt0 m c n h).2) 4 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      by_cases h3 : t.val % 4 = 3
      · rw [outsAt0_C m c t h h3]; frame_out
        exact (pay2_apply _ _ _ j).trans (congrArg (· + part (iblk m c 0 t) (iblk m c 1 t) j) (congrFun (Memref.IsWhole.read_unread _ _) j))
      · rw [outsAt0_B m c t h h3]; frame_out
        exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S1x8192x1024.Idx) : V m c main_v0 y = A0 m c (ix2 (y 1) (y 2)) := by
  unfold V hostOps0
  after_results
  pointwise []

theorem V1 (c : Dev nD) (y : S1x8192x1024.Idx) : V m c main_v1 y = A1 m c (ix2 (y 1) (y 2)) := by
  unfold V hostOps0
  after_results
  pointwise []

theorem e0 : ∀ t : Fin cfg0.N, win0_0.index t = ![0, t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, 0, 0] := (by decide +kernel : ∀ t : Fin grid0.N, _)

/-- The reference at an index: one contraction over all tokens. -/
theorem ref_apply (a : FVec Ideal S8192x1024 .bf16) (b : FVec Ideal S8192x1024 .bf16) (j : S1x1024x1024.Idx) :
    val_main_v5 (F := Ideal) a b j = ∑ l : Fin 8192, a (ix2 l (j 1)) * b (ix2 l (j 2)) := by
  pointwise [val_main_v5, val_main_v4, val_main_v3, val_main_v2, val_main_v1, val_main_v0]
  exact Finset.sum_congr rfl fun x _ => mul_comm _ _

/-! The blocks of a grid point: the tokens of its place in the run, the columns of its run. -/

theorem blk0 (c : Dev nD) (t : Fin cfg0.N) (k : Fin 2048) (r : Fin 1024) :
    iblk m c 0 t (ix3 0 k r) = A0 m c (ix2 ⟨t.val * 2048 + k.val, by have := t.isLt; have hN : cfg0.N = 4 := N_0; omega⟩ r) := by
  blk_simp [iblk]
  refine (V0 m c _).trans (congrArg (A0 m c) (ext2 ?_ ?_))
  · blk_simp [e0]
  · blk_simp [e0]

theorem blk1 (c : Dev nD) (t : Fin cfg0.N) (k : Fin 2048) (r : Fin 1024) :
    iblk m c 1 t (ix3 0 k r) = A1 m c (ix2 ⟨t.val * 2048 + k.val, by have := t.isLt; have hN : cfg0.N = 4 := N_0; omega⟩ r) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v5 (F := Ideal) (A0 m c) (A1 m c) := by
  refine (dats m 0 c).arrAt_eq_of_covers 2 _ (by decide +kernel) fun t hf y => ?_
  have h1 : t.val % 4 = 3 := (flush0_2 t).mp hf
  have hacc := acc_eq m c t h1
  blk_simp
  rw [after0_2]
  rw [outsAt0_C m c t (by omega) h1] at hacc ⊢
  frame_out
  frame_out at hacc
  rw [pay3_apply, hacc, zero_add, ref_apply]
  refine Fin.sum_mul_add_congr fun s k hl => ?_
  have hN : t.val < 4 := lt_of_lt_of_eq t.isLt N_0
  refine congrArg₂ (· * ·) ((blk0 m c _ k _).trans (congrArg (A0 m c) (ext2 ?_ ?_)))
    ((blk1 m c _ k _).trans (congrArg (A1 m c) (ext2 ?_ ?_)))
  · show (4 * (t.val / 4) + s.val) * 2048 + k.val = s.val * 2048 + k.val
    rw [Nat.div_eq_of_lt hN, Nat.mul_zero, Nat.zero_add]
  · blk_simp [e2]
  · show (4 * (t.val / 4) + s.val) * 2048 + k.val = s.val * 2048 + k.val
    rw [Nat.div_eq_of_lt hN, Nat.mul_zero, Nat.zero_add]
  · blk_simp [e2]

/-! ## The claims -/

theorem frameP : Cert.quiescent_DwPeGate (hDwPeGate := Cert.DwPeGate.Gen.facts) := fun m ρ _ => Cert.DwPeGate.Gen.frame m ρ

theorem framePI : Cert.quiescent_DwPeGateIdeal (hDwPeGateIdeal := Cert.DwPeGateIdeal.Gen.facts) := fun m ρ _ => Cert.DwPeGateIdeal.Gen.frame m ρ

/-- The reference ends with every counter at zero and its arguments as they were. -/
theorem frameRI : Cert.quiescent_DwPeGateRefIdeal (hDwPeGateRefIdeal := Cert.DwPeGateRefIdeal.Gen.facts) := fun m ρ _ =>
  (θ_run Cert.DwPeGateRefIdeal.defs _ _).mono
    (fun r h => ⟨fun c => (h c).2, Idealize.ShloMosaic.sem_eq_zero_of_no_sems (by decide) r.2⟩)
    (Cert.DwPeGateRefIdeal.Value.run (F := Ideal) m ρ)

/-- Over the extended reals the kernel leaves in its result array what the reference computes. -/
theorem algebraic : Cert.algebraic_DwPeGateIdeal_DwPeGateRefIdeal (hDwPeGateIdeal := Cert.DwPeGateIdeal.Gen.facts)
    (hDwPeGateRefIdeal := Cert.DwPeGateRefIdeal.Gen.facts) := by
  intro m ρ m' ρ' _ hag
  refine ⟨fun c => val_main_v5 (F := Ideal) (A0 m c) (A1 m c), ?_, ?_⟩
  · refine (θ_run Cert.DwPeGateIdeal.defs _ _).mono (fun r h c => ?_) (Cert.DwPeGateIdeal.Value.run_blocks (F := Ideal) m ρ)
    obtain ⟨h2, hrest⟩ := h c
    exact ⟨h2.trans (final m c), hrest⟩
  · refine (θ_run Cert.DwPeGateRefIdeal.defs _ _).mono (fun r h c => ?_) (Cert.DwPeGateRefIdeal.Value.run (F := Ideal) m' ρ')
    obtain ⟨h5, hrest⟩ := h c
    obtain ⟨a0, a1⟩ := hag c
    refine ⟨h5.trans ((Cert.DwPeGateRefIdeal.Read.val_main_v5_eq ..).trans ?_), hrest⟩
    rw [a0, a1]

end Cert.DwPeGateIdeal.Block
end
-- ==== Proof.DwPeProj.lean ====
module

public import proofs.«01_k».proof.Defs
public import proofs.«01_k».proof.Proof.Gen.DwPeProj.Frame
public import proofs.«01_k».proof.Proof.Gen.DwPeProjIdeal.Value
public import proofs.«01_k».proof.Proof.Gen.DwPeProjRefIdeal.Read
public import proofs.«01_k».proof.Proof.Gen.DwPeProjRefIdeal.Run
public import proofs.«01_k».proof.Proof.Index
public import Idealize.ShloMosaic.Lib.Quiescent

@[expose] public section

set_option maxRecDepth 16384

noncomputable section

/-! # The gradient of the layer embedding's projection

One block, summed over four grid points of 2048 tokens each. -/

namespace Cert.DwPeProjIdeal.Block

open Cert.DwPeProjIdeal Cert.DwPeProjIdeal.Gen Cert.Index Idealize.ShloMosaic Idealize.ShloMosaic.TcCoe Idealize.SL.Sem
open Cert.DwPeProjRefIdeal.Read (val_main_v0 val_main_v1 val_main_v2 val_main_v3 val_main_v4 val_main_v5 val_main_v6)

variable (m : (ℓ : Loc nD τ sig) → Buf (Elt Ideal) ℓ)

/-! Device `c`'s argument arrays. -/

abbrev A0 (c : Dev nD) : FVec Ideal S4x1x8192x256 .f32 := m ((c : Thread nD τ).loc main_arg0)
abbrev A1 (c : Dev nD) : FVec Ideal S8192x1024 .bf16 := m ((c : Thread nD τ).loc main_arg1)

/-- A point adds its part to the accumulator; -/
theorem pay2_apply (a : Vec Ideal S256x1024 .f32) (x : Vec Ideal S1x2048x256 .f32) (w : Vec Ideal S1x2048x1024 .bf16) (j : S256x1024.Idx) :
    k0_pay2 (F := Ideal) a x w j = a j + part x w j := by
  pointwise [k0_pay2, part]

/-- the first point of a run starts from zero; -/
theorem pay1_apply (j : S256x1024.Idx) : k0_pay1 (F := Ideal) j = 0 := by
  pointwise [k0_pay1]

/-- the last one writes the accumulator out. -/
theorem pay3_apply (a : Vec Ideal S256x1024 .f32) (j : S1x256x1024.Idx) : k0_pay3 (F := Ideal) a j = a (ix2 (j 1) (j 2)) := by
  pointwise [k0_pay3]

/-- What the accumulator holds at the end of a run: the sum of its points' parts. -/
theorem acc_eq (c : Dev nD) (t : Fin cfg0.N) (h1 : t.val % 4 = 3) (j : S256x1024.Idx) :
    (outsAt0 m c t.val t.isLt).2 j = 0 + ∑ s : Fin 4, part (iblk m c 0 ⟨4 * (t.val / 4) + s.val, by have := t.isLt; omega⟩)
      (iblk m c 1 ⟨4 * (t.val / 4) + s.val, by have := t.isLt; omega⟩) j :=
  Pipeline.eq_sum_fin_of_reset_step_apply_of_flush (fun n h => (outsAt0 m c n h).2) 4 (fun _ => 0) (fun t => part (iblk m c 0 t) (iblk m c 1 t))
    (fun t h j => by
      show (outsAt0 m c t.val t.isLt).2 j = _
      rw [outsAt0_A m c t h (by omega)]; frame_out; rw [pay2_apply, pay1_apply])
    (fun t h j => by
      show (outsAt0 m c t.val t.isLt).2 j = _
      by_cases h3 : t.val % 4 = 3
      · rw [outsAt0_C m c t h h3]; frame_out
        exact (pay2_apply _ _ _ j).trans (congrArg (· + part (iblk m c 0 t) (iblk m c 1 t) j) (congrFun (Memref.IsWhole.read_unread _ _) j))
      · rw [outsAt0_B m c t h h3]; frame_out
        exact (pay2_apply _ _ _ j).trans (congrArg (· + part (iblk m c 0 t) (iblk m c 1 t) j) (congrFun (Memref.IsWhole.read_unread _ _) j)))
    t h1 j

/-! The arrays the grid reads: the host's reshapes of the arguments. -/

theorem V0 (c : Dev nD) (y : S4x8192x256.Idx) : V m c main_v0 y = A0 m c (ix4 (y 0) 0 (y 1) (y 2)) := by
  unfold V hostOps0
  after_results
  pointwise []

theorem V1 (c : Dev nD) (y : S1x8192x1024.Idx) : V m c main_v1 y = A1 m c (ix2 (y 1) (y 2)) := by
  unfold V hostOps0
  after_results
  pointwise []

theorem e0 : ∀ t : Fin cfg0.N, win0_0.index t = ![1, t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, 0, 0] := (by decide +kernel : ∀ t : Fin grid0.N, _)

/-- The reference at an index: one contraction over all tokens. -/
theorem ref_apply (a : FVec Ideal S4x1x8192x256 .f32) (b : FVec Ideal S8192x1024 .bf16) (j : S1x256x1024.Idx) :
    val_main_v6 (F := Ideal) a b j = ∑ l : Fin 8192, a (ix4 1 0 l (j 1)) * b (ix2 l (j 2)) := by
  pointwise [val_main_v6, val_main_v5, val_main_v4, val_main_v3, val_main_v2, val_main_v1, val_main_v0]
  exact Finset.sum_congr rfl fun x _ => mul_comm _ _

/-! The blocks of a grid point: the tokens of its place in the run, the columns of its run. -/

theorem blk0 (c : Dev nD) (t : Fin cfg0.N) (k : Fin 2048) (r : Fin 256) :
    iblk m c 0 t (ix3 0 k r) = A0 m c (ix4 1 0 ⟨t.val * 2048 + k.val, by have := t.isLt; have hN : cfg0.N = 4 := N_0; omega⟩ r) := by
  blk_simp [iblk]
  refine (congrArg (V m c main_v0) (ext3 ?_ ?_ ?_ : _ = ix3 1 ⟨t.val * 2048 + k.val, by have := t.isLt; have hN : cfg0.N = 4 := N_0; omega⟩ r)).trans
    (V0 m c _)
  · blk_simp [e0]; rfl
  · blk_simp [e0]
  · blk_simp [e0]

theorem blk1 (c : Dev nD) (t : Fin cfg0.N) (k : Fin 2048) (r : Fin 1024) :
    iblk m c 1 t (ix3 0 k r) = A1 m c (ix2 ⟨t.val * 2048 + k.val, by have := t.isLt; have hN : cfg0.N = 4 := N_0; omega⟩ r) := by
  blk_simp [iblk]
  refine (V1 m c _).trans (congrArg (A1 m c) (ext2 ?_ ?_))
  · blk_simp [e1]
  · blk_simp [e1]

/-- The kernel's result array is the reference's value. -/
theorem final (c : Dev nD) : (dats m 0 c).arrAt 2 cfg0.N = val_main_v6 (F := Ideal) (A0 m c) (A1 m c) := by
  refine (dats m 0 c).arrAt_eq_of_covers 2 _ (by decide +kernel) fun t hf y => ?_
  have h1 : t.val % 4 = 3 := (flush0_2 t).mp hf
  have hacc := acc_eq m c t h1
  blk_simp
  rw [after0_2]
  rw [outsAt0_C m c t (by omega) h1] at hacc ⊢
  frame_out
  frame_out at hacc
  rw [pay3_apply, hacc, zero_add, ref_apply]
  refine Fin.sum_mul_add_congr fun s k hl => ?_
  have hN : t.val < 4 := lt_of_lt_of_eq t.isLt N_0
  refine congrArg₂ (· * ·) ((blk0 m c _ k _).trans (congrArg (A0 m c) (ext4 rfl rfl ?_ ?_)))
    ((blk1 m c _ k _).trans (congrArg (A1 m c) (ext2 ?_ ?_)))
  · show (4 * (t.val / 4) + s.val) * 2048 + k.val = s.val * 2048 + k.val
    rw [Nat.div_eq_of_lt hN, Nat.mul_zero, Nat.zero_add]
  · blk_simp [e2]
  · show (4 * (t.val / 4) + s.val) * 2048 + k.val = s.val * 2048 + k.val
    rw [Nat.div_eq_of_lt hN, Nat.mul_zero, Nat.zero_add]
  · blk_simp [e2]

/-! ## The claims -/

theorem frameP : Cert.quiescent_DwPeProj (hDwPeProj := Cert.DwPeProj.Gen.facts) := fun m ρ _ => Cert.DwPeProj.Gen.frame m ρ

theorem framePI : Cert.quiescent_DwPeProjIdeal (hDwPeProjIdeal := Cert.DwPeProjIdeal.Gen.facts) := fun m ρ _ => Cert.DwPeProjIdeal.Gen.frame m ρ

/-- The reference ends with every counter at zero and its arguments as they were. -/
theorem frameRI : Cert.quiescent_DwPeProjRefIdeal (hDwPeProjRefIdeal := Cert.DwPeProjRefIdeal.Gen.facts) := fun m ρ _ =>
  (θ_run Cert.DwPeProjRefIdeal.defs _ _).mono
    (fun r h => ⟨fun c => (h c).2, Idealize.ShloMosaic.sem_eq_zero_of_no_sems (by decide) r.2⟩)
    (Cert.DwPeProjRefIdeal.Value.run (F := Ideal) m ρ)

/-- Over the extended reals the kernel leaves in its result array what the reference computes. -/
theorem algebraic : Cert.algebraic_DwPeProjIdeal_DwPeProjRefIdeal (hDwPeProjIdeal := Cert.DwPeProjIdeal.Gen.facts)
    (hDwPeProjRefIdeal := Cert.DwPeProjRefIdeal.Gen.facts) := by
  intro m ρ m' ρ' _ hag
  refine ⟨fun c => val_main_v6 (F := Ideal) (A0 m c) (A1 m c), ?_, ?_⟩
  · refine (θ_run Cert.DwPeProjIdeal.defs _ _).mono (fun r h c => ?_) (Cert.DwPeProjIdeal.Value.run_blocks (F := Ideal) m ρ)
    obtain ⟨h2, hrest⟩ := h c
    exact ⟨h2.trans (final m c), hrest⟩
  · refine (θ_run Cert.DwPeProjRefIdeal.defs _ _).mono (fun r h c => ?_) (Cert.DwPeProjRefIdeal.Value.run (F := Ideal) m' ρ')
    obtain ⟨h6, hrest⟩ := h c
    obtain ⟨a0, a1⟩ := hag c
    refine ⟨h6.trans ((Cert.DwPeProjRefIdeal.Read.val_main_v6_eq ..).trans ?_), hrest⟩
    rw [a0, a1]

end Cert.DwPeProjIdeal.Block
end
-- ==== Proof.ConvFwd.lean ====
module

public import proofs.«01_k».proof.Defs
public import proofs.«01_k».proof.Proof.Gen.ConvFwd.Frame
public import proofs.«01_k».proof.Proof.Gen.ConvFwdIdeal.Value
public import proofs.«01_k».proof.Proof.Gen.ConvFwdRefIdeal.Read
public import proofs.«01_k».proof.Proof.Gen.ConvFwdRefIdeal.Run
public import proofs.«01_k».proof.Proof.Index
public import proofs.«01_k».proof.Proof.Rows
public import Idealize.ShloMosaic.Lib.Quiescent
public import Idealize.ShloMosaic.Lib.KernelVsHost

@[expose] public section

set_option maxRecDepth 16384

noncomputable section

/-! # The depthwise convolution over the rows

A grid point gates 544 rows (its own 512 and a margin of 16 on either side, zero outside the array), takes for each row the
31 rows from 15 above to 15 below weighted by the taps, adds the bias, norms the row and puts it through the activation. -/

namespace Cert.ConvFwdIdeal.Block

open Cert.ConvFwdIdeal Cert.ConvFwdIdeal.Gen Cert.Index Cert.Rows Idealize.ShloMosaic Idealize.ShloMosaic.TcCoe Idealize.SL.Sem
open Cert.ConvFwdRefIdeal.Read

variable (A : FVec Ideal S8192x1024 .f32) (W : FVec Ideal S31x512 .f32) (B G H : FVec Ideal S1x512 .f32)

/-- Entry `(n, c)` of the input, 0 past its last row. -/
def arow (n : Nat) (c : Fin 1024) : EReal := if h : n < 8192 then A (ix2 ⟨n, h⟩ c) else 0

/-- A row gated: its left half times the sigmoid of its right half. -/
def glu (n : Nat) (c : Fin 512) : EReal := arow A n ⟨c.val, by omega⟩ * sigm (arow A n ⟨512 + c.val, by omega⟩)

/-- The gated rows with a margin of zero rows before and behind them: row `n` is row `n - 16`. -/
def marg (n : Nat) (c : Fin 512) : EReal := if 16 ≤ n ∧ n < 8208 then glu A (n - 16) c else 0

/-- Tap `k` of the convolution. -/
def tap (k : Nat) (c : Fin 512) : EReal := if h : k < 31 then W (ix2 ⟨k, h⟩ c) else 0

/-- The convolution's row `r` before tap `n`: the bias, and the rows after `r` of the margined ones by the taps. -/
def conv (n r : Nat) (c : Fin 512) : EReal := B (ix2 0 c) + ∑ k ∈ Finset.range n, marg A (r + 1 + k) c * tap W k c

/-- The mean of a row's squares or entries: their sum by the number of columns, as the programs write it. -/
def mean (y : Fin 512 → EReal) : EReal := Ideal.div (∑ k, y k) (Ideal.ofBits .f32 0x44000000#32)

/-- A row normed by its mean and its variance, scaled by `g` and shifted by `h`. -/
def lnorm (y : Fin 512 → EReal) (g h : EReal) (c : Fin 512) : EReal :=
  (y c - mean y) * Ideal.rsqrt (mean (fun k => (y k - mean y) * (y k - mean y)) + Ideal.ofBits .f32 0x3727C5AC#32) * g + h

/-- The activation of a normed row. -/
def act (y : Fin 512 → EReal) (g h : EReal) (c : Fin 512) : EReal := lnorm y g h c * sigm (lnorm y g h c)

theorem add_cong {a b c d : EReal} (h : a = b) (k : c = d) : a + c = b + d := by rw [h, k]
theorem term {n k : Nat} {c d : Fin 512} {w v : EReal} (h : n = k) (hc : c = d) (hw : w = v) : marg A n c * w = marg A k d * v := by
  rw [h, hc, hw]

/-! ## The reference -/

theorem ref_pad (z : Cert.ConvFwdRefIdeal.S8222x512.Idx) : (val_main_v9 (F := Ideal) A z : EReal) = marg A ((z 0).val + 1) (z 1) := by
  pointwise [val_main_v9, val_main_call0_v0, val_main_c, val_main_v8, val_main_v7, val_main_v6, val_main_cst_0, val_main_v5, val_main_v4,
    val_main_cst, val_main_v3, val_main_v2, val_main_v1, val_main_v0]
  unfold marg
  by_cases hr : 15 ≤ (z 0).val ∧ (z 0).val - 15 < 8192
  · rw [dif_pos hr, if_pos (by omega)]
    unfold glu arow sigm
    rw [dif_pos (by omega), dif_pos (by omega)]
    rfl
  · rw [dif_neg hr, if_neg (by omega)]
    exact sitofp_zero (φ := .f32)

theorem ref_conv (z : S8192x512.Idx) : (val_main_v229 (F := Ideal) A W B z : EReal) = conv A W B 31 (z 0).val (z 1) := by
  pointwise [val_main_v10, val_main_v11, val_main_v12, val_main_v13, val_main_v14, val_main_v15, val_main_v16, val_main_v17, val_main_v18,
    val_main_v19, val_main_v20, val_main_v21, val_main_v22, val_main_v23, val_main_v24, val_main_v25, val_main_v26, val_main_v27,
    val_main_v28, val_main_v29, val_main_v30, val_main_v31, val_main_v32, val_main_v33, val_main_v34, val_main_v35, val_main_v36,
    val_main_v37, val_main_v38, val_main_v39, val_main_v40, val_main_v41, val_main_v42, val_main_v43, val_main_v44, val_main_v45,
    val_main_v46, val_main_v47, val_main_v48, val_main_v49, val_main_v50, val_main_v51, val_main_v52, val_main_v53, val_main_v54,
    val_main_v55, val_main_v56, val_main_v57, val_main_v58, val_main_v59, val_main_v60, val_main_v61, val_main_v62, val_main_v63,
    val_main_v64, val_main_v65, val_main_v66, val_main_v67, val_main_v68, val_main_v69, val_main_v70, val_main_v71, val_main_v72,
    val_main_v73, val_main_v74, val_main_v75, val_main_v76, val_main_v77, val_main_v78, val_main_v79, val_main_v80, val_main_v81,
    val_main_v82, val_main_v83, val_main_v84, val_main_v85, val_main_v86, val_main_v87, val_main_v88, val_main_v89, val_main_v90,
    val_main_v91, val_main_v92, val_main_v93, val_main_v94, val_main_v95, val_main_v96, val_main_v97, val_main_v98, val_main_v99,
    val_main_v100, val_main_v101, val_main_v102, val_main_v103, val_main_v104, val_main_v105, val_main_v106, val_main_v107,
    val_main_v108, val_main_v109, val_main_v110, val_main_v111, val_main_v112, val_main_v113, val_main_v114, val_main_v115,
    val_main_v116, val_main_v117, val_main_v118, val_main_v119, val_main_v120, val_main_v121, val_main_v122, val_main_v123,
    val_main_v124, val_main_v125, val_main_v126, val_main_v127, val_main_v128, val_main_v129, val_main_v130, val_main_v131,
    val_main_v132, val_main_v133, val_main_v134, val_main_v135, val_main_v136, val_main_v137, val_main_v138, val_main_v139,
    val_main_v140, val_main_v141, val_main_v142, val_main_v143, val_main_v144, val_main_v145, val_main_v146, val_main_v147,
    val_main_v148, val_main_v149, val_main_v150, val_main_v151, val_main_v152, val_main_v153, val_main_v154, val_main_v155,
    val_main_v156, val_main_v157, val_main_v158, val_main_v159, val_main_v160, val_main_v161, val_main_v162, val_main_v163,
    val_main_v164, val_main_v165, val_main_v166, val_main_v167, val_main_v168, val_main_v169, val_main_v170, val_main_v171,
    val_main_v172, val_main_v173, val_main_v174, val_main_v175, val_main_v176, val_main_v177, val_main_v178, val_main_v179,
    val_main_v180, val_main_v181, val_main_v182, val_main_v183, val_main_v184, val_main_v185, val_main_v186, val_main_v187,
    val_main_v188, val_main_v189, val_main_v190, val_main_v191, val_main_v192, val_main_v193, val_main_v194, val_main_v195,
    val_main_v196, val_main_v197, val_main_v198, val_main_v199, val_main_v200, val_main_v201, val_main_v202, val_main_v203,
    val_main_v204, val_main_v205, val_main_v206, val_main_v207, val_main_v208, val_main_v209, val_main_v210, val_main_v211,
    val_main_v212, val_main_v213, val_main_v214, val_main_v215, val_main_v216, val_main_v217, val_main_v218, val_main_v219,
    val_main_v220, val_main_v221, val_main_v222, val_main_v223, val_main_v224, val_main_v225, val_main_v226, val_main_v227,
    val_main_v228, val_main_v229,
    val_main_cst_1, ref_pad]
  unfold conv
  rw [add_comm]
  simp only [Finset.sum_range_succ, Finset.sum_range_zero, ← add_assoc, add_zero]
  iterate 31 refine add_cong ?_ (term A (by omega) rfl rfl)
  rfl

theorem ref_act (z : S8192x512.Idx) : (val_main_v253 (F := Ideal) A W B G H z : EReal)
    = act (fun k => val_main_v229 (F := Ideal) A W B (ix2 (z 0) k)) (G (ix2 0 (z 1))) (H (ix2 0 (z 1))) (z 1) := by
  pointwise [val_main_v253, val_main_v252, val_main_call1_v5, val_main_call1_v4, val_main_call1_cst_0, val_main_call1_v3, val_main_call1_v2,
    val_main_call1_cst, val_main_call1_v1, val_main_call1_v0, val_main_v251, val_main_v250, val_main_v249, val_main_v248, val_main_v247,
    val_main_v246, val_main_v245, val_main_v244, val_main_v243, val_main_cst_6, val_main_v242, val_main_v241, val_main_v240,
    val_main_v239, val_main_cst_5, val_main_v238, val_main_v237, val_main_cst_4, val_main_v236, val_main_v235, val_main_v234,
    val_main_v233, val_main_v232, val_main_cst_3, val_main_v231, val_main_v230, val_main_cst_2,
    act, lnorm, mean, sigm]

/-! ## A grid point -/

theorem conv_two (r : Nat) (c : Fin 512) : conv A W B 31 r c
    = conv A W B 29 r c + marg A (r + 1 + 29) c * tap W 29 c + marg A (r + 1 + 30) c * tap W 30 c := by
  unfold conv
  rw [Finset.sum_range_succ, Finset.sum_range_succ, ← add_assoc, ← add_assoc]

theorem hz : (![0, 0] : Fin 2 → Nat) = fun _ => 0 := funext fun a => by fin_cases a <;> rfl

/-- A sum of the kernel's row counter is below the words' bound, so the comparisons read it as a number. -/
theorem in_rows (i q : Nat) (hi : i < 16) (hq : q < 544) :
    IntOp.andi
        (IntOp.cmpi CmpIPredicate.sge (IntOp.addi (Scalar.subi (Scalar.muli (BitVec.ofNat 32 i) 512#32) 16#32) (BitVec.ofNat 32 q)) 0#32)
        (IntOp.cmpi CmpIPredicate.slt (IntOp.addi (Scalar.subi (Scalar.muli (BitVec.ofNat 32 i) 512#32) 16#32) (BitVec.ofNat 32 q)) 8192#32)
      = if 16 ≤ 512 * i + q ∧ 512 * i + q < 8208 then 1#1 else 0#1 := by
  have hv : (IntOp.addi (Scalar.subi (Scalar.muli (BitVec.ofNat 32 i) 512#32) 16#32) (BitVec.ofNat 32 q)).toInt = 512 * i + q - 16 := by
    show (BitVec.ofNat 32 i * 512#32 - 16#32 + BitVec.ofNat 32 q).toInt = _
    have e : ∀ n : Nat, n < 2 ^ 20 → (BitVec.ofNat 32 n).toInt = n := fun n hn => by
      have e : (BitVec.ofNat 32 n).toNat = n := by rw [BitVec.toNat_ofNat]; exact Nat.mod_eq_of_lt (by omega)
      rw [BitVec.toInt_eq_toNat_of_lt (by omega), e]
    rw [BitVec.toInt_add, BitVec.toInt_sub, BitVec.toInt_mul, e i (by omega), e q (by omega), e 512 (by omega), e 16 (by omega),
      Int.bmod_eq_of_le (n := (i : Int) * (512 : Nat)) (by omega) (by omega), Int.bmod_eq_of_le (n := (i : Int) * (512 : Nat) - (16 : Nat)) (by omega) (by omega),
      Int.bmod_eq_of_le (by omega) (by omega)]
    omega
  generalize (IntOp.addi (Scalar.subi (Scalar.muli (BitVec.ofNat 32 i) 512#32) 16#32) (BitVec.ofNat 32 q)) = w at hv ⊢
  have h0 : (0#32).toInt = 0 := by decide
  have h8 : (8192#32).toInt = 8192 := by decide
  unfold IntOp.cmpi IntOp.andi
  simp only [BitVec.sle, BitVec.slt, hv, h0, h8]
  by_cases ha : 16 ≤ 512 * i + q <;> by_cases hb : 512 * i + q < 8208
  · rw [decide_eq_true (by omega), decide_eq_true (by omega), if_pos ⟨ha, hb⟩]; rfl
  · rw [decide_eq_true (by omega), decide_eq_false (by omega), if_neg (by omega)]; rfl
  · rw [decide_eq_false (by omega), decide_eq_true (by omega), if_neg (by omega)]; rfl
  · rw [decide_eq_false (by omega), decide_eq_false (by omega), if_neg (by omega)]; rfl

theorem pay1_apply (i : grid0.Coords) (v0 : FVec Ideal S16x1024 .f32) (v1 : FVec Ideal S512x1024 .f32) (v2 : FVec Ideal S16x1024 .f32)
    (h0 : ∀ q c, 16 ≤ 512 * (i 0).val + q.val → (v0 (ix2 q c) : EReal) = arow A (512 * (i 0).val + q.val - 16) c)
    (h1 : ∀ q c, (v1 (ix2 q c) : EReal) = arow A (512 * (i 0).val + q.val) c)
    (h2 : ∀ q c, 512 * (i 0).val + 528 + q.val < 8208 → (v2 (ix2 q c) : EReal) = arow A (512 * (i 0).val + 512 + q.val) c)
    (z : S544x512.Idx) :
    (k0_pay1 (F := Ideal) i v0 v1 v2 z : EReal) = marg A (512 * (i 0).val + (z 0).val) (z 1) := by
  have hz : (z 0).val < 544 := (z 0).isLt
  have hi : (i 0).val < 16 := (i 0).isLt
  pointwise [k0_pay1]
  rw [in_rows _ _ hi hz]
  unfold marg
  split
  · rename_i hm
    have hv : ∀ c : Fin 1024, (if h : (z 0).val < 16 then (v0 (ix2 ⟨(z 0).val, h⟩ c) : EReal)
        else if h' : (z 0).val - 16 < 512 then v1 (ix2 ⟨(z 0).val - 16, h'⟩ c)
        else v2 (ix2 ⟨(z 0).val - 16 - 512, by omega⟩ c)) = arow A (512 * (i 0).val + (z 0).val - 16) c := by
      intro c
      split
      · exact h0 _ c hm.1
      · split
        · rw [h1]; congr 1; dsimp only; omega
        · rw [h2 _ _ (by dsimp only; omega)]; congr 1; dsimp only; omega
    unfold glu sigm
    rw [← zero_sub, ← hv ⟨(z 1).val, by have := (z 1).isLt; have e : S544x512.size 1 = 512 := rfl; omega⟩,
      ← hv ⟨512 + (z 1).val, by have := (z 1).isLt; have e : S544x512.size 1 = 512 := rfl; omega⟩]
    rfl
  · rfl

variable (i : grid0.Coords) (x0 : FVec Ideal S16x1024 .f32) (x1 : FVec Ideal S512x1024 .f32) (x2 : FVec Ideal S16x1024 .f32)
  (x3 : FVec Ideal S32x512 .f32)
  (hp : ∀ z, (k0_pay1 (F := Ideal) i (View.ld x0 r0_0) (View.ld x1 r0_1) (View.ld x2 r0_0) z : EReal)
    = marg A (512 * (i 0).val + (z 0).val) (z 1))
  (hw : ∀ z, (x3 z : EReal) = tap W (z 0).val (z 1))
include hp hw

theorem pay26_apply (y : S512x512.Idx) :
    (k0_pay26 (F := Ideal) i x0 x1 x2 x3 B G H y : EReal) = conv A W B 29 (512 * (i 0).val + (y 0).val) (y 1) := by
  have hy : (y 0).val < 512 := (y 0).isLt
  pointwise [k0_pay26, k0_pay14, k0_pay13, k0_pay11, k0_pay12, k0_pay10, k0_pay9, k0_pay18, k0_pay19, k0_pay20, k0_pay21, k0_pay22,
    k0_pay23, k0_pay24, k0_pay25, k0_pay2, k0_pay3, k0_pay4, k0_pay5, k0_pay6, k0_pay7, k0_pay8]
  simp only [hp, hw]
  unfold conv
  simp only [Finset.sum_range_succ, Finset.sum_range_zero, ← add_assoc, add_zero]
  iterate 29 refine add_cong ?_ (term A (by first | (show _ + _ % 544 = _; omega) | (show _ + (_ + _) = _; omega)) rfl rfl)
  rfl

theorem pay16_apply (y : S512x512.Idx) :
    (k0_pay16 (F := Ideal) (k0_pay25 i x0 x1 x2 x3 B G H) (k0_pay26 i x0 x1 x2 x3 B G H) (k0_pay27 i x0 x1 x2 x3 B G H)
      (View.ld x3 r0_32) (View.ld x3 r0_33) y : EReal) = conv A W B 31 (512 * (i 0).val + (y 0).val) (y 1) := by
  have hy : (y 0).val < 512 := (y 0).isLt
  pointwise [k0_pay16, k0_pay27, k0_pay15, k0_pay24, k0_pay25, k0_pay7, k0_pay8, pay26_apply A W B G H i x0 x1 x2 x3 hp hw]
  simp only [hp, hw]
  refine Eq.trans ?_ (conv_two A W B (512 * (i 0).val + (y 0).val) (y 1)).symm
  iterate 2 refine add_cong ?_ (term A (by first | (show _ + _ % 544 = _; omega) | (show _ + (_ + _) = _; omega)) rfl rfl)
  rfl

/-- The convolved rows of the point. -/
theorem row16 (y : S512x512.Idx) (hy : 512 * (i 0).val + (y 0).val < 8192) :
    (k0_pay16 (F := Ideal) (k0_pay25 i x0 x1 x2 x3 B G H) (k0_pay26 i x0 x1 x2 x3 B G H) (k0_pay27 i x0 x1 x2 x3 B G H)
      (View.ld x3 r0_32) (View.ld x3 r0_33) y : EReal)
      = val_main_v229 (F := Ideal) A W B (ix2 ⟨512 * (i 0).val + (y 0).val, hy⟩ (y 1)) :=
  (pay16_apply A W B G H i x0 x1 x2 x3 hp hw y).trans (ref_conv A W B (ix2 ⟨512 * (i 0).val + (y 0).val, hy⟩ (y 1))).symm

omit hp hw in
theorem pay17_apply (v34 : FVec Ideal S544x512 .f32) (v212 v213 : FVec Ideal S512x512 .f32) (v214 v220 : FVec Ideal S1x512 .f32)
    (y : S512x512.Idx) : (k0_pay17 (F := Ideal) v34 v212 v213 v214 v220 G H y : EReal)
      = act (fun k => k0_pay16 (F := Ideal) v34 v212 v213 v214 v220 (ix2 (y 0) k)) (G (ix2 0 (y 1))) (H (ix2 0 (y 1))) (y 1) := by
  pointwise [k0_pay17, act, lnorm, mean, sigm, zero_sub]

theorem row17 (y : S512x512.Idx) (hy : 512 * (i 0).val + (y 0).val < 8192) :
    (k0_pay17 (F := Ideal) (k0_pay25 i x0 x1 x2 x3 B G H) (k0_pay26 i x0 x1 x2 x3 B G H) (k0_pay27 i x0 x1 x2 x3 B G H)
      (View.ld x3 r0_32) (View.ld x3 r0_33) G H y : EReal)
      = val_main_v253 (F := Ideal) A W B G H (ix2 ⟨512 * (i 0).val + (y 0).val, hy⟩ (y 1)) := by
  refine (pay17_apply G H _ _ _ _ _ y).trans (Eq.trans ?_ (ref_act A W B G H _).symm)
  refine congrArg (fun f => act f (G (ix2 0 (y 1))) (H (ix2 0 (y 1))) (y 1)) (funext fun k => ?_)
  exact row16 A W B G H i x0 x1 x2 x3 hp hw (ix2 (y 0) k) hy

theorem out8 (y : S512x512.Idx) (hy : 512 * (i 0).val + (y 0).val < 8192) : (out0_8 (F := Ideal) i x0 x1 x2 x3 B G H y : EReal)
    = val_main_v229 (F := Ideal) A W B (ix2 ⟨512 * (i 0).val + (y 0).val, hy⟩ (y 1)) := by
  unfold out0_8
  rw [View.canon_unit_zero hz]
  exact row16 A W B G H i x0 x1 x2 x3 hp hw y hy

theorem out7 (y : S512x512.Idx) (hy : 512 * (i 0).val + (y 0).val < 8192) : (out0_7 (F := Ideal) i x0 x1 x2 x3 B G H y : EReal)
    = val_main_v253 (F := Ideal) A W B G H (ix2 ⟨512 * (i 0).val + (y 0).val, hy⟩ (y 1)) := by
  unfold out0_7
  rw [View.canon_unit_zero hz, View.ld_unit_zero hz, View.ld_unit_zero hz]
  exact row17 A W B G H i x0 x1 x2 x3 hp hw y hy

omit hp hw

/-! ## The blocks of a grid point -/

variable (m : (ℓ : Loc nD τ sig) → Buf (Elt Ideal) ℓ)

theorem e0 : ∀ t : Fin cfg0.N, win0_0.index t = ![32 * t.val - 1, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![min (32 * t.val + 32) 511, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem co : ∀ t : Fin cfg0.N, (grid0.coords t 0).val = t.val := (by decide +kernel : ∀ t : Fin grid0.N, _)

/-! Device `c`'s argument arrays. -/

abbrev A0 (c : Dev nD) : FVec Ideal S8192x1024 .f32 := m ((c : Thread nD τ).loc main_arg0)
abbrev A1 (c : Dev nD) : FVec Ideal S31x512 .f32 := m ((c : Thread nD τ).loc main_arg1)
abbrev A2 (c : Dev nD) : FVec Ideal S1x512 .f32 := m ((c : Thread nD τ).loc main_arg2)
abbrev A3 (c : Dev nD) : FVec Ideal S1x512 .f32 := m ((c : Thread nD τ).loc main_arg3)
abbrev A4 (c : Dev nD) : FVec Ideal S1x512 .f32 := m ((c : Thread nD τ).loc main_arg4)

/-- The taps padded by a row of zeros, before the kernel. -/
theorem padded (c : Dev nD) (z : S32x512.Idx) : (V m c main_v0 z : EReal) = tap (A1 m c) (z 0).val (z 1) := by
  unfold V hostOps0 hostOps0_1
  simp only [List.flatten_cons, List.flatten_nil, List.append_nil, List.cons_append, List.nil_append]
  after_results
  show (pad S32x512 ![0, 0] ![1, 0] ![0, 0] (A1 m c) (sitofp (F := Ideal) .f32 (constantI S_ 32 0#32)) pads_S31x512_S32x512_010_000 h_S_ z : EReal) = _
  pointwise []
  unfold tap
  by_cases hr : (z 0).val < 31
  · rw [dif_pos hr, dif_pos (by omega)]
  · rw [dif_neg hr, dif_neg (by omega)]
    exact sitofp_zero (φ := .f32)

variable (c : Dev nD) (t : Fin cfg0.N)

theorem lt16 : t.val < 16 := by have := t.isLt; have hN : cfg0.N = 16 := N_0; omega

theorem blk0 : iblk m c 0 t = rows (fun q : Fin 16 => ⟨16 * (32 * t.val - 1) + q.val, by have := lt16 t; omega⟩) (A0 m c) := by
  funext y
  blk_simp [iblk]
  exact congrArg (A0 m c) (ext2 (by blk_simp [e0]; show _ = 16 * (32 * t.val - 1) + (y 0).val; omega) (by blk_simp [e0]))
theorem blk1 : iblk m c 1 t = rows (fun q : Fin 512 => ⟨512 * t.val + q.val, by have := lt16 t; omega⟩) (A0 m c) := by
  funext y
  blk_simp [iblk]
  exact congrArg (A0 m c) (ext2 (by blk_simp [e1]; show _ = 512 * t.val + (y 0).val; omega) (by blk_simp [e1]))
theorem blk2 : iblk m c 2 t = rows (fun q : Fin 16 => ⟨16 * min (32 * t.val + 32) 511 + q.val, by have := lt16 t; omega⟩) (A0 m c) := by
  funext y
  blk_simp [iblk]
  exact congrArg (A0 m c) (ext2 (by blk_simp [e2]; show _ = 16 * min (32 * t.val + 32) 511 + (y 0).val; omega) (by blk_simp [e2]))
theorem blk3 (z : S32x512.Idx) : (iblk m c 3 t z : EReal) = tap (A1 m c) (z 0).val (z 1) := by
  rw [← padded]
  blk_simp [iblk]
  exact congrArg (V m c main_v0) (ext2 (by blk_simp [e3]) (by blk_simp [e3]))
theorem blk4 : iblk m c 4 t = A2 m c := by
  funext y
  blk_simp [iblk]
  exact congrArg (A2 m c) (ext2 (by blk_simp [e4]) (by blk_simp [e4]))
theorem blk5 : iblk m c 5 t = A3 m c := by
  funext y
  blk_simp [iblk]
  exact congrArg (A3 m c) (ext2 (by blk_simp [e5]) (by blk_simp [e5]))
theorem blk6 : iblk m c 6 t = A4 m c := by
  funext y
  blk_simp [iblk]
  exact congrArg (A4 m c) (ext2 (by blk_simp [e6]) (by blk_simp [e6]))

theorem ld16 (x : FVec Ideal S16x1024 .f32) : View.ld (Val := Elt Ideal) (e' := .f32) x r0_0 = x := by
  rw [View.ld_unit_zero hz]
theorem ld512 (x : FVec Ideal S512x1024 .f32) : View.ld (Val := Elt Ideal) (e' := .f32) x r0_1 = x := by
  rw [View.ld_unit_zero hz]

/-- The gated rows of the point, at its blocks. -/
theorem gated (z : S544x512.Idx) : (k0_pay1 (F := Ideal) (grid0.coords t) (View.ld (iblk m c 0 t) r0_0) (View.ld (iblk m c 1 t) r0_1)
    (View.ld (iblk m c 2 t) r0_0) z : EReal) = marg (A0 m c) (512 * (grid0.coords t 0).val + (z 0).val) (z 1) := by
  have ht := lt16 t
  have hc := co t
  rw [ld16, ld512, ld16, blk0, blk1, blk2]
  refine pay1_apply (A0 m c) (grid0.coords t) _ _ _ (fun q l hq => ?_) (fun q l => ?_) (fun q l hq => ?_) z
  · unfold rows arow
    rw [dif_pos (by omega)]
    exact congrArg (A0 m c) (ext2 (by show 16 * (32 * t.val - 1) + q.val = 512 * (grid0.coords t 0).val + q.val - 16; omega) rfl)
  · unfold rows arow
    rw [dif_pos (by omega)]
    exact congrArg (A0 m c) (ext2 (by show 512 * t.val + q.val = 512 * (grid0.coords t 0).val + q.val; omega) rfl)
  · unfold rows arow
    rw [dif_pos (by omega)]
    exact congrArg (A0 m c) (ext2 (by show 16 * min (32 * t.val + 32) 511 + q.val = 512 * (grid0.coords t 0).val + 512 + q.val; omega) rfl)

/-! ## The arrays after the run: the reference's values -/

theorem final7 (c : Dev nD) : (dats m 0 c).arrAt 7 cfg0.N = val_main_v253 (F := Ideal) (A0 m c) (A1 m c) (A2 m c) (A3 m c) (A4 m c) := by
  refine (dats m 0 c).arrAt_eq_of_covers 7 _ (by decide +kernel) fun t hf y => ?_
  have ht := lt16 t
  have hy : (y 0).val < 512 := (y 0).isLt
  blk_simp
  rw [after0_7, blk4, blk5, blk6]
  refine (out7 (A0 m c) (A1 m c) _ _ _ _ _ _ _ _ (gated m c t) (blk3 m c t) y (by rw [co]; omega)).trans ?_
  exact congrArg (val_main_v253 (F := Ideal) (A0 m c) (A1 m c) (A2 m c) (A3 m c) (A4 m c)) (ext2 (by have := co t; blk_simp [e7]; show 512 * (grid0.coords t 0).val + (y 0).val = _; omega) (by blk_simp [e7]))

theorem final8 (c : Dev nD) : (dats m 0 c).arrAt 8 cfg0.N = val_main_v229 (F := Ideal) (A0 m c) (A1 m c) (A2 m c) := by
  refine (dats m 0 c).arrAt_eq_of_covers 8 _ (by decide +kernel) fun t hf y => ?_
  have ht := lt16 t
  have hy : (y 0).val < 512 := (y 0).isLt
  blk_simp
  rw [after0_8, blk4, blk5, blk6]
  refine (out8 (A0 m c) (A1 m c) _ _ _ _ _ _ _ _ (gated m c t) (blk3 m c t) y (by rw [co]; omega)).trans ?_
  exact congrArg (val_main_v229 (F := Ideal) (A0 m c) (A1 m c) (A2 m c)) (ext2 (by have := co t; blk_simp [e8]; show 512 * (grid0.coords t 0).val + (y 0).val = _; omega) (by blk_simp [e8]))

/-! ## The claims -/

theorem frameP : Cert.quiescent_ConvFwd (hConvFwd := Cert.ConvFwd.Gen.facts) := fun m ρ _ => Cert.ConvFwd.Gen.frame m ρ
theorem framePI : Cert.quiescent_ConvFwdIdeal (hConvFwdIdeal := Cert.ConvFwdIdeal.Gen.facts) := fun m ρ _ => Cert.ConvFwdIdeal.Gen.frame m ρ

theorem frameRI : Cert.quiescent_ConvFwdRefIdeal (hConvFwdRefIdeal := Cert.ConvFwdRefIdeal.Gen.facts) := fun m ρ _ =>
  (θ_run Cert.ConvFwdRefIdeal.defs _ _).mono (fun r h => ⟨fun c => (h c).2.2,
      Idealize.ShloMosaic.sem_eq_zero_of_no_sems (by decide) r.2⟩)
    (Cert.ConvFwdRefIdeal.Value.run (F := Ideal) m ρ)

/-- The kernel leaves in its result arrays what the reference computes. -/
theorem algebraic : Cert.algebraic_ConvFwdIdeal_ConvFwdRefIdeal (hConvFwdIdeal := Cert.ConvFwdIdeal.Gen.facts)
    (hConvFwdRefIdeal := Cert.ConvFwdRefIdeal.Gen.facts) := by
  intro m ρ m' ρ' _ hag
  refine ⟨fun c => val_main_v253 (F := Ideal) (A0 m c) (A1 m c) (A2 m c) (A3 m c) (A4 m c),
    fun c => val_main_v229 (F := Ideal) (A0 m c) (A1 m c) (A2 m c), ?_, ?_⟩
  · refine (θ_run Cert.ConvFwdIdeal.defs _ _).mono (fun r h c => ?_) (Cert.ConvFwdIdeal.Value.run_blocks (F := Ideal) m ρ)
    obtain ⟨h7, h8, hrest⟩ := h c
    exact ⟨h7.trans (final7 m c), h8.trans (final8 m c), hrest⟩
  · refine (θ_run Cert.ConvFwdRefIdeal.defs _ _).mono (fun r h c => ?_) (Cert.ConvFwdRefIdeal.Value.run (F := Ideal) m' ρ')
    obtain ⟨h7, h8, hrest⟩ := h c
    obtain ⟨a0, a1, a2, a3, a4⟩ := hag c
    have b0 : StableHlo.launchContents m' c (Proc.devRef .tc Cert.ConvFwdRefIdeal.main_arg0) = A0 m c := a0
    have b1 : StableHlo.launchContents m' c (Proc.devRef .tc Cert.ConvFwdRefIdeal.main_arg1) = A1 m c := a1
    have b2 : StableHlo.launchContents m' c (Proc.devRef .tc Cert.ConvFwdRefIdeal.main_arg2) = A2 m c := a2
    have b3 : StableHlo.launchContents m' c (Proc.devRef .tc Cert.ConvFwdRefIdeal.main_arg3) = A3 m c := a3
    have b4 : StableHlo.launchContents m' c (Proc.devRef .tc Cert.ConvFwdRefIdeal.main_arg4) = A4 m c := a4
    refine ⟨h7.trans ((val_main_v253_eq ..).trans ?_), h8.trans ((val_main_v229_eq ..).trans ?_), hrest⟩
    · rw [b0, b1, b2, b3, b4]
    · rw [b0, b1, b2]

end Cert.ConvFwdIdeal.Block

end
-- ==== Proof.Loss.lean ====
module

public import proofs.«01_k».proof.Defs
public import proofs.«01_k».proof.Proof.Gen.Loss.Frame
public import proofs.«01_k».proof.Proof.Gen.LossIdeal.Value
public import proofs.«01_k».proof.Proof.Gen.LossRefIdeal.Read
public import proofs.«01_k».proof.Proof.Gen.LossRefIdeal.Run
public import proofs.«01_k».proof.Proof.Index
public import proofs.«01_k».proof.Proof.Rows
public import Idealize.ShloMosaic.Lib.Quiescent
public import Idealize.ShloMosaic.Lib.KernelVsHost

@[expose] public section

set_option maxRecDepth 16384

noncomputable section

/-! # The loss

A grid point takes 512 rows of the difference of the output and its target, writes the cotangent of the output, and adds the squares to
the sums it carries, one for each remainder of the row by 8 and of the column by 128. -/

namespace Cert.LossIdeal.Block

open Cert.LossIdeal Cert.LossIdeal.Gen Cert.Index Cert.Rows Idealize.ShloMosaic Idealize.ShloMosaic.TcCoe Idealize.SL.Sem
open Cert.LossRefIdeal.Read

variable (Y T : FVec Ideal S8192x1024 .f32)

/-- The squared error of an entry. -/
def sq (n : Fin 8192) (c : Fin 1024) : EReal := (Y (ix2 n c) - T (ix2 n c)) * (Y (ix2 n c) - T (ix2 n c))

/-- The squared errors of the row `8 n + q` in the columns of remainder `l`, 0 past the last row. -/
def part_ (q : Fin 8) (l : Fin 128) (n : Nat) : EReal :=
  if h : n < 1024 then ∑ j : Fin 8, sq Y T ⟨n * 8 + q.val, by omega⟩ ⟨j.val * 128 + l.val, by omega⟩ else 0

/-! ## The reference -/

/-- The mean's weight of a column, halved by the loss and doubled by the square's derivative: `.5 / 1024 * 2` is `1 / 1024`. -/
theorem weight : Ideal.div (Ideal.ofBits .f32 0x3F000000#32) (Ideal.ofBits .f32 0x44800000#32) * Ideal.ofBits .f32 0x40000000#32
    = Ideal.ofBits .f32 0x3A800000#32 := by
  have a : Ideal.ofBits .f32 0x3F000000#32 = (((1 : ℝ) / 2 : ℝ) : EReal) := by
    simp [Ideal.ofBits, Ideal.ieee, -EReal.coe_mul]; norm_num
  have b : Ideal.ofBits .f32 0x44800000#32 = ((1024 : ℝ) : EReal) := by
    simp [Ideal.ofBits, Ideal.ieee, -EReal.coe_mul]; norm_num
  have d : Ideal.ofBits .f32 0x40000000#32 = ((2 : ℝ) : EReal) := by
    simp [Ideal.ofBits, Ideal.ieee, -EReal.coe_mul]; norm_num
  have e : Ideal.ofBits .f32 0x3A800000#32 = (((1 : ℝ) / 1024 : ℝ) : EReal) := by
    simp [Ideal.ofBits, Ideal.ieee, -EReal.coe_mul]; norm_num
  rw [a, b, d, e, Ideal.div_coe (by norm_num), ← EReal.coe_mul, ← EReal.coe_mul]
  norm_num

theorem ref_dy (z : S8192x1024.Idx) : (val_main_v14 (F := Ideal) Y T z : EReal)
    = (Y z - T z) * Ideal.ofBits .f32 0x3A800000#32 := by
  pointwise [val_main_v14, val_main_v13, val_main_v12, val_main_v11, val_main_v10, val_main_v9, val_main_v3, val_main_v2, val_main_v0,
    val_main_cst, val_main_cst_4, val_main_cst_5, val_main_cst_6]
  rw [← mul_assoc, weight, mul_comm]

theorem ref_sum (q : Fin 8) (l : Fin 128) : (val_main_v19 (F := Ideal) Y T (ix2 q l) : EReal) = ∑ n ∈ Finset.range 1024, part_ Y T q l n := by
  pointwise [val_main_v19, val_main_v18, val_main_v17, val_main_v16, val_main_v15, val_main_cst_7, val_main_cst_8]
  rw [Finset.sum_range]
  exact Finset.sum_congr rfl fun n _ => Eq.symm (by unfold part_; exact dif_pos n.isLt)

/-! ## The payloads -/

variable (y0 y1 : FVec Ideal S512x1024 .f32) (s : FVec Ideal S8x128 .f32)

theorem pay3_apply (y : S512x1024.Idx) : (k0_pay3 (F := Ideal) y0 y1 y : EReal) = (y0 y - y1 y) * Ideal.ofBits .f32 0x3A800000#32 := by
  pointwise [k0_pay3, k0_pay2]

/-- The squared error of an entry of a block. -/
def sqb (r : Fin 512) (l : Fin 1024) : EReal := (y0 (ix2 r l) - y1 (ix2 r l)) * (y0 (ix2 r l) - y1 (ix2 r l))

theorem pay4_apply (q : Fin 8) (l : Fin 128) : (k0_pay4 (F := Ideal) y0 y1 s (ix2 q l) : EReal) = s (ix2 q l)
    + ∑ k : Fin 64, ∑ j : Fin 8, sqb y0 y1 ⟨k.val * 8 + q.val, by omega⟩ ⟨j.val * 128 + l.val, by omega⟩ := by
  rw [Finset.sum_comm, Fin.sum_univ_eight]
  pointwise [k0_pay4, k0_pay2]
  rfl

variable (m : (ℓ : Loc nD τ sig) → Buf (Elt Ideal) ℓ) (c : Dev nD) (t : Fin cfg0.N)

abbrev A0 : FVec Ideal S8192x1024 .f32 := m ((c : Thread nD τ).loc main_arg0)
abbrev A1 : FVec Ideal S8192x1024 .f32 := m ((c : Thread nD τ).loc main_arg1)

theorem dy_at : (outsAt0 m c t.val t.isLt).1 = k0_pay3 (F := Ideal) (iblk m c 0 t) (iblk m c 1 t) := by
  by_cases h0 : t.val % 16 = 0
  · rw [outsAt0_A m c t h0]; dsimp only
    unfold out0_A_2; frame_out
  · rw [outsAt0_B m c t h0]; dsimp only
    unfold out0_B_2; frame_out

theorem sum_A (h0 : t.val % 16 = 0) : (outsAt0 m c t.val t.isLt).2 = k0_pay4 (F := Ideal) (iblk m c 0 t) (iblk m c 1 t) (k0_pay1 (F := Ideal)) := by
  rw [outsAt0_A m c t h0]; dsimp only
  unfold out0_A_3; frame_out

theorem sum_B (h0 : ¬t.val % 16 = 0) : (outsAt0 m c t.val t.isLt).2
    = k0_pay4 (F := Ideal) (iblk m c 0 t) (iblk m c 1 t) (outsAt0 m c (t.val - 1) (Nat.lt_of_le_of_lt (Nat.sub_le _ _) t.isLt)).2 := by
  rw [outsAt0_B m c t h0]; dsimp only
  unfold out0_B_3; frame_out

/-! The arguments' blocks at a point. -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)

theorem lt16 : t.val < 16 := by have := t.isLt; have hN : cfg0.N = 16 := N_0; omega

/-- Row `q` of point `t`'s blocks. -/
def row (q : Fin 512) : Fin 8192 := ⟨t.val * 512 + q.val, by have := lt16 t; omega⟩

theorem blk0 : iblk m c 0 t = rows (row t) (A0 m c) := by
  funext y
  blk_simp [iblk]
  exact congrArg (A0 m c) (ext2 (by blk_simp [e0, row]) (by blk_simp [e0]))
theorem blk1 : iblk m c 1 t = rows (row t) (A1 m c) := by
  funext y
  blk_simp [iblk]
  exact congrArg (A1 m c) (ext2 (by blk_simp [e1, row]) (by blk_simp [e1]))

/-! ## The sums carried -/

/-- A point's part of a sum. -/
def added (q : Fin 8) (l : Fin 128) : EReal := ∑ k ∈ Finset.range 64, part_ (A0 m c) (A1 m c) q l (t.val * 64 + k)

theorem step (s : FVec Ideal S8x128 .f32) (q : Fin 8) (l : Fin 128) :
    (k0_pay4 (F := Ideal) (iblk m c 0 t) (iblk m c 1 t) s (ix2 q l) : EReal) = s (ix2 q l) + added m c t q l := by
  have ht := lt16 t
  rw [blk0, blk1]
  refine (pay4_apply _ _ s q l).trans (congrArg (s (ix2 q l) + ·) ?_)
  unfold added
  rw [Finset.sum_range]
  refine Finset.sum_congr rfl fun k _ => ?_
  have hk := k.isLt
  unfold part_
  rw [dif_pos (by omega)]
  refine Finset.sum_congr rfl fun j _ => ?_
  have e : row t ⟨k.val * 8 + q.val, by omega⟩ = ⟨(t.val * 64 + k.val) * 8 + q.val, by omega⟩ :=
    Fin.ext (by show t.val * 512 + (k.val * 8 + q.val) = _; dsimp only; omega)
  exact congrArg (fun r => sq (A0 m c) (A1 m c) r ⟨j.val * 128 + l.val, by omega⟩) e

theorem sums (q : Fin 8) (l : Fin 128) (n : Nat) (hn : n < cfg0.N) :
    ((outsAt0 m c n hn).2 (ix2 q l) : EReal) = ∑ i ∈ Finset.range (n * 64 + 64), part_ (A0 m c) (A1 m c) q l i := by
  induction n with
  | zero =>
    refine (congrFun (sum_A m c ⟨0, hn⟩ rfl) _).trans ((step m c ⟨0, hn⟩ _ q l).trans ?_)
    have e : k0_pay1 (F := Ideal) (ix2 q l) = 0 := by pointwise [k0_pay1]
    refine (congrArg (· + _) e).trans ((zero_add _).trans (Finset.sum_congr rfl fun x _ => ?_))
    exact congrArg (part_ (A0 m c) (A1 m c) q l) (by show 0 * 64 + x = x; omega)
  | succ n ih =>
    have hN : cfg0.N = 16 := N_0
    refine (congrFun (sum_B m c ⟨n + 1, hn⟩ (by show ¬(n + 1) % 16 = 0; omega)) _).trans ((step m c ⟨n + 1, hn⟩ _ q l).trans ?_)
    rw [Finset.sum_range_add]
    exact congrArg₂ (fun a b : EReal => a + b) ((ih (Nat.lt_of_succ_lt hn)).trans (by rw [Nat.succ_mul])) rfl

/-! ## The arrays after the run: the reference's values -/

abbrev R2 : FVec Ideal S8192x1024 .f32 := val_main_v14 (F := Ideal) (A0 m c) (A1 m c)
abbrev R3 : FVec Ideal S8x128 .f32 := val_main_v19 (F := Ideal) (A0 m c) (A1 m c)

theorem out2 (q : Fin 512) (l : Fin 1024) : ((outsAt0 m c t.val t.isLt).1 (ix2 q l) : EReal) = R2 m c (ix2 (row t q) l) := by
  rw [dy_at, blk0, blk1]
  exact (pay3_apply _ _ _).trans (ref_dy (A0 m c) (A1 m c) (ix2 (row t q) l)).symm

theorem out3 (h : t.val % 16 = 15) (q : Fin 8) (l : Fin 128) : ((outsAt0 m c t.val t.isLt).2 (ix2 q l) : EReal) = R3 m c (ix2 q l) := by
  have ht := lt16 t
  have e : t.val * 64 + 64 = 1024 := by omega
  rw [sums m c, e]
  exact (ref_sum ..).symm

theorem final2 : (dats m 0 c).arrAt 2 cfg0.N = R2 m c := by
  refine (dats m 0 c).arrAt_eq_of_covers 2 _ (by decide +kernel) fun t hf y => ?_
  blk_simp
  rw [after0_2]
  refine (congrArg (outsAt0 m c t.val t.isLt).1 (ext2 rfl rfl : y = ix2 (y 0) (y 1))).trans ((out2 m c t (y 0) (y 1)).trans ?_)
  exact congrArg (R2 m c) (ext2 (by blk_simp [e2, row]) (by blk_simp [e2]))

theorem final3 : (dats m 0 c).arrAt 3 cfg0.N = R3 m c := by
  refine (dats m 0 c).arrAt_eq_of_covers 3 _ (by decide +kernel) fun t hf y => ?_
  have h : t.val % 16 = 15 := (flush0_3 t).mp hf
  blk_simp
  rw [after0_3]
  refine (congrArg (outsAt0 m c t.val t.isLt).2 (ext2 rfl rfl : y = ix2 (y 0) (y 1))).trans ((out3 m c t h (y 0) (y 1)).trans ?_)
  exact congrArg (R3 m c) (ext2 (by blk_simp [e3]) (by blk_simp [e3]))

/-! ## The claims -/

theorem frameP : Cert.quiescent_Loss (hLoss := Cert.Loss.Gen.facts) := fun m ρ _ => Cert.Loss.Gen.frame m ρ
theorem framePI : Cert.quiescent_LossIdeal (hLossIdeal := Cert.LossIdeal.Gen.facts) := fun m ρ _ => Cert.LossIdeal.Gen.frame m ρ

theorem frameRI : Cert.quiescent_LossRefIdeal (hLossRefIdeal := Cert.LossRefIdeal.Gen.facts) := fun m ρ _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m ρ)

/-- The kernel leaves in its result arrays what the reference computes. -/
theorem algebraic : Cert.algebraic_LossIdeal_LossRefIdeal (hLossIdeal := Cert.LossIdeal.Gen.facts)
    (hLossRefIdeal := Cert.LossRefIdeal.Gen.facts) := by
  intro m ρ m' ρ' _ hag
  refine ⟨fun c => R2 m c, fun c => R3 m c, ?_, ?_⟩
  · refine (θ_run Cert.LossIdeal.defs _ _).mono (fun r h c => ?_) (Cert.LossIdeal.Value.run_blocks (F := Ideal) m ρ)
    obtain ⟨h2, h3, hrest⟩ := h c
    exact ⟨h2.trans (final2 m c), h3.trans (final3 m c), hrest⟩
  · refine (θ_run Cert.LossRefIdeal.defs _ _).mono (fun r h c => ?_) (Cert.LossRefIdeal.Value.run (F := Ideal) m' ρ')
    obtain ⟨h2, h3, hrest⟩ := h c
    obtain ⟨a0, a1⟩ := hag c
    refine ⟨h2.trans ((val_main_v14_eq ..).trans ?_), h3.trans ((val_main_v19_eq ..).trans ?_), hrest⟩
    · rw [a0, a1]
    · rw [a0, a1]

end Cert.LossIdeal.Block

end
-- ==== Proof.AdamW.lean ====
module

public import proofs.«01_k».proof.Defs
public import proofs.«01_k».proof.Proof.Gen.AdamW.Frame
public import proofs.«01_k».proof.Proof.Gen.AdamWIdeal.Value
public import proofs.«01_k».proof.Proof.Gen.AdamWRefIdeal.Read
public import proofs.«01_k».proof.Proof.Gen.AdamWRefIdeal.Run
public import proofs.«01_k».proof.Proof.Index
public import proofs.«01_k».proof.Proof.Rows
public import Idealize.ShloMosaic.Lib.Quiescent
public import Idealize.ShloMosaic.Lib.KernelVsHost

@[expose] public section

set_option maxRecDepth 16384

noncomputable section

/-! # The optimiser's step

A grid point adds the eight terms of its own quarter of the gradient, and from the sum updates both moments and the weights. -/

namespace Cert.AdamWIdeal.Block

open Cert.AdamWIdeal Cert.AdamWIdeal.Gen Cert.Index Cert.Rows Idealize.ShloMosaic Idealize.ShloMosaic.TcCoe Idealize.SL.Sem
open Cert.AdamWRefIdeal.Read

variable (P0 P1 P2 P3 : FVec Ideal S8x128x1024 .bf16) (W M V : FVec Ideal S512x1024 .f32)

/-- A quarter of the gradient: the sum of its eight terms. -/
def total (P : FVec Ideal S8x128x1024 .bf16) (q : Fin 128) (c : Fin 1024) : EReal := ∑ k : Fin 8, (P (ix3 k q c) : EReal)

/-- The quarter a row of the gradient lies in. -/
def quarter (n : Nat) : FVec Ideal S8x128x1024 .bf16 := if n = 0 then P0 else if n = 1 then P1 else if n = 2 then P2 else P3

/-- The new first moment, the new second moment, and the change of the weight. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (g m v w : EReal) : EReal := Ideal.ofBits .f32 0xBA83126F#32 *
  (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

/-! ## The reference -/

theorem ref_g (t : Nat) (ht : t < 4) (q : Fin 128) (c : Fin 1024) (z : S512x1024.Idx) (h0 : (z 0).val = t * 128 + q.val) (h1 : z 1 = c) :
    (val_main_v8 (F := Ideal) P0 P1 P2 P3 z : EReal) = total (quarter P0 P1 P2 P3 t) q c := by
  pointwise [val_main_v8, val_main_v7, val_main_v6, val_main_v5, val_main_v4, val_main_v3, val_main_v2, val_main_v1, val_main_v0,
    val_main_cst, val_main_cst_0, val_main_cst_1, val_main_cst_2]
  have hq := q.isLt
  unfold total quarter
  obtain rfl | rfl | rfl | rfl : t = 0 ∨ t = 1 ∨ t = 2 ∨ t = 3 := by omega
  · rw [dif_pos (by omega)]
    exact Finset.sum_congr rfl fun k _ => congrArg P0 (ext3 rfl (by show (z 0).val = q.val; omega) (congrArg Fin.val h1))
  · rw [dif_neg (by omega), dif_pos (by omega)]
    exact Finset.sum_congr rfl fun k _ => congrArg P1 (ext3 rfl (by show (z 0).val - 128 = q.val; omega) (congrArg Fin.val h1))
  · rw [dif_neg (by omega), dif_neg (by omega), dif_pos (by omega)]
    exact Finset.sum_congr rfl fun k _ => congrArg P2 (ext3 rfl (by show (z 0).val - 128 - 128 = q.val; omega) (congrArg Fin.val h1))
  · rw [dif_neg (by omega), dif_neg (by omega), dif_neg (by omega)]
    exact Finset.sum_congr rfl fun k _ => congrArg P3 (ext3 rfl (by show (z 0).val - 128 - 128 - 128 = q.val; omega) (congrArg Fin.val h1))

theorem ref_m (z : S512x1024.Idx) : (val_main_v13 (F := Ideal) P0 P1 P2 P3 M z : EReal)
    = first (val_main_v8 (F := Ideal) P0 P1 P2 P3 z) (M z) := by
  pointwise [val_main_v13, val_main_v12, val_main_v11, val_main_v10, val_main_v9, val_main_cst_3, val_main_cst_4]
  rfl

theorem ref_v (z : S512x1024.Idx) : (val_main_v19 (F := Ideal) P0 P1 P2 P3 V z : EReal)
    = second (val_main_v8 (F := Ideal) P0 P1 P2 P3 z) (V z) := by
  pointwise [val_main_v19, val_main_v18, val_main_v17, val_main_v16, val_main_v15, val_main_v14, val_main_cst_5, val_main_cst_6]
  rfl

theorem ref_d (z : S512x1024.Idx) : (val_main_v32 (F := Ideal) P0 P1 P2 P3 W M V z : EReal)
    = change (val_main_v8 (F := Ideal) P0 P1 P2 P3 z) (M z) (V z) (W z) := by
  pointwise [val_main_v32, val_main_v31, val_main_v30, val_main_v29, val_main_v28, val_main_v27, val_main_v26, val_main_v25, val_main_v24,
    val_main_v23, val_main_v22, val_main_v21, val_main_v20, val_main_cst_7, val_main_cst_8, val_main_cst_9, val_main_cst_10, val_main_cst_11,
    ref_m, ref_v]
  rfl

/-! ## The payloads -/

/-- The eight terms of a quarter, added one after the other. -/
def added (x : FVec Ideal S8x128x1024 .bf16) : FVec Ideal S128x1024 .f32 :=
  k0_pay13 (F := Ideal) (View.ld (Val := Elt Ideal) (e' := .bf16) x (Rect.unit (s := S8x128x1024) ![0, 0, 0] ![1, 128, 1024] inb_S8x128x1024_S1x128x1024_0_0_0))
    (View.ld (Val := Elt Ideal) (e' := .bf16) x (Rect.unit (s := S8x128x1024) ![1, 0, 0] ![1, 128, 1024] inb_S8x128x1024_S1x128x1024_1_0_0))
    (View.ld (Val := Elt Ideal) (e' := .bf16) x (Rect.unit (s := S8x128x1024) ![2, 0, 0] ![1, 128, 1024] inb_S8x128x1024_S1x128x1024_2_0_0))
    (View.ld (Val := Elt Ideal) (e' := .bf16) x (Rect.unit (s := S8x128x1024) ![3, 0, 0] ![1, 128, 1024] inb_S8x128x1024_S1x128x1024_3_0_0))
    (View.ld (Val := Elt Ideal) (e' := .bf16) x (Rect.unit (s := S8x128x1024) ![4, 0, 0] ![1, 128, 1024] inb_S8x128x1024_S1x128x1024_4_0_0))
    (View.ld (Val := Elt Ideal) (e' := .bf16) x (Rect.unit (s := S8x128x1024) ![5, 0, 0] ![1, 128, 1024] inb_S8x128x1024_S1x128x1024_5_0_0))
    (View.ld (Val := Elt Ideal) (e' := .bf16) x (Rect.unit (s := S8x128x1024) ![6, 0, 0] ![1, 128, 1024] inb_S8x128x1024_S1x128x1024_6_0_0))
    (View.ld (Val := Elt Ideal) (e' := .bf16) x (Rect.unit (s := S8x128x1024) ![7, 0, 0] ![1, 128, 1024] inb_S8x128x1024_S1x128x1024_7_0_0))

theorem added_apply (x : FVec Ideal S8x128x1024 .bf16) (q : Fin 128) (l : Fin 1024) : (added x (ix2 q l) : EReal) = total x q l := by
  unfold added total
  rw [Fin.sum_univ_eight]
  pointwise [k0_pay13]

variable (g w v x : FVec Ideal S128x1024 .f32)

theorem pay1_apply (y : S128x1024.Idx) : (k0_pay1 (F := Ideal) g x y : EReal) = first (g y) (x y) := by
  pointwise [k0_pay1]
  rfl
theorem pay2_apply (y : S128x1024.Idx) : (k0_pay2 (F := Ideal) g v y : EReal) = second (g y) (v y) := by
  pointwise [k0_pay2]
  rfl
theorem pay3_apply (y : S128x1024.Idx) : (k0_pay3 (F := Ideal) g x v w y : EReal) = change (g y) (x y) (v y) (w y) := by
  pointwise [k0_pay3, k0_pay1, k0_pay2]
  rfl

variable (m : (ℓ : Loc nD τ sig) → Buf (Elt Ideal) ℓ) (c : Dev nD) (t : Fin cfg0.N)

abbrev A0 : FVec Ideal S8x128x1024 .bf16 := m ((c : Thread nD τ).loc main_arg0)
abbrev A1 : FVec Ideal S8x128x1024 .bf16 := m ((c : Thread nD τ).loc main_arg1)
abbrev A2 : FVec Ideal S8x128x1024 .bf16 := m ((c : Thread nD τ).loc main_arg2)
abbrev A3 : FVec Ideal S8x128x1024 .bf16 := m ((c : Thread nD τ).loc main_arg3)
abbrev A4 : FVec Ideal S512x1024 .f32 := m ((c : Thread nD τ).loc main_arg4)
abbrev A5 : FVec Ideal S512x1024 .f32 := m ((c : Thread nD τ).loc main_arg5)
abbrev A6 : FVec Ideal S512x1024 .f32 := m ((c : Thread nD τ).loc main_arg6)

theorem lt4 : t.val < 4 := by have := t.isLt; have hN : cfg0.N = 4 := N_0; omega

/-! What a point leaves of the moments and of the change, from the gradient it leaves. -/

theorem m_at : (outsAt0 m c t.val t.isLt).2.2.1 = k0_pay1 (F := Ideal) (outsAt0 m c t.val t.isLt).1 (iblk m c 5 t) := by
  by_cases h0 : t.val % 4 = 0
  · rw [outsAt0_A m c t h0 (by omega) (by omega) (by omega)]; dsimp only
    unfold out0_A_9 out0_A_7; frame_out
  by_cases h1 : t.val % 4 = 1
  · rw [outsAt0_B m c t h0 h1 (by omega) (by omega)]; dsimp only
    unfold out0_B_9 out0_B_7; frame_out; rfl
  by_cases h2 : t.val % 4 = 2
  · rw [outsAt0_C m c t h0 h1 h2 (by omega)]; dsimp only
    unfold out0_C_9 out0_C_7; frame_out; rfl
  have h3 : t.val % 4 = 3 := by omega
  rw [outsAt0_D m c t h0 h1 h2 h3]; dsimp only
  unfold out0_D_9 out0_D_7; frame_out; rfl

theorem v_at : (outsAt0 m c t.val t.isLt).2.2.2 = k0_pay2 (F := Ideal) (outsAt0 m c t.val t.isLt).1 (iblk m c 6 t) := by
  by_cases h0 : t.val % 4 = 0
  · rw [outsAt0_A m c t h0 (by omega) (by omega) (by omega)]; dsimp only
    unfold out0_A_10 out0_A_7; frame_out
  by_cases h1 : t.val % 4 = 1
  · rw [outsAt0_B m c t h0 h1 (by omega) (by omega)]; dsimp only
    unfold out0_B_10 out0_B_7; frame_out; rfl
  by_cases h2 : t.val % 4 = 2
  · rw [outsAt0_C m c t h0 h1 h2 (by omega)]; dsimp only
    unfold out0_C_10 out0_C_7; frame_out; rfl
  have h3 : t.val % 4 = 3 := by omega
  rw [outsAt0_D m c t h0 h1 h2 h3]; dsimp only
  unfold out0_D_10 out0_D_7; frame_out; rfl

theorem d_at : (outsAt0 m c t.val t.isLt).2.1 = k0_pay3 (F := Ideal) (outsAt0 m c t.val t.isLt).1 (iblk m c 5 t) (iblk m c 6 t) (iblk m c 4 t) := by
  by_cases h0 : t.val % 4 = 0
  · rw [outsAt0_A m c t h0 (by omega) (by omega) (by omega)]; dsimp only
    unfold out0_A_8 out0_A_7; frame_out
  by_cases h1 : t.val % 4 = 1
  · rw [outsAt0_B m c t h0 h1 (by omega) (by omega)]; dsimp only
    unfold out0_B_8 out0_B_7; frame_out; rfl
  by_cases h2 : t.val % 4 = 2
  · rw [outsAt0_C m c t h0 h1 h2 (by omega)]; dsimp only
    unfold out0_C_8 out0_C_7; frame_out; rfl
  have h3 : t.val % 4 = 3 := by omega
  rw [outsAt0_D m c t h0 h1 h2 h3]; dsimp only
  unfold out0_D_8 out0_D_7; frame_out; rfl

/-! The arguments' blocks at a point. -/

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)

theorem blk0 : iblk m c 0 t = A0 m c := by
  funext y
  blk_simp [iblk]
  exact congrArg (A0 m c) (ext3 (by blk_simp [e0]) (by blk_simp [e0]) (by blk_simp [e0]))
theorem blk1 : iblk m c 1 t = A1 m c := by
  funext y
  blk_simp [iblk]
  exact congrArg (A1 m c) (ext3 (by blk_simp [e1]) (by blk_simp [e1]) (by blk_simp [e1]))
theorem blk2 : iblk m c 2 t = A2 m c := by
  funext y
  blk_simp [iblk]
  exact congrArg (A2 m c) (ext3 (by blk_simp [e2]) (by blk_simp [e2]) (by blk_simp [e2]))
theorem blk3 : iblk m c 3 t = A3 m c := by
  funext y
  blk_simp [iblk]
  exact congrArg (A3 m c) (ext3 (by blk_simp [e3]) (by blk_simp [e3]) (by blk_simp [e3]))

/-- Row `q` of point `t`'s blocks. -/
def row (q : Fin 128) : Fin 512 := ⟨t.val * 128 + q.val, by have := lt4 t; omega⟩

theorem blk4 : iblk m c 4 t = rows (row t) (A4 m c) := by
  funext y
  blk_simp [iblk]
  exact congrArg (A4 m c) (ext2 (by blk_simp [e4, row]) (by blk_simp [e4]))
theorem blk5 : iblk m c 5 t = rows (row t) (A5 m c) := by
  funext y
  blk_simp [iblk]
  exact congrArg (A5 m c) (ext2 (by blk_simp [e5, row]) (by blk_simp [e5]))
theorem blk6 : iblk m c 6 t = rows (row t) (A6 m c) := by
  funext y
  blk_simp [iblk]
  exact congrArg (A6 m c) (ext2 (by blk_simp [e6, row]) (by blk_simp [e6]))

theorem g_at (q : Fin 128) (l : Fin 1024) : ((outsAt0 m c t.val t.isLt).1 (ix2 q l) : EReal) = total (quarter (A0 m c) (A1 m c) (A2 m c) (A3 m c) t.val) q l := by
  have ht := lt4 t
  refine Eq.trans ?_ (added_apply _ q l)
  refine congrFun (?_ : _ = _) (ix2 q l)
  by_cases h0 : t.val % 4 = 0
  · rw [outsAt0_A m c t h0 (by omega) (by omega) (by omega)]; dsimp only
    unfold out0_A_7; frame_out
    have e : t.val = 0 := by omega
    rw [blk0, e]; rfl
  by_cases h1 : t.val % 4 = 1
  · rw [outsAt0_B m c t h0 h1 (by omega) (by omega)]; dsimp only
    unfold out0_B_7; frame_out
    have e : t.val = 1 := by omega
    rw [blk1, e]; rfl
  by_cases h2 : t.val % 4 = 2
  · rw [outsAt0_C m c t h0 h1 h2 (by omega)]; dsimp only
    unfold out0_C_7; frame_out
    have e : t.val = 2 := by omega
    rw [blk2, e]; rfl
  have h3 : t.val % 4 = 3 := by omega
  rw [outsAt0_D m c t h0 h1 h2 h3]; dsimp only
  unfold out0_D_7; frame_out
  have e : t.val = 3 := by omega
  rw [blk3, e]; rfl

/-! ## The arrays after the run: the reference's values -/

abbrev R7 : FVec Ideal S512x1024 .f32 := val_main_v8 (F := Ideal) (A0 m c) (A1 m c) (A2 m c) (A3 m c)
abbrev R8 : FVec Ideal S512x1024 .f32 := val_main_v32 (F := Ideal) (A0 m c) (A1 m c) (A2 m c) (A3 m c) (A4 m c) (A5 m c) (A6 m c)
abbrev R9 : FVec Ideal S512x1024 .f32 := val_main_v13 (F := Ideal) (A0 m c) (A1 m c) (A2 m c) (A3 m c) (A5 m c)
abbrev R10 : FVec Ideal S512x1024 .f32 := val_main_v19 (F := Ideal) (A0 m c) (A1 m c) (A2 m c) (A3 m c) (A6 m c)

theorem out7 (q : Fin 128) (l : Fin 1024) : ((outsAt0 m c t.val t.isLt).1 (ix2 q l) : EReal) = R7 m c (ix2 (row t q) l) :=
  (g_at m c t q l).trans (ref_g (A0 m c) (A1 m c) (A2 m c) (A3 m c) t.val (lt4 t) q l (ix2 (row t q) l) rfl rfl).symm

theorem out9 (q : Fin 128) (l : Fin 1024) : ((outsAt0 m c t.val t.isLt).2.2.1 (ix2 q l) : EReal) = R9 m c (ix2 (row t q) l) := by
  rw [m_at, blk5]
  refine (pay1_apply _ _ _).trans ?_
  rw [out7]
  exact (ref_m (A0 m c) (A1 m c) (A2 m c) (A3 m c) (A5 m c) (ix2 (row t q) l)).symm

theorem out10 (q : Fin 128) (l : Fin 1024) : ((outsAt0 m c t.val t.isLt).2.2.2 (ix2 q l) : EReal) = R10 m c (ix2 (row t q) l) := by
  rw [v_at, blk6]
  refine (pay2_apply _ _ _).trans ?_
  rw [out7]
  exact (ref_v (A0 m c) (A1 m c) (A2 m c) (A3 m c) (A6 m c) (ix2 (row t q) l)).symm

theorem out8 (q : Fin 128) (l : Fin 1024) : ((outsAt0 m c t.val t.isLt).2.1 (ix2 q l) : EReal) = R8 m c (ix2 (row t q) l) := by
  rw [d_at, blk4, blk5, blk6]
  refine (pay3_apply _ _ _ _ _).trans ?_
  rw [out7]
  exact (ref_d (A0 m c) (A1 m c) (A2 m c) (A3 m c) (A4 m c) (A5 m c) (A6 m c) (ix2 (row t q) l)).symm

theorem final7 : (dats m 0 c).arrAt 7 cfg0.N = R7 m c := by
  refine (dats m 0 c).arrAt_eq_of_covers 7 _ (by decide +kernel) fun t hf y => ?_
  blk_simp
  rw [after0_7]
  refine (congrArg (outsAt0 m c t.val t.isLt).1 (ext2 rfl rfl : y = ix2 (y 0) (y 1))).trans ((out7 m c t (y 0) (y 1)).trans ?_)
  exact congrArg (R7 m c) (ext2 (by blk_simp [e7, row]) (by blk_simp [e7]))

theorem final8 : (dats m 0 c).arrAt 8 cfg0.N = R8 m c := by
  refine (dats m 0 c).arrAt_eq_of_covers 8 _ (by decide +kernel) fun t hf y => ?_
  blk_simp
  rw [after0_8]
  refine (congrArg (outsAt0 m c t.val t.isLt).2.1 (ext2 rfl rfl : y = ix2 (y 0) (y 1))).trans ((out8 m c t (y 0) (y 1)).trans ?_)
  exact congrArg (R8 m c) (ext2 (by blk_simp [e8, row]) (by blk_simp [e8]))

theorem final9 : (dats m 0 c).arrAt 9 cfg0.N = R9 m c := by
  refine (dats m 0 c).arrAt_eq_of_covers 9 _ (by decide +kernel) fun t hf y => ?_
  blk_simp
  rw [after0_9]
  refine (congrArg (outsAt0 m c t.val t.isLt).2.2.1 (ext2 rfl rfl : y = ix2 (y 0) (y 1))).trans ((out9 m c t (y 0) (y 1)).trans ?_)
  exact congrArg (R9 m c) (ext2 (by blk_simp [e9, row]) (by blk_simp [e9]))

theorem final10 : (dats m 0 c).arrAt 10 cfg0.N = R10 m c := by
  refine (dats m 0 c).arrAt_eq_of_covers 10 _ (by decide +kernel) fun t hf y => ?_
  blk_simp
  rw [after0_10]
  refine (congrArg (outsAt0 m c t.val t.isLt).2.2.2 (ext2 rfl rfl : y = ix2 (y 0) (y 1))).trans ((out10 m c t (y 0) (y 1)).trans ?_)
  exact congrArg (R10 m c) (ext2 (by blk_simp [e10, row]) (by blk_simp [e10]))

/-! ## The claims -/

theorem frameP : Cert.quiescent_AdamW (hAdamW := Cert.AdamW.Gen.facts) := fun m ρ _ => Cert.AdamW.Gen.frame m ρ
theorem framePI : Cert.quiescent_AdamWIdeal (hAdamWIdeal := Cert.AdamWIdeal.Gen.facts) := fun m ρ _ => Cert.AdamWIdeal.Gen.frame m ρ

theorem frameRI : Cert.quiescent_AdamWRefIdeal (hAdamWRefIdeal := Cert.AdamWRefIdeal.Gen.facts) := fun m ρ _ =>
  (θ_run Cert.AdamWRefIdeal.defs _ _).mono (fun r h => ⟨fun c => (h c).2.2.2.2,
      Idealize.ShloMosaic.sem_eq_zero_of_no_sems (by decide) r.2⟩)
    (Cert.AdamWRefIdeal.Value.run (F := Ideal) m ρ)

/-- The kernel leaves in its result arrays what the reference computes. -/
theorem algebraic : Cert.algebraic_AdamWIdeal_AdamWRefIdeal (hAdamWIdeal := Cert.AdamWIdeal.Gen.facts)
    (hAdamWRefIdeal := Cert.AdamWRefIdeal.Gen.facts) := by
  intro m ρ m' ρ' _ hag
  refine ⟨fun c => R7 m c, fun c => R8 m c, fun c => R9 m c, fun c => R10 m c, ?_, ?_⟩
  · refine (θ_run Cert.AdamWIdeal.defs _ _).mono (fun r h c => ?_) (Cert.AdamWIdeal.Value.run_blocks (F := Ideal) m ρ)
    obtain ⟨h7, h8, h9, h10, hrest⟩ := h c
    exact ⟨h7.trans (final7 m c), h8.trans (final8 m c), h9.trans (final9 m c), h10.trans (final10 m c), hrest⟩
  · refine (θ_run Cert.AdamWRefIdeal.defs _ _).mono (fun r h c => ?_) (Cert.AdamWRefIdeal.Value.run (F := Ideal) m' ρ')
    obtain ⟨h7, h8, h9, h10, hrest⟩ := h c
    obtain ⟨a0, a1, a2, a3, a4, a5, a6⟩ := hag c
    refine ⟨h7.trans ((val_main_v8_eq ..).trans ?_), h8.trans ((val_main_v32_eq ..).trans ?_), h9.trans ((val_main_v13_eq ..).trans ?_),
      h10.trans ((val_main_v19_eq ..).trans ?_), hrest⟩
    · rw [a0, a1, a2, a3]
    · rw [a0, a1, a2, a3, a4, a5, a6]
    · rw [a0, a1, a2, a3, a5]
    · rw [a0, a1, a2, a3, a6]

end Cert.AdamWIdeal.Block

end
-- ==== Proof.BiasTable.lean ====
module

public import proofs.«01_k».proof.Defs
public import proofs.«01_k».proof.Proof.Gen.BiasTable.Frame
public import proofs.«01_k».proof.Proof.Gen.BiasTableIdeal.Value
public import proofs.«01_k».proof.Proof.Gen.BiasTableRefIdeal.Read
public import proofs.«01_k».proof.Proof.Gen.BiasTableRefIdeal.Run
public import proofs.«01_k».proof.Proof.Index
public import Idealize.ShloMosaic.Lib.Quiescent

@[expose] public section

set_option maxRecDepth 16384

noncomputable section

/-! # The table of the relative position bias

Each head's bias for every pair of positions of a query and a key: eight grid points of 6144 pairs. -/

namespace Cert.BiasTableIdeal.Block

open Cert.BiasTableIdeal Cert.BiasTableIdeal.Gen Cert.Index Idealize.ShloMosaic Idealize.ShloMosaic.TcCoe Idealize.SL.Sem
open Cert.BiasTableRefIdeal.Read

variable (m : (ℓ : Loc nD τ sig) → Buf (Elt Ideal) ℓ)

/-! Device `c`'s argument arrays. -/

abbrev A0 (c : Dev nD) : FVec Ideal S32x8 .f32 := m ((c : Thread nD τ).loc main_arg0)
abbrev A1 (c : Dev nD) : FVec Ideal S32x49152 .f32 := m ((c : Thread nD τ).loc main_arg1)
abbrev A2 (c : Dev nD) : FVec Ideal S1x49152 .f32 := m ((c : Thread nD τ).loc main_arg2)

theorem hz : (![0, 0] : Fin 2 → Nat) = fun _ => 0 := funext fun a => by fin_cases a <;> rfl

/-- A grid point's entry: the bucket's entry of the head at a pair of positions, and the band's. -/
theorem pay1_apply (b : FVec Ideal S8x32 .f32) (x : FVec Ideal S32x6144 .f32) (w : FVec Ideal S1x6144 .f32) (j : S8x6144.Idx) :
    (k0_pay1 (F := Ideal) b x w j : EReal) = ∑ k : Fin 32, b (ix2 (j 0) k) * x (ix2 k (j 1)) + w (ix2 0 (j 1)) := by
  pointwise [k0_pay1]

theorem ref_apply (a : FVec Ideal S32x8 .f32) (b : FVec Ideal S32x49152 .f32) (d : FVec Ideal S1x49152 .f32) (j : S8x49152.Idx) :
    (val_main_v8 (F := Ideal) a b d j : EReal) = ∑ k : Fin 32, a (ix2 k (j 0)) * b (ix2 k (j 1)) + d (ix2 0 (j 1)) := by
  pointwise [val_main_v8, val_main_v7, val_main_v6, val_main_cst, val_main_v5, val_main_v4, val_main_v3, val_main_v2, val_main_v1, val_main_v0]

theorem out3 (i : grid0.Coords) (b : FVec Ideal S8x32 .f32) (x : FVec Ideal S32x6144 .f32) (w : FVec Ideal S1x6144 .f32) (j : S8x6144.Idx) :
    (out0_3 (F := Ideal) b x w j : EReal) = ∑ k : Fin 32, b (ix2 (j 0) k) * x (ix2 k (j 1)) + w (ix2 0 (j 1)) := by
  unfold out0_3
  rw [View.canon_unit_zero hz, View.ld_unit_zero hz, View.ld_unit_zero hz, View.ld_unit_zero hz]
  exact pay1_apply b x w j

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

/-- The table the grid reads: the host's transpose of the argument. -/
theorem V0 (c : Dev nD) (y : S8x32.Idx) : V m c main_v0 y = A0 m c (ix2 (y 1) (y 0)) := by
  unfold V hostOps0
  after_results
  pointwise []

theorem blk0 (c : Dev nD) (t : Fin cfg0.N) (r : Fin 8) (k : Fin 32) : iblk m c 0 t (ix2 r k) = A0 m c (ix2 k r) := by
  blk_simp [iblk]
  refine (congrArg (V m c main_v0) (ext2 ?_ ?_ : _ = ix2 r k)).trans (V0 m c _)
  · blk_simp [e0]
  · blk_simp [e0]

theorem blk1 (c : Dev nD) (t : Fin cfg0.N) (r : Fin 32) (k : Fin 6144) :
    iblk m c 1 t (ix2 r k) = A1 m c (ix2 r ⟨t.val * 6144 + k.val, by have := t.isLt; have hN : cfg0.N = 8 := N_0; omega⟩) := by
  blk_simp [iblk]
  exact congrArg (A1 m c) (ext2 (by blk_simp [e1]) (by blk_simp [e1]))

theorem blk2 (c : Dev nD) (t : Fin cfg0.N) (k : Fin 6144) :
    iblk m c 2 t (ix2 0 k) = A2 m c (ix2 0 ⟨t.val * 6144 + k.val, by have := t.isLt; have hN : cfg0.N = 8 := N_0; omega⟩) := by
  blk_simp [iblk]
  exact congrArg (A2 m c) (ext2 (by blk_simp [e2]) (by blk_simp [e2]))

/-- A grid point's entry is the reference's at the entry's place in the array. -/
theorem point (c : Dev nD) (t : Fin cfg0.N) (y : S8x6144.Idx) (z : S8x49152.Idx) (h0 : (y 0).val = (z 0).val)
    (h1 : t.val * 6144 + (y 1).val = (z 1).val) :
    (out0_3 (F := Ideal) (iblk m c 0 t) (iblk m c 1 t) (iblk m c 2 t) y : EReal)
      = val_main_v8 (F := Ideal) (A0 m c) (A1 m c) (A2 m c) z := by
  have ht : t.val < 8 := lt_of_lt_of_eq t.isLt N_0
  have hy : (y 1).val < 6144 := (y 1).isLt
  have hz : z = ix2 (y 0) ⟨t.val * 6144 + (y 1).val, by omega⟩ := ext2 h0.symm h1.symm
  rw [hz]
  refine (out3 (grid0.coords t) _ _ _ y).trans (Eq.trans ?_ (ref_apply _ _ _ _).symm)
  refine congrArg₂ (· + ·) (Finset.sum_congr rfl fun k _ => ?_) (blk2 m c t (y 1))
  exact congrArg₂ (· * ·) (blk0 m c t (y 0) k) (blk1 m c t k (y 1))

/-- The kernel's result array is the reference's value. -/
theorem final (c : Dev nD) : (dats m 0 c).arrAt 3 cfg0.N = val_main_v8 (F := Ideal) (A0 m c) (A1 m c) (A2 m c) := by
  refine (dats m 0 c).arrAt_eq_of_covers 3 _ (by decide +kernel) fun t hf y => ?_
  blk_simp
  rw [after0_3]
  refine point m c t y _ ?_ ?_
  · blk_simp [e3]
  · blk_simp [e3]

/-! ## The claims -/

theorem frameP : Cert.quiescent_BiasTable (hBiasTable := Cert.BiasTable.Gen.facts) := fun m ρ _ => Cert.BiasTable.Gen.frame m ρ

theorem framePI : Cert.quiescent_BiasTableIdeal (hBiasTableIdeal := Cert.BiasTableIdeal.Gen.facts) := fun m ρ _ => Cert.BiasTableIdeal.Gen.frame m ρ

/-- The reference ends with every counter at zero and its arguments as they were. -/
theorem frameRI : Cert.quiescent_BiasTableRefIdeal (hBiasTableRefIdeal := Cert.BiasTableRefIdeal.Gen.facts) := fun m ρ _ =>
  (θ_run Cert.BiasTableRefIdeal.defs _ _).mono
    (fun r h => ⟨fun c => (h c).2, Idealize.ShloMosaic.sem_eq_zero_of_no_sems (by decide) r.2⟩)
    (Cert.BiasTableRefIdeal.Value.run (F := Ideal) m ρ)

/-- Over the extended reals the kernel leaves in its result array what the reference computes. -/
theorem algebraic : Cert.algebraic_BiasTableIdeal_BiasTableRefIdeal (hBiasTableIdeal := Cert.BiasTableIdeal.Gen.facts)
    (hBiasTableRefIdeal := Cert.BiasTableRefIdeal.Gen.facts) := by
  intro m ρ m' ρ' _ hag
  refine ⟨fun c => val_main_v8 (F := Ideal) (A0 m c) (A1 m c) (A2 m c), ?_, ?_⟩
  · refine (θ_run Cert.BiasTableIdeal.defs _ _).mono (fun r h c => ?_) (Cert.BiasTableIdeal.Value.run_blocks (F := Ideal) m ρ)
    obtain ⟨h2, hrest⟩ := h c
    exact ⟨h2.trans (final m c), hrest⟩
  · refine (θ_run Cert.BiasTableRefIdeal.defs _ _).mono (fun r h c => ?_) (Cert.BiasTableRefIdeal.Value.run (F := Ideal) m' ρ')
    obtain ⟨h6, hrest⟩ := h c
    obtain ⟨a0, a1, a2⟩ := hag c
    refine ⟨h6.trans ((Cert.BiasTableRefIdeal.Read.val_main_v8_eq ..).trans ?_), hrest⟩
    rw [a0, a1, a2]

end Cert.BiasTableIdeal.Block
end
-- ==== Proof.BiasGrad.lean ====
module

public import proofs.«01_k».proof.Defs
public import proofs.«01_k».proof.Proof.Gen.BiasGrad.Frame
public import proofs.«01_k».proof.Proof.Gen.BiasGradIdeal.Value
public import proofs.«01_k».proof.Proof.Gen.BiasGradRefIdeal.Read
public import proofs.«01_k».proof.Proof.Gen.BiasGradRefIdeal.Run
public import proofs.«01_k».proof.Proof.Index
public import Idealize.ShloMosaic.Lib.Quiescent

@[expose] public section

set_option maxRecDepth 16384

noncomputable section

/-! # The gradient of the relative position bias

One block of heads by buckets, summed over eight grid points of 6144 pairs of positions each. -/

namespace Cert.BiasGradIdeal.Block

open Cert.BiasGradIdeal Cert.BiasGradIdeal.Gen Cert.Index Idealize.ShloMosaic Idealize.ShloMosaic.TcCoe Idealize.SL.Sem
open Cert.BiasGradRefIdeal.Read

variable (m : (ℓ : Loc nD τ sig) → Buf (Elt Ideal) ℓ)

/-! Device `c`'s argument arrays. -/

abbrev A0 (c : Dev nD) : FVec Ideal S8x49152 .f32 := m ((c : Thread nD τ).loc main_arg0)
abbrev A1 (c : Dev nD) : FVec Ideal S32x49152 .f32 := m ((c : Thread nD τ).loc main_arg1)

/-- The part of a grid point: the products over its positions. -/
def part (x : FVec Ideal S8x6144 .f32) (w : FVec Ideal S32x6144 .f32) (j : S8x32.Idx) : EReal :=
  ∑ k : Fin 6144, x (ix2 (j 0) k) * w (ix2 (j 1) k)

theorem pay2_apply (a : FVec Ideal S8x32 .f32) (x : FVec Ideal S8x6144 .f32) (w : FVec Ideal S32x6144 .f32) (j : S8x32.Idx) :
    (k0_pay2 (F := Ideal) a x w j : EReal) = a j + part x w j := by
  pointwise [k0_pay2, part]

theorem pay1_apply (j : S8x32.Idx) : (k0_pay1 (F := Ideal) j : EReal) = 0 := by
  pointwise [k0_pay1]

/-- What the result's block holds at the last grid point: the sum of the points' parts. -/
theorem acc_eq (c : Dev nD) (t : Fin cfg0.N) (h1 : t.val % 8 = 7) (j : S8x32.Idx) :
    (outsAt0 m c t.val t.isLt j : EReal) = 0 + ∑ s : Fin 8, part (iblk m c 0 ⟨8 * (t.val / 8) + s.val, by have := t.isLt; omega⟩)
      (iblk m c 1 ⟨8 * (t.val / 8) + s.val, by have := t.isLt; omega⟩) j :=
  Pipeline.eq_sum_fin_of_reset_step_apply_of_flush (fun n h => outsAt0 m c n h) 8 (fun _ => 0) (fun t => part (iblk m c 0 t) (iblk m c 1 t))
    (fun t h j => by
      show (outsAt0 m c t.val t.isLt) j = _
      rw [outsAt0_A m c t h]
      refine (congrFun (Cert.BiasGradIdeal.Value.out_A_2_eq ..) j).trans ?_
      exact (pay2_apply _ _ _ j).trans (congrArg (· + part (iblk m c 0 t) (iblk m c 1 t) j) (pay1_apply j)))
    (fun t h j => by
      show (outsAt0 m c t.val t.isLt) j = _
      rw [outsAt0_B m c t h]
      refine (congrFun (Cert.BiasGradIdeal.Value.out_B_2_eq ..) j).trans ?_
      exact pay2_apply _ _ _ j)
    t h1 j

theorem e0 : ∀ t : Fin cfg0.N, win0_0.index t = ![0, t.val] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, 0] := (by decide +kernel : ∀ t : Fin grid0.N, _)

/-- The reference at an index: one contraction over all positions. -/
theorem ref_apply (a : FVec Ideal S8x49152 .f32) (b : FVec Ideal S32x49152 .f32) (j : S8x32.Idx) :
    (val_main_v2 (F := Ideal) a b j : EReal) = ∑ l : Fin 49152, a (ix2 (j 0) l) * b (ix2 (j 1) l) := by
  pointwise [val_main_v2]

theorem blk0 (c : Dev nD) (t : Fin cfg0.N) (r : Fin 8) (k : Fin 6144) :
    iblk m c 0 t (ix2 r k) = A0 m c (ix2 r ⟨t.val * 6144 + k.val, by have := t.isLt; have hN : cfg0.N = 8 := N_0; omega⟩) := by
  blk_simp [iblk]
  exact congrArg (A0 m c) (ext2 (by blk_simp [e0]) (by blk_simp [e0]))

theorem blk1 (c : Dev nD) (t : Fin cfg0.N) (r : Fin 32) (k : Fin 6144) :
    iblk m c 1 t (ix2 r k) = A1 m c (ix2 r ⟨t.val * 6144 + k.val, by have := t.isLt; have hN : cfg0.N = 8 := N_0; omega⟩) := by
  blk_simp [iblk]
  exact congrArg (A1 m c) (ext2 (by blk_simp [e1]) (by blk_simp [e1]))

/-- The kernel's result array is the reference's value. -/
theorem final (c : Dev nD) : (dats m 0 c).arrAt 2 cfg0.N = val_main_v2 (F := Ideal) (A0 m c) (A1 m c) := by
  refine (dats m 0 c).arrAt_eq_of_covers 2 _ (by decide +kernel) fun t hf y => ?_
  have h1 : t.val % 8 = 7 := (flush0_2 t).mp hf
  have hN : t.val < 8 := lt_of_lt_of_eq t.isLt N_0
  blk_simp
  rw [after0_2]
  refine (acc_eq m c t h1 y).trans ?_
  rw [zero_add, ref_apply]
  refine Fin.sum_mul_add_congr fun s k hl => ?_
  refine congrArg₂ (· * ·) ((blk0 m c _ _ k).trans (congrArg (A0 m c) (ext2 ?_ ?_)))
    ((blk1 m c _ _ k).trans (congrArg (A1 m c) (ext2 ?_ ?_)))
  · blk_simp [e2]
  · show (8 * (t.val / 8) + s.val) * 6144 + k.val = s.val * 6144 + k.val
    rw [Nat.div_eq_of_lt hN, Nat.mul_zero, Nat.zero_add]
  · blk_simp [e2]
  · show (8 * (t.val / 8) + s.val) * 6144 + k.val = s.val * 6144 + k.val
    rw [Nat.div_eq_of_lt hN, Nat.mul_zero, Nat.zero_add]

/-! ## The claims -/

theorem frameP : Cert.quiescent_BiasGrad (hBiasGrad := Cert.BiasGrad.Gen.facts) := fun m ρ _ => Cert.BiasGrad.Gen.frame m ρ

theorem framePI : Cert.quiescent_BiasGradIdeal (hBiasGradIdeal := Cert.BiasGradIdeal.Gen.facts) := fun m ρ _ => Cert.BiasGradIdeal.Gen.frame m ρ

/-- The reference ends with every counter at zero and its arguments as they were. -/
theorem frameRI : Cert.quiescent_BiasGradRefIdeal (hBiasGradRefIdeal := Cert.BiasGradRefIdeal.Gen.facts) := fun m ρ _ =>
  (θ_run Cert.BiasGradRefIdeal.defs _ _).mono
    (fun r h => ⟨fun c => (h c).2, Idealize.ShloMosaic.sem_eq_zero_of_no_sems (by decide) r.2⟩)
    (Cert.BiasGradRefIdeal.Value.run (F := Ideal) m ρ)

/-- Over the extended reals the kernel leaves in its result array what the reference computes. -/
theorem algebraic : Cert.algebraic_BiasGradIdeal_BiasGradRefIdeal (hBiasGradIdeal := Cert.BiasGradIdeal.Gen.facts)
    (hBiasGradRefIdeal := Cert.BiasGradRefIdeal.Gen.facts) := by
  intro m ρ m' ρ' _ hag
  refine ⟨fun c => val_main_v2 (F := Ideal) (A0 m c) (A1 m c), ?_, ?_⟩
  · refine (θ_run Cert.BiasGradIdeal.defs _ _).mono (fun r h c => ?_) (Cert.BiasGradIdeal.Value.run_blocks (F := Ideal) m ρ)
    obtain ⟨h2, hrest⟩ := h c
    exact ⟨h2.trans (final m c), hrest⟩
  · refine (θ_run Cert.BiasGradRefIdeal.defs _ _).mono (fun r h c => ?_) (Cert.BiasGradRefIdeal.Value.run (F := Ideal) m' ρ')
    obtain ⟨h6, hrest⟩ := h c
    obtain ⟨a0, a1⟩ := hag c
    refine ⟨h6.trans ((Cert.BiasGradRefIdeal.Read.val_main_v2_eq ..).trans ?_), hrest⟩
    rw [a0, a1]

end Cert.BiasGradIdeal.Block
end
-- ==== Proof.FfnBwdRun.lean ====
module

public import proofs.«01_k».proof.Proof.Gen.FfnBwdIdeal.Skeleton
public import proofs.«01_k».proof.Proof.Gen.FfnBwdIdeal.Frame
public import Idealize.ShloMosaic.Lib.Transfers

@[expose] public section

set_option maxRecDepth 16384

noncomputable section

/-! # The runs of the feed-forward block's backward body

A block of 1024 rows is met by four consecutive points, one for each quarter of the inner width.  The first of them starts the copy of
the block's input rows into a buffer and halves the cotangent; every point leaves its quarter of the hidden rows' cotangents and adds
their product with the first weight to the running sum; the last one waits for the copy and takes the sum through the norm.  The very
first point of all also clears the scale's gradient.  Each run finds, as lists of pieces, what it leaves in the buffers it stores into. -/

namespace Cert.FfnBwdIdeal.Hand

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The pieces a run writes. -/
abbrev Pieces (F : FTy → Type) [FloatOps F] (S : Shape) (e : EltTy) := List (View.Piece (Elt F) S e)

/-- The point's rows begin here. -/
abbrev isFirst (i : grid0.Coords) : Prop := k0_cond1 i = 1#1
/-- The whole grid begins here. -/
abbrev isStart (i : grid0.Coords) : Prop := k0_cond2 i = 1#1
/-- The point's rows end here. -/
abbrev isLast (i : grid0.Coords) : Prop := k0_cond3 i = 1#1

theorem isFirst_iff : ∀ t : Fin cfg0.N, isFirst (grid0.coords t) ↔ t.val % 4 = 0 :=
  (by decide +kernel : ∀ t : Fin grid0.N, isFirst (grid0.coords t) ↔ t.val % 4 = 0)
theorem isStart_iff : ∀ t : Fin cfg0.N, isStart (grid0.coords t) ↔ t.val = 0 :=
  (by decide +kernel : ∀ t : Fin grid0.N, isStart (grid0.coords t) ↔ t.val = 0)
theorem isLast_iff : ∀ t : Fin cfg0.N, isLast (grid0.coords t) ↔ t.val % 4 = 3 :=
  (by decide +kernel : ∀ t : Fin grid0.N, isLast (grid0.coords t) ↔ t.val % 4 = 3)

variable (c : Dev nD) (i : grid0.Coords)
  (arg2 : Memref sig .tc .vmem S1024x1024 .f32) (harg2 : arg2.IsWhole) (arg3 : Memref sig .tc .hbm S8192x1024 .f32) (harg3 : arg3.IsWhole)
  (arg4 : Memref sig .tc .vmem S1x1024 .f32) (harg4 : arg4.IsWhole)
  (arg5 : Memref sig .tc .vmem S1x1024x704 .bf16) (harg5 : arg5.IsWhole) (arg6 : Memref sig .tc .vmem S1x1024x704 .bf16) (harg6 : arg6.IsWhole)
  (arg7 : Memref sig .tc .vmem S1x1024x704 .bf16) (harg7 : arg7.IsWhole) (arg8 : Memref sig .tc .vmem S1x1024x704 .bf16) (harg8 : arg8.IsWhole)
  (arg9 : Memref sig .tc .vmem S2x352x1024 .bf16) (harg9 : arg9.IsWhole) (arg10 : Memref sig .tc .vmem S1024x1024 .f32) (harg10 : arg10.IsWhole)
  (arg11 : Memref sig .tc .vmem S1x1024x704 .bf16) (harg11 : arg11.IsWhole) (arg12 : Memref sig .tc .vmem S2x1x1024x704 .bf16) (harg12 : arg12.IsWhole)
  (arg13 : Memref sig .tc .vmem S1x1024 .f32) (harg13 : arg13.IsWhole) (arg14 : Memref sig .tc .vmem S1024x1024 .bf16) (harg14 : arg14.IsWhole)
  (arg15 : Memref sig .tc .vmem S1024x1024 .f32) (harg15 : arg15.IsWhole) (arg16 : DmaSems sig S_)

/-- A buffer at some contents. -/
abbrev some_ {S : Shape} {e : EltTy} (a : Memref sig .tc .vmem S e) : sProp 𝕄 := iprop(∃ d, owns (c : Thread nD τ) a fullShare d)
/-- A buffer with pieces written over some contents. -/
abbrev wrote {S : Shape} {e : EltTy} (a : Memref sig .tc .vmem S e) (L : Pieces F S e) : sProp 𝕄 :=
  iprop(∃ f, a.view.loc (c : Thread nD τ) ↦[a.view.set]{fullShare} a.view.writes (Elt F) f L)

/-- The rows of the input that a block's first point copies. -/
abbrev rowsOf (h : isFirst i) : Memref sig .tc .hbm S1024x1024 .f32 :=
  arg3.slice (Rect.unit (s := S8192x1024) (k0_off1 i) S1024x1024.size (k0_off1_inb i h)) (fun _ => rfl)

/-- Rows held by exactly their own elements. -/
abbrev heldRows (src : Memref sig .tc .hbm S1024x1024 .f32) (f : Buf (Elt F) (src.view.loc (c : Thread nD τ))) : sProp 𝕄 :=
  iprop(src.view.loc (c : Thread nD τ) ↦[src.view.set]{fullShare} f)

/-- A copy under way out of the rows `src`, which hold `f`, into a buffer. -/
abbrev copying (src : Memref sig .tc .hbm S1024x1024 .f32) (f : Buf (Elt F) (src.view.loc (c : Thread nD τ))) : sProp 𝕄 :=
  Transfers.Flight (countersEmb (U := Pipeline.UD sig nD τ)) (c : Thread nD τ) (.dma arg16.sem) () 131072
    iprop(owns (c : Thread nD τ) arg15 fullShare (src.view.read (Elt F) f)
      ∗ heldRows c src f)

/-- A copy's payload, as the run lists it, is what the rows read as. -/
theorem landing (src : Memref sig .tc .hbm S1024x1024 .f32) (f : Buf (Elt F) (src.view.loc (c : Thread nD τ)))
    (g : Buf (Elt F) (arg15.view.loc (c : Thread nD τ))) (v : Vec F S1024x1024 .f32) (hv : v = src.view.read (Elt F) f) :
    Transfers.Flight (countersEmb (U := Pipeline.UD sig nD τ)) (c : Thread nD τ) (.dma arg16.sem) default 131072
        iprop((arg15.view.loc (c : Thread nD τ) ↦[arg15.view.set]{fullShare}
            arg15.view.writes (Elt F) g [⟨Rect.whole S1024x1024, v⟩])
          ∗ (src.view.loc (c : Thread nD τ) ↦[src.view.set]{fullShare} f))
      ⊢ copying c arg15 arg16 src f := by
  subst hv
  refine Transfers.Flight_mono _ _ ?_
  refine sep_mono ?_ .rfl
  unfold owns
  iintro H
  iexists _; isplitr
  · ipureintro
    exact (congrArg (arg15.view.read (Elt F)) (View.write_univ_eq_writes_whole arg15.view g [] _).symm).trans (View.read_write_univ (v := arg15.view) g _)
  iexact H

/-- The copy's delivery with the buffer's contents spelt out. -/
theorem sending (src : Memref sig .tc .hbm S1024x1024 .f32) (f : Buf (Elt F) (src.view.loc (c : Thread nD τ)))
    (x : Vec F S1024x1024 .f32) (hx : src.view.read (Elt F) f = x) :
    copying c arg15 arg16 src f
      ⊢ Transfers.Flight (countersEmb (U := Pipeline.UD sig nD τ)) (c : Thread nD τ) (.dma arg16.sem) () 131072
        iprop((arg15.view.loc (c : Thread nD τ) ↦[arg15.view.set]{fullShare} harg15.unread x)
          ∗ (src.view.loc (c : Thread nD τ) ↦[src.view.set]{fullShare} f)) := by
  subst hx
  refine Transfers.Flight_mono _ _ ?_
  refine sep_mono ?_ .rfl
  unfold owns
  iintro ⟨%g, %e, H⟩
  obtain rfl := harg15.eq_unread e
  iexact H

set_option maxHeartbeats 8000000 in
/-- The first of a block of rows' four points, not the first of all. -/
noncomputable def runFirst (h1 : isFirst i) (h2 : ¬isStart i) (h3 : ¬isLast i)
    (f : Buf (Elt F) ((rowsOf i arg3 h1).view.loc (c : Thread nD τ)))
    (dy : Vec F S1024x1024 .f32) (gate up wg wu : Vec F S1x1024x704 .bf16) (wo : Vec F S2x352x1024 .bf16) :
    Σ' (L10 : Pieces F S1024x1024 .f32) (L11 : Pieces F S1x1024x704 .bf16) (L12 : Pieces F S2x1x1024x704 .bf16),
      { L14 : Pieces F S1024x1024 .bf16 //
      ∀ (W : Waits sig Unit) (K : PUnit → sProp 𝕄),
        iprop(owns (c : Thread nD τ) arg2 fullShare dy ∗ heldRows c (rowsOf i arg3 h1) f
            ∗ owns (c : Thread nD τ) arg5 fullShare gate ∗ owns (c : Thread nD τ) arg6 fullShare up
            ∗ owns (c : Thread nD τ) arg7 fullShare wg ∗ owns (c : Thread nD τ) arg8 fullShare wu ∗ owns (c : Thread nD τ) arg9 fullShare wo
            ∗ some_ (F := F) c arg10 ∗ some_ (F := F) c arg11 ∗ some_ (F := F) c arg12 ∗ some_ (F := F) c arg14 ∗ some_ (F := F) c arg15
            ∗ semVal ((c : Thread nD τ), SemLoc.dma arg16.sem) 0 ∗ owes (c : Thread nD τ) 0 W
            ∗ (iprop(owns (c : Thread nD τ) arg2 fullShare dy ∗ copying c arg15 arg16 (rowsOf i arg3 h1) f
                ∗ owns (c : Thread nD τ) arg5 fullShare gate ∗ owns (c : Thread nD τ) arg6 fullShare up
                ∗ owns (c : Thread nD τ) arg7 fullShare wg ∗ owns (c : Thread nD τ) arg8 fullShare wu ∗ owns (c : Thread nD τ) arg9 fullShare wo
                ∗ wrote c arg10 L10 ∗ wrote c arg11 L11 ∗ wrote c arg12 L12 ∗ wrote c arg14 L14
                ∗ (∃ W', owes (c : Thread nD τ) 0 W')) -∗ K ⟨⟩))
          ⊢ wp frame (wpE (defs₀ (F := F)) Variants.none c none) Set.univ
              (cc0_ffn2_bwd i arg2 harg2 arg3 harg3 arg4 harg4 arg5 harg5 arg6 harg6 arg7 harg7 arg8 harg8 arg9 harg9 arg10 harg10
                arg11 harg11 arg12 harg12 arg13 harg13 arg14 harg14 arg15 harg15 arg16) K } := by
  refine ⟨?_, ?_, ?_, ?_, fun W K => ?run⟩
  case run =>
    rw [cc0_ffn2_bwd_eq_skeleton]
    unfold cc0_ffn2_bwd_skel
    simp only [k0_part1_eq_skeleton, k0_part2_eq_skeleton, k0_part3_eq_skeleton, k0_part4_eq_skeleton, k0_part5_eq_skeleton, k0_part6_eq_skeleton,
      k0_part7_eq_skeleton]
    unfold k0_part1_skel k0_part2_skel k0_part3_skel k0_part4_skel k0_part5_skel k0_part6_skel k0_part7_skel
    unfold rowsOf
    unfold some_ wrote owns heldRows
    iintro ⟨⟨%f2, %e2, H2⟩, H3, ⟨%f5, %e5, H5⟩, ⟨%f6, %e6, H6⟩, ⟨%f7, %e7, H7⟩, ⟨%f8, %e8, H8⟩, ⟨%f9, %e9, H9⟩,
      ⟨%d10, %f10, -, H10⟩, ⟨%d11, %f11, -, H11⟩, ⟨%d12, %f12, -, H12⟩, ⟨%d14, %f14, -, H14⟩, ⟨%d15, %f15, -, H15⟩, Hq, HW, Hk⟩
    obtain rfl := harg2.eq_unread e2; obtain rfl := harg5.eq_unread e5; obtain rfl := harg6.eq_unread e6
    obtain rfl := harg7.eq_unread e7; obtain rfl := harg8.eq_unread e8; obtain rfl := harg9.eq_unread e9
    sl_exec (disch := first | sl_exact h1 | sl_exact h2 | sl_exact h3)
    sl_step
    iapply Hk
    isplitl [H2]
    · iexists _; isplitr; · ipureintro; exact harg2.read_unread _
      iexact H2
    isplitl [Hq]
    · iapply (landing c arg15 arg16 _ f f15 (runFirst.sl.dma0 c i arg3 h1 f) rfl) $$ Hq
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H14]; · iexists _; iexact H14
    iexists _; iexact HW

set_option maxHeartbeats 8000000 in
/-- The first point of all. -/
noncomputable def runZero (h1 : isFirst i) (h2 : isStart i) (h3 : ¬isLast i)
    (f : Buf (Elt F) ((rowsOf i arg3 h1).view.loc (c : Thread nD τ)))
    (dy : Vec F S1024x1024 .f32) (gate up wg wu : Vec F S1x1024x704 .bf16) (wo : Vec F S2x352x1024 .bf16) :
    Σ' (L10 : Pieces F S1024x1024 .f32) (L11 : Pieces F S1x1024x704 .bf16) (L12 : Pieces F S2x1x1024x704 .bf16)
      (L13 : Pieces F S1x1024 .f32),
      { L14 : Pieces F S1024x1024 .bf16 //
      ∀ (W : Waits sig Unit) (K : PUnit → sProp 𝕄),
        iprop(owns (c : Thread nD τ) arg2 fullShare dy ∗ heldRows c (rowsOf i arg3 h1) f
            ∗ owns (c : Thread nD τ) arg5 fullShare gate ∗ owns (c : Thread nD τ) arg6 fullShare up
            ∗ owns (c : Thread nD τ) arg7 fullShare wg ∗ owns (c : Thread nD τ) arg8 fullShare wu ∗ owns (c : Thread nD τ) arg9 fullShare wo
            ∗ some_ (F := F) c arg10 ∗ some_ (F := F) c arg11 ∗ some_ (F := F) c arg12 ∗ some_ (F := F) c arg13 ∗ some_ (F := F) c arg14 ∗ some_ (F := F) c arg15
            ∗ semVal ((c : Thread nD τ), SemLoc.dma arg16.sem) 0 ∗ owes (c : Thread nD τ) 0 W
            ∗ (iprop(owns (c : Thread nD τ) arg2 fullShare dy ∗ copying c arg15 arg16 (rowsOf i arg3 h1) f
                ∗ owns (c : Thread nD τ) arg5 fullShare gate ∗ owns (c : Thread nD τ) arg6 fullShare up
                ∗ owns (c : Thread nD τ) arg7 fullShare wg ∗ owns (c : Thread nD τ) arg8 fullShare wu ∗ owns (c : Thread nD τ) arg9 fullShare wo
                ∗ wrote c arg10 L10 ∗ wrote c arg11 L11 ∗ wrote c arg12 L12 ∗ wrote c arg13 L13 ∗ wrote c arg14 L14
                ∗ (∃ W', owes (c : Thread nD τ) 0 W')) -∗ K ⟨⟩))
          ⊢ wp frame (wpE (defs₀ (F := F)) Variants.none c none) Set.univ
              (cc0_ffn2_bwd i arg2 harg2 arg3 harg3 arg4 harg4 arg5 harg5 arg6 harg6 arg7 harg7 arg8 harg8 arg9 harg9 arg10 harg10
                arg11 harg11 arg12 harg12 arg13 harg13 arg14 harg14 arg15 harg15 arg16) K } := by
  refine ⟨?_, ?_, ?_, ?_, ?_, fun W K => ?run⟩
  case run =>
    rw [cc0_ffn2_bwd_eq_skeleton]
    unfold cc0_ffn2_bwd_skel
    simp only [k0_part1_eq_skeleton, k0_part2_eq_skeleton, k0_part3_eq_skeleton, k0_part4_eq_skeleton, k0_part5_eq_skeleton, k0_part6_eq_skeleton,
      k0_part7_eq_skeleton]
    unfold k0_part1_skel k0_part2_skel k0_part3_skel k0_part4_skel k0_part5_skel k0_part6_skel k0_part7_skel
    unfold rowsOf
    unfold some_ wrote owns heldRows
    iintro ⟨⟨%f2, %e2, H2⟩, H3, ⟨%f5, %e5, H5⟩, ⟨%f6, %e6, H6⟩, ⟨%f7, %e7, H7⟩, ⟨%f8, %e8, H8⟩, ⟨%f9, %e9, H9⟩,
      ⟨%d10, %f10, -, H10⟩, ⟨%d11, %f11, -, H11⟩, ⟨%d12, %f12, -, H12⟩, ⟨%d13, %f13, -, H13⟩, ⟨%d14, %f14, -, H14⟩, ⟨%d15, %f15, -, H15⟩, Hq, HW, Hk⟩
    obtain rfl := harg2.eq_unread e2; obtain rfl := harg5.eq_unread e5; obtain rfl := harg6.eq_unread e6
    obtain rfl := harg7.eq_unread e7; obtain rfl := harg8.eq_unread e8; obtain rfl := harg9.eq_unread e9
    sl_exec (disch := first | sl_exact h1 | sl_exact h2 | sl_exact h3)
    sl_step
    iapply Hk
    isplitl [H2]
    · iexists _; isplitr; · ipureintro; exact harg2.read_unread _
      iexact H2
    isplitl [Hq]
    · iapply (landing c arg15 arg16 _ f f15 (runZero.sl.dma0 c i arg3 h1 f) rfl) $$ Hq
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HW

set_option maxHeartbeats 8000000 in
/-- A point that neither begins nor ends a block of rows. -/
noncomputable def runMiddle (h1 : ¬isFirst i) (h2 : ¬isStart i) (h3 : ¬isLast i)
    (gate up wg wu : Vec F S1x1024x704 .bf16) (wo : Vec F S2x352x1024 .bf16) (acc : Vec F S1024x1024 .f32) (dyh : Vec F S1024x1024 .bf16) :
    Σ' (L10 : Pieces F S1024x1024 .f32) (L11 : Pieces F S1x1024x704 .bf16),
      { L12 : Pieces F S2x1x1024x704 .bf16 //
      ∀ (K : PUnit → sProp 𝕄),
        iprop(owns (c : Thread nD τ) arg5 fullShare gate ∗ owns (c : Thread nD τ) arg6 fullShare up
            ∗ owns (c : Thread nD τ) arg7 fullShare wg ∗ owns (c : Thread nD τ) arg8 fullShare wu ∗ owns (c : Thread nD τ) arg9 fullShare wo
            ∗ owns (c : Thread nD τ) arg10 fullShare acc ∗ some_ (F := F) c arg11 ∗ some_ (F := F) c arg12 ∗ owns (c : Thread nD τ) arg14 fullShare dyh
            ∗ (iprop(owns (c : Thread nD τ) arg5 fullShare gate ∗ owns (c : Thread nD τ) arg6 fullShare up
                ∗ owns (c : Thread nD τ) arg7 fullShare wg ∗ owns (c : Thread nD τ) arg8 fullShare wu ∗ owns (c : Thread nD τ) arg9 fullShare wo
                ∗ wrote c arg10 L10 ∗ wrote c arg11 L11 ∗ wrote c arg12 L12 ∗ owns (c : Thread nD τ) arg14 fullShare dyh) -∗ K ⟨⟩))
          ⊢ wp frame (wpE (defs₀ (F := F)) Variants.none c none) Set.univ
              (cc0_ffn2_bwd i arg2 harg2 arg3 harg3 arg4 harg4 arg5 harg5 arg6 harg6 arg7 harg7 arg8 harg8 arg9 harg9 arg10 harg10
                arg11 harg11 arg12 harg12 arg13 harg13 arg14 harg14 arg15 harg15 arg16) K } := by
  refine ⟨?_, ?_, ?_, fun K => ?run⟩
  case run =>
    rw [cc0_ffn2_bwd_eq_skeleton]
    unfold cc0_ffn2_bwd_skel
    simp only [k0_part1_eq_skeleton, k0_part2_eq_skeleton, k0_part3_eq_skeleton, k0_part4_eq_skeleton, k0_part5_eq_skeleton, k0_part6_eq_skeleton,
      k0_part7_eq_skeleton]
    unfold k0_part1_skel k0_part2_skel k0_part3_skel k0_part4_skel k0_part5_skel k0_part6_skel k0_part7_skel
    unfold some_ wrote owns
    iintro ⟨⟨%f5, %e5, H5⟩, ⟨%f6, %e6, H6⟩, ⟨%f7, %e7, H7⟩, ⟨%f8, %e8, H8⟩, ⟨%f9, %e9, H9⟩,
      ⟨%f10, %e10, H10⟩, ⟨%d11, %f11, -, H11⟩, ⟨%d12, %f12, -, H12⟩, ⟨%f14, %e14, H14⟩, Hk⟩
    obtain rfl := harg5.eq_unread e5; obtain rfl := harg6.eq_unread e6; obtain rfl := harg7.eq_unread e7
    obtain rfl := harg8.eq_unread e8; obtain rfl := harg9.eq_unread e9; obtain rfl := harg10.eq_unread e10; obtain rfl := harg14.eq_unread e14
    sl_exec (disch := first | sl_exact h1 | sl_exact h2 | sl_exact h3)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; isplitr; · ipureintro; exact harg14.read_unread _
    iexact H14

set_option maxHeartbeats 8000000 in
/-- The last of a block of rows' four points. -/
noncomputable def runLast (h1 : ¬isFirst i) (h2 : ¬isStart i) (h3 : isLast i)
    (x : Vec F S1024x1024 .f32)
    (dy : Vec F S1024x1024 .f32) (gam : Vec F S1x1024 .f32) (gate up wg wu : Vec F S1x1024x704 .bf16) (wo : Vec F S2x352x1024 .bf16)
    (acc : Vec F S1024x1024 .f32) (dgam : Vec F S1x1024 .f32) (dyh : Vec F S1024x1024 .bf16) :
    Σ' (L10 : Pieces F S1024x1024 .f32) (L11 : Pieces F S1x1024x704 .bf16) (L12 : Pieces F S2x1x1024x704 .bf16),
      { L13 : Pieces F S1x1024 .f32 //
      ∀ (src : Memref sig .tc .hbm S1024x1024 .f32) (f : Buf (Elt F) (src.view.loc (c : Thread nD τ)))
        (hx : src.view.read (Elt F) f = x) (W : Waits sig Unit) (K : PUnit → sProp 𝕄),
        iprop(owns (c : Thread nD τ) arg2 fullShare dy ∗ copying c arg15 arg16 src f ∗ owns (c : Thread nD τ) arg4 fullShare gam
            ∗ owns (c : Thread nD τ) arg5 fullShare gate ∗ owns (c : Thread nD τ) arg6 fullShare up
            ∗ owns (c : Thread nD τ) arg7 fullShare wg ∗ owns (c : Thread nD τ) arg8 fullShare wu ∗ owns (c : Thread nD τ) arg9 fullShare wo
            ∗ owns (c : Thread nD τ) arg10 fullShare acc ∗ some_ (F := F) c arg11 ∗ some_ (F := F) c arg12
            ∗ owns (c : Thread nD τ) arg13 fullShare dgam ∗ owns (c : Thread nD τ) arg14 fullShare dyh ∗ owes (c : Thread nD τ) 0 W
            ∗ (iprop(owns (c : Thread nD τ) arg2 fullShare dy ∗ heldRows c src f ∗ owns (c : Thread nD τ) arg4 fullShare gam
                ∗ owns (c : Thread nD τ) arg5 fullShare gate ∗ owns (c : Thread nD τ) arg6 fullShare up
                ∗ owns (c : Thread nD τ) arg7 fullShare wg ∗ owns (c : Thread nD τ) arg8 fullShare wu ∗ owns (c : Thread nD τ) arg9 fullShare wo
                ∗ wrote c arg10 L10 ∗ wrote c arg11 L11 ∗ wrote c arg12 L12 ∗ wrote c arg13 L13
                ∗ owns (c : Thread nD τ) arg14 fullShare dyh ∗ owns (c : Thread nD τ) arg15 fullShare x
                ∗ semVal ((c : Thread nD τ), SemLoc.dma arg16.sem) 0
                ∗ (∃ W', owes (c : Thread nD τ) 0 W')) -∗ K ⟨⟩))
          ⊢ wp frame (wpE (defs₀ (F := F)) Variants.none c none) Set.univ
              (cc0_ffn2_bwd i arg2 harg2 arg3 harg3 arg4 harg4 arg5 harg5 arg6 harg6 arg7 harg7 arg8 harg8 arg9 harg9 arg10 harg10
                arg11 harg11 arg12 harg12 arg13 harg13 arg14 harg14 arg15 harg15 arg16) K } := by
  refine ⟨?_, ?_, ?_, ?_, fun src f hx W K => ?run⟩
  case run =>
    rw [cc0_ffn2_bwd_eq_skeleton]
    unfold cc0_ffn2_bwd_skel
    simp only [k0_part1_eq_skeleton, k0_part2_eq_skeleton, k0_part3_eq_skeleton, k0_part4_eq_skeleton, k0_part5_eq_skeleton, k0_part6_eq_skeleton,
      k0_part7_eq_skeleton]
    unfold k0_part1_skel k0_part2_skel k0_part3_skel k0_part4_skel k0_part5_skel k0_part6_skel k0_part7_skel
    refine (sep_mono .rfl (sep_mono (sending c arg15 harg15 arg16 src f x hx) .rfl)).trans ?_
    unfold some_ wrote owns heldRows
    iintro ⟨⟨%f2, %e2, H2⟩, Hq, ⟨%f4, %e4, H4⟩, ⟨%f5, %e5, H5⟩, ⟨%f6, %e6, H6⟩, ⟨%f7, %e7, H7⟩, ⟨%f8, %e8, H8⟩, ⟨%f9, %e9, H9⟩,
      ⟨%f10, %e10, H10⟩, ⟨%d11, %f11, -, H11⟩, ⟨%d12, %f12, -, H12⟩, ⟨%f13, %e13, H13⟩, ⟨%f14, %e14, H14⟩, HW, Hk⟩
    obtain rfl := harg2.eq_unread e2; obtain rfl := harg4.eq_unread e4; obtain rfl := harg5.eq_unread e5; obtain rfl := harg6.eq_unread e6
    obtain rfl := harg7.eq_unread e7; obtain rfl := harg8.eq_unread e8; obtain rfl := harg9.eq_unread e9
    obtain rfl := harg10.eq_unread e10; obtain rfl := harg13.eq_unread e13; obtain rfl := harg14.eq_unread e14
    sl_exec (disch := first | sl_exact h1 | sl_exact h2 | sl_exact h3)
    sl_step
    iapply Hk
    isplitl [H2]
    · iexists _; isplitr; · ipureintro; exact harg2.read_unread _
      iexact H2
    isplitl [Hq_src]; · iexact Hq_src
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [Hq_dst]
    · iexists _; isplitr; · ipureintro; exact harg15.read_unread _
      iexact Hq_dst
    isplitl [Hq]; · iexact Hq
    iexists _; iexact HW

end Cert.FfnBwdIdeal.Hand

end
-- ==== Proof.FfnBwdFrame.lean ====
module

public import proofs.«01_k».proof.Proof.FfnBwdRun
public import Idealize.ShloMosaic.Lib.Claim

@[expose] public section

set_option maxRecDepth 16384

noncomputable section

/-! # The frame of the feed-forward block's backward call

What the buffers hold after each point, the copy that flies between a block's first point and its last, the obligation at a point,
and the launch. -/

namespace Cert.FfnBwdIdeal.Hand

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The runs at a point of the pipeline -/

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
abbrev hs0_9 (t : Fin cfg0.N) : (st0_9 t).IsWhole := hstage0_9 ((cfg0.slots t 9).cast nbuf0_9)
abbrev hs0_10 (t : Fin cfg0.N) : (st0_10 t).IsWhole := hstage0_10 ((cfg0.slots t 10).cast nbuf0_10)
/-- The array the body copies from. -/
abbrev input : Memref sig .tc .hbm S8192x1024 .f32 := Memref.whole main_arg1
/-- The scratch that holds half the cotangent. -/
abbrev keep : Memref sig .tc .vmem S1024x1024 .bf16 := Memref.whole cc0_scratch0
/-- The scratch the input's rows are copied into. -/
abbrev landed : Memref sig .tc .vmem S1024x1024 .f32 := Memref.whole cc0_scratch1

theorem points : cfg0.N = 32 := N_0

theorem not_last {t : Fin cfg0.N} (h : isFirst (grid0.coords t)) : ¬isLast (grid0.coords t) := fun h' => by
  have a := (isFirst_iff t).mp h
  have b := (isLast_iff t).mp h'
  omega
theorem first_of_start {t : Fin cfg0.N} (h : isStart (grid0.coords t)) : isFirst (grid0.coords t) :=
  (isFirst_iff t).mpr (by rw [(isStart_iff t).mp h])
theorem not_start {t : Fin cfg0.N} (h : ¬isFirst (grid0.coords t)) : ¬isStart (grid0.coords t) := fun h' => h (first_of_start h')

/-- The first of the four points of point `n`'s block of rows. -/
def start (n : ℕ) : Fin cfg0.N := ⟨4 * (n / 4) % 32, by rw [points]; omega⟩
theorem first_start (n : ℕ) : isFirst (grid0.coords (start n)) := (isFirst_iff _).mpr (by unfold start; dsimp only; omega)
theorem start_first (t : Fin cfg0.N) (h : isFirst (grid0.coords t)) : start t.val = t := by
  have a := (isFirst_iff t).mp h
  have b : t.val < 32 := Nat.lt_of_lt_of_eq t.isLt points
  exact Fin.ext (by unfold start; dsimp only; omega)
theorem start_succ (t : Fin cfg0.N) (h : ¬isLast (grid0.coords t)) : start (t.val + 1) = start t.val := by
  have a : t.val % 4 ≠ 3 := fun a => h ((isLast_iff t).mpr a)
  exact Fin.ext (by unfold start; dsimp only; omega)

/-- The input's rows of the block that begins at `t`. -/
abbrev xrows (c : Dev nD) (t : Fin cfg0.N) (h : isFirst (grid0.coords t)) : Vec F S1024x1024 .f32 :=
  (rowsOf (grid0.coords t) input h).view.read (Elt F) (V m c main_arg1)

abbrev atZero (c : Dev nD) (t : Fin cfg0.N) (h2 : isStart (grid0.coords t)) :=
  runZero (F := F) c (grid0.coords t) (st0_0 t) (hs0_0 t) input (Memref.isWhole_whole _) (st0_1 t) (hs0_1 t) (st0_2 t) (hs0_2 t) (st0_3 t) (hs0_3 t)
    (st0_4 t) (hs0_4 t) (st0_5 t) (hs0_5 t) (st0_6 t) (hs0_6 t) (st0_7 t) (hs0_7 t)
    (st0_8 t) (hs0_8 t) (st0_9 t) (hs0_9 t) (st0_10 t) (hs0_10 t) keep (Memref.isWhole_whole _) landed (Memref.isWhole_whole _)
    cc0_scratch2 (first_of_start h2) h2 (not_last (first_of_start h2)) (V m c main_arg1) (iblk m c 0 t) (iblk m c 2 t) (iblk m c 3 t) (iblk m c 4 t) (iblk m c 5 t) (iblk m c 6 t)

abbrev atFirst (c : Dev nD) (t : Fin cfg0.N) (h1 : isFirst (grid0.coords t)) (h2 : ¬isStart (grid0.coords t)) :=
  runFirst (F := F) c (grid0.coords t) (st0_0 t) (hs0_0 t) input (Memref.isWhole_whole _) (st0_1 t) (hs0_1 t) (st0_2 t) (hs0_2 t) (st0_3 t) (hs0_3 t)
    (st0_4 t) (hs0_4 t) (st0_5 t) (hs0_5 t) (st0_6 t) (hs0_6 t) (st0_7 t) (hs0_7 t)
    (st0_8 t) (hs0_8 t) (st0_9 t) (hs0_9 t) (st0_10 t) (hs0_10 t) keep (Memref.isWhole_whole _) landed (Memref.isWhole_whole _)
    cc0_scratch2 h1 h2 (not_last h1) (V m c main_arg1) (iblk m c 0 t) (iblk m c 2 t) (iblk m c 3 t) (iblk m c 4 t) (iblk m c 5 t) (iblk m c 6 t)

abbrev atMiddle (c : Dev nD) (t : Fin cfg0.N) (h1 : ¬isFirst (grid0.coords t)) (h3 : ¬isLast (grid0.coords t))
    (acc : Vec F S1024x1024 .f32) (dyh : Vec F S1024x1024 .bf16) :=
  runMiddle (F := F) c (grid0.coords t) (st0_0 t) (hs0_0 t) input (Memref.isWhole_whole _) (st0_1 t) (hs0_1 t) (st0_2 t) (hs0_2 t) (st0_3 t) (hs0_3 t)
    (st0_4 t) (hs0_4 t) (st0_5 t) (hs0_5 t) (st0_6 t) (hs0_6 t) (st0_7 t) (hs0_7 t)
    (st0_8 t) (hs0_8 t) (st0_9 t) (hs0_9 t) (st0_10 t) (hs0_10 t) keep (Memref.isWhole_whole _) landed (Memref.isWhole_whole _)
    cc0_scratch2 h1 (not_start h1) h3 (iblk m c 2 t) (iblk m c 3 t) (iblk m c 4 t) (iblk m c 5 t) (iblk m c 6 t) acc dyh

abbrev atLast (c : Dev nD) (t : Fin cfg0.N) (h1 : ¬isFirst (grid0.coords t)) (h3 : isLast (grid0.coords t))
    (acc : Vec F S1024x1024 .f32) (dgam : Vec F S1x1024 .f32) (dyh : Vec F S1024x1024 .bf16) :=
  runLast (F := F) c (grid0.coords t) (st0_0 t) (hs0_0 t) input (Memref.isWhole_whole _) (st0_1 t) (hs0_1 t) (st0_2 t) (hs0_2 t) (st0_3 t) (hs0_3 t)
    (st0_4 t) (hs0_4 t) (st0_5 t) (hs0_5 t) (st0_6 t) (hs0_6 t) (st0_7 t) (hs0_7 t)
    (st0_8 t) (hs0_8 t) (st0_9 t) (hs0_9 t) (st0_10 t) (hs0_10 t) keep (Memref.isWhole_whole _) landed (Memref.isWhole_whole _)
    cc0_scratch2 h1 (not_start h1) h3 (xrows m c (start t.val) (first_start t.val))
    (iblk m c 0 t) (iblk m c 1 t) (iblk m c 2 t) (iblk m c 3 t) (iblk m c 4 t) (iblk m c 5 t) (iblk m c 6 t) acc dgam dyh

/-! ## What the pieces leave -/

/-- One buffer of each shape and width, through which the contents are stated. -/
abbrev viewRow : View sig .tc .vmem S1024x1024 .f32 := landed.view
abbrev viewHalf : View sig .tc .vmem S1024x1024 .bf16 := keep.view
abbrev viewHid : View sig .tc .vmem S1x1024x704 .bf16 := (Memref.whole cc0_stg8_0 : Memref sig .tc .vmem S1x1024x704 .bf16).view
abbrev viewTwo : View sig .tc .vmem S2x1x1024x704 .bf16 := (Memref.whole cc0_stg9_0 : Memref sig .tc .vmem S2x1x1024x704 .bf16).view
abbrev viewScale : View sig .tc .vmem S1x1024 .f32 := (Memref.whole cc0_stg10_0 : Memref sig .tc .vmem S1x1024 .f32).view

/-- What the four outputs and the halved cotangent's scratch hold. -/
structure State (F : FTy → Type) [FloatOps F] where
  dx : Vec F S1024x1024 .f32
  hid : Vec F S1x1024x704 .bf16
  two : Vec F S2x1x1024x704 .bf16
  dgam : Vec F S1x1024 .f32
  dyh : Vec F S1024x1024 .bf16

section
variable (c : Dev nD) (t : Fin cfg0.N)

def zeroDx (h2 : isStart (grid0.coords t)) : Vec F S1024x1024 .f32 :=
  viewRow.read (Elt F) (viewRow.writes (Elt F) viewRow.junk (atZero m c t h2).1)
def zeroHid (h2 : isStart (grid0.coords t)) : Vec F S1x1024x704 .bf16 :=
  viewHid.read (Elt F) (viewHid.writes (Elt F) viewHid.junk (atZero m c t h2).2.1)
def zeroTwo (h2 : isStart (grid0.coords t)) : Vec F S2x1x1024x704 .bf16 :=
  viewTwo.read (Elt F) (viewTwo.writes (Elt F) viewTwo.junk (atZero m c t h2).2.2.1)
def zeroGam (h2 : isStart (grid0.coords t)) : Vec F S1x1024 .f32 :=
  viewScale.read (Elt F) (viewScale.writes (Elt F) viewScale.junk (atZero m c t h2).2.2.2.1)
def zeroHalf (h2 : isStart (grid0.coords t)) : Vec F S1024x1024 .bf16 :=
  viewHalf.read (Elt F) (viewHalf.writes (Elt F) viewHalf.junk (atZero m c t h2).2.2.2.2.1)
def firstDx (h1 : isFirst (grid0.coords t)) (h2 : ¬isStart (grid0.coords t)) : Vec F S1024x1024 .f32 :=
  viewRow.read (Elt F) (viewRow.writes (Elt F) viewRow.junk (atFirst m c t h1 h2).1)
def firstHid (h1 : isFirst (grid0.coords t)) (h2 : ¬isStart (grid0.coords t)) : Vec F S1x1024x704 .bf16 :=
  viewHid.read (Elt F) (viewHid.writes (Elt F) viewHid.junk (atFirst m c t h1 h2).2.1)
def firstTwo (h1 : isFirst (grid0.coords t)) (h2 : ¬isStart (grid0.coords t)) : Vec F S2x1x1024x704 .bf16 :=
  viewTwo.read (Elt F) (viewTwo.writes (Elt F) viewTwo.junk (atFirst m c t h1 h2).2.2.1)
def firstHalf (h1 : isFirst (grid0.coords t)) (h2 : ¬isStart (grid0.coords t)) : Vec F S1024x1024 .bf16 :=
  viewHalf.read (Elt F) (viewHalf.writes (Elt F) viewHalf.junk (atFirst m c t h1 h2).2.2.2.1)
def middleDx (h1 : ¬isFirst (grid0.coords t)) (h3 : ¬isLast (grid0.coords t)) (acc : Vec F S1024x1024 .f32) (dyh : Vec F S1024x1024 .bf16) : Vec F S1024x1024 .f32 :=
  viewRow.read (Elt F) (viewRow.writes (Elt F) viewRow.junk (atMiddle m c t h1 h3 acc dyh).1)
def middleHid (h1 : ¬isFirst (grid0.coords t)) (h3 : ¬isLast (grid0.coords t)) (acc : Vec F S1024x1024 .f32) (dyh : Vec F S1024x1024 .bf16) : Vec F S1x1024x704 .bf16 :=
  viewHid.read (Elt F) (viewHid.writes (Elt F) viewHid.junk (atMiddle m c t h1 h3 acc dyh).2.1)
def middleTwo (h1 : ¬isFirst (grid0.coords t)) (h3 : ¬isLast (grid0.coords t)) (acc : Vec F S1024x1024 .f32) (dyh : Vec F S1024x1024 .bf16) : Vec F S2x1x1024x704 .bf16 :=
  viewTwo.read (Elt F) (viewTwo.writes (Elt F) viewTwo.junk (atMiddle m c t h1 h3 acc dyh).2.2.1)
def lastDx (h1 : ¬isFirst (grid0.coords t)) (h3 : isLast (grid0.coords t)) (acc : Vec F S1024x1024 .f32) (dgam : Vec F S1x1024 .f32) (dyh : Vec F S1024x1024 .bf16) : Vec F S1024x1024 .f32 :=
  viewRow.read (Elt F) (viewRow.writes (Elt F) viewRow.junk (atLast m c t h1 h3 acc dgam dyh).1)
def lastHid (h1 : ¬isFirst (grid0.coords t)) (h3 : isLast (grid0.coords t)) (acc : Vec F S1024x1024 .f32) (dgam : Vec F S1x1024 .f32) (dyh : Vec F S1024x1024 .bf16) : Vec F S1x1024x704 .bf16 :=
  viewHid.read (Elt F) (viewHid.writes (Elt F) viewHid.junk (atLast m c t h1 h3 acc dgam dyh).2.1)
def lastTwo (h1 : ¬isFirst (grid0.coords t)) (h3 : isLast (grid0.coords t)) (acc : Vec F S1024x1024 .f32) (dgam : Vec F S1x1024 .f32) (dyh : Vec F S1024x1024 .bf16) : Vec F S2x1x1024x704 .bf16 :=
  viewTwo.read (Elt F) (viewTwo.writes (Elt F) viewTwo.junk (atLast m c t h1 h3 acc dgam dyh).2.2.1)
def lastGam (h1 : ¬isFirst (grid0.coords t)) (h3 : isLast (grid0.coords t)) (acc : Vec F S1024x1024 .f32) (dgam : Vec F S1x1024 .f32) (dyh : Vec F S1024x1024 .bf16) : Vec F S1x1024 .f32 :=
  viewScale.read (Elt F) (viewScale.writes (Elt F) viewScale.junk (atLast m c t h1 h3 acc dgam dyh).2.2.2.1)

/-! Every list of pieces covers its buffer. -/

theorem cover_zeroDx (h2 : isStart (grid0.coords t)) (y : S1024x1024.Idx) :
    ∃ pc ∈ (atZero m c t h2).1, y ∈ pc.1.set :=
  View.cover_of_tiledL (atZero m c t h2).1 S256x1024.size (by sl_kernel_rfl) y
theorem cover_zeroHid (h2 : isStart (grid0.coords t)) (y : S1x1024x704.Idx) :
    ∃ pc ∈ (atZero m c t h2).2.1, y ∈ pc.1.set :=
  View.cover_of_tiledL (atZero m c t h2).2.1 S1x256x704.size (by sl_kernel_rfl) y
theorem cover_zeroTwo (h2 : isStart (grid0.coords t)) (y : S2x1x1024x704.Idx) :
    ∃ pc ∈ (atZero m c t h2).2.2.1, y ∈ pc.1.set :=
  View.cover_of_tiledL (atZero m c t h2).2.2.1 S1x1x256x704.size (by sl_kernel_rfl) y
theorem cover_zeroGam (h2 : isStart (grid0.coords t)) (y : S1x1024.Idx) :
    ∃ pc ∈ (atZero m c t h2).2.2.2.1, y ∈ pc.1.set :=
  View.cover_of_tiledL (atZero m c t h2).2.2.2.1 S1x1024.size (by sl_kernel_rfl) y
theorem cover_zeroHalf (h2 : isStart (grid0.coords t)) (y : S1024x1024.Idx) :
    ∃ pc ∈ (atZero m c t h2).2.2.2.2.1, y ∈ pc.1.set :=
  View.cover_of_tiledL (atZero m c t h2).2.2.2.2.1 S1024x1024.size (by sl_kernel_rfl) y
theorem cover_firstDx (h1 : isFirst (grid0.coords t)) (h2 : ¬isStart (grid0.coords t)) (y : S1024x1024.Idx) :
    ∃ pc ∈ (atFirst m c t h1 h2).1, y ∈ pc.1.set :=
  View.cover_of_tiledL (atFirst m c t h1 h2).1 S256x1024.size (by sl_kernel_rfl) y
theorem cover_firstHid (h1 : isFirst (grid0.coords t)) (h2 : ¬isStart (grid0.coords t)) (y : S1x1024x704.Idx) :
    ∃ pc ∈ (atFirst m c t h1 h2).2.1, y ∈ pc.1.set :=
  View.cover_of_tiledL (atFirst m c t h1 h2).2.1 S1x256x704.size (by sl_kernel_rfl) y
theorem cover_firstTwo (h1 : isFirst (grid0.coords t)) (h2 : ¬isStart (grid0.coords t)) (y : S2x1x1024x704.Idx) :
    ∃ pc ∈ (atFirst m c t h1 h2).2.2.1, y ∈ pc.1.set :=
  View.cover_of_tiledL (atFirst m c t h1 h2).2.2.1 S1x1x256x704.size (by sl_kernel_rfl) y
theorem cover_firstHalf (h1 : isFirst (grid0.coords t)) (h2 : ¬isStart (grid0.coords t)) (y : S1024x1024.Idx) :
    ∃ pc ∈ (atFirst m c t h1 h2).2.2.2.1, y ∈ pc.1.set :=
  View.cover_of_tiledL (atFirst m c t h1 h2).2.2.2.1 S1024x1024.size (by sl_kernel_rfl) y
theorem cover_middleDx (h1 : ¬isFirst (grid0.coords t)) (h3 : ¬isLast (grid0.coords t)) (acc : Vec F S1024x1024 .f32) (dyh : Vec F S1024x1024 .bf16) (y : S1024x1024.Idx) :
    ∃ pc ∈ (atMiddle m c t h1 h3 acc dyh).1, y ∈ pc.1.set :=
  View.cover_of_tiledL (atMiddle m c t h1 h3 acc dyh).1 S256x1024.size (by sl_kernel_rfl) y
theorem cover_middleHid (h1 : ¬isFirst (grid0.coords t)) (h3 : ¬isLast (grid0.coords t)) (acc : Vec F S1024x1024 .f32) (dyh : Vec F S1024x1024 .bf16) (y : S1x1024x704.Idx) :
    ∃ pc ∈ (atMiddle m c t h1 h3 acc dyh).2.1, y ∈ pc.1.set :=
  View.cover_of_tiledL (atMiddle m c t h1 h3 acc dyh).2.1 S1x256x704.size (by sl_kernel_rfl) y
theorem cover_middleTwo (h1 : ¬isFirst (grid0.coords t)) (h3 : ¬isLast (grid0.coords t)) (acc : Vec F S1024x1024 .f32) (dyh : Vec F S1024x1024 .bf16) (y : S2x1x1024x704.Idx) :
    ∃ pc ∈ (atMiddle m c t h1 h3 acc dyh).2.2.1, y ∈ pc.1.set :=
  View.cover_of_tiledL (atMiddle m c t h1 h3 acc dyh).2.2.1 S1x1x256x704.size (by sl_kernel_rfl) y
theorem cover_lastDx (h1 : ¬isFirst (grid0.coords t)) (h3 : isLast (grid0.coords t)) (acc : Vec F S1024x1024 .f32) (dgam : Vec F S1x1024 .f32) (dyh : Vec F S1024x1024 .bf16) (y : S1024x1024.Idx) :
    ∃ pc ∈ (atLast m c t h1 h3 acc dgam dyh).1, y ∈ pc.1.set :=
  View.cover_of_tiledL (atLast m c t h1 h3 acc dgam dyh).1 S1024x1024.size (by sl_kernel_rfl) y
theorem cover_lastHid (h1 : ¬isFirst (grid0.coords t)) (h3 : isLast (grid0.coords t)) (acc : Vec F S1024x1024 .f32) (dgam : Vec F S1x1024 .f32) (dyh : Vec F S1024x1024 .bf16) (y : S1x1024x704.Idx) :
    ∃ pc ∈ (atLast m c t h1 h3 acc dgam dyh).2.1, y ∈ pc.1.set :=
  View.cover_of_tiledL (atLast m c t h1 h3 acc dgam dyh).2.1 S1x256x704.size (by sl_kernel_rfl) y
theorem cover_lastTwo (h1 : ¬isFirst (grid0.coords t)) (h3 : isLast (grid0.coords t)) (acc : Vec F S1024x1024 .f32) (dgam : Vec F S1x1024 .f32) (dyh : Vec F S1024x1024 .bf16) (y : S2x1x1024x704.Idx) :
    ∃ pc ∈ (atLast m c t h1 h3 acc dgam dyh).2.2.1, y ∈ pc.1.set :=
  View.cover_of_tiledL (atLast m c t h1 h3 acc dgam dyh).2.2.1 S1x1x256x704.size (by sl_kernel_rfl) y
theorem cover_lastGam (h1 : ¬isFirst (grid0.coords t)) (h3 : isLast (grid0.coords t)) (acc : Vec F S1024x1024 .f32) (dgam : Vec F S1x1024 .f32) (dyh : Vec F S1024x1024 .bf16) (y : S1x1024.Idx) :
    ∃ pc ∈ (atLast m c t h1 h3 acc dgam dyh).2.2.2.1, y ∈ pc.1.set :=
  View.cover_of_tiledL (atLast m c t h1 h3 acc dgam dyh).2.2.2.1 S1x1024.size (by sl_kernel_rfl) y

end
section
variable (c : Dev nD) (t : Fin cfg0.N)

/-- What the buffers hold after a point, from what they held before it. -/
def step (s : State F) : State F :=
  if h2 : isStart (grid0.coords t) then
    ⟨zeroDx m c t h2, zeroHid m c t h2, zeroTwo m c t h2, zeroGam m c t h2, zeroHalf m c t h2⟩
  else if h1 : isFirst (grid0.coords t) then
    ⟨firstDx m c t h1 h2, firstHid m c t h1 h2, firstTwo m c t h1 h2, s.dgam, firstHalf m c t h1 h2⟩
  else if h3 : isLast (grid0.coords t) then
    ⟨lastDx m c t h1 h3 s.dx s.dgam s.dyh, lastHid m c t h1 h3 s.dx s.dgam s.dyh, lastTwo m c t h1 h3 s.dx s.dgam s.dyh,
      lastGam m c t h1 h3 s.dx s.dgam s.dyh, s.dyh⟩
  else
    ⟨middleDx m c t h1 h3 s.dx s.dyh, middleHid m c t h1 h3 s.dx s.dyh, middleTwo m c t h1 h3 s.dx s.dyh, s.dgam, s.dyh⟩

end

/-- Contents nothing is said of. -/
def blank : State F :=
  ⟨viewRow.read (Elt F) viewRow.junk, viewHid.read (Elt F) viewHid.junk, viewTwo.read (Elt F) viewTwo.junk,
    viewScale.read (Elt F) viewScale.junk, viewHalf.read (Elt F) viewHalf.junk⟩

/-- What the buffers hold after point `n`. -/
def state (c : Dev nD) : (n : ℕ) → n < cfg0.N → State F
  | 0, hn => step m c ⟨0, hn⟩ blank
  | n + 1, hn => step m c ⟨n + 1, hn⟩ (state c n (Nat.lt_of_succ_lt hn))

/-- What the buffers hold when point `t` starts, if it is not the first point. -/
abbrev prior (c : Dev nD) (t : Fin cfg0.N) : State F := state m c (t.val - 1) (Nat.lt_of_le_of_lt (Nat.sub_le _ _) t.isLt)

theorem state_of_pos (c : Dev nD) (t : Fin cfg0.N) (h : t.val ≠ 0) : state m c t.val t.isLt = step m c t (prior m c t) := by
  obtain ⟨n, hn⟩ := t
  cases n with
  | zero => exact absurd rfl h
  | succ n => rfl

theorem pos_of_not_start {t : Fin cfg0.N} (h : ¬isStart (grid0.coords t)) : t.val ≠ 0 := fun h0 => h ((isStart_iff t).mpr h0)

section
variable (c : Dev nD) (t : Fin cfg0.N)

theorem state_zero (h2 : isStart (grid0.coords t)) : state m c t.val t.isLt
    = ⟨zeroDx m c t h2, zeroHid m c t h2, zeroTwo m c t h2, zeroGam m c t h2, zeroHalf m c t h2⟩ := by
  obtain ⟨n, hn⟩ := t
  cases n with
  | zero => exact dif_pos h2
  | succ n => exact absurd ((isStart_iff _).mp h2) (Nat.succ_ne_zero n)

theorem state_first (h1 : isFirst (grid0.coords t)) (h2 : ¬isStart (grid0.coords t)) : state m c t.val t.isLt
    = ⟨firstDx m c t h1 h2, firstHid m c t h1 h2, firstTwo m c t h1 h2, (prior m c t).dgam, firstHalf m c t h1 h2⟩ := by
  rw [state_of_pos m c t (pos_of_not_start h2)]
  exact (dif_neg h2).trans (dif_pos h1)

variable (h1 : ¬isFirst (grid0.coords t))

theorem state_middle (h3 : ¬isLast (grid0.coords t)) : state m c t.val t.isLt
    = ⟨middleDx m c t h1 h3 (prior m c t).dx (prior m c t).dyh, middleHid m c t h1 h3 (prior m c t).dx (prior m c t).dyh,
      middleTwo m c t h1 h3 (prior m c t).dx (prior m c t).dyh, (prior m c t).dgam, (prior m c t).dyh⟩ := by
  rw [state_of_pos m c t (pos_of_not_start (not_start h1))]
  exact (dif_neg (not_start h1)).trans ((dif_neg h1).trans (dif_neg h3))

theorem state_last (h3 : isLast (grid0.coords t)) : state m c t.val t.isLt
    = ⟨lastDx m c t h1 h3 (prior m c t).dx (prior m c t).dgam (prior m c t).dyh,
      lastHid m c t h1 h3 (prior m c t).dx (prior m c t).dgam (prior m c t).dyh,
      lastTwo m c t h1 h3 (prior m c t).dx (prior m c t).dgam (prior m c t).dyh,
      lastGam m c t h1 h3 (prior m c t).dx (prior m c t).dgam (prior m c t).dyh, (prior m c t).dyh⟩ := by
  rw [state_of_pos m c t (pos_of_not_start (not_start h1))]
  exact (dif_neg (not_start h1)).trans ((dif_neg h1).trans (dif_pos h3))

end

/-! The state's parts after each sort of point. -/

section
variable (c : Dev nD) (t : Fin cfg0.N)

theorem dx_zero (h2 : isStart (grid0.coords t)) : (state m c t.val t.isLt).dx = zeroDx m c t h2 := by rw [state_zero m c t h2]
theorem hid_zero (h2 : isStart (grid0.coords t)) : (state m c t.val t.isLt).hid = zeroHid m c t h2 := by rw [state_zero m c t h2]
theorem two_zero (h2 : isStart (grid0.coords t)) : (state m c t.val t.isLt).two = zeroTwo m c t h2 := by rw [state_zero m c t h2]
theorem dgam_zero (h2 : isStart (grid0.coords t)) : (state m c t.val t.isLt).dgam = zeroGam m c t h2 := by rw [state_zero m c t h2]
theorem dyh_zero (h2 : isStart (grid0.coords t)) : (state m c t.val t.isLt).dyh = zeroHalf m c t h2 := by rw [state_zero m c t h2]

section
variable (h1 : isFirst (grid0.coords t)) (h2 : ¬isStart (grid0.coords t))
theorem dx_first : (state m c t.val t.isLt).dx = firstDx m c t h1 h2 := by rw [state_first m c t h1 h2]
theorem hid_first : (state m c t.val t.isLt).hid = firstHid m c t h1 h2 := by rw [state_first m c t h1 h2]
theorem two_first : (state m c t.val t.isLt).two = firstTwo m c t h1 h2 := by rw [state_first m c t h1 h2]
include h1 h2 in
theorem dgam_first : (state m c t.val t.isLt).dgam = (prior m c t).dgam := by rw [state_first m c t h1 h2]
theorem dyh_first : (state m c t.val t.isLt).dyh = firstHalf m c t h1 h2 := by rw [state_first m c t h1 h2]
end

section
variable (h1 : ¬isFirst (grid0.coords t)) (h3 : ¬isLast (grid0.coords t))
theorem dx_middle : (state m c t.val t.isLt).dx = middleDx m c t h1 h3 (prior m c t).dx (prior m c t).dyh := by rw [state_middle m c t h1 h3]
theorem hid_middle : (state m c t.val t.isLt).hid = middleHid m c t h1 h3 (prior m c t).dx (prior m c t).dyh := by rw [state_middle m c t h1 h3]
theorem two_middle : (state m c t.val t.isLt).two = middleTwo m c t h1 h3 (prior m c t).dx (prior m c t).dyh := by rw [state_middle m c t h1 h3]
include h1 h3 in
theorem dgam_middle : (state m c t.val t.isLt).dgam = (prior m c t).dgam := by rw [state_middle m c t h1 h3]
end

section
variable (h1 : ¬isFirst (grid0.coords t)) (h3 : isLast (grid0.coords t))
theorem dx_last : (state m c t.val t.isLt).dx = lastDx m c t h1 h3 (prior m c t).dx (prior m c t).dgam (prior m c t).dyh := by
  rw [state_last m c t h1 h3]
theorem hid_last : (state m c t.val t.isLt).hid = lastHid m c t h1 h3 (prior m c t).dx (prior m c t).dgam (prior m c t).dyh := by
  rw [state_last m c t h1 h3]
theorem two_last : (state m c t.val t.isLt).two = lastTwo m c t h1 h3 (prior m c t).dx (prior m c t).dgam (prior m c t).dyh := by
  rw [state_last m c t h1 h3]
theorem dgam_last : (state m c t.val t.isLt).dgam = lastGam m c t h1 h3 (prior m c t).dx (prior m c t).dgam (prior m c t).dyh := by
  rw [state_last m c t h1 h3]
end

theorem dyh_stays (h1 : ¬isFirst (grid0.coords t)) : (state m c t.val t.isLt).dyh = (prior m c t).dyh := by
  by_cases h3 : isLast (grid0.coords t)
  · rw [state_last m c t h1 h3]
  · rw [state_middle m c t h1 h3]

theorem dgam_stays (h2 : ¬isStart (grid0.coords t)) (h3 : ¬isLast (grid0.coords t)) :
    (state m c t.val t.isLt).dgam = (prior m c t).dgam := by
  by_cases h1 : isFirst (grid0.coords t)
  · rw [state_first m c t h1 h2]
  · rw [state_middle m c t h1 h3]

end

seal state

/-! ## The proof data -/

/-- Between two blocks of rows: the scratches hold anything, nothing flies, the input is whole. -/
def quiet (c : Dev nD) : sProp 𝕄 :=
  iprop(iprop((∃ d, owns (c : Thread nD τ) keep fullShare d) ∗ (∃ d, owns (c : Thread nD τ) landed fullShare d)) ∗ (∃ r, prngReg c r)
    ∗ semVal ((c : Thread nD τ), SemLoc.dma cc0_scratch2.sem) 0
    ∗ (((c : Thread nD τ).loc main_arg1) ↦{fullShare} V m c main_arg1))

/-- The copy of the rows of the block that begins at `t`, and the input's other rows. -/
def flying (c : Dev nD) (t : Fin cfg0.N) (h : isFirst (grid0.coords t)) : sProp 𝕄 :=
  iprop(copying c landed cc0_scratch2 (rowsOf (grid0.coords t) input h) (V m c main_arg1)
    ∗ (((c : Thread nD τ).loc main_arg1) ↦[Finset.univ \ (rowsOf (grid0.coords t) input h).view.set]{fullShare} V m c main_arg1))

theorem flying_congr (c : Dev nD) {t t' : Fin cfg0.N} (e : t = t') (h : isFirst (grid0.coords t)) (h' : isFirst (grid0.coords t')) :
    flying m c t h = flying m c t' h' := by
  subst e; rfl

/-- Within a block of rows: the scratch holds half the cotangent, the copy flies. -/
def busy (c : Dev nD) (n : ℕ) (hn : n ≤ cfg0.N) : sProp 𝕄 :=
  iprop(owns (c : Thread nD τ) keep fullShare (state m c (n - 1) (by rw [points] at hn ⊢; omega)).dyh ∗ (∃ r, prngReg c r)
    ∗ flying m c (start n) (first_start n))

def Phi (c : Dev nD) (n : ℕ) (hn : n ≤ cfg0.N) : sProp 𝕄 := if n % 4 = 0 then quiet m c else busy m c n hn

/-- The copy's semaphore, the one cell the launch hands the body. -/
abbrev osem0 : Fin 1 → SemLoc sig := fun j => (![SemLoc.dma 20] : Fin 1 → SemLoc sig) j
theorem ownSemFacts0 : Pipeline.OwnSemFacts spec0 osem0 := by decide
/-- The array the launch hands the body. -/
abbrev H0 : Finset (Ref sig .tc) := {main_arg1}
theorem H0_sub : H0 ⊆ Pipeline.restRefs sig spec0 := by decide

theorem PhiD_eq (c : Dev nD) : (Pipeline.ΦD osem0 spec0 H0 (V m) c : sProp 𝕄) = quiet m c := by
  unfold quiet
  rw [Pipeline.ΦD_eq, scopedRest0_eq, Pipeline.ownSems0_eq_of_list c osem0 [0] (by decide) (by decide),
    BI.bigSep_eq_bigSepL_of_eq [main_arg1] (by decide) (by decide)]
  simp only [keep, landed, owns_whole]
  rfl

/-- Each input's buffer stays at its block; the outputs' are at the state; the sum and the scale's gradient stay in their outputs' buffers
    until they are written back. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (state m c t.val t.isLt).dx
    | ⟨8, _⟩ => (state m c t.val t.isLt).hid
    | ⟨9, _⟩ => (state m c t.val t.isLt).two
    | ⟨10, _⟩ => (state m c t.val t.isLt).dgam
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t
theorem Phi_succ (c : Dev nD) (t : Fin cfg0.N) : (dats m 0 c).Φ t.succ = Phi m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (state m c t.val t.isLt).dx := by dsimp only [dats]
theorem after_8 (c : Dev nD) (t : Fin cfg0.N) : (dats m 0 c).after 8 t = (state m c t.val t.isLt).hid := by dsimp only [dats]
theorem after_9 (c : Dev nD) (t : Fin cfg0.N) : (dats m 0 c).after 9 t = (state m c t.val t.isLt).two := by dsimp only [dats]
theorem after_10 (c : Dev nD) (t : Fin cfg0.N) : (dats m 0 c).after 10 t = (state m c t.val t.isLt).dgam := by dsimp only [dats]

/-- A buffer of an input that is never written holds its block at every point. -/
theorem before_of_input (c : Dev nD) (w : Fin cfg0.W) (t : Fin cfg0.N) (hw : w = 0 ∨ w = 1 ∨ w = 2 ∨ w = 3 ∨ w = 4 ∨ w = 5 ∨ w = 6) (d) :
    (dats m 0 c).before w t d = (dats m 0 c).after w t := by
  rcases hw with rfl | rfl | rfl | rfl | rfl | rfl | rfl
  · exact ((dats m 0 c).before_in_eq_fetched 0 rfl (fun _ => rfl) (fun _ _ _ => rfl) (fun t => by rw [after_0]; unfold Dat.blockOf iblk; rw [A_eq]) t d).trans
      (by rw [after_0]; unfold Dat.fetched Dat.blockOf iblk; rw [A_eq]; rfl)
  · exact ((dats m 0 c).before_in_eq_fetched 1 rfl (fun _ => rfl) (fun _ _ _ => rfl) (fun t => by rw [after_1]; unfold Dat.blockOf iblk; rw [A_eq]) t d).trans
      (by rw [after_1]; unfold Dat.fetched Dat.blockOf iblk; rw [A_eq]; rfl)
  · exact ((dats m 0 c).before_in_eq_fetched 2 rfl (fun _ => rfl) (fun _ _ _ => rfl) (fun t => by rw [after_2]; unfold Dat.blockOf iblk; rw [A_eq]) t d).trans
      (by rw [after_2]; unfold Dat.fetched Dat.blockOf iblk; rw [A_eq]; rfl)
  · exact ((dats m 0 c).before_in_eq_fetched 3 rfl (fun _ => rfl) (fun _ _ _ => rfl) (fun t => by rw [after_3]; unfold Dat.blockOf iblk; rw [A_eq]) t d).trans
      (by rw [after_3]; unfold Dat.fetched Dat.blockOf iblk; rw [A_eq]; rfl)
  · exact ((dats m 0 c).before_in_eq_fetched 4 rfl (fun _ => rfl) (fun _ _ _ => rfl) (fun t => by rw [after_4]; unfold Dat.blockOf iblk; rw [A_eq]) t d).trans
      (by rw [after_4]; unfold Dat.fetched Dat.blockOf iblk; rw [A_eq]; rfl)
  · exact ((dats m 0 c).before_in_eq_fetched 5 rfl (fun _ => rfl) (fun _ _ _ => rfl) (fun t => by rw [after_5]; unfold Dat.blockOf iblk; rw [A_eq]) t d).trans
      (by rw [after_5]; unfold Dat.fetched Dat.blockOf iblk; rw [A_eq]; rfl)
  · exact ((dats m 0 c).before_in_eq_fetched 6 rfl (fun _ => rfl) (fun _ _ _ => rfl) (fun t => by rw [after_6]; unfold Dat.blockOf iblk; rw [A_eq]) t d).trans
      (by rw [after_6]; unfold Dat.fetched Dat.blockOf iblk; rw [A_eq]; rfl)

theorem before_0 (c : Dev nD) (t : Fin cfg0.N) (d) : (dats m 0 c).before 0 t d = iblk m c 0 t :=
  (before_of_input m c 0 t (by decide) d).trans (after_0 m c t)
theorem before_1 (c : Dev nD) (t : Fin cfg0.N) (d) : (dats m 0 c).before 1 t d = iblk m c 1 t :=
  (before_of_input m c 1 t (by decide) d).trans (after_1 m c t)
theorem before_2 (c : Dev nD) (t : Fin cfg0.N) (d) : (dats m 0 c).before 2 t d = iblk m c 2 t :=
  (before_of_input m c 2 t (by decide) d).trans (after_2 m c t)
theorem before_3 (c : Dev nD) (t : Fin cfg0.N) (d) : (dats m 0 c).before 3 t d = iblk m c 3 t :=
  (before_of_input m c 3 t (by decide) d).trans (after_3 m c t)
theorem before_4 (c : Dev nD) (t : Fin cfg0.N) (d) : (dats m 0 c).before 4 t d = iblk m c 4 t :=
  (before_of_input m c 4 t (by decide) d).trans (after_4 m c t)
theorem before_5 (c : Dev nD) (t : Fin cfg0.N) (d) : (dats m 0 c).before 5 t d = iblk m c 5 t :=
  (before_of_input m c 5 t (by decide) d).trans (after_5 m c t)
theorem before_6 (c : Dev nD) (t : Fin cfg0.N) (d) : (dats m 0 c).before 6 t d = iblk m c 6 t :=
  (before_of_input m c 6 t (by decide) d).trans (after_6 m c t)

/-! ## Where the scale's gradient is idle, and what the carried outputs hold -/

theorem idle_10 : ∀ t : Fin cfg0.N, ¬isStart (grid0.coords t) → ¬isLast (grid0.coords t) → cfg0.idle 10 (grid0.coords t) = true :=
  (by decide +kernel : ∀ t : Fin grid0.N, ¬isStart (grid0.coords t) → ¬isLast (grid0.coords t) → idle0 10 (grid0.coords t) = true)
theorem live_start : ∀ t : Fin cfg0.N, isStart (grid0.coords t) → cfg0.idle 10 (grid0.coords t) = false :=
  (by decide +kernel : ∀ t : Fin grid0.N, isStart (grid0.coords t) → idle0 10 (grid0.coords t) = false)
theorem live_last : ∀ t : Fin cfg0.N, isLast (grid0.coords t) → cfg0.idle 10 (grid0.coords t) = false :=
  (by decide +kernel : ∀ t : Fin grid0.N, isLast (grid0.coords t) → idle0 10 (grid0.coords t) = false)
theorem stay_7 (t : Fin cfg0.N) (h : ¬isLast (grid0.coords t)) : (cfg0.win 7).flush t = false :=
  Bool.eq_false_iff.mpr fun hf => h ((isLast_iff t).mpr ((flush0_7 t).mp hf))
theorem stay_10 (t : Fin cfg0.N) (h : t.val % 32 ≠ 31) : (cfg0.win 10).flush t = false :=
  Bool.eq_false_iff.mpr fun hf => h ((flush0_10 t).mp hf)

/-- The sum a point left is still in its buffer when the next point of the block starts. -/
theorem before_7 (c : Dev nD) (t : Fin cfg0.N) (h : ¬isFirst (grid0.coords t)) (d) : (dats m 0 c).before 7 t d = (prior m c t).dx := by
  obtain ⟨n, hn⟩ := t
  cases n with
  | zero => exact absurd ((isFirst_iff ⟨0, hn⟩).mpr rfl) h
  | succ n =>
    have hn' : n < cfg0.N := Nat.lt_of_succ_lt hn
    have hl : ¬isLast (grid0.coords ⟨n, hn'⟩) := fun hl => h ((isFirst_iff _).mpr (by
      have := (isLast_iff _).mp hl; dsimp only at this ⊢; omega))
    rw [(dats m 0 c).before_of_pos 7 ⟨n + 1, hn⟩ (Nat.succ_ne_zero n) rfl d]
    rw [stay_7 ⟨n + 1 - 1, Nat.lt_of_le_of_lt (Nat.sub_le _ _) hn⟩ hl, if_neg Bool.false_ne_true]
    show (dats m 0 c).kept 7 ⟨n, hn'⟩ d = _
    unfold Dat.kept
    rw [Pipeline.fill_of_clip_none 7 _ (fun _ => rfl) d ((dats m 0 c).after 7 _), Window.fill_cut]
    exact after_7 m c ⟨n, hn'⟩

/-- The scale's gradient a point left, or left alone, is still in its buffer when the next point starts. -/
theorem before_10 (c : Dev nD) (n : ℕ) : ∀ (hn : n + 1 < cfg0.N) (d),
    (dats m 0 c).before 10 ⟨n + 1, hn⟩ d = (state m c n (Nat.lt_of_succ_lt hn)).dgam := by
  induction n with
  | zero =>
    intro hn d
    rw [(dats m 0 c).before_of_pos 10 ⟨0 + 1, hn⟩ (Nat.succ_ne_zero 0) rfl d]
    rw [stay_10 ⟨0 + 1 - 1, Nat.lt_of_le_of_lt (Nat.sub_le _ _) hn⟩ (by dsimp only; omega), if_neg Bool.false_ne_true]
    unfold Dat.left
    rw [live_start ⟨0 + 1 - 1, Nat.lt_of_le_of_lt (Nat.sub_le _ _) hn⟩ ((isStart_iff _).mpr rfl)]
    show (dats m 0 c).kept 10 ⟨0, Nat.lt_of_succ_lt hn⟩ d = _
    unfold Dat.kept
    rw [Pipeline.fill_of_clip_none 10 _ (fun _ => rfl) d ((dats m 0 c).after 10 _), Window.fill_cut]
    exact after_10 m c ⟨0, Nat.lt_of_succ_lt hn⟩
  | succ n ih =>
    intro hn d
    have hn' : n + 1 < cfg0.N := Nat.lt_of_succ_lt hn
    have h32 : n + 1 + 1 < 32 := Nat.lt_of_lt_of_eq hn points
    rw [(dats m 0 c).before_of_pos 10 ⟨n + 1 + 1, hn⟩ (Nat.succ_ne_zero _) rfl d]
    rw [stay_10 ⟨n + 1 + 1 - 1, Nat.lt_of_le_of_lt (Nat.sub_le _ _) hn⟩ (by dsimp only; omega), if_neg Bool.false_ne_true]
    unfold Dat.left
    by_cases h3 : isLast (grid0.coords ⟨n + 1, hn'⟩)
    · rw [live_last ⟨n + 1 + 1 - 1, Nat.lt_of_le_of_lt (Nat.sub_le _ _) hn⟩ h3]
      show (dats m 0 c).kept 10 ⟨n + 1, hn'⟩ d = _
      unfold Dat.kept
      rw [Pipeline.fill_of_clip_none 10 _ (fun _ => rfl) d ((dats m 0 c).after 10 _), Window.fill_cut]
      exact after_10 m c ⟨n + 1, hn'⟩
    · have h2 : ¬isStart (grid0.coords ⟨n + 1, hn'⟩) := fun h => Nat.succ_ne_zero n ((isStart_iff _).mp h)
      rw [idle_10 ⟨n + 1 + 1 - 1, Nat.lt_of_le_of_lt (Nat.sub_le _ _) hn⟩ h2 h3]
      exact (ih hn' d).trans (dgam_stays m c ⟨n + 1, hn'⟩ h2 h3).symm

theorem before_10_pos (c : Dev nD) (t : Fin cfg0.N) (h : ¬isStart (grid0.coords t)) (d) : (dats m 0 c).before 10 t d = (prior m c t).dgam := by
  obtain ⟨n, hn⟩ := t
  cases n with
  | zero => exact absurd ((isStart_iff _).mpr rfl) h
  | succ n => exact before_10 m c n hn d

/-! ## The obligation at a point -/

/-- Pieces that cover a buffer leave it at what they leave in any other. -/
theorem held_of_wrote (c : Dev nD) {S : Shape} {e : EltTy} (a : Memref sig .tc .vmem S e) (v : View sig .tc .vmem S e) (L : Pieces F S e)
    (h : ∀ y, ∃ pc ∈ L, y ∈ pc.1.set) :
    (wrote c a L : sProp 𝕄) ⊢ owns (c : Thread nD τ) a fullShare (v.read (Elt F) (v.writes (Elt F) v.junk L)) := by
  unfold wrote owns
  iintro ⟨%f, H⟩
  iexists _; isplitr
  swap; · iexact H
  ipureintro; exact View.read_writes_of_cover _ _ _ _ _ h

/-- A window the body writes at the point, or only reads, is left at its contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem owes_out (c : Dev nD) (t : Fin (cfg0.N + 1)) : (dats m 0 c).owesAt () t ⊢ iprop(∃ W, owes (c : Thread nD τ) 0 W) := by
  unfold Dat.owesAt Pipeline.owesWithin
  rw [show (dats m 0 c).owed t = 0 from rfl]
  iintro ⟨%W, -, H⟩
  iexists W; iexact H

theorem owes_in (c : Dev nD) (t : Fin (cfg0.N + 1)) : iprop(∃ W, owes (c : Thread nD τ) 0 W) ⊢ (dats m 0 c).owesAt () t := by
  unfold Dat.owesAt Pipeline.owesWithin
  rw [show (dats m 0 c).owed t = 0 from rfl]
  iintro ⟨%W, H⟩
  iexists W
  isplitr
  · ipureintro; exact fun _ _ => Or.inl trivial
  iexact H

/-- The input split at a block's rows, and put together again. -/
theorem rows_out (c : Dev nD) (t : Fin cfg0.N) (h : isFirst (grid0.coords t)) :
    (((c : Thread nD τ).loc main_arg1) ↦{fullShare} V m c main_arg1 : sProp 𝕄)
      ⊢ iprop(heldRows c (rowsOf (grid0.coords t) input h) (V m c main_arg1)
        ∗ (((c : Thread nD τ).loc main_arg1) ↦[Finset.univ \ (rowsOf (grid0.coords t) input h).view.set]{fullShare} V m c main_arg1)) :=
  (pointsTo_split_subset (Finset.subset_univ _)).1
theorem rows_in (c : Dev nD) (t : Fin cfg0.N) (h : isFirst (grid0.coords t)) :
    iprop(heldRows c (rowsOf (grid0.coords t) input h) (V m c main_arg1)
        ∗ (((c : Thread nD τ).loc main_arg1) ↦[Finset.univ \ (rowsOf (grid0.coords t) input h).view.set]{fullShare} V m c main_arg1))
      ⊢ (((c : Thread nD τ).loc main_arg1) ↦{fullShare} V m c main_arg1 : sProp 𝕄) :=
  (pointsTo_split_subset (Finset.subset_univ _)).2

theorem Phi_quiet (c : Dev nD) (n : ℕ) (hn : n ≤ cfg0.N) (h : n % 4 = 0) : Phi m c n hn = quiet m c := if_pos h
theorem Phi_busy (c : Dev nD) (n : ℕ) (hn : n ≤ cfg0.N) (h : n % 4 ≠ 0) : Phi m c n hn = busy m c n hn := if_neg h

theorem quiet_before (c : Dev nD) (t : Fin cfg0.N) (h : isFirst (grid0.coords t)) : (dats m 0 c).Φ t.castSucc = quiet m c :=
  (Phi_castSucc m c t).trans (Phi_quiet m c _ _ ((isFirst_iff t).mp h))
theorem busy_before (c : Dev nD) (t : Fin cfg0.N) (h : ¬isFirst (grid0.coords t)) : (dats m 0 c).Φ t.castSucc
    = iprop(owns (c : Thread nD τ) keep fullShare (prior m c t).dyh ∗ (∃ r, prngReg c r) ∗ flying m c (start t.val) (first_start t.val)) :=
  (Phi_castSucc m c t).trans (Phi_busy m c _ _ fun e => h ((isFirst_iff t).mpr e))
theorem quiet_after (c : Dev nD) (t : Fin cfg0.N) (h : isLast (grid0.coords t)) : (dats m 0 c).Φ t.succ = quiet m c :=
  (Phi_succ m c t).trans (Phi_quiet m c _ _ (by have := (isLast_iff t).mp h; omega))
theorem busy_after (c : Dev nD) (t : Fin cfg0.N) (h : ¬isLast (grid0.coords t)) : (dats m 0 c).Φ t.succ
    = iprop(owns (c : Thread nD τ) keep fullShare (state m c t.val t.isLt).dyh ∗ (∃ r, prngReg c r) ∗ flying m c (start t.val) (first_start t.val)) :=
  (Phi_succ m c t).trans ((Phi_busy m c _ _ fun e => h ((isLast_iff t).mpr (by omega))).trans
    (congrArg (fun a => iprop(owns (c : Thread nD τ) keep fullShare (state m c t.val t.isLt).dyh ∗ (∃ r, prngReg c r) ∗ a))
      (flying_congr m c (start_succ t h) _ _)))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t)

/-- The windows the body always writes or only reads. -/
theorem leaves_all (c : Dev nD) (t : Fin cfg0.N) : bodyPost m c t
    = iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare (iblk m c 6 t) ∗ owns (c : Thread nD τ) (st0_7 t) fullShare (state m c t.val t.isLt).dx
    ∗ owns (c : Thread nD τ) (st0_8 t) fullShare (state m c t.val t.isLt).hid ∗ owns (c : Thread nD τ) (st0_9 t) fullShare (state m c t.val t.isLt).two
    ∗ (dats m 0 c).leavesExact 10 t) := by
  unfold bodyPost
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 8 t rfl, leaves_live m c 9 t rfl]
  rw [after_0, after_1, after_2, after_3, after_4, after_5, after_6, after_7, after_8, after_9]

set_option maxHeartbeats 3200000 in
theorem body_zero (c : Dev nD) (t : Fin cfg0.N) (h2 : isStart (grid0.coords t)) :
    bodyPre m c t ⊢ wp frame (wpE (defs₀ (F := F)) Variants.none c none) Set.univ (bodyAt0 t) (fun _ => bodyPost m c t) := by
  have h1 := first_of_start h2
  rw [leaves_all]
  unfold bodyPre bodyAt0
  simp only [before_0, before_1, before_2, before_3, before_4, before_5, before_6]
  rw [quiet_before m c t h1, busy_after m c t (not_last h1), flying_congr m c (start_first t h1) _ h1, leaves_live m c 10 t (live_start t h2), after_10,
    state_zero m c t h2]
  dsimp only
  unfold quiet flying
  iintro ⟨⟨⟨HS0, HS1⟩, Hg, Hq, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HO := (owes_out m c t.castSucc) $$ Ho
  icases HO with ⟨%W, HO⟩
  ihave HR := (rows_out m c t h1) $$ HX
  icases HR with ⟨HR, HX⟩
  iapply ((atZero m c t h2).2.2.2.2.2 W _)
  isplitl [H0]; · iexact H0
  isplitl [HR]; · iexact HR
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [Hq]; · iexact Hq
  isplitl [HO]; · iexact HO
  iintro ⟨H0, Hq, H2, H3, H4, H5, H6, H7, H8, H9, H10, HS0, HO⟩
  isplitl [HS0 Hg Hq HX]
  · isplitl [HS0]
    · iapply (held_of_wrote c keep viewHalf _ (cover_zeroHalf m c t h2)) $$ HS0
    isplitl [Hg]; · iexact Hg
    isplitl [Hq]; · iexact Hq
    iexact HX
  isplitl [HO]; · iapply (owes_in m c t.succ) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (held_of_wrote c (st0_7 t) viewRow _ (cover_zeroDx m c t h2)) $$ H7
  isplitl [H8]; · iapply (held_of_wrote c (st0_8 t) viewHid _ (cover_zeroHid m c t h2)) $$ H8
  isplitl [H9]; · iapply (held_of_wrote c (st0_9 t) viewTwo _ (cover_zeroTwo m c t h2)) $$ H9
  iapply (held_of_wrote c (st0_10 t) viewScale _ (cover_zeroGam m c t h2)) $$ H10

set_option maxHeartbeats 3200000 in
theorem body_first (c : Dev nD) (t : Fin cfg0.N) (h1 : isFirst (grid0.coords t)) (h2 : ¬isStart (grid0.coords t)) :
    bodyPre m c t ⊢ wp frame (wpE (defs₀ (F := F)) Variants.none c none) Set.univ (bodyAt0 t) (fun _ => bodyPost m c t) := by
  rw [leaves_all]
  unfold bodyPre bodyAt0
  simp only [before_0, before_1, before_2, before_3, before_4, before_5, before_6]
  rw [quiet_before m c t h1, busy_after m c t (not_last h1), flying_congr m c (start_first t h1) _ h1,
    Dat.leavesExact_idle (dats m 0 c) 10 t (idle_10 t h2 (not_last h1)) (stay_10 t (by have := (isFirst_iff t).mp h1; omega)), state_first m c t h1 h2]
  dsimp only
  unfold quiet flying
  iintro ⟨⟨⟨HS0, HS1⟩, Hg, Hq, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HO := (owes_out m c t.castSucc) $$ Ho
  icases HO with ⟨%W, HO⟩
  ihave HR := (rows_out m c t h1) $$ HX
  icases HR with ⟨HR, HX⟩
  iapply ((atFirst m c t h1 h2).2.2.2.2 W _)
  isplitl [H0]; · iexact H0
  isplitl [HR]; · iexact HR
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [Hq]; · iexact Hq
  isplitl [HO]; · iexact HO
  iintro ⟨H0, Hq, H2, H3, H4, H5, H6, H7, H8, H9, HS0, HO⟩
  isplitl [HS0 Hg Hq HX]
  · isplitl [HS0]
    · iapply (held_of_wrote c keep viewHalf _ (cover_firstHalf m c t h1 h2)) $$ HS0
    isplitl [Hg]; · iexact Hg
    isplitl [Hq]; · iexact Hq
    iexact HX
  isplitl [HO]; · iapply (owes_in m c t.succ) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (held_of_wrote c (st0_7 t) viewRow _ (cover_firstDx m c t h1 h2)) $$ H7
  isplitl [H8]; · iapply (held_of_wrote c (st0_8 t) viewHid _ (cover_firstHid m c t h1 h2)) $$ H8
  isplitl [H9]; · iapply (held_of_wrote c (st0_9 t) viewTwo _ (cover_firstTwo m c t h1 h2)) $$ H9
  iexists _; iexact H10

set_option maxHeartbeats 3200000 in
theorem body_middle (c : Dev nD) (t : Fin cfg0.N) (h1 : ¬isFirst (grid0.coords t)) (h3 : ¬isLast (grid0.coords t)) :
    bodyPre m c t ⊢ wp frame (wpE (defs₀ (F := F)) Variants.none c none) Set.univ (bodyAt0 t) (fun _ => bodyPost m c t) := by
  rw [leaves_all]
  unfold bodyPre bodyAt0
  simp only [before_0, before_1, before_2, before_3, before_4, before_5, before_6, before_7 m c t h1]
  rw [busy_before m c t h1, busy_after m c t h3,
    Dat.leavesExact_idle (dats m 0 c) 10 t (idle_10 t (not_start h1) h3)
      (stay_10 t (by have : t.val % 4 ≠ 3 := fun e => h3 ((isLast_iff t).mpr e); omega)), state_middle m c t h1 h3]
  dsimp only
  iintro ⟨⟨HS0, Hg, Hq⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atMiddle m c t h1 h3 (prior m c t).dx (prior m c t).dyh).2.2.2 _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H2, H3, H4, H5, H6, H7, H8, H9, HS0⟩
  isplitl [HS0 Hg Hq]
  · isplitl [HS0]; · iexact HS0
    isplitl [Hg]; · iexact Hg
    iexact Hq
  isplitl [Ho]
  · ihave HO := (owes_out m c t.castSucc) $$ Ho
    iapply (owes_in m c t.succ) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (held_of_wrote c (st0_7 t) viewRow _ (cover_middleDx m c t h1 h3 _ _)) $$ H7
  isplitl [H8]; · iapply (held_of_wrote c (st0_8 t) viewHid _ (cover_middleHid m c t h1 h3 _ _)) $$ H8
  isplitl [H9]; · iapply (held_of_wrote c (st0_9 t) viewTwo _ (cover_middleTwo m c t h1 h3 _ _)) $$ H9
  iexists _; iexact H10

set_option maxHeartbeats 3200000 in
theorem body_last (c : Dev nD) (t : Fin cfg0.N) (h1 : ¬isFirst (grid0.coords t)) (h3 : isLast (grid0.coords t)) :
    bodyPre m c t ⊢ wp frame (wpE (defs₀ (F := F)) Variants.none c none) Set.univ (bodyAt0 t) (fun _ => bodyPost m c t) := by
  rw [leaves_all]
  unfold bodyPre bodyAt0
  simp only [before_0, before_1, before_2, before_3, before_4, before_5, before_6, before_7 m c t h1, before_10_pos m c t (not_start h1)]
  rw [busy_before m c t h1, quiet_after m c t h3, leaves_live m c 10 t (live_last t h3), after_10, state_last m c t h1 h3]
  dsimp only
  unfold quiet flying
  iintro ⟨⟨HS0, Hg, Hq, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HO := (owes_out m c t.castSucc) $$ Ho
  icases HO with ⟨%W, HO⟩
  iapply ((atLast m c t h1 h3 (prior m c t).dx (prior m c t).dgam (prior m c t).dyh).2.2.2.2
    (rowsOf (grid0.coords (start t.val)) input (first_start t.val)) (V m c main_arg1) rfl W _)
  isplitl [H0]; · iexact H0
  isplitl [Hq]; · iexact Hq
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS0]; · iexact HS0
  isplitl [HO]; · iexact HO
  iintro ⟨H0, HR, H1, H2, H3, H4, H5, H6, H7, H8, H9, H10, HS0, HS1, Hq, HO⟩
  isplitl [HS0 HS1 Hg Hq HX HR]
  · isplitl [HS0 HS1]
    · isplitl [HS0]
      · iexists _; iexact HS0
      iexists _; iexact HS1
    isplitl [Hg]; · iexact Hg
    isplitl [Hq]; · iexact Hq
    iapply (rows_in m c (start t.val) (first_start t.val))
    isplitl [HR]; · iexact HR
    iexact HX
  isplitl [HO]; · iapply (owes_in m c t.succ) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (held_of_wrote c (st0_7 t) viewRow _ (cover_lastDx m c t h1 h3 _ _ _)) $$ H7
  isplitl [H8]; · iapply (held_of_wrote c (st0_8 t) viewHid _ (cover_lastHid m c t h1 h3 _ _ _)) $$ H8
  isplitl [H9]; · iapply (held_of_wrote c (st0_9 t) viewTwo _ (cover_lastTwo m c t h1 h3 _ _ _)) $$ H9
  iapply (held_of_wrote c (st0_10 t) viewScale _ (cover_lastGam m c t h1 h3 _ _ _)) $$ H10

theorem sound_body (c : Dev nD) (t : Fin cfg0.N) :
    bodyPre m c t ⊢ wp frame (wpE (defs₀ (F := F)) Variants.none c none) Set.univ (bodyAt0 t) (fun _ => bodyPost m c t) := by
  by_cases h2 : isStart (grid0.coords t)
  · exact body_zero m c t h2
  by_cases h1 : isFirst (grid0.coords t)
  · exact body_first m c t h1 h2
  by_cases h3 : isLast (grid0.coords t)
  · exact body_last m c t h1 h3
  · exact body_middle m c t h1 h3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦD osem0 spec0 H0 (V m) c : sProp 𝕄) ⊢ (dats m 0 c).Φ 0 := by
  rw [PhiD_eq, show (dats m 0 c).Φ 0 = quiet m c from Phi_quiet m c 0 (Nat.zero_le _) rfl]

theorem hout (c : Dev nD) : (dats m 0 c).Φ (Fin.last cfg0.N) ⊢ (Pipeline.ΦD osem0 spec0 H0 (V m) c : sProp 𝕄) := by
  rw [PhiD_eq, show (dats m 0 c).Φ (Fin.last cfg0.N) = quiet m c from Phi_quiet m c cfg0.N (Nat.le_refl _) (by rw [points])]

/-! ## The launch -/

theorem host_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun c w _ => rfl)
    (howed := fun _ _ => rfl) (V := V m) (hmain := host_prefix m) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 5).trans (((dats m 0 c).arrAt_in 5 rfl _).trans ((A_eq m c 5).trans (V_main_arg3 m c))),
      ((h.1 c).1 6).trans (((dats m 0 c).arrAt_in 6 rfl _).trans ((A_eq m c 6).trans (V_main_arg4 m c)))⟩, h.2⟩) (run_main_quiescent m ρ)

end Cert.FfnBwdIdeal.Hand

end
-- ==== Proof.RmsGrad.lean ====
module

public import proofs.«01_k».proof.Proof.Rows
public import proofs.«01_k».proof.Proof.Index

@[expose] public section

set_option maxRecDepth 16384

noncomputable section

/-! # The gradient of the norm of a row

On finite entries the kernels' closed form of the gradient and the one that differentiates the norm's operations one by one are equal.
An extended real is finite when it is a real number; sums, products and quotients of the kinds met here stay finite. -/

namespace Cert.RmsGrad

open Idealize.ShloMosaic Cert.Rows Cert.Index

/-- A real number, as an extended one. -/
def IsFin (x : EReal) : Prop := ∃ r : ℝ, x = (r : EReal)

theorem isFin_of_abs_lt {x : EReal} (h : x ≠ ⊤) (h' : x ≠ ⊥) : IsFin x := ⟨x.toReal, (EReal.coe_toReal h h').symm⟩

namespace IsFin
variable {x y : EReal}

theorem add : IsFin x → IsFin y → IsFin (x + y)
  | ⟨a, ha⟩, ⟨b, hb⟩ => ⟨a + b, by rw [ha, hb]; rfl⟩
theorem mul : IsFin x → IsFin y → IsFin (x * y)
  | ⟨a, ha⟩, ⟨b, hb⟩ => ⟨a * b, by rw [ha, hb]; rfl⟩
theorem neg : IsFin x → IsFin (-x)
  | ⟨a, ha⟩ => ⟨-a, by rw [ha]; rfl⟩
theorem coe (r : ℝ) : IsFin (r : EReal) := ⟨r, rfl⟩
theorem zero : IsFin 0 := ⟨0, rfl⟩
theorem one : IsFin 1 := ⟨1, rfl⟩

theorem sum {ι : Type*} (s : Finset ι) (f : ι → EReal) (h : ∀ i, IsFin (f i)) : IsFin (∑ i ∈ s, f i) := by
  classical
  induction s using Finset.induction_on with
  | empty => exact ⟨0, by simp⟩
  | insert a s ha ih => rw [Finset.sum_insert ha]; exact (h a).add ih
end IsFin

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih]; rfl

/-! The constants. -/

/-- The constant `-0.5`. -/
abbrev mhalf : EReal := Ideal.ofBits .f32 0xBF000000#32

theorem width_eq : width = ((1024 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul, -EReal.coe_neg]; norm_num

theorem small_eq : small = ((8796093 * 2 ^ (-43 : ℤ) : ℝ) : EReal) := by
  simp [Ideal.ofBits, Ideal.ieee, -EReal.coe_mul]

/-! The norm of a row of real numbers. -/

/-- The mean square of a row and the constant added to it. -/
def mean (x : Fin 1024 → EReal) : EReal := Ideal.div (∑ l, x l * x l) width + small

theorem mean_coe (x : Fin 1024 → ℝ) : ∃ m : ℝ, 0 < m ∧ mean (fun l => (x l : EReal)) = (m : EReal) := by
  refine ⟨(∑ l, x l * x l) * (1 / 1024) + 8796093 * 2 ^ (-43 : ℤ), ?_, ?_⟩
  · have : 0 ≤ ∑ l, x l * x l := Finset.sum_nonneg fun l _ => mul_self_nonneg _
    positivity
  · rw [mean, width_eq, small_eq, Ideal.div_coe (by norm_num)]
    rw [show (∑ l, (x l : EReal) * (x l : EReal)) = ((∑ l, x l * x l : ℝ) : EReal) from coe_sum _ fun l => x l * x l]
    rfl

theorem scale_coe (x : Fin 1024 → EReal) (m : ℝ) (hm : 0 < m) (h : mean x = (m : EReal)) : scale x = (((Real.sqrt m)⁻¹ : ℝ) : EReal) := by
  show Ideal.rsqrt (mean x) = _
  rw [h, Ideal.rsqrt_coe, if_neg (not_lt.mpr hm.le), if_neg hm.ne']

/-- The norm's gradient in a row: `d` is the cotangent of the normed row times the gain, and the sum of the products is taken with the
    normed row (as the kernels take it) -/
def closed (x d : Fin 1024 → EReal) (j : Fin 1024) : EReal :=
  scale x * (d j - x j * scale x * Ideal.div (∑ k, d k * (x k * scale x)) width)

/-- or through the derivative of the root's reciprocal (as the operations' own derivatives give it). -/
def chain (x d : Fin 1024 → EReal) : EReal :=
  Ideal.div ((∑ k, x k * d k) * (mhalf * Ideal.div (scale x) (mean x))) width

theorem closed_eq (x d : Fin 1024 → EReal) (hx : ∀ k, IsFin (x k)) (hd : ∀ k, IsFin (d k)) (j : Fin 1024) (a : EReal) :
    a + closed x d j = a + d j * scale x + x j * chain x d + chain x d * x j := by
  choose x' hx using hx
  choose d' hd using hd
  obtain rfl : x = fun k => (x' k : EReal) := funext hx
  obtain rfl : d = fun k => (d' k : EReal) := funext hd
  obtain ⟨m, hm, e⟩ := mean_coe x'
  have es := scale_coe _ m hm e
  have hs : (Real.sqrt m)⁻¹ * (Real.sqrt m)⁻¹ = 1 / m := by rw [← mul_inv, Real.mul_self_sqrt hm.le, one_div]
  generalize (Real.sqrt m)⁻¹ = s at es hs
  have e1 : (∑ k, (d' k : EReal) * ((x' k : EReal) * (s : EReal))) = (((∑ k, x' k * d' k) * s : ℝ) : EReal) := by
    rw [Finset.sum_mul, ← coe_sum]
    exact Finset.sum_congr rfl fun k _ => by rw [← EReal.coe_mul, ← EReal.coe_mul]; exact congrArg _ (by ring)
  have e2 : (∑ k, (x' k : EReal) * (d' k : EReal)) = ((∑ k, x' k * d' k : ℝ) : EReal) := coe_sum _ fun k => x' k * d' k
  rw [closed, chain, es, e, width_eq, mhalf_eq, Ideal.div_coe hm.ne', Ideal.div_coe (by norm_num), Ideal.div_coe (by norm_num), e1, e2]
  rw [add_assoc, add_assoc]
  refine congrArg (a + ·) ?_
  simp only [← EReal.coe_mul, ← EReal.coe_add, ← EReal.coe_sub]
  refine congrArg _ ?_
  have hs' : s * s * m = 1 := by rw [hs]; field_simp
  field_simp
  linear_combination (-(2 : ℝ) * s * x' j * (∑ k, x' k * d' k)) * hs'

/-- The logistic function of a real number. -/
theorem sigm_coe (r : ℝ) : sigm r = ((1 / (1 + Real.exp (-r)) : ℝ) : EReal) := by
  have h : (1 + Real.exp (-r)) ≠ 0 := by positivity
  have e : (1 + Ideal.exp (-(r : EReal))) = ((1 + Real.exp (-r) : ℝ) : EReal) := by
    rw [← EReal.coe_neg, Ideal.exp_coe]; rfl
  rw [sigm, e, Ideal.div_coe h, one_mul]

/-! Finite arguments give finite scales and sigmoids. -/

theorem scale_fin (x : Fin 1024 → EReal) (hx : ∀ k, IsFin (x k)) : IsFin (scale x) := by
  choose x' hx using hx
  obtain rfl : x = fun k => (x' k : EReal) := funext hx
  obtain ⟨m, hm, e⟩ := mean_coe x'
  exact ⟨_, scale_coe _ m hm e⟩

theorem sigm_fin {x : EReal} (hx : IsFin x) : IsFin (sigm x) := by
  obtain ⟨r, rfl⟩ := hx
  exact ⟨_, sigm_coe r⟩

theorem inf32 : Ideal.ofBits .f32 0x7F800000#32 = ⊤ := by
  simp [Ideal.ofBits, Ideal.ieee]
theorem inf16 : Ideal.ofBits .bf16 0x7F80#16 = ⊤ := by
  simp [Ideal.ofBits, Ideal.ieee]

/-- A value whose absolute value is under the infinite one is finite. -/
theorem fin_of_cmp {φ : FTy} {x b : EReal} (hb : b = ⊤) (h : Ideal.cmp .olt (FloatOps.absf (F := Ideal) (φ := φ) x) b = 1#1) : IsFin x := by
  subst hb
  induction x with
  | bot => simp [Ideal.cmp, FloatOps.absf] at h
  | top => simp [Ideal.cmp, FloatOps.absf] at h
  | coe r => exact ⟨r, rfl⟩

end Cert.RmsGrad

end
-- ==== Proof.FfnBwdPoint.lean ====
module

public import proofs.«01_k».proof.Defs
public import proofs.«01_k».proof.Proof.FfnBwdFrame
public import proofs.«01_k».proof.Proof.Index
public import proofs.«01_k».proof.Proof.RmsGrad
public import proofs.«01_k».proof.Proof.Rows
public import Idealize.ShloMosaic.Lib.Quiescent
public import Idealize.ShloMosaic.Lib.Pipeline.ValueKit
public import Idealize.ShloMosaic.Lib.Pipeline.ReadBack

@[expose] public section

set_option maxRecDepth 16384

/-! # A point of the feed-forward layer's backward call

What each sort of point leaves in the outputs' buffers, as sums over the extended reals: the hidden rows, the cotangents of the two
factors, the running sum of their products with the first weight, and at a block's last point the sum taken through the norm. -/

noncomputable section

namespace Cert.FfnBwdIdeal.Block

open Cert.FfnBwdIdeal Cert.FfnBwdIdeal.Gen Cert.FfnBwdIdeal.Hand Cert.Index Cert.Rows Cert.RmsGrad Idealize.ShloMosaic Idealize.ShloMosaic.TcCoe Idealize.SL.Sem

section
variable (dyh : FVec Ideal S1024x1024 .bf16) (g u wg wu : FVec Ideal S1x1024x704 .bf16) (wo : FVec Ideal S2x352x1024 .bf16)
  (acc : FVec Ideal S1024x1024 .f32)

/-- The cotangent of the hidden rows. -/
def dh (r : Fin 1024) (l : Fin 704) : EReal :=
  ∑ k : Fin 1024, dyh (ix2 r k) * wo (ix3 ⟨l.val / 352, by omega⟩ ⟨l.val % 352, by omega⟩ k)

/-- The derivative of `x * sigm x`. -/
def slope (x : EReal) : EReal := sigm x * (1 + x * (1 - sigm x))

/-- The hidden rows. -/
def hidden : FVec Ideal S1x1024x704 .bf16 := fun y => g y * sigm (g y) * u y

/-- The cotangents of the gate and of the other factor. -/
def dgate (r : Fin 1024) (l : Fin 704) : EReal := dh dyh wo r l * u (ix3 0 r l) * slope (g (ix3 0 r l))
def dup (r : Fin 1024) (l : Fin 704) : EReal := dh dyh wo r l * (g (ix3 0 r l) * sigm (g (ix3 0 r l)))

/-- Both, one after the other. -/
def pair : FVec Ideal S2x1x1024x704 .bf16 := fun y => if (y 0).val = 0 then dgate dyh g u wo (y 2) (y 3) else dup dyh g wo (y 2) (y 3)

/-- What a point adds to the running sum. -/
def added (j : S1024x1024.Idx) : EReal :=
  ∑ l : Fin 704, dgate dyh g u wo (j 0) l * wg (ix3 0 (j 1) l) + ∑ l : Fin 704, dup dyh g wo (j 0) l * wu (ix3 0 (j 1) l)

/-! The four parts of a block's rows. -/

abbrev R0 : Rect S1024x1024 := Rect.unit ![0, 0] ![256, 1024] inb_S1024x1024_S256x1024_0_0
abbrev R256 : Rect S1024x1024 := Rect.unit ![256, 0] ![256, 1024] inb_S1024x1024_S256x1024_256_0
abbrev R512 : Rect S1024x1024 := Rect.unit ![512, 0] ![256, 1024] inb_S1024x1024_S256x1024_512_0
abbrev R768 : Rect S1024x1024 := Rect.unit ![768, 0] ![256, 1024] inb_S1024x1024_S256x1024_768_0
abbrev Q0 : Rect S1x1024x704 := Rect.unit ![0, 0, 0] ![1, 256, 704] inb_S1x1024x704_S1x256x704_0_0_0
abbrev Q256 : Rect S1x1024x704 := Rect.unit ![0, 256, 0] ![1, 256, 704] inb_S1x1024x704_S1x256x704_0_256_0
abbrev Q512 : Rect S1x1024x704 := Rect.unit ![0, 512, 0] ![1, 256, 704] inb_S1x1024x704_S1x256x704_0_512_0
abbrev Q768 : Rect S1x1024x704 := Rect.unit ![0, 768, 0] ![1, 256, 704] inb_S1x1024x704_S1x256x704_0_768_0

abbrev rowsAt (X : FVec Ideal S1024x1024 .f32) (R : Rect S1024x1024) := View.ld (Val := Elt Ideal) (e' := .f32) X R
abbrev halfAt (X : FVec Ideal S1024x1024 .bf16) (R : Rect S1024x1024) := View.ld (Val := Elt Ideal) (e' := .bf16) X R
abbrev colsAt (X : FVec Ideal S1x1024x704 .bf16) (R : Rect S1x1024x704) := View.ld (Val := Elt Ideal) (e' := .bf16) X R

theorem emb4 (p o : Nat) (inb) (x : (Rect.unit (s := S2x1x1024x704) ![p, 0, o, 0] ![1, 1, 256, 704] inb).shape.Idx) (hp : p < 2)
    (h : o + (x 2).val < 1024) :
    (Rect.unit (s := S2x1x1024x704) ![p, 0, o, 0] ![1, 1, 256, 704] inb).emb x = ix4 ⟨p, hp⟩ 0 ⟨o + (x 2).val, h⟩ (x 3) :=
  ext4 (by show p + 1 * (x 0).val = p; have : (x 0).val < 1 := (x 0).isLt; omega)
    (by show 0 + 1 * (x 1).val = 0; have : (x 1).val < 1 := (x 1).isLt; omega)
    (by show o + 1 * (x 2).val = o + (x 2).val; omega) (by show 0 + 1 * (x 3).val = (x 3).val; omega)

theorem emb3 (o : Nat) (inb) (x : (Rect.unit (s := S1x1024x704) ![0, o, 0] ![1, 256, 704] inb).shape.Idx) (h : o + (x 1).val < 1024) :
    (Rect.unit (s := S1x1024x704) ![0, o, 0] ![1, 256, 704] inb).emb x = ix3 0 ⟨o + (x 1).val, h⟩ (x 2) :=
  ext3 (by show 0 + 1 * (x 0).val = 0; have : (x 0).val < 1 := (x 0).isLt; omega) (by show o + 1 * (x 1).val = o + (x 1).val; omega)
    (by show 0 + 1 * (x 2).val = (x 2).val; omega)

theorem emb2 (o : Nat) (inb) (x : (Rect.unit (s := S1024x1024) ![o, 0] ![256, 1024] inb).shape.Idx) (h : o + (x 0).val < 1024) :
    (Rect.unit (s := S1024x1024) ![o, 0] ![256, 1024] inb).emb x = ix2 ⟨o + (x 0).val, h⟩ (x 1) :=
  ext2 (by show o + 1 * (x 0).val = o + (x 0).val; omega) (by show 0 + 1 * (x 1).val = (x 1).val; omega)

theorem lt_of_part (o : Nat) (ho : o + 256 ≤ 1024) (a : Fin 256) : o + a.val < 1024 := by omega

/-- The stores of the hidden rows. -/
abbrev hidL : Pieces Ideal S1x1024x704 .bf16 :=
  [⟨Q768, k0_pay51 (F := Ideal) (colsAt g Q768) (colsAt u Q768)⟩,
    ⟨Q512, k0_pay40 (F := Ideal) (k0_pay39 (F := Ideal) (colsAt g Q512) (colsAt u Q512))⟩,
    ⟨Q256, k0_pay28 (F := Ideal) (colsAt g Q256) (colsAt u Q256)⟩,
    ⟨Q0, k0_pay17 (F := Ideal) (k0_pay16 (F := Ideal) (colsAt g Q0) (colsAt u Q0))⟩]

theorem hid_canon : View.canon (hidL g u) = hidden g u := by
  funext y
  refine View.canon_apply_of_pieces _ _ (View.PiecesOf.mem ?_) y
    (View.cover_of_tiledL (hidL g u) S1x256x704.size (by sl_kernel_rfl) y)
  refine And.intro ?_ (And.intro ?_ (And.intro ?_ (And.intro ?_ trivial)))
  · intro x
    dsimp only
    rw [emb3 768 _ x (lt_of_part 768 (by decide) (x 1))]
    pointwise [colsAt, halfAt, rowsAt, k0_pay51, k0_pay50, k0_pay48, k0_pay49, k0_pay47, hidden, sigm]
    simp only [zero_sub]
  · intro x
    dsimp only
    rw [emb3 512 _ x (lt_of_part 512 (by decide) (x 1))]
    pointwise [colsAt, halfAt, rowsAt, k0_pay40, k0_pay39, k0_pay38, k0_pay37, k0_pay36, k0_pay35, hidden, sigm]
    simp only [zero_sub]
  · intro x
    dsimp only
    rw [emb3 256 _ x (lt_of_part 256 (by decide) (x 1))]
    pointwise [colsAt, halfAt, rowsAt, k0_pay28, k0_pay27, k0_pay26, k0_pay25, k0_pay24, hidden, sigm]
    simp only [zero_sub]
  · intro x
    dsimp only
    rw [emb3 0 _ x (lt_of_part 0 (by decide) (x 1))]
    pointwise [colsAt, halfAt, rowsAt, k0_pay17, k0_pay16, k0_pay15, k0_pay14, k0_pay13, k0_pay12, hidden, sigm]
    simp only [zero_sub]

/-! A part's cotangents. -/

abbrev dh0 := k0_pay11 (F := Ideal) wo (halfAt dyh R0)
abbrev dh256 := k0_pay23 (F := Ideal) (k0_pay10 (F := Ideal) wo) (halfAt dyh R256)
abbrev dh512 := k0_pay34 (F := Ideal) (k0_pay10 (F := Ideal) wo) (halfAt dyh R512)
abbrev dh768 := k0_pay46 (F := Ideal) (k0_pay10 (F := Ideal) wo) (halfAt dyh R768)

theorem dh_part0 (r : Fin 256) (l : Fin 704) : dh0 dyh wo (ix2 r l) = dh dyh wo ⟨0 + r.val, by omega⟩ l := by
  pointwise [colsAt, halfAt, rowsAt, k0_pay11, k0_pay10, dh]
theorem dh_part256 (r : Fin 256) (l : Fin 704) : dh256 dyh wo (ix2 r l) = dh dyh wo ⟨256 + r.val, by omega⟩ l := by
  pointwise [colsAt, halfAt, rowsAt, k0_pay23, k0_pay10, dh]
theorem dh_part512 (r : Fin 256) (l : Fin 704) : dh512 dyh wo (ix2 r l) = dh dyh wo ⟨512 + r.val, by omega⟩ l := by
  pointwise [colsAt, halfAt, rowsAt, k0_pay34, k0_pay10, dh]
theorem dh_part768 (r : Fin 256) (l : Fin 704) : dh768 dyh wo (ix2 r l) = dh dyh wo ⟨768 + r.val, by omega⟩ l := by
  pointwise [colsAt, halfAt, rowsAt, k0_pay46, k0_pay10, dh]

theorem dgate_part0 (r : Fin 256) (l : Fin 704) : k0_pay18 (F := Ideal) (dh0 dyh wo) (k0_pay12 (F := Ideal) (colsAt g Q0))
    (k0_pay13 (F := Ideal) (colsAt u Q0)) (k0_pay14 (F := Ideal) (colsAt g Q0)) (ix2 r l) = dgate dyh g u wo ⟨0 + r.val, by omega⟩ l := by
  pointwise [colsAt, halfAt, rowsAt, k0_pay18, dh_part0, k0_pay14, k0_pay13, k0_pay12, dgate, slope, sigm]
  simp only [zero_sub]
theorem dgate_part256 (r : Fin 256) (l : Fin 704) : k0_pay29 (F := Ideal) (dh256 dyh wo) (colsAt g Q256)
    (colsAt u Q256) (ix2 r l) = dgate dyh g u wo ⟨256 + r.val, by omega⟩ l := by
  pointwise [colsAt, halfAt, rowsAt, k0_pay29, dh_part256, k0_pay26, k0_pay25, k0_pay24, dgate, slope, sigm]
  simp only [zero_sub]
theorem dgate_part512 (r : Fin 256) (l : Fin 704) : k0_pay41 (F := Ideal) (dh512 dyh wo) (k0_pay35 (F := Ideal) (colsAt g Q512))
    (k0_pay36 (F := Ideal) (colsAt u Q512)) (k0_pay37 (F := Ideal) (colsAt g Q512)) (ix2 r l) = dgate dyh g u wo ⟨512 + r.val, by omega⟩ l := by
  pointwise [colsAt, halfAt, rowsAt, k0_pay41, dh_part512, k0_pay37, k0_pay36, k0_pay35, dgate, slope, sigm]
  simp only [zero_sub]
theorem dgate_part768 (r : Fin 256) (l : Fin 704) : k0_pay52 (F := Ideal) (dh768 dyh wo) (colsAt g Q768)
    (colsAt u Q768) (ix2 r l) = dgate dyh g u wo ⟨768 + r.val, by omega⟩ l := by
  pointwise [colsAt, halfAt, rowsAt, k0_pay52, dh_part768, k0_pay49, k0_pay48, k0_pay47, dgate, slope, sigm]
  simp only [zero_sub]

theorem dup_part0 (r : Fin 256) (l : Fin 704) : k0_pay19 (F := Ideal) (dh0 dyh wo) (k0_pay15 (F := Ideal) (colsAt g Q0)) (ix2 r l)
    = dup dyh g wo ⟨0 + r.val, by omega⟩ l := by
  pointwise [colsAt, halfAt, rowsAt, k0_pay19, dh_part0, k0_pay15, k0_pay14, k0_pay12, dup, sigm]
  simp only [zero_sub]
theorem dup_part256 (r : Fin 256) (l : Fin 704) : k0_pay30 (F := Ideal) (dh256 dyh wo) (colsAt g Q256) (ix2 r l)
    = dup dyh g wo ⟨256 + r.val, by omega⟩ l := by
  pointwise [colsAt, halfAt, rowsAt, k0_pay30, dh_part256, k0_pay27, k0_pay26, k0_pay24, dup, sigm]
  simp only [zero_sub]
theorem dup_part512 (r : Fin 256) (l : Fin 704) : k0_pay42 (F := Ideal) (dh512 dyh wo) (k0_pay38 (F := Ideal) (colsAt g Q512)) (ix2 r l)
    = dup dyh g wo ⟨512 + r.val, by omega⟩ l := by
  pointwise [colsAt, halfAt, rowsAt, k0_pay42, dh_part512, k0_pay38, k0_pay37, k0_pay35, dup, sigm]
  simp only [zero_sub]
theorem dup_part768 (r : Fin 256) (l : Fin 704) : k0_pay53 (F := Ideal) (dh768 dyh wo) (colsAt g Q768) (ix2 r l)
    = dup dyh g wo ⟨768 + r.val, by omega⟩ l := by
  pointwise [colsAt, halfAt, rowsAt, k0_pay53, dh_part768, k0_pay50, k0_pay49, k0_pay47, dup, sigm]
  simp only [zero_sub]

/-- The stores of the two factors' cotangents. -/
abbrev pairL : Pieces Ideal S2x1x1024x704 .bf16 :=
  [⟨Rect.unit ![1, 0, 768, 0] ![1, 1, 256, 704] inb_S2x1x1024x704_S1x1x256x704_1_0_768_0, k0_pay55 (F := Ideal) (dh768 dyh wo) (colsAt g Q768)⟩,
    ⟨Rect.unit ![0, 0, 768, 0] ![1, 1, 256, 704] inb_S2x1x1024x704_S1x1x256x704_0_0_768_0,
      k0_pay54 (F := Ideal) (dh768 dyh wo) (colsAt g Q768) (colsAt u Q768)⟩,
    ⟨Rect.unit ![1, 0, 512, 0] ![1, 1, 256, 704] inb_S2x1x1024x704_S1x1x256x704_1_0_512_0,
      k0_pay44 (F := Ideal) (dh512 dyh wo) (k0_pay38 (F := Ideal) (colsAt g Q512))⟩,
    ⟨Rect.unit ![0, 0, 512, 0] ![1, 1, 256, 704] inb_S2x1x1024x704_S1x1x256x704_0_0_512_0,
      k0_pay43 (F := Ideal) (dh512 dyh wo) (k0_pay35 (F := Ideal) (colsAt g Q512)) (k0_pay36 (F := Ideal) (colsAt u Q512))
        (k0_pay37 (F := Ideal) (colsAt g Q512))⟩,
    ⟨Rect.unit ![1, 0, 256, 0] ![1, 1, 256, 704] inb_S2x1x1024x704_S1x1x256x704_1_0_256_0, k0_pay32 (F := Ideal) (dh256 dyh wo) (colsAt g Q256)⟩,
    ⟨Rect.unit ![0, 0, 256, 0] ![1, 1, 256, 704] inb_S2x1x1024x704_S1x1x256x704_0_0_256_0,
      k0_pay31 (F := Ideal) (dh256 dyh wo) (colsAt g Q256) (colsAt u Q256)⟩,
    ⟨Rect.unit ![1, 0, 0, 0] ![1, 1, 256, 704] inb_S2x1x1024x704_S1x1x256x704_1_0_0_0,
      k0_pay21 (F := Ideal) (dh0 dyh wo) (k0_pay15 (F := Ideal) (colsAt g Q0))⟩,
    ⟨Rect.unit ![0, 0, 0, 0] ![1, 1, 256, 704] inb_S2x1x1024x704_S1x1x256x704_0_0_0_0,
      k0_pay20 (F := Ideal) (dh0 dyh wo) (k0_pay12 (F := Ideal) (colsAt g Q0)) (k0_pay13 (F := Ideal) (colsAt u Q0))
        (k0_pay14 (F := Ideal) (colsAt g Q0))⟩]

theorem pair_gate (r : Fin 1024) (l : Fin 704) : pair dyh g u wo (ix4 ⟨0, by decide⟩ 0 r l) = dgate dyh g u wo r l := if_pos rfl
theorem pair_up (r : Fin 1024) (l : Fin 704) : pair dyh g u wo (ix4 ⟨1, by decide⟩ 0 r l) = dup dyh g wo r l := if_neg (by show ¬(1 = 0); decide)

theorem pair_canon : View.canon (pairL dyh g u wo) = pair dyh g u wo := by
  funext y
  refine View.canon_apply_of_pieces _ _ (View.PiecesOf.mem ?_) y
    (View.cover_of_tiledL (pairL dyh g u wo) S1x1x256x704.size (by sl_kernel_rfl) y)
  refine And.intro ?_ (And.intro ?_ (And.intro ?_ (And.intro ?_ (And.intro ?_ (And.intro ?_ (And.intro ?_ (And.intro ?_ trivial)))))))
  · intro x
    dsimp only
    rw [emb4 1 768 _ x (by decide) (lt_of_part 768 (by decide) (x 2))]
    refine Eq.trans ?_ (pair_up dyh g u wo _ _).symm
    pointwise [k0_pay55, dup_part768]
  · intro x
    dsimp only
    rw [emb4 0 768 _ x (by decide) (lt_of_part 768 (by decide) (x 2))]
    refine Eq.trans ?_ (pair_gate dyh g u wo _ _).symm
    pointwise [k0_pay54, dgate_part768]
  · intro x
    dsimp only
    rw [emb4 1 512 _ x (by decide) (lt_of_part 512 (by decide) (x 2))]
    refine Eq.trans ?_ (pair_up dyh g u wo _ _).symm
    pointwise [k0_pay44, dup_part512]
  · intro x
    dsimp only
    rw [emb4 0 512 _ x (by decide) (lt_of_part 512 (by decide) (x 2))]
    refine Eq.trans ?_ (pair_gate dyh g u wo _ _).symm
    pointwise [k0_pay43, dgate_part512]
  · intro x
    dsimp only
    rw [emb4 1 256 _ x (by decide) (lt_of_part 256 (by decide) (x 2))]
    refine Eq.trans ?_ (pair_up dyh g u wo _ _).symm
    pointwise [k0_pay32, dup_part256]
  · intro x
    dsimp only
    rw [emb4 0 256 _ x (by decide) (lt_of_part 256 (by decide) (x 2))]
    refine Eq.trans ?_ (pair_gate dyh g u wo _ _).symm
    pointwise [k0_pay31, dgate_part256]
  · intro x
    dsimp only
    rw [emb4 1 0 _ x (by decide) (lt_of_part 0 (by decide) (x 2))]
    refine Eq.trans ?_ (pair_up dyh g u wo _ _).symm
    pointwise [k0_pay21, dup_part0]
  · intro x
    dsimp only
    rw [emb4 0 0 _ x (by decide) (lt_of_part 0 (by decide) (x 2))]
    refine Eq.trans ?_ (pair_gate dyh g u wo _ _).symm
    pointwise [k0_pay20, dgate_part0]

/-- The stores of the running sum. -/
abbrev accL : Pieces Ideal S1024x1024 .f32 :=
  [⟨R768, k0_pay1 (F := Ideal) (k0_pay52 (F := Ideal) (dh768 dyh wo) (colsAt g Q768) (colsAt u Q768))
      (k0_pay53 (F := Ideal) (dh768 dyh wo) (colsAt g Q768)) (rowsAt acc R768) wg wu⟩,
    ⟨R512, k0_pay45 (F := Ideal) (dh512 dyh wo) (k0_pay35 (F := Ideal) (colsAt g Q512)) (k0_pay36 (F := Ideal) (colsAt u Q512))
      (k0_pay37 (F := Ideal) (colsAt g Q512)) (k0_pay38 (F := Ideal) (colsAt g Q512)) (rowsAt acc R512) wg wu⟩,
    ⟨R256, k0_pay33 (F := Ideal) (k0_pay29 (F := Ideal) (dh256 dyh wo) (colsAt g Q256) (colsAt u Q256))
      (k0_pay30 (F := Ideal) (dh256 dyh wo) (colsAt g Q256)) (rowsAt acc R256) wg wu⟩,
    ⟨R0, k0_pay22 (F := Ideal) (dh0 dyh wo) (k0_pay12 (F := Ideal) (colsAt g Q0)) (k0_pay13 (F := Ideal) (colsAt u Q0))
      (k0_pay14 (F := Ideal) (colsAt g Q0)) (k0_pay15 (F := Ideal) (colsAt g Q0)) (rowsAt acc R0) wg wu⟩]

theorem acc_canon (L : Pieces Ideal S1024x1024 .f32) (y : S1024x1024.Idx) :
    View.canon (accL dyh g u wg wu wo acc ++ L) y = acc y + added dyh g u wg wu wo y := by
  refine View.canon_append_of_piecesOf (fun y => acc y + added dyh g u wg wu wo y) L _ ?_ y
    (View.cover_of_tiledL (accL dyh g u wg wu wo acc) S256x1024.size (by sl_kernel_rfl) y)
  refine And.intro ?_ (And.intro ?_ (And.intro ?_ (And.intro ?_ trivial)))
  · intro x
    dsimp only
    rw [emb2 768 _ x (lt_of_part 768 (by decide) (x 0))]
    pointwise [colsAt, halfAt, rowsAt, k0_pay1, dgate_part768, dup_part768, added]
  · intro x
    dsimp only
    rw [emb2 512 _ x (lt_of_part 512 (by decide) (x 0))]
    pointwise [colsAt, halfAt, rowsAt, k0_pay45, dgate_part512, dup_part512, added]
  · intro x
    dsimp only
    rw [emb2 256 _ x (lt_of_part 256 (by decide) (x 0))]
    pointwise [colsAt, halfAt, rowsAt, k0_pay33, dgate_part256, dup_part256, added]
  · intro x
    dsimp only
    rw [emb2 0 _ x (lt_of_part 0 (by decide) (x 0))]
    pointwise [colsAt, halfAt, rowsAt, k0_pay22, dgate_part0, dup_part0, added]

/-- A load of the whole running sum. -/
theorem readCov_all (v : View sig .tc .vmem S1024x1024 .f32) (L : Pieces Ideal S1024x1024 .f32) :
    v.readCov (Val := Elt Ideal) L (Rect.unit (s := S1024x1024) ![0, 0] ![1024, 1024] inb_S1024x1024_S1024x1024_0_0).toLoadRect = View.canon L := by
  funext y
  rw [View.readCov_eq_canon']
  exact congrArg (View.canon L) (ext2 (by show 0 + 1 * (y 0).val = _; omega) (by show 0 + 1 * (y 1).val = _; omega))

theorem pay_zero (j) : k0_pay8 (F := Ideal) j = 0 := by
  pointwise [colsAt, halfAt, rowsAt, k0_pay8]
theorem pay_clear (j) : k0_pay9 (F := Ideal) j = 0 := by
  pointwise [colsAt, halfAt, rowsAt, k0_pay9]

/-- Half the cotangent. -/
def halved (d : FVec Ideal S1024x1024 .f32) : FVec Ideal S1024x1024 .bf16 := fun y => half * d y

theorem pay_half (d : FVec Ideal S1024x1024 .f32) : k0_pay7 (F := Ideal) d = halved d := by
  funext j
  pointwise [colsAt, halfAt, rowsAt, k0_pay7, halved, half]

/-- The sum taken through the norm, added to the cotangent. -/
theorem pay_out (x d : FVec Ideal S1024x1024 .f32) (gam : FVec Ideal S1x1024 .f32) (r j : Fin 1024) :
    k0_pay5 (F := Ideal) acc x gam d (ix2 r j)
      = d (ix2 r j) + closed (fun k => x (ix2 r k)) (fun k => acc (ix2 r k) * gam (ix2 0 k)) j := by
  pointwise [colsAt, halfAt, rowsAt, k0_pay5, k0_pay4, k0_pay3, k0_pay2, closed, scale]

/-- The scale's gradient of a block of rows. -/
theorem pay_gam (x : FVec Ideal S1024x1024 .f32) (dgam : FVec Ideal S1x1024 .f32) (a : Fin 1) (j : Fin 1024) :
    k0_pay6 (F := Ideal) acc x dgam (ix2 a j)
      = dgam (ix2 a j) + ∑ r, acc (ix2 r j) * (x (ix2 r j) * scale (fun k => x (ix2 r k))) := by
  pointwise [colsAt, halfAt, rowsAt, k0_pay6, k0_pay4, k0_pay3, k0_pay2, scale]

end

/-! ## A grid point -/

section
variable (m : (ℓ : Loc nD τ sig) → Buf (Elt Ideal) ℓ) (c : Dev nD) (t : Fin cfg0.N)
variable (acc : FVec Ideal S1024x1024 .f32) (dgam : FVec Ideal S1x1024 .f32) (dyh : FVec Ideal S1024x1024 .bf16)

/-- Half the cotangent's block. -/
abbrev mine : FVec Ideal S1024x1024 .bf16 := halved (iblk m c 0 t)
/-- What the point adds, of a halved cotangent. -/
abbrev adds : S1024x1024.Idx → EReal := added dyh (iblk m c 2 t) (iblk m c 3 t) (iblk m c 4 t) (iblk m c 5 t) (iblk m c 6 t)
abbrev hids : FVec Ideal S1x1024x704 .bf16 := hidden (iblk m c 2 t) (iblk m c 3 t)
abbrev pairs : FVec Ideal S2x1x1024x704 .bf16 := pair dyh (iblk m c 2 t) (iblk m c 3 t) (iblk m c 6 t)

theorem zero_half (h) : zeroHalf m c t h = mine m c t := by
  unfold zeroHalf atZero; frame_out; exact pay_half _
theorem zero_gam (h) (y) : zeroGam m c t h y = 0 := by
  unfold zeroGam atZero; frame_out; exact pay_clear _
theorem zero_hid (h) : zeroHid m c t h = hids m c t := by
  unfold zeroHid atZero; frame_out; exact hid_canon _ _
theorem zero_two (h) : zeroTwo m c t h = pairs m c t (mine m c t) := by
  unfold zeroTwo atZero; frame_out
  simp (disch := decide) only [↓ View.readCov_skip, View.readCov_fill, pay_half]
  exact pair_canon _ _ _ _
theorem zero_dx (h) (y) : zeroDx m c t h y = 0 + adds m c t (mine m c t) y := by
  unfold zeroDx atZero; frame_out
  simp (disch := decide) only [↓ View.readCov_skip, View.readCov_fill, pay_half]
  rw [← pay_zero y]
  exact acc_canon _ _ _ _ _ _ _ [_] y

theorem first_half (h h') : firstHalf m c t h h' = mine m c t := by
  unfold firstHalf atFirst; frame_out; exact pay_half _
theorem first_hid (h h') : firstHid m c t h h' = hids m c t := by
  unfold firstHid atFirst; frame_out; exact hid_canon _ _
theorem first_two (h h') : firstTwo m c t h h' = pairs m c t (mine m c t) := by
  unfold firstTwo atFirst; frame_out
  simp (disch := decide) only [↓ View.readCov_skip, View.readCov_fill, pay_half]
  exact pair_canon _ _ _ _
theorem first_dx (h h') (y) : firstDx m c t h h' y = 0 + adds m c t (mine m c t) y := by
  unfold firstDx atFirst; frame_out
  simp (disch := decide) only [↓ View.readCov_skip, View.readCov_fill, pay_half]
  rw [← pay_zero y]
  exact acc_canon _ _ _ _ _ _ _ [_] y

theorem middle_hid (h h') : middleHid m c t h h' acc dyh = hids m c t := by
  unfold middleHid atMiddle; frame_out; exact hid_canon _ _
theorem middle_two (h h') : middleTwo m c t h h' acc dyh = pairs m c t dyh := by
  unfold middleTwo atMiddle; frame_out
  simp only [read_unread_whole]
  exact pair_canon _ _ _ _
theorem middle_dx (h h') (y) : middleDx m c t h h' acc dyh y = acc y + adds m c t dyh y := by
  unfold middleDx atMiddle; frame_out
  simp only [read_unread_whole]
  exact acc_canon _ _ _ _ _ _ _ [] y

theorem last_hid (h h') : lastHid m c t h h' acc dgam dyh = hids m c t := by
  unfold lastHid atLast; frame_out; exact hid_canon _ _
theorem last_two (h h') : lastTwo m c t h h' acc dgam dyh = pairs m c t dyh := by
  unfold lastTwo atLast; frame_out
  simp only [read_unread_whole]
  exact pair_canon _ _ _ _

/-- The running sum when the last point takes it through the norm. -/
def whole (y : S1024x1024.Idx) : EReal := acc y + adds m c t dyh y

theorem acc_whole : View.canon (accL dyh (iblk m c 2 t) (iblk m c 3 t) (iblk m c 4 t) (iblk m c 5 t) (iblk m c 6 t) acc) = whole m c t acc dyh :=
  funext fun y => acc_canon _ _ _ _ _ _ _ [] y

theorem last_dx (h h') (r j : Fin 1024) : lastDx m c t h h' acc dgam dyh (ix2 r j) = (show EReal from iblk m c 0 t (ix2 r j))
    + closed (fun k => xrows m c (start t.val) (first_start t.val) (ix2 r k)) (fun k => whole m c t acc dyh (ix2 r k) * iblk m c 1 t (ix2 0 k)) j := by
  unfold lastDx atLast; frame_out
  simp only [read_unread_whole]
  rw [readCov_all]
  exact (congrArg (fun a => k0_pay5 (F := Ideal) a (xrows m c (start t.val) (first_start t.val)) (iblk m c 1 t) (iblk m c 0 t) (ix2 r j))
    (acc_whole m c t acc dyh)).trans (pay_out _ _ _ _ r j)
theorem last_gam (h h') (j : Fin 1024) : lastGam m c t h h' acc dgam dyh (ix2 0 j) = dgam (ix2 0 j)
    + ∑ r : Fin 1024, whole m c t acc dyh (ix2 r j) * (xrows m c (start t.val) (first_start t.val) (ix2 r j)
      * scale (fun k => xrows m c (start t.val) (first_start t.val) (ix2 r k))) := by
  unfold lastGam atLast; frame_out
  simp only [read_unread_whole]
  rw [readCov_all]
  refine (pay_gam _ _ _ 0 j).trans (congrArg (_ + ·) (Finset.sum_congr rfl fun r _ => congrArg (· * _) ?_))
  exact acc_canon _ _ _ _ _ _ _ [] _

end
end Cert.FfnBwdIdeal.Block
end
-- ==== Proof.FfnBwdWant.lean ====
module

public import proofs.«01_k».proof.Proof.Gen.FfnBwdRefIdeal.Read
public import proofs.«01_k».proof.Proof.Index
public import proofs.«01_k».proof.Proof.RmsGrad
public import proofs.«01_k».proof.Proof.Rows
public import Idealize.ShloMosaic.Lib.Pipeline.ValueKit

@[expose] public section

set_option maxRecDepth 16384

/-! # The reference's arrays for the feed-forward layer's backward call

Each of the reference's results at an index, in the terms in which the kernel's points leave it.  Where the two take a derivative in
different orders the terms agree for real numbers, so the entries of the arguments are taken finite. -/

noncomputable section

namespace Cert.FfnBwdRefIdeal.Want

open Cert.FfnBwdRefIdeal Cert.FfnBwdRefIdeal.Gen Cert.Index Cert.Rows Cert.RmsGrad Idealize.ShloMosaic
open Cert.FfnBwdRefIdeal.Read

variable (D X : FVec Ideal S8192x1024 .f32) (G : FVec Ideal S1x1024 .f32) (WI : FVec Ideal S8x1024x704 .bf16) (WO : FVec Ideal S8x352x1024 .bf16)

/-- A row of an array. -/
abbrev row (Y : FVec Ideal S8192x1024 .f32) (i : Fin 8192) : Fin 1024 → EReal := fun k => Y (ix2 i k)

theorem ref_norm : val_main_v19 (F := Ideal) X G = normed X G := by
  funext j
  pointwise [val_main_v5, val_main_cst, val_main_v6, val_main_v7, val_main_cst_0, val_main_v8, val_main_v9, val_main_cst_1,
    val_main_v10, val_main_v11, val_main_v12, val_main_v16, val_main_v17, val_main_v18, val_main_v19, normed, scale]

/-- Column `l` of block `b` of the first product, at row `i`. -/
def col (b : Fin 8) (i : Fin 8192) (l : Fin 704) : EReal := ∑ k, normed X G (ix2 i k) * WI (ix3 b k l)

theorem ref_gate (i : Fin 8192) (l : Fin 2816) :
    val_main_v21 (F := Ideal) X G WI (ix2 i l) = col X G WI ⟨l.val / 704, by omega⟩ i ⟨l.val % 704, by omega⟩ := by
  pointwise [val_main_v21, val_main_v20, val_main_v2, val_main_v1, val_main_v0, ref_norm, col]

theorem ref_up (i : Fin 8192) (l : Fin 2816) :
    val_main_v22 (F := Ideal) X G WI (ix2 i l) = col X G WI ⟨4 + l.val / 704, by omega⟩ i ⟨l.val % 704, by omega⟩ := by
  pointwise [val_main_v22, val_main_v20, val_main_v2, val_main_v1, val_main_v0, ref_norm, col]
  refine Finset.sum_congr rfl fun k _ => congrArg (_ * WI ·) (ext3 ?_ rfl ?_)
  · show (2816 + l.val) / 704 = 4 + l.val / 704; omega
  · show (2816 + l.val) % 704 = l.val % 704; omega

/-- The cotangent of the hidden rows. -/
theorem ref_dh (i : Fin 8192) (l : Fin 2816) : val_main_v32 (F := Ideal) D WO (ix2 i l)
    = ∑ k, half * D (ix2 i k) * WO (ix3 ⟨l.val / 352, by omega⟩ ⟨l.val % 352, by omega⟩ k) := by
  pointwise [val_main_v32, val_main_v31, val_main_v30, val_main_cst_4, val_main_v29, val_main_v4, val_main_v3, half]

/-! At row `i` and lane `l`: the gate, the other factor, and the cotangent of their product. -/

abbrev gt (i : Fin 8192) (l : Fin 2816) : EReal := val_main_v21 (F := Ideal) X G WI (ix2 i l)
abbrev up (i : Fin 8192) (l : Fin 2816) : EReal := val_main_v22 (F := Ideal) X G WI (ix2 i l)
abbrev dhid (i : Fin 8192) (l : Fin 2816) : EReal := val_main_v32 (F := Ideal) D WO (ix2 i l)

theorem ref_hid (i : Fin 8192) (l : Fin 2816) :
    val_main_v24 (F := Ideal) X G WI (ix2 i l) = gt X G WI i l * sigm (gt X G WI i l) * up X G WI i l := by
  pointwise [val_main_v24, val_main_v23_0, val_main_v23_2, val_main_call0_v4, val_main_call0_cst_0, val_main_call0_v3, val_main_call0_v2,
    val_main_call0_cst, val_main_call0_v1, val_main_call0_v0, sigm, gt, up]

theorem ref_dup (i : Fin 8192) (l : Fin 2816) :
    val_main_v33 (F := Ideal) D X G WI WO (ix2 i l) = gt X G WI i l * sigm (gt X G WI i l) * dhid D WO i l := by
  pointwise [val_main_v33, val_main_v23_0, val_main_v23_2, val_main_call0_v4, val_main_call0_cst_0, val_main_call0_v3, val_main_call0_v2,
    val_main_call0_cst, val_main_call0_v1, val_main_call0_v0, sigm, gt, dhid]

theorem ref_dgate (i : Fin 8192) (l : Fin 2816) :
    val_main_v35 (F := Ideal) D X G WI WO (ix2 i l) = dhid D WO i l * up X G WI i l * sigm (gt X G WI i l)
      + gt X G WI i l * (dhid D WO i l * up X G WI i l) * (sigm (gt X G WI i l) * (1 - sigm (gt X G WI i l))) := by
  pointwise [val_main_v35, val_main_call1_v2, val_main_call1_v1, val_main_call1_v0, val_main_v34, val_main_v23_1, val_main_call0_v7,
    val_main_call0_v6, val_main_call0_cst_1, val_main_v23_2, val_main_call0_v4, val_main_call0_cst_0, val_main_call0_v3, val_main_call0_v2,
    val_main_call0_cst, val_main_call0_v1, val_main_call0_v0, sigm, gt, dhid, up]

/-- The derivative of `x * sigm x`, both ways. -/
theorem slope_split {h u g : EReal} (hh : IsFin h) (hu : IsFin u) (hg : IsFin g) :
    h * u * (sigm g * (1 + g * (1 - sigm g))) = h * u * sigm g + g * (h * u) * (sigm g * (1 - sigm g)) := by
  obtain ⟨h, rfl⟩ := hh; obtain ⟨u, rfl⟩ := hu; obtain ⟨g, rfl⟩ := hg
  rw [sigm_coe]
  simp only [← EReal.coe_one, ← EReal.coe_mul, ← EReal.coe_add, ← EReal.coe_sub]
  exact congrArg _ (by ring)

/-! Finite arguments give finite stages. -/

variable (hD : ∀ y, IsFin (D y)) (hX : ∀ y, IsFin (X y)) (hG : ∀ y, IsFin (G y)) (hWI : ∀ y, IsFin (WI y)) (hWO : ∀ y, IsFin (WO y))

include hX hG hWI in
theorem col_fin (b i l) : IsFin (col X G WI b i l) :=
  IsFin.sum _ _ fun k => (((hX _).mul (scale_fin _ fun _ => hX _)).mul (hG _)).mul (hWI _)
include hX hG hWI in
theorem gt_fin (i l) : IsFin (gt X G WI i l) := by rw [gt, ref_gate]; exact col_fin X G WI hX hG hWI _ _ _
include hX hG hWI in
theorem up_fin (i l) : IsFin (up X G WI i l) := by rw [up, ref_up]; exact col_fin X G WI hX hG hWI _ _ _
include hD hWO in
theorem dhid_fin (i l) : IsFin (dhid D WO i l) := by
  rw [dhid, ref_dh]
  exact IsFin.sum _ _ fun k => ((by rw [half_eq]; exact IsFin.coe _ : IsFin half).mul (hD _)).mul (hWO _)

/-- The sum of the two products with the first weight: its gate's columns, then the other factor's. -/
def laneG (i : Fin 8192) (j : Fin 1024) (l : Fin 2816) : EReal :=
  val_main_v35 (F := Ideal) D X G WI WO (ix2 i l) * WI (ix3 ⟨l.val / 704, by omega⟩ j ⟨l.val % 704, by omega⟩)
def laneU (i : Fin 8192) (j : Fin 1024) (l : Fin 2816) : EReal :=
  val_main_v33 (F := Ideal) D X G WI WO (ix2 i l) * WI (ix3 ⟨4 + l.val / 704, by omega⟩ j ⟨l.val % 704, by omega⟩)

theorem ref_dxn (i : Fin 8192) (j : Fin 1024) : val_main_v37 (F := Ideal) D X G WI WO (ix2 i j)
    = ∑ l, laneG D X G WI WO i j l + ∑ l, laneU D X G WI WO i j l := by
  pointwise [val_main_v37, val_main_v36, val_main_v2, val_main_v1, val_main_v0]
  refine congrArg₂ (fun a b : EReal => a + b) rfl (Finset.sum_congr rfl fun l _ => congrArg (_ * WI ·) (ext3 ?_ rfl ?_))
  · show (2816 + l.val) / 704 = 4 + l.val / 704; omega
  · show (2816 + l.val) % 704 = l.val % 704; omega

/-- The cotangent of a normed row. -/
abbrev dxn (i : Fin 8192) (j : Fin 1024) : EReal := val_main_v37 (F := Ideal) D X G WI WO (ix2 i j)

include hD hX hG hWI hWO in
theorem dxn_fin (i j) : IsFin (dxn D X G WI WO i j) := by
  have a := dhid_fin D WO hD hWO
  have b := gt_fin X G WI hX hG hWI
  have e := up_fin X G WI hX hG hWI
  have f := fun i l => sigm_fin (b i l)
  rw [dxn, ref_dxn]
  refine (IsFin.sum _ _ fun l => ?_).add (IsFin.sum _ _ fun l => ?_)
  · rw [laneG, ref_dgate]
    exact ((((a _ _).mul (e _ _)).mul (f _ _)).add (((b _ _).mul ((a _ _).mul (e _ _))).mul ((f _ _).mul
      (by rw [sub_eq_add_neg]; exact IsFin.one.add (f _ _).neg)))).mul (hWI _)
  · rw [laneU, ref_dup]
    exact (((b _ _).mul (f _ _)).mul (a _ _)).mul (hWI _)

include hD hX hG hWI hWO in
theorem ref_dx (i : Fin 8192) (j : Fin 1024) : val_main_v57 (F := Ideal) D X G WI WO (ix2 i j)
    = D (ix2 i j) + closed (row X i) (fun k => dxn D X G WI WO i k * G (ix2 0 k)) j := by
  rw [closed_eq _ _ (fun k => hX _) (fun k => (dxn_fin D X G WI WO hD hX hG hWI hWO i k).mul (hG _))]
  pointwise [val_main_v57, val_main_v56, val_main_v55, val_main_v54, val_main_v53, val_main_v52, val_main_v51, val_main_cst_8, val_main_v50,
    val_main_v49, val_main_cst_7, val_main_v48, val_main_v47, val_main_v46, val_main_v45, val_main_v44, val_main_cst_6, val_main_v43,
    val_main_v42, val_main_v41, val_main_v15, val_main_v14, val_main_cst_2, val_main_v13, val_main_v5, val_main_cst, val_main_v6, val_main_v7,
    val_main_cst_0, val_main_v8, val_main_v9, val_main_cst_1, val_main_v10, val_main_v11, val_main_v12, chain, mean, scale, dxn]
  simp only [Finset.univ_unique, Finset.sum_singleton, ← add_assoc]

theorem ref_dgamma (a : Fin 1) (j : Fin 1024) : val_main_v40 (F := Ideal) D X G WI WO (ix2 a j)
    = ∑ i, dxn D X G WI WO i j * (X (ix2 i j) * scale (row X i)) := by
  pointwise [val_main_v40, val_main_v39, val_main_cst_5, val_main_v38, val_main_v17, val_main_v16, val_main_v5, val_main_cst, val_main_v6, val_main_v7,
    val_main_cst_0, val_main_v8, val_main_v9, val_main_cst_1, val_main_v10, val_main_v11, val_main_v12, scale, dxn]
  exact Finset.sum_congr rfl fun i _ => mul_comm _ _

/-- The lane of a block's column. -/
abbrev at_ (b : Fin 4) (l : Fin 704) : Fin 2816 := ⟨b.val * 704 + l.val, by omega⟩

theorem ref_hids (b : Fin 4) (i : Fin 8192) (l : Fin 704) :
    val_main_v60 (F := Ideal) X G WI (ix3 b i l) = val_main_v24 (F := Ideal) X G WI (ix2 i (at_ b l)) := by
  pointwise [val_main_v60, val_main_v59, val_main_v58]

theorem ref_pair0 (b : Fin 4) (i : Fin 8192) (l : Fin 704) :
    val_main_v69 (F := Ideal) D X G WI WO (ix4 0 b i l) = val_main_v35 (F := Ideal) D X G WI WO (ix2 i (at_ b l)) := by
  pointwise [val_main_v69, val_main_v67, val_main_v63, val_main_v62, val_main_v61]
theorem ref_pair1 (b : Fin 4) (i : Fin 8192) (l : Fin 704) :
    val_main_v69 (F := Ideal) D X G WI WO (ix4 1 b i l) = val_main_v33 (F := Ideal) D X G WI WO (ix2 i (at_ b l)) := by
  pointwise [val_main_v69, val_main_v68, val_main_v66, val_main_v65, val_main_v64]

end Cert.FfnBwdRefIdeal.Want
end
-- ==== Proof.FfnBwd.lean ====
module

public import proofs.«01_k».proof.Defs
public import proofs.«01_k».proof.Proof.Gen.FfnBwd.Frame
public import proofs.«01_k».proof.Proof.Gen.FfnBwdRefIdeal.Read
public import proofs.«01_k».proof.Proof.Gen.FfnBwdRefIdeal.Run
public import proofs.«01_k».proof.Proof.Gen.Pre_ffn_bwd_finite
public import proofs.«01_k».proof.Proof.FfnBwdPoint
public import proofs.«01_k».proof.Proof.FfnBwdWant
public import proofs.«01_k».proof.Proof.Index
public import proofs.«01_k».proof.Proof.RmsGrad
public import proofs.«01_k».proof.Proof.Rows
public import Idealize.ShloMosaic.Lib.Quiescent
public import Idealize.ShloMosaic.Lib.Pipeline.ValueKit
public import Idealize.ShloMosaic.Lib.Pipeline.ReadBack

@[expose] public section

set_option maxRecDepth 16384

/-! # The feed-forward layer's backward call

Over the four blocks of the hidden columns a block of rows gathers the cotangent of its normed rows; with the last the layer's norm is
pulled back and the gain's cotangent grows by the block's part. -/

noncomputable section

namespace Cert.FfnBwdIdeal.Block

open Cert.FfnBwdIdeal Cert.FfnBwdIdeal.Gen Cert.FfnBwdIdeal.Hand Cert.Index Cert.Rows Cert.RmsGrad Idealize.ShloMosaic Idealize.ShloMosaic.TcCoe Idealize.SL.Sem
open Cert.FfnBwdRefIdeal.Read Cert.FfnBwdRefIdeal.Want

section
variable (m : (ℓ : Loc nD τ sig) → Buf (Elt Ideal) ℓ)

/-- The block of 1024 rows that a point works on. -/
def Rt (t : Fin cfg0.N) (r : Fin 1024) : Fin 8192 := ⟨t.val / 4 * 1024 + r.val, by have := t.isLt; have : t.val < 32 := this; omega⟩

theorem e0 : ∀ t : Fin cfg0.N, win0_0.index t = ![t.val / 4, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val % 4, t.val / 4, 0] := (by decide +kernel : ∀ t : Fin grid0.N, _)
theorem e3 : ∀ t : Fin cfg0.N, win0_3.index t = ![t.val % 4, t.val / 4, 0] := (by decide +kernel : ∀ t : Fin grid0.N, _)
theorem e4 : ∀ t : Fin cfg0.N, win0_4.index t = ![t.val % 4, 0, 0] := (by decide +kernel : ∀ t : Fin grid0.N, _)
theorem e5 : ∀ t : Fin cfg0.N, win0_5.index t = ![4 + t.val % 4, 0, 0] := (by decide +kernel : ∀ t : Fin grid0.N, _)
theorem e6 : ∀ t : Fin cfg0.N, win0_6.index t = ![t.val % 4, 0, 0] := (by decide +kernel : ∀ t : Fin grid0.N, _)
theorem e7 : ∀ t : Fin cfg0.N, win0_7.index t = ![t.val / 4, 0] := (by decide +kernel : ∀ t : Fin grid0.N, _)
theorem e8 : ∀ t : Fin cfg0.N, win0_8.index t = ![t.val % 4, t.val / 4, 0] := (by decide +kernel : ∀ t : Fin grid0.N, _)
theorem e9 : ∀ t : Fin cfg0.N, win0_9.index t = ![0, t.val % 4, t.val / 4, 0] := (by decide +kernel : ∀ t : Fin grid0.N, _)
theorem e10 : ∀ t : Fin cfg0.N, win0_10.index t = ![0, 0] := (by decide +kernel : ∀ t : Fin grid0.N, _)
theorem coords_row : ∀ t : Fin cfg0.N, ((grid0.coords t) 0).val = t.val / 4 := (by decide +kernel : ∀ t : Fin grid0.N, _)

/-! Device `c`'s argument arrays, and their blocks at a point. -/

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1x1024 .f32 := m ((c : Thread nD τ).loc main_arg2)
abbrev A3 (c : Dev nD) : FVec Ideal S8x1024x704 .bf16 := m ((c : Thread nD τ).loc main_arg3)
abbrev A4 (c : Dev nD) : FVec Ideal S8x352x1024 .bf16 := m ((c : Thread nD τ).loc main_arg4)

variable (c : Dev nD) (t : Fin cfg0.N)

theorem blk0 : iblk m c 0 t = rows (Rt t) (A0 m c) := by
  funext y
  blk_simp [iblk]
  exact congrArg (A0 m c) (ext2 (by blk_simp [e0, Rt]) (by blk_simp [e0]))

theorem blk1 : iblk m c 1 t = A2 m c := by
  funext y
  blk_simp [iblk]
  exact congrArg (A2 m c) (ext2 (by blk_simp [e1]) (by blk_simp [e1]))

/-- The gate's columns and the other factor's, as the host hands them over. -/
abbrev gtA (i : Fin 8192) (l : Fin 2816) : EReal := gt (A1 m c) (A2 m c) (A3 m c) i l
abbrev upA (i : Fin 8192) (l : Fin 2816) : EReal := up (A1 m c) (A2 m c) (A3 m c) i l

theorem host_norm (y) : V m c main_v16 y = normed (A1 m c) (A2 m c) y := by
  unfold V hostOps0; after_results
  pointwise [normed, scale]

theorem host_gate (b : Fin 4) (i : Fin 8192) (l : Fin 704) : V m c main_v22 (ix3 b i l) = gtA m c i (at_ b l) := by
  refine Eq.trans ?_ (ref_gate ..).symm
  unfold V hostOps0; after_results
  pointwise [col, normed, scale]

theorem host_up (b : Fin 4) (i : Fin 8192) (l : Fin 704) : V m c main_v25 (ix3 b i l) = upA m c i (at_ b l) := by
  refine Eq.trans ?_ (ref_up ..).symm
  unfold V hostOps0; after_results
  pointwise [col, normed, scale]
  show @Eq EReal _ _
  refine Finset.sum_congr rfl fun k _ => congrArg₂ (fun a b : EReal => a * b) rfl (congrArg (A3 m c) (ext3 ?_ rfl ?_))
  · show (2816 + (b.val * 704 + l.val)) / 704 = 4 + (b.val * 704 + l.val) / 704; omega
  · show (2816 + (b.val * 704 + l.val)) % 704 = (b.val * 704 + l.val) % 704; omega

theorem blk2 : iblk m c 2 t = fun y => gtA m c (Rt t (y 1)) (at_ ⟨t.val % 4, by omega⟩ (y 2)) := by
  funext y
  refine Eq.trans ?_ (host_gate m c ⟨t.val % 4, by omega⟩ (Rt t (y 1)) (y 2))
  blk_simp [iblk]
  exact congrArg (V m c main_v22) (ext3 (by have : (y 0).val < 1 := (y 0).isLt; blk_simp [e2]) (by blk_simp [e2, Rt]) (by blk_simp [e2]))

theorem blk3 : iblk m c 3 t = fun y => upA m c (Rt t (y 1)) (at_ ⟨t.val % 4, by omega⟩ (y 2)) := by
  funext y
  refine Eq.trans ?_ (host_up m c ⟨t.val % 4, by omega⟩ (Rt t (y 1)) (y 2))
  blk_simp [iblk]
  exact congrArg (V m c main_v25) (ext3 (by have : (y 0).val < 1 := (y 0).isLt; blk_simp [e3]) (by blk_simp [e3, Rt]) (by blk_simp [e3]))

theorem blk4 : iblk m c 4 t = fun y => A3 m c (ix3 ⟨t.val % 4, by omega⟩ (y 1) (y 2)) := by
  funext y
  blk_simp [iblk]
  exact congrArg (A3 m c) (ext3 (by have : (y 0).val < 1 := (y 0).isLt; blk_simp [e4]) (by blk_simp [e4]) (by blk_simp [e4]))

theorem blk5 : iblk m c 5 t = fun y => A3 m c (ix3 ⟨4 + t.val % 4, by omega⟩ (y 1) (y 2)) := by
  funext y
  blk_simp [iblk]
  exact congrArg (A3 m c) (ext3 (by have : (y 0).val < 1 := (y 0).isLt; blk_simp [e5]) (by blk_simp [e5]) (by blk_simp [e5]))

theorem blk6 : iblk m c 6 t = fun y => A4 m c (ix3 ⟨t.val % 4 * 2 + (y 0).val, by have : (y 0).val < 2 := (y 0).isLt; omega⟩ (y 1) (y 2)) := by
  funext y
  blk_simp [iblk]
  exact congrArg (A4 m c) (ext3 (by blk_simp [e6]) (by blk_simp [e6]) (by blk_simp [e6]))

theorem start_row : (start t.val).val / 4 = t.val / 4 := by
  have : t.val < 32 := Nat.lt_of_lt_of_eq t.isLt points
  show 4 * (t.val / 4) % 32 / 4 = t.val / 4
  omega

/-- The rows fetched for the norm are the input's at the point's block. -/
theorem xblk (r k : Fin 1024) : xrows m c (start t.val) (first_start t.val) (ix2 r k) = A1 m c (ix2 (Rt t r) k) := by
  refine (congrFun (V_main_arg1 m c) _).trans (congrArg (A1 m c) (ext2 ?_ ?_))
  · show k0_off1 (grid0.coords (start t.val)) 0 + 1 * r.val = t.val / 4 * 1024 + r.val
    rw [k0_off1_eq]
    show 1024 * ((grid0.coords (start t.val)) 0).val + 1 * r.val = _
    rw [coords_row, start_row]; omega
  · show k0_off1 (grid0.coords (start t.val)) 1 + 1 * k.val = k.val
    rw [k0_off1_eq]
    show 0 + 1 * k.val = k.val
    omega

/-! ## What the buffers keep -/

theorem Rt_pred (h : ¬t.val % 4 = 0) (hp : t.val - 1 < cfg0.N) : Rt ⟨t.val - 1, hp⟩ = Rt t := by
  funext r; simp only [Rt, Fin.mk.injEq]; omega

/-- Half the cotangent's rows. -/
abbrev halfRows (t : Fin cfg0.N) : FVec Ideal S1024x1024 .bf16 := halved (rows (Rt t) (A0 m c))

theorem mine_eq : mine m c t = halfRows m c t := by rw [mine, blk0]

theorem dyh_at_first (h1 : isFirst (grid0.coords t)) : (state m c t.val t.isLt).dyh = halfRows m c t := by
  by_cases h2 : isStart (grid0.coords t)
  · rw [dyh_zero m c t h2, zero_half, mine_eq]
  · rw [dyh_first m c t h1 h2, first_half, mine_eq]

theorem dyh_of_prior (h : ¬isFirst (grid0.coords t)) (hp)
    (i : (prior m c t).dyh = halfRows m c ⟨t.val - 1, hp⟩) : (prior m c t).dyh = halfRows m c t :=
  i.trans (congrArg (fun R => halved (rows R (A0 m c))) (Rt_pred t (fun h0 => h ((isFirst_iff t).mpr h0)) hp))

/-- Through a run of points the kept rows are half its block's cotangent. -/
theorem kept (n : Nat) (hn : n < cfg0.N) : (state m c n hn).dyh = halfRows m c ⟨n, hn⟩ := by
  induction n with
  | zero => exact dyh_at_first m c ⟨0, hn⟩ ((isFirst_iff _).mpr rfl)
  | succ n ih =>
    by_cases h : isFirst (grid0.coords ⟨n + 1, hn⟩)
    · exact dyh_at_first m c ⟨n + 1, hn⟩ h
    · exact (dyh_stays m c ⟨n + 1, hn⟩ h).trans (dyh_of_prior m c ⟨n + 1, hn⟩ h _ (ih (Nat.lt_of_succ_lt hn)))

theorem prior_dyh (h : ¬isFirst (grid0.coords t)) : (prior m c t).dyh = halfRows m c t :=
  dyh_of_prior m c t h (Nat.lt_of_le_of_lt (Nat.sub_le _ _) t.isLt) (kept m c (t.val - 1) _)

theorem hid_at : (state m c t.val t.isLt).hid = hids m c t := by
  by_cases h1 : isFirst (grid0.coords t)
  · by_cases h2 : isStart (grid0.coords t)
    · rw [hid_zero m c t h2, zero_hid]
    · rw [hid_first m c t h1 h2, first_hid]
  · by_cases h3 : isLast (grid0.coords t)
    · rw [hid_last m c t h1 h3, last_hid]
    · rw [hid_middle m c t h1 h3, middle_hid]

theorem two_at : (state m c t.val t.isLt).two = pairs m c t (halfRows m c t) := by
  by_cases h1 : isFirst (grid0.coords t)
  · by_cases h2 : isStart (grid0.coords t)
    · rw [two_zero m c t h2, zero_two, mine_eq]
    · rw [two_first m c t h1 h2, first_two, mine_eq]
  · by_cases h3 : isLast (grid0.coords t)
    · rw [two_last m c t h1 h3, last_two, prior_dyh m c t h1]
    · rw [two_middle m c t h1 h3, middle_two, prior_dyh m c t h1]

/-- What point `t` adds to the sum. -/
def term (t : Fin cfg0.N) (y : S1024x1024.Idx) : EReal := adds m c t (halfRows m c t) y

/-- The running sum; at a run's last point it is not kept but used. -/
def sofar (n : Nat) (hn : n < cfg0.N) (y : S1024x1024.Idx) : EReal :=
  if n % 4 = 3 then whole m c ⟨n, hn⟩ (prior m c ⟨n, hn⟩).dx (prior m c ⟨n, hn⟩).dyh y else (state m c n hn).dx y

theorem sofar_last (h : t.val % 4 = 3) (y) : sofar m c t.val t.isLt y = whole m c t (prior m c t).dx (prior m c t).dyh y := if_pos h
theorem sofar_else (n : Nat) (hn : n < cfg0.N) (h : ¬n % 4 = 3) (y) : sofar m c n hn y = (state m c n hn).dx y := if_neg h

theorem sum_start (h : t.val % 4 = 0) (y) : sofar m c t.val t.isLt y = 0 + term m c t y := by
  have h1 := (isFirst_iff t).mpr h
  rw [sofar_else m c t.val t.isLt (by omega), term, ← mine_eq]
  by_cases h2 : isStart (grid0.coords t)
  · rw [dx_zero m c t h2, zero_dx]
  · rw [dx_first m c t h1 h2, first_dx]

theorem sum_next (h : ¬t.val % 4 = 0) (y) : sofar m c t.val t.isLt y
    = sofar m c (t.val - 1) (Nat.lt_of_le_of_lt (Nat.sub_le _ _) t.isLt) y + term m c t y := by
  have h1 : ¬isFirst (grid0.coords t) := fun h0 => h ((isFirst_iff t).mp h0)
  rw [sofar_else m c (t.val - 1) _ (by omega), term]
  by_cases h3 : t.val % 4 = 3
  · rw [sofar_last m c t h3, whole, prior_dyh m c t h1]
  · rw [sofar_else m c t.val t.isLt h3, dx_middle m c t h1 (fun h' => h3 ((isLast_iff t).mp h')), middle_dx, prior_dyh m c t h1]

/-- At the end of a run the sum is that of its four points' parts. -/
theorem sum_end (h : t.val % 4 = 3) (y) : sofar m c t.val t.isLt y =
    0 + ∑ s : Fin 4, term m c ⟨4 * (t.val / 4) + s.val, Pipeline.run_point_lt_of_flush t h s⟩ y :=
  Pipeline.eq_sum_fin_of_reset_step_apply_of_flush (fun n h => sofar m c n h) 4 (fun _ => 0) (term m c)
    (sum_start m c) (sum_next m c) t h y

theorem dx_end (h : t.val % 4 = 3) (r j : Fin 1024) : (state m c t.val t.isLt).dx (ix2 r j) = A0 m c (ix2 (Rt t r) j)
    + closed (fun k => A1 m c (ix2 (Rt t r) k)) (fun k => sofar m c t.val t.isLt (ix2 r k) * A2 m c (ix2 0 k)) j := by
  have h1 : ¬isFirst (grid0.coords t) := fun h0 => by have := (isFirst_iff t).mp h0; omega
  refine (congrFun (dx_last m c t h1 ((isLast_iff t).mpr h)) _).trans ((last_dx m c t _ _ _ _ _ r j).trans ?_)
  exact congrArg₂ (fun a b : EReal => a + b) (congrFun (blk0 m c t) _) (congrArg₂ (fun x d => closed x d j) (funext fun k => xblk m c t r k)
    (funext fun k => congrArg₂ (fun a b : EReal => a * b) (sofar_last m c t h _).symm (congrFun (blk1 m c t) _)))

theorem gam_end (h : t.val % 4 = 3) (j : Fin 1024) : (state m c t.val t.isLt).dgam (ix2 0 j) = (prior m c t).dgam (ix2 0 j)
    + ∑ r : Fin 1024, sofar m c t.val t.isLt (ix2 r j) * (A1 m c (ix2 (Rt t r) j) * scale (fun k => A1 m c (ix2 (Rt t r) k))) := by
  have h1 : ¬isFirst (grid0.coords t) := fun h0 => by have := (isFirst_iff t).mp h0; omega
  refine (congrFun (dgam_last m c t h1 ((isLast_iff t).mpr h)) _).trans ((last_gam m c t _ _ _ _ _ j).trans ?_)
  exact congrArg (_ + ·) (Finset.sum_congr rfl fun r _ => congrArg₂ (fun a b : EReal => a * b) (sofar_last m c t h _).symm
    (congrArg₂ (fun a b : EReal => a * b) (xblk m c t r j) (congrArg scale (funext fun k => xblk m c t r k))))

end

/-! ## The arrays after the run -/

section
variable (m : (ℓ : Loc nD τ sig) → Buf (Elt Ideal) ℓ) (c : Dev nD)

/-- Every entry of the arguments is finite. -/
structure Fine : Prop where
  dy : ∀ y, IsFin (A0 m c y)
  x : ∀ y, IsFin (A1 m c y)
  gamma : ∀ y, IsFin (A2 m c y)
  wi : ∀ y, IsFin (A3 m c y)
  wo : ∀ y, IsFin (A4 m c y)

variable (fine : Fine m c)

/-- The lane of column `l` of the point's block. -/
abbrev at' (t : Fin cfg0.N) (l : Fin 704) : Fin 2816 := at_ ⟨t.val % 4, by omega⟩ l

theorem dh_at (t : Fin cfg0.N) (r : Fin 1024) (l : Fin 704) :
    dh (halfRows m c t) (iblk m c 6 t) r l = dhid (A0 m c) (A4 m c) (Rt t r) (at' t l) := by
  refine Eq.trans ?_ (ref_dh ..).symm
  unfold dh
  refine Finset.sum_congr rfl fun k _ => congrArg₂ (fun a b : EReal => a * b) rfl
    ((congrFun (blk6 m c t) _).trans (congrArg (A4 m c) (ext3 ?_ ?_ rfl)))
  · show t.val % 4 * 2 + l.val / 352 = (t.val % 4 * 704 + l.val) / 352; omega
  · show l.val % 352 = (t.val % 4 * 704 + l.val) % 352; omega

theorem hid_block (t : Fin cfg0.N) (r : Fin 1024) (l : Fin 704) : (state m c t.val t.isLt).hid (ix3 0 r l)
    = val_main_v60 (F := Ideal) (A1 m c) (A2 m c) (A3 m c) (ix3 ⟨t.val % 4, by omega⟩ (Rt t r) l) := by
  rw [ref_hids, ref_hid, hid_at]
  exact congrArg₂ (fun g u : EReal => g * sigm g * u) (congrFun (blk2 m c t) _) (congrFun (blk3 m c t) _)

theorem dup_at (t : Fin cfg0.N) (r : Fin 1024) (l : Fin 704) : dup (halfRows m c t) (iblk m c 2 t) (iblk m c 6 t) r l
    = val_main_v33 (F := Ideal) (A0 m c) (A1 m c) (A2 m c) (A3 m c) (A4 m c) (ix2 (Rt t r) (at' t l)) := by
  refine Eq.trans ?_ (ref_dup ..).symm
  exact (congrArg₂ (fun h g : EReal => h * (g * sigm g)) (dh_at m c t r l) (congrFun (blk2 m c t) _)).trans (mul_comm _ _)

include fine in
theorem dgate_at (t : Fin cfg0.N) (r : Fin 1024) (l : Fin 704) :
    dgate (halfRows m c t) (iblk m c 2 t) (iblk m c 3 t) (iblk m c 6 t) r l
    = val_main_v35 (F := Ideal) (A0 m c) (A1 m c) (A2 m c) (A3 m c) (A4 m c) (ix2 (Rt t r) (at' t l)) := by
  refine Eq.trans ?_ (ref_dgate ..).symm
  refine Eq.trans ?_ (slope_split (dhid_fin _ _ fine.dy fine.wo _ _) (up_fin _ _ _ fine.x fine.gamma fine.wi _ _)
    (gt_fin _ _ _ fine.x fine.gamma fine.wi _ _))
  exact congrArg₂ (fun a b : EReal => a * b)
    (congrArg₂ (fun a b : EReal => a * b) (dh_at m c t r l) (congrFun (blk3 m c t) _)) (congrArg slope (congrFun (blk2 m c t) _))

include fine in
/-- A point's part of the sum: 704 lanes of both products. -/
theorem term_eq (t : Fin cfg0.N) (r j : Fin 1024) : term m c t (ix2 r j)
    = ∑ k : Fin 704, laneG (A0 m c) (A1 m c) (A2 m c) (A3 m c) (A4 m c) (Rt t r) j (at' t k)
      + ∑ k : Fin 704, laneU (A0 m c) (A1 m c) (A2 m c) (A3 m c) (A4 m c) (Rt t r) j (at' t k) := by
  unfold term adds added
  refine congrArg₂ (fun a b : EReal => a + b) (Finset.sum_congr rfl fun k _ => ?_) (Finset.sum_congr rfl fun k _ => ?_)
  · refine congrArg₂ (fun a b : EReal => a * b) (dgate_at m c fine t r k) ((congrFun (blk4 m c t) _).trans (congrArg (A3 m c) (ext3 ?_ rfl ?_)))
    · show t.val % 4 = (t.val % 4 * 704 + k.val) / 704; omega
    · show k.val = (t.val % 4 * 704 + k.val) % 704; omega
  · refine congrArg₂ (fun a b : EReal => a * b) (dup_at m c t r k) ((congrFun (blk5 m c t) _).trans (congrArg (A3 m c) (ext3 ?_ rfl ?_)))
    · show 4 + t.val % 4 = 4 + (t.val % 4 * 704 + k.val) / 704; omega
    · show k.val = (t.val % 4 * 704 + k.val) % 704; omega

/-- The cotangent of the normed rows. -/
abbrev want (i : Fin 8192) (j : Fin 1024) : EReal := dxn (A0 m c) (A1 m c) (A2 m c) (A3 m c) (A4 m c) i j

theorem four_parts (f : Fin 8192 → Fin 2816 → EReal) (t : Fin cfg0.N) (h3 : t.val % 4 = 3) (r : Fin 1024) :
    ∑ s : Fin 4, ∑ k : Fin 704, f (Rt ⟨4 * (t.val / 4) + s.val, Pipeline.run_point_lt_of_flush t h3 s⟩ r)
      (at' ⟨4 * (t.val / 4) + s.val, Pipeline.run_point_lt_of_flush t h3 s⟩ k) = ∑ l, f (Rt t r) l := by
  refine Fin.sum_mul_add_congr fun s k hl => ?_
  have h4 := s.isLt
  exact congrArg₂ f
    (Fin.ext (by show (4 * (t.val / 4) + s.val) / 4 * 1024 + r.val = t.val / 4 * 1024 + r.val; omega))
    (Fin.ext (by show (4 * (t.val / 4) + s.val) % 4 * 704 + k.val = s.val * 704 + k.val; omega))

include fine in
theorem sum_want (t : Fin cfg0.N) (h3 : t.val % 4 = 3) (r j : Fin 1024) : sofar m c t.val t.isLt (ix2 r j) = want m c (Rt t r) j := by
  rw [sum_end m c t h3, zero_add]
  refine Eq.trans ?_ (ref_dxn ..).symm
  refine (Finset.sum_congr rfl fun s _ => term_eq m c fine _ r j).trans (Finset.sum_add_distrib.trans ?_)
  exact congrArg₂ (fun a b : EReal => a + b)
    (four_parts (fun i l => laneG (A0 m c) (A1 m c) (A2 m c) (A3 m c) (A4 m c) i j l) t h3 r)
    (four_parts (fun i l => laneU (A0 m c) (A1 m c) (A2 m c) (A3 m c) (A4 m c) i j l) t h3 r)

include fine in
theorem dx_block (t : Fin cfg0.N) (h3 : t.val % 4 = 3) (r j : Fin 1024) : (state m c t.val t.isLt).dx (ix2 r j)
    = val_main_v57 (F := Ideal) (A0 m c) (A1 m c) (A2 m c) (A3 m c) (A4 m c) (ix2 (Rt t r) j) := by
  refine (dx_end m c t h3 r j).trans (Eq.trans ?_ (ref_dx _ _ _ _ _ fine.dy fine.x fine.gamma fine.wi fine.wo _ _).symm)
  exact congrArg (fun d => (show EReal from A0 m c (ix2 (Rt t r) j)) + closed (fun k => A1 m c (ix2 (Rt t r) k)) d j)
    (funext fun k => congrArg (fun a : EReal => a * A2 m c (ix2 0 k)) (sum_want m c fine t h3 r k))

/-- Row `n`'s part of the gain's cotangent. -/
def part_ (j : Fin 1024) (n : Nat) : EReal :=
  if h : n < 8192 then want m c ⟨n, h⟩ j * (A1 m c (ix2 ⟨n, h⟩ j) * scale (fun k => A1 m c (ix2 ⟨n, h⟩ k))) else 0

include fine in
/-- After a point the gain's cotangent holds the rows of the blocks done. -/
theorem gam_sum (j : Fin 1024) (n : Nat) (hn : n < cfg0.N) :
    (state m c n hn).dgam (ix2 0 j) = ∑ i ∈ Finset.range ((n + 1) / 4 * 1024), part_ m c j i := by
  induction n with
  | zero => exact (congrFun (dgam_zero m c ⟨0, hn⟩ ((isStart_iff _).mpr rfl)) _).trans (zero_gam m c _ _ _)
  | succ n ih =>
    have ih := ih (Nat.lt_of_succ_lt hn)
    by_cases h3 : (n + 1) % 4 = 3
    · refine (gam_end m c ⟨n + 1, hn⟩ h3 j).trans ?_
      have e : (n + 1 + 1) / 4 * 1024 = (n + 1) / 4 * 1024 + 1024 := by omega
      rw [e, Finset.sum_range_add, ← ih, Finset.sum_range (n := 1024)]
      refine congrArg₂ (fun a b : EReal => a + b) rfl (Finset.sum_congr rfl fun r _ => ?_)
      have hr : (n + 1) / 4 * 1024 + r.val < 8192 := (Rt ⟨n + 1, hn⟩ r).isLt
      refine Eq.trans ?_ (dif_pos hr).symm
      exact congrArg (fun a : EReal => a * (A1 m c (ix2 (Rt ⟨n + 1, hn⟩ r) j) * scale (fun k => A1 m c (ix2 (Rt ⟨n + 1, hn⟩ r) k))))
        (sum_want m c fine ⟨n + 1, hn⟩ h3 r j)
    · have e : (n + 1 + 1) / 4 = (n + 1) / 4 := by omega
      rw [e, ← ih]
      exact congrFun (dgam_stays m c ⟨n + 1, hn⟩ (fun h => absurd ((isStart_iff _).mp h) (Nat.succ_ne_zero n))
        (fun h => h3 ((isLast_iff _).mp h))) _

include fine in
theorem gam_block (t : Fin cfg0.N) (h : t.val % 32 = 31) (j : Fin 1024) : (state m c t.val t.isLt).dgam (ix2 0 j)
    = val_main_v40 (F := Ideal) (A0 m c) (A1 m c) (A2 m c) (A3 m c) (A4 m c) (ix2 0 j) := by
  have : t.val < 32 := Nat.lt_of_lt_of_eq t.isLt points
  have e : (t.val + 1) / 4 * 1024 = 8192 := by omega
  rw [gam_sum m c fine, e, Finset.sum_range]
  refine Eq.trans ?_ (ref_dgamma ..).symm
  exact Finset.sum_congr rfl fun i _ => dif_pos i.isLt

include fine in
theorem two_block (t : Fin cfg0.N) (p : Fin 2) (r : Fin 1024) (l : Fin 704) : (state m c t.val t.isLt).two (ix4 p 0 r l)
    = val_main_v69 (F := Ideal) (A0 m c) (A1 m c) (A2 m c) (A3 m c) (A4 m c) (ix4 p ⟨t.val % 4, by omega⟩ (Rt t r) l) := by
  rw [two_at]
  match p with
  | 0 => exact (pair_gate _ _ _ _ _ _).trans ((dgate_at m c fine t r l).trans (ref_pair0 ..).symm)
  | 1 => exact (pair_up _ _ _ _ _ _).trans ((dup_at m c t r l).trans (ref_pair1 ..).symm)

/-! The arrays, block by block. -/

include fine in
theorem final7 : (dats m 0 c).arrAt 7 cfg0.N = val_main_v57 (F := Ideal) (A0 m c) (A1 m c) (A2 m c) (A3 m c) (A4 m c) := by
  refine (dats m 0 c).arrAt_eq_of_covers 7 _ (by decide +kernel) fun t hf y => ?_
  have h3 : t.val % 4 = 3 := (flush0_7 t).mp hf
  blk_simp
  rw [after_7]
  refine (congrArg (state m c t.val t.isLt).dx (ext2 rfl rfl : y = ix2 (y 0) (y 1))).trans ((dx_block m c fine t h3 (y 0) (y 1)).trans ?_)
  exact (congrArg (val_main_v57 (F := Ideal) (A0 m c) (A1 m c) (A2 m c) (A3 m c) (A4 m c))
    (ext2 (by blk_simp [e7, Rt]) (by blk_simp [e7])))

theorem final8 : (dats m 0 c).arrAt 8 cfg0.N = val_main_v60 (F := Ideal) (A1 m c) (A2 m c) (A3 m c) := by
  refine (dats m 0 c).arrAt_eq_of_covers 8 _ (by decide +kernel) fun t hf y => ?_
  have h0 : (y 0).val < 1 := (y 0).isLt
  blk_simp
  rw [after_8]
  refine (congrArg (state m c t.val t.isLt).hid (ext3 (by show (y 0).val = 0; omega) rfl rfl : y = ix3 0 (y 1) (y 2))).trans
    ((hid_block m c t (y 1) (y 2)).trans ?_)
  exact (congrArg (val_main_v60 (F := Ideal) (A1 m c) (A2 m c) (A3 m c))
    (ext3 (by blk_simp [e8]) (by blk_simp [e8, Rt]) (by blk_simp [e8])))

include fine in
theorem final9 : (dats m 0 c).arrAt 9 cfg0.N = val_main_v69 (F := Ideal) (A0 m c) (A1 m c) (A2 m c) (A3 m c) (A4 m c) := by
  refine (dats m 0 c).arrAt_eq_of_covers 9 _ (by decide +kernel) fun t hf y => ?_
  have h0 : (y 1).val < 1 := (y 1).isLt
  blk_simp
  rw [after_9]
  refine (congrArg (state m c t.val t.isLt).two (ext4 rfl (by show (y 1).val = 0; omega) rfl rfl : y = ix4 (y 0) 0 (y 2) (y 3))).trans
    ((two_block m c fine t (y 0) (y 2) (y 3)).trans ?_)
  exact (congrArg (val_main_v69 (F := Ideal) (A0 m c) (A1 m c) (A2 m c) (A3 m c) (A4 m c))
    (ext4 (by blk_simp [e9]) (by blk_simp [e9]) (by blk_simp [e9, Rt]) (by blk_simp [e9])))

include fine in
theorem final10 : (dats m 0 c).arrAt 10 cfg0.N = val_main_v40 (F := Ideal) (A0 m c) (A1 m c) (A2 m c) (A3 m c) (A4 m c) := by
  refine (dats m 0 c).arrAt_eq_of_covers 10 _ (by decide +kernel) fun t hf y => ?_
  have h : t.val % 32 = 31 := (flush0_10 t).mp hf
  have h0 : (y 0).val < 1 := (y 0).isLt
  blk_simp
  rw [after_10]
  refine (congrArg (state m c t.val t.isLt).dgam (ext2 (by show (y 0).val = 0; omega) rfl : y = ix2 0 (y 1))).trans
    ((gam_block m c fine t h (y 1)).trans ?_)
  exact (congrArg (val_main_v40 (F := Ideal) (A0 m c) (A1 m c) (A2 m c) (A3 m c) (A4 m c))
    (ext2 (by blk_simp [e10]; rfl) (by blk_simp [e10])))

end

/-! ## The claims -/

/-- The program at the two readings of its floats is one text. -/
theorem body_same : Cert.FfnBwd.defs₀ (F := Bits) = Cert.FfnBwdIdeal.defs₀ (F := Bits) := by
  unfold Cert.FfnBwd.defs₀ Cert.FfnBwdIdeal.defs₀
  congr 1
  funext x y
  match x, y with
  | 0, (t, s) => rfl

theorem defs_same : Cert.FfnBwd.defs (F := Bits) = Cert.FfnBwdIdeal.defs (F := Bits) := by
  unfold Cert.FfnBwd.defs; rw [body_same]; rfl

theorem frameP : Cert.quiescent_FfnBwd (hFfnBwd := Cert.FfnBwd.Gen.facts) := fun m ρ _ => by
  rw [defs_same]; exact Hand.frame (F := Bits) m ρ
theorem framePI : Cert.quiescent_FfnBwdIdeal (hFfnBwdIdeal := Cert.FfnBwdIdeal.Gen.facts) := fun m ρ _ => Hand.frame m ρ

theorem frameRI : Cert.quiescent_FfnBwdRefIdeal (hFfnBwdRefIdeal := Cert.FfnBwdRefIdeal.Gen.facts) := fun m ρ _ =>
  (θ_run Cert.FfnBwdRefIdeal.defs _ _).mono (fun r h => ⟨fun c => (h c).2.2.2.2,
      Idealize.ShloMosaic.sem_eq_zero_of_no_sems (by decide) r.2⟩)
    (Cert.FfnBwdRefIdeal.Value.run (F := Ideal) m ρ)

theorem fine_of_pre (m : (ℓ : Loc nD τ sig) → Buf (Elt Ideal) ℓ)
    (h : Cert.Pre_FfnBwdIdeal_ffn_bwd_finite (hPre_ffn_bwd_finite := Cert.Pre_ffn_bwd_finite.Gen.facts) m) (c : Dev nD) : Fine m c := by
  obtain ⟨h0, h1, h2, h3, h4⟩ := h c
  unfold Cert.Pre_ffn_bwd_finite.fn at h0 h1 h2 h3 h4
  exact ⟨fun y => fin_of_cmp inf32 (congrFun h0 y), fun y => fin_of_cmp inf32 (congrFun h1 y), fun y => fin_of_cmp inf32 (congrFun h2 y),
    fun y => fin_of_cmp inf16 (congrFun h3 y), fun y => fin_of_cmp inf16 (congrFun h4 y)⟩

/-- For finite arguments the kernel leaves the input's cotangent, the hidden rows, the cotangents of the gate's and the other factor's
columns and the gain's cotangent that the reference computes. -/
theorem algebraic : Cert.algebraic_FfnBwdIdeal_FfnBwdRefIdeal_pre_ffn_bwd_finite (hFfnBwdIdeal := Cert.FfnBwdIdeal.Gen.facts)
    (hFfnBwdRefIdeal := Cert.FfnBwdRefIdeal.Gen.facts) (hPre_ffn_bwd_finite := Cert.Pre_ffn_bwd_finite.Gen.facts) := by
  intro m ρ m' ρ' hp hag
  refine ⟨fun c => val_main_v57 (F := Ideal) (A0 m c) (A1 m c) (A2 m c) (A3 m c) (A4 m c),
    fun c => val_main_v60 (F := Ideal) (A1 m c) (A2 m c) (A3 m c),
    fun c => val_main_v69 (F := Ideal) (A0 m c) (A1 m c) (A2 m c) (A3 m c) (A4 m c),
    fun c => val_main_v40 (F := Ideal) (A0 m c) (A1 m c) (A2 m c) (A3 m c) (A4 m c), ?_, ?_⟩
  · refine (θ_run Cert.FfnBwdIdeal.defs _ _).mono (fun r h c => ?_) (θ_run_and (Hand.run_main m ρ) (Hand.frame m ρ))
    have fine := fine_of_pre m hp c
    exact ⟨((h.1 c).1 7).trans (final7 m c fine), ((h.1 c).1 8).trans (final8 m c), ((h.1 c).1 9).trans (final9 m c fine),
      ((h.1 c).1 10).trans (final10 m c fine), h.2.1 c⟩
  · refine (θ_run Cert.FfnBwdRefIdeal.defs _ _).mono (fun r h c => ?_) (Cert.FfnBwdRefIdeal.Value.run (F := Ideal) m' ρ')
    obtain ⟨h57, h60, h69, h40, hrest⟩ := h c
    obtain ⟨a0, a1, a2, a3, a4⟩ := hag c
    refine ⟨h57.trans ((val_main_v57_eq ..).trans ?_), h60.trans ((val_main_v60_eq ..).trans ?_),
      h69.trans ((val_main_v69_eq ..).trans ?_), h40.trans ((val_main_v40_eq ..).trans ?_), hrest⟩
    · rw [a0, a1, a2, a3, a4]
    · rw [a1, a2, a3]
    · rw [a0, a1, a2, a3, a4]
    · rw [a0, a1, a2, a3, a4]

end Cert.FfnBwdIdeal.Block

end
-- ==== Proof.MixinBwd.lean ====
module

public import proofs.«01_k».proof.Defs
public import proofs.«01_k».proof.Proof.Gen.MixinBwd.Frame
public import proofs.«01_k».proof.Proof.Gen.MixinBwdIdeal.Value
public import proofs.«01_k».proof.Proof.Gen.MixinBwdRefIdeal.Read
public import proofs.«01_k».proof.Proof.Gen.MixinBwdRefIdeal.Run
public import proofs.«01_k».proof.Proof.Gen.Pre_mixin_bwd_finite
public import proofs.«01_k».proof.Proof.Index
public import proofs.«01_k».proof.Proof.RmsGrad
public import proofs.«01_k».proof.Proof.Rows
public import Idealize.ShloMosaic.Lib.Quiescent
public import Idealize.ShloMosaic.Lib.Pipeline.ValueKit
public import Idealize.ShloMosaic.Lib.Pipeline.ReadBack

@[expose] public section

set_option maxRecDepth 16384

/-! # The gradient of the mixer's input projection

A grid point takes 512 rows of the projection's cotangent in four parts of columns, multiplies each by the weight's columns it belongs to,
pulls the norm back and adds the rows' part of the gain's gradient. -/

noncomputable section

namespace Cert.MixinBwdIdeal.Block

open Cert.MixinBwdIdeal Cert.MixinBwdIdeal.Gen Cert.Index Cert.Rows Cert.RmsGrad Idealize.ShloMosaic Idealize.ShloMosaic.TcCoe Idealize.SL.Sem
open Cert.MixinBwdRefIdeal.Read

/-- Four parts of columns side by side. -/
def four (a : Fin 512 → EReal) (b : Fin 256 → EReal) (c : Fin 1024 → EReal) (d : Fin 2048 → EReal) (l : Fin 3840) : EReal :=
  if h : l.val < 512 then a ⟨l.val, h⟩ else if h : l.val - 512 < 256 then b ⟨l.val - 512, h⟩
  else if h : l.val - 512 - 256 < 1024 then c ⟨l.val - 512 - 256, h⟩ else d ⟨l.val - 512 - 256 - 1024, by omega⟩

section
variable (a : Fin 512 → EReal) (b : Fin 256 → EReal) (c : Fin 1024 → EReal) (d : Fin 2048 → EReal)

theorem four_0 (l : Fin 512) : four a b c d ⟨l.val, by omega⟩ = a l := dif_pos l.isLt
theorem four_1 (l : Fin 256) : four a b c d ⟨512 + l.val, by omega⟩ = b l :=
  (dif_neg (by show ¬512 + l.val < 512; omega)).trans ((dif_pos (by show 512 + l.val - 512 < 256; omega)).trans
    (congrArg b (Fin.ext (by show 512 + l.val - 512 = l.val; omega))))
theorem four_2 (l : Fin 1024) : four a b c d ⟨768 + l.val, by omega⟩ = c l :=
  (dif_neg (by show ¬768 + l.val < 512; omega)).trans ((dif_neg (by show ¬768 + l.val - 512 < 256; omega)).trans
    ((dif_pos (by show 768 + l.val - 512 - 256 < 1024; omega)).trans (congrArg c (Fin.ext (by show 768 + l.val - 512 - 256 = l.val; omega)))))
theorem four_3 (l : Fin 2048) : four a b c d ⟨1792 + l.val, by omega⟩ = d l :=
  (dif_neg (by show ¬1792 + l.val < 512; omega)).trans ((dif_neg (by show ¬1792 + l.val - 512 < 256; omega)).trans
    ((dif_neg (by show ¬1792 + l.val - 512 - 256 < 1024; omega)).trans
      (congrArg d (Fin.ext (by show 1792 + l.val - 512 - 256 - 1024 = l.val; omega)))))

/-- A sum over all columns, part by part. -/
theorem sum_parts (f : Fin (512 + 256 + 1024 + 2048) → EReal) : ∑ l, f l
    = ∑ l : Fin 512, f ⟨l.val, by omega⟩ + ∑ l : Fin 256, f ⟨512 + l.val, by omega⟩ + ∑ l : Fin 1024, f ⟨768 + l.val, by omega⟩
      + ∑ l : Fin 2048, f ⟨1792 + l.val, by omega⟩ := by
  rw [Fin.sum_univ_add, Fin.sum_univ_add, Fin.sum_univ_add]; rfl

theorem sum_four (w : Fin 3840 → EReal) : ∑ l, four a b c d l * w l
    = ∑ l : Fin 512, a l * w ⟨l.val, by omega⟩ + ∑ l : Fin 256, b l * w ⟨512 + l.val, by omega⟩
      + ∑ l : Fin 1024, c l * w ⟨768 + l.val, by omega⟩ + ∑ l : Fin 2048, d l * w ⟨1792 + l.val, by omega⟩ := by
  refine (sum_parts fun l => four a b c d l * w l).trans ?_
  simp only [four_0, four_1, four_2, four_3]

end

section
variable (D X : FVec Ideal S8192x1024 .f32) (G : FVec Ideal S1x1024 .f32) (Q : FVec Ideal S8192x512 .f32) (K : FVec Ideal S8192x256 .f32)
  (C : FVec Ideal S8192x1024 .f32) (P : FVec Ideal S8192x2048 .bf16) (W : FVec Ideal S1024x3840 .bf16)

/-! ## The reference -/

/-- The cotangent of a normed row: the four parts' products. -/
def dxn (i : Fin 8192) (j : Fin 1024) : EReal :=
  ∑ l : Fin 512, Q (ix2 i l) * W (ix2 j ⟨l.val, by omega⟩) + ∑ l : Fin 256, K (ix2 i l) * W (ix2 j ⟨512 + l.val, by omega⟩)
    + ∑ l : Fin 1024, C (ix2 i l) * W (ix2 j ⟨768 + l.val, by omega⟩) + ∑ l : Fin 2048, P (ix2 i l) * W (ix2 j ⟨1792 + l.val, by omega⟩)

theorem ref_dxn (i : Fin 8192) (j : Fin 1024) : val_main_v19 (F := Ideal) Q K C P W (ix2 i j) = dxn Q K C P W i j := by
  pointwise [val_main_v19, val_main_v18, val_main_v17, val_main_v1, val_main_v0, dxn]
  exact sum_four (fun l => Q (ix2 i l)) (fun l => K (ix2 i l)) (fun l => C (ix2 i l)) (fun l => P (ix2 i l)) (fun l => W (ix2 j l))

variable (hX : ∀ y, IsFin (X y)) (hG : ∀ y, IsFin (G y)) (hQ : ∀ y, IsFin (Q y)) (hK : ∀ y, IsFin (K y))
  (hC : ∀ y, IsFin (C y)) (hP : ∀ y, IsFin (P y)) (hW : ∀ y, IsFin (W y))

include hQ hK hC hP hW in
theorem dxn_fin (i j) : IsFin (dxn Q K C P W i j) :=
  (((IsFin.sum _ _ fun _ => (hQ _).mul (hW _)).add (IsFin.sum _ _ fun _ => (hK _).mul (hW _))).add
    (IsFin.sum _ _ fun _ => (hC _).mul (hW _))).add (IsFin.sum _ _ fun _ => (hP _).mul (hW _))

include hX hG hQ hK hC hP hW in
theorem ref_dx (i : Fin 8192) (j : Fin 1024) : val_main_v39 (F := Ideal) D X G Q K C P W (ix2 i j)
    = D (ix2 i j) + closed (fun k => X (ix2 i k)) (fun k => dxn Q K C P W i k * G (ix2 0 k)) j := by
  rw [closed_eq _ _ (fun k => hX _) (fun k => (dxn_fin Q K C P W hQ hK hC hP hW i k).mul (hG _))]
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v12, val_main_v11,
    val_main_v10, val_main_v9, val_main_v8, val_main_v7, val_main_v6, val_main_v5, val_main_v4, val_main_v3, val_main_v2,
    val_main_cst, val_main_cst_0, val_main_cst_1, val_main_cst_2, val_main_cst_4, val_main_cst_5, val_main_cst_6, ref_dxn, chain, mean, scale]
  simp only [Finset.univ_unique, Finset.sum_singleton, ← add_assoc]

theorem ref_dgamma (a : Fin 1) (j : Fin 1024) : val_main_v22 (F := Ideal) X Q K C P W (ix2 a j)
    = ∑ i, dxn Q K C P W i j * (X (ix2 i j) * scale (fun k => X (ix2 i k))) := by
  pointwise [val_main_v22, val_main_v21, val_main_v20, val_main_v14, val_main_v13, val_main_v9, val_main_v8, val_main_v7, val_main_v6,
    val_main_v5, val_main_v4, val_main_v3, val_main_v2, val_main_cst, val_main_cst_0,
    val_main_cst_1, val_main_cst_3, ref_dxn, scale]
  exact Finset.sum_congr rfl fun i _ => mul_comm _ _

theorem ref_dz (i : Fin 8192) (l : Fin 3840) : val_main_v40 (F := Ideal) Q K C P (ix2 i l)
    = four (fun l => Q (ix2 i l)) (fun l => K (ix2 i l)) (fun l => C (ix2 i l)) (fun l => P (ix2 i l)) l := by
  pointwise [val_main_v40, val_main_v1, val_main_v0, four]

end

/-! ## A grid point -/

section
variable (d x : FVec Ideal S512x1024 .f32) (g : FVec Ideal S1x1024 .f32) (q : FVec Ideal S512x512 .f32) (k : FVec Ideal S512x256 .f32)
  (cv : FVec Ideal S512x1024 .f32) (p : FVec Ideal S512x2048 .bf16) (w1 : FVec Ideal S1024x1792 .bf16) (w2 : FVec Ideal S1024x2048 .bf16)

theorem pay_sum (r j) : k0_pay1 (k0_pay10 (F := Ideal) w1 q k cv) (k0_pay11 (F := Ideal) p w2) (ix2 r j)
    = ∑ l : Fin 512, q (ix2 r l) * w1 (ix2 j ⟨l.val, by omega⟩) + ∑ l : Fin 256, k (ix2 r l) * w1 (ix2 j ⟨512 + l.val, by omega⟩)
    + ∑ l : Fin 1024, cv (ix2 r l) * w1 (ix2 j ⟨768 + l.val, by omega⟩) + ∑ l : Fin 2048, p (ix2 r l) * w2 (ix2 j l) := by
  pointwise [k0_pay1, k0_pay10, k0_pay11, k0_pay7, k0_pay8, k0_pay9]

theorem pay_dx (a b : FVec Ideal S512x1024 .f32) (r j) : k0_pay4 (F := Ideal) a b x g d (ix2 r j)
    = d (ix2 r j) + closed (fun k => x (ix2 r k)) (fun k => k0_pay1 a b (ix2 r k) * g (ix2 0 k)) j := by
  pointwise [k0_pay4, k0_pay3, k0_pay2, closed, scale]

theorem pay_gam (a b : FVec Ideal S512x1024 .f32) (e : FVec Ideal S1x1024 .f32) (j) : k0_pay5 (F := Ideal) a b x e (ix2 0 j)
    = e (ix2 0 j) + ∑ r, k0_pay1 a b (ix2 r j) * (x (ix2 r j) * scale (fun k => x (ix2 r k))) := by
  pointwise [k0_pay5, k0_pay3, k0_pay2, scale]

end

section
variable (q : FVec Ideal S512x512 .f32) (k : FVec Ideal S512x256 .f32) (cv : FVec Ideal S512x1024 .f32) (p : FVec Ideal S512x2048 .bf16)

theorem emb_cols (w o : Nat) (inb) (x : (Rect.unit (s := S512x3840) ![0, o] ![512, w] inb).shape.Idx) (h : o + (x 1).val < 3840) :
    (Rect.unit (s := S512x3840) ![0, o] ![512, w] inb).emb x = ix2 (x 0) ⟨o + (x 1).val, h⟩ :=
  ext2 (by show 0 + 1 * (x 0).val = (x 0).val; omega) (by show o + 1 * (x 1).val = o + (x 1).val; omega)

/-- The stores of the joined cotangent. -/
abbrev dzL : List (View.Piece (Elt Ideal) S512x3840 .bf16) :=
  [⟨Rect.unit ![0, 1792] ![512, 2048] inb_S512x3840_S512x2048_0_1792, p⟩,
    ⟨Rect.unit ![0, 768] ![512, 1024] inb_S512x3840_S512x1024_0_768, k0_pay9 (F := Ideal) cv⟩,
    ⟨Rect.unit ![0, 512] ![512, 256] inb_S512x3840_S512x256_0_512, k0_pay8 (F := Ideal) k⟩,
    ⟨Rect.unit ![0, 0] ![512, 512] inb_S512x3840_S512x512_0_0, k0_pay7 (F := Ideal) q⟩]

theorem dz_cover (y : S512x3840.Idx) : ∃ r ∈ dzL q k cv p, y ∈ r.1.set :=
  View.cover_of_tiledBy (dzL q k cv p) ![512, 256] (by sl_kernel_rfl) y

/-- What the stores hold together. -/
abbrev dzG (y : S512x3840.Idx) : EReal :=
  four (fun l => q (ix2 (y 0) l)) (fun l => k (ix2 (y 0) l)) (fun l => cv (ix2 (y 0) l)) (fun l => p (ix2 (y 0) l)) (y 1)

theorem dz_canon (y : S512x3840.Idx) : View.canon (dzL q k cv p) y
    = four (fun l => q (ix2 (y 0) l)) (fun l => k (ix2 (y 0) l)) (fun l => cv (ix2 (y 0) l)) (fun l => p (ix2 (y 0) l)) (y 1) := by
  refine View.canon_apply_of_pieces (dzG q k cv p) (dzL q k cv p) (View.PiecesOf.mem ?_) y (dz_cover q k cv p y)
  refine And.intro ?_ (And.intro ?_ (And.intro ?_ (And.intro ?_ trivial)))
  · intro x
    dsimp only
    rw [emb_cols 2048 1792 _ x (by have : (x 1).val < 2048 := (x 1).isLt; omega)]
    refine Eq.trans (b := p (ix2 (x 0) (x 1))) (congrArg p (ext2 rfl rfl)) ?_
    exact
      (four_3 (fun l => q (ix2 (x 0) l)) (fun l => k (ix2 (x 0) l)) (fun l => cv (ix2 (x 0) l)) (fun l => p (ix2 (x 0) l)) (x 1)).symm
  · intro x
    dsimp only
    rw [emb_cols 1024 768 _ x (by have : (x 1).val < 1024 := (x 1).isLt; omega)]
    refine Eq.trans (b := cv (ix2 (x 0) (x 1))) (congrArg cv (ext2 rfl rfl)) ?_
    exact
      (four_2 (fun l => q (ix2 (x 0) l)) (fun l => k (ix2 (x 0) l)) (fun l => cv (ix2 (x 0) l)) (fun l => p (ix2 (x 0) l)) (x 1)).symm
  · intro x
    dsimp only
    rw [emb_cols 256 512 _ x (by have : (x 1).val < 256 := (x 1).isLt; omega)]
    refine Eq.trans (b := k (ix2 (x 0) (x 1))) (congrArg k (ext2 rfl rfl)) ?_
    exact
      (four_1 (fun l => q (ix2 (x 0) l)) (fun l => k (ix2 (x 0) l)) (fun l => cv (ix2 (x 0) l)) (fun l => p (ix2 (x 0) l)) (x 1)).symm
  · intro x
    dsimp only
    rw [emb_cols 512 0 _ x (by have : (x 1).val < 512 := (x 1).isLt; omega)]
    refine Eq.trans (b := q (ix2 (x 0) (x 1))) (congrArg q (ext2 rfl rfl)) ?_
    refine ((four_0 (fun l => q (ix2 (x 0) l)) (fun l => k (ix2 (x 0) l)) (fun l => cv (ix2 (x 0) l)) (fun l => p (ix2 (x 0) l)) (x 1)).symm).trans ?_
    exact congrArg (four (fun l => q (ix2 (x 0) l)) (fun l => k (ix2 (x 0) l)) (fun l => cv (ix2 (x 0) l)) (fun l => p (ix2 (x 0) l)))
      (Fin.ext (by show (x 1).val = 0 + (x 1).val; omega))

end

section
variable (m : (ℓ : Loc nD τ sig) → Buf (Elt Ideal) ℓ)

/-- Row `r` of point `t`'s block is row `512 t + r` of the array. -/
def Rt (t : Fin cfg0.N) (r : Fin 512) : Fin 8192 :=
  ⟨t.val * 512 + r.val, by have := t.isLt; have hN : cfg0.N = 16 := N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)

/-! Device `c`'s argument arrays, and their blocks at a point. -/

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1x1024 .f32 := m ((c : Thread nD τ).loc main_arg2)
abbrev A3 (c : Dev nD) : FVec Ideal S8192x512 .f32 := m ((c : Thread nD τ).loc main_arg3)
abbrev A4 (c : Dev nD) : FVec Ideal S8192x256 .f32 := m ((c : Thread nD τ).loc main_arg4)
abbrev A5 (c : Dev nD) : FVec Ideal S8192x1024 .f32 := m ((c : Thread nD τ).loc main_arg5)
abbrev A6 (c : Dev nD) : FVec Ideal S8192x2048 .bf16 := m ((c : Thread nD τ).loc main_arg6)
abbrev A7 (c : Dev nD) : FVec Ideal S1024x3840 .bf16 := m ((c : Thread nD τ).loc main_arg7)

variable (c : Dev nD) (t : Fin cfg0.N)

theorem blk0 : iblk m c 0 t = rows (Rt t) (A0 m c) := by
  funext y
  blk_simp [iblk]
  exact congrArg (A0 m c) (ext2 (by blk_simp [e0, Rt]) (by blk_simp [e0]))
theorem blk1 : iblk m c 1 t = rows (Rt t) (A1 m c) := by
  funext y
  blk_simp [iblk]
  exact congrArg (A1 m c) (ext2 (by blk_simp [e1, Rt]) (by blk_simp [e1]))
theorem blk2 : iblk m c 2 t = A2 m c := by
  funext y
  blk_simp [iblk]
  exact congrArg (A2 m c) (ext2 (by blk_simp [e2]) (by blk_simp [e2]))
theorem blk3 : iblk m c 3 t = rows (Rt t) (A3 m c) := by
  funext y
  blk_simp [iblk]
  exact congrArg (A3 m c) (ext2 (by blk_simp [e3, Rt]) (by blk_simp [e3]))
theorem blk4 : iblk m c 4 t = rows (Rt t) (A4 m c) := by
  funext y
  blk_simp [iblk]
  exact congrArg (A4 m c) (ext2 (by blk_simp [e4, Rt]) (by blk_simp [e4]))
theorem blk5 : iblk m c 5 t = rows (Rt t) (A5 m c) := by
  funext y
  blk_simp [iblk]
  exact congrArg (A5 m c) (ext2 (by blk_simp [e5, Rt]) (by blk_simp [e5]))
theorem blk6 : iblk m c 6 t = rows (Rt t) (A6 m c) := by
  funext y
  blk_simp [iblk]
  exact congrArg (A6 m c) (ext2 (by blk_simp [e6, Rt]) (by blk_simp [e6]))
theorem blk7 : iblk m c 7 t = A7 m c := by
  funext y
  blk_simp [iblk]
  exact congrArg (A7 m c) (ext2 (by blk_simp [e7]) (by blk_simp [e7]))

/-! The two products a point forms, and what it leaves. -/

abbrev w1 : FVec Ideal S1024x1792 .bf16 := View.ld (Val := Elt Ideal) (e' := .bf16) (iblk m c 7 t) (Rect.unit ![0, 0] ![1024, 1792] inb_S1024x3840_S1024x1792_0_0)
abbrev w2 : FVec Ideal S1024x2048 .bf16 := View.ld (Val := Elt Ideal) (e' := .bf16) (iblk m c 7 t) (Rect.unit ![0, 1792] ![1024, 2048] inb_S1024x3840_S1024x2048_0_1792)
abbrev s1 : FVec Ideal S512x1024 .f32 := k0_pay10 (w1 m c t) (iblk m c 3 t) (iblk m c 4 t) (iblk m c 5 t)
abbrev s2 : FVec Ideal S512x1024 .f32 := k0_pay11 (iblk m c 6 t) (w2 m c t)

theorem dx_at : (outsAt0 m c t.val t.isLt).1 = k0_pay4 (s1 m c t) (s2 m c t) (iblk m c 1 t) (iblk m c 2 t) (iblk m c 0 t) := by
  by_cases h0 : t.val % 16 = 0
  · rw [outsAt0_A m c t h0]; dsimp only
    unfold out0_A_8; frame_out; rfl
  · rw [outsAt0_B m c t h0]; dsimp only
    unfold out0_B_8; frame_out; rfl

theorem dz_at : (outsAt0 m c t.val t.isLt).2.2 = View.canon (dzL (iblk m c 3 t) (iblk m c 4 t) (iblk m c 5 t) (iblk m c 6 t)) := by
  by_cases h0 : t.val % 16 = 0
  · rw [outsAt0_A m c t h0]; dsimp only
    unfold out0_A_10; frame_out
  · rw [outsAt0_B m c t h0]; dsimp only
    unfold out0_B_10; frame_out

theorem gam_A (h0 : t.val % 16 = 0) : (outsAt0 m c t.val t.isLt).2.1 = k0_pay5 (s1 m c t) (s2 m c t) (iblk m c 1 t) (k0_pay6 (F := Ideal)) := by
  rw [outsAt0_A m c t h0]; dsimp only
  unfold out0_A_9; frame_out; rfl

theorem gam_B (h0 : ¬t.val % 16 = 0) : (outsAt0 m c t.val t.isLt).2.1 = k0_pay5 (s1 m c t) (s2 m c t) (iblk m c 1 t)
    (outsAt0 m c (t.val - 1) (Nat.lt_of_le_of_lt (Nat.sub_le _ _) t.isLt)).2.1 := by
  rw [outsAt0_B m c t h0]; dsimp only
  unfold out0_B_9; frame_out; rfl

/-- The cotangent of the normed rows. -/
abbrev want (i : Fin 8192) (j : Fin 1024) : EReal := dxn (A3 m c) (A4 m c) (A5 m c) (A6 m c) (A7 m c) i j

theorem sum_at (r : Fin 512) (j : Fin 1024) : k0_pay1 (s1 m c t) (s2 m c t) (ix2 r j) = want m c (Rt t r) j := by
  refine (pay_sum _ _ _ _ _ _ r j).trans ?_
  have a1 : ∀ l : Fin 1792, w1 m c t (ix2 j l) = A7 m c (ix2 j ⟨l.val, by omega⟩) := fun l =>
    (congrFun (blk7 m c t) _).trans (congrArg (A7 m c) (ext2 (by show 0 + 1 * j.val = j.val; omega) (by show 0 + 1 * l.val = l.val; omega)))
  have a2 : ∀ l : Fin 2048, w2 m c t (ix2 j l) = A7 m c (ix2 j ⟨1792 + l.val, by omega⟩) := fun l =>
    (congrFun (blk7 m c t) _).trans (congrArg (A7 m c) (ext2 (by show 0 + 1 * j.val = j.val; omega) (by show 1792 + 1 * l.val = 1792 + l.val; omega)))
  unfold want dxn
  refine congrArg₂ (fun a b : EReal => a + b) (congrArg₂ (fun a b : EReal => a + b) (congrArg₂ (fun a b : EReal => a + b) ?_ ?_) ?_) ?_
  · exact Finset.sum_congr rfl fun l _ => congrArg₂ (fun a b : EReal => a * b) (congrFun (blk3 m c t) _) (a1 _)
  · exact Finset.sum_congr rfl fun l _ => congrArg₂ (fun a b : EReal => a * b) (congrFun (blk4 m c t) _) (a1 _)
  · exact Finset.sum_congr rfl fun l _ => congrArg₂ (fun a b : EReal => a * b) (congrFun (blk5 m c t) _) (a1 _)
  · exact Finset.sum_congr rfl fun l _ => congrArg₂ (fun a b : EReal => a * b) (congrFun (blk6 m c t) _) (a2 _)

/-- A point's part of the gain's gradient. -/
def added (j : Fin 1024) : EReal := ∑ r : Fin 512, want m c (Rt t r) j * (A1 m c (ix2 (Rt t r) j) * scale (fun k => A1 m c (ix2 (Rt t r) k)))

theorem gam_step (e : FVec Ideal S1x1024 .f32) (j) : k0_pay5 (s1 m c t) (s2 m c t) (iblk m c 1 t) e (ix2 0 j) = e (ix2 0 j) + added m c t j := by
  refine (pay_gam _ _ _ e j).trans (congrArg (e (ix2 0 j) + ·) (Finset.sum_congr rfl fun r _ => ?_))
  exact congrArg₂ (fun a b : EReal => a * b) (sum_at m c t r j)
    (congrArg (fun x : FVec Ideal S512x1024 .f32 => (x (ix2 r j) * scale (fun k => x (ix2 r k)) : EReal)) (blk1 m c t))

/-- Row `n`'s part of the gain's gradient. -/
def part_ (j : Fin 1024) (n : Nat) : EReal :=
  if h : n < 8192 then want m c ⟨n, h⟩ j * (A1 m c (ix2 ⟨n, h⟩ j) * scale (fun k => A1 m c (ix2 ⟨n, h⟩ k))) else 0

theorem added_eq (j) : added m c t j = ∑ x ∈ Finset.range 512, part_ m c j (t.val * 512 + x) := by
  rw [Finset.sum_range]
  exact Finset.sum_congr rfl fun r _ => Eq.symm (by unfold part_; exact dif_pos (Rt t r).isLt)

theorem gam_sum (j : Fin 1024) (n : Nat) (hn : n < cfg0.N) :
    (outsAt0 m c n hn).2.1 (ix2 0 j) = ∑ i ∈ Finset.range (n * 512 + 512), part_ m c j i := by
  induction n with
  | zero =>
    refine (congrFun (gam_A m c ⟨0, hn⟩ rfl) _).trans ((gam_step m c ⟨0, hn⟩ _ j).trans ?_)
    rw [added_eq]
    have e : k0_pay6 (F := Ideal) (ix2 0 j) = 0 := by pointwise [k0_pay6]
    refine (congrArg (· + _) e).trans ((zero_add _).trans (Finset.sum_congr rfl fun x _ => ?_))
    exact congrArg (part_ m c j) (by show 0 * 512 + x = x; omega)
  | succ n ih =>
    have hN : cfg0.N = 16 := N_0
    refine (congrFun (gam_B m c ⟨n + 1, hn⟩ (by show ¬(n + 1) % 16 = 0; omega)) _).trans ((gam_step m c ⟨n + 1, hn⟩ _ j).trans ?_)
    rw [added_eq, Finset.sum_range_add]
    exact congrArg₂ (fun a b : EReal => a + b) ((ih (Nat.lt_of_succ_lt hn)).trans (by rw [Nat.succ_mul])) rfl

/-! ## The arrays after the run -/

/-- Every entry of the arguments is finite. -/
structure Fine : Prop where
  dh : ∀ y, IsFin (A0 m c y)
  x : ∀ y, IsFin (A1 m c y)
  gamma : ∀ y, IsFin (A2 m c y)
  q : ∀ y, IsFin (A3 m c y)
  k : ∀ y, IsFin (A4 m c y)
  cv : ∀ y, IsFin (A5 m c y)
  p : ∀ y, IsFin (A6 m c y)
  w : ∀ y, IsFin (A7 m c y)

variable (fine : Fine m c)

/-! The reference's results. -/

abbrev R8 : FVec Ideal S8192x1024 .f32 :=
  val_main_v39 (F := Ideal) (A0 m c) (A1 m c) (A2 m c) (A3 m c) (A4 m c) (A5 m c) (A6 m c) (A7 m c)
abbrev R9 : FVec Ideal S1x1024 .f32 := val_main_v22 (F := Ideal) (A1 m c) (A3 m c) (A4 m c) (A5 m c) (A6 m c) (A7 m c)
abbrev R10 : FVec Ideal S8192x3840 .bf16 := val_main_v40 (F := Ideal) (A3 m c) (A4 m c) (A5 m c) (A6 m c)

include fine in
theorem dx_block (r : Fin 512) (j : Fin 1024) : (outsAt0 m c t.val t.isLt).1 (ix2 r j) = R8 m c (ix2 (Rt t r) j) := by
  refine (congrFun (dx_at m c t) _).trans ((pay_dx _ _ _ _ _ r j).trans (Eq.trans ?_
    (ref_dx _ _ _ _ _ _ _ _ fine.x fine.gamma fine.q fine.k fine.cv fine.p fine.w _ _).symm))
  exact congrArg₂ (fun a b : EReal => a + b) (congrFun (blk0 m c t) _) (congrArg₂ (fun x d => closed x d j)
    (funext fun k => congrFun (blk1 m c t) _)
    (funext fun k => congrArg₂ (fun a b : EReal => a * b) (sum_at m c t r k) (congrFun (blk2 m c t) _)))

theorem dz_block (r : Fin 512) (l : Fin 3840) : (outsAt0 m c t.val t.isLt).2.2 (ix2 r l) = R10 m c (ix2 (Rt t r) l) := by
  refine (congrFun (dz_at m c t) _).trans ((dz_canon _ _ _ _ (ix2 r l)).trans (Eq.trans ?_ (ref_dz ..).symm))
  rw [blk3, blk4, blk5, blk6]; rfl

theorem gam_block (h : t.val % 16 = 15) (j : Fin 1024) : (outsAt0 m c t.val t.isLt).2.1 (ix2 0 j) = R9 m c (ix2 0 j) := by
  have := t.isLt
  have hN : cfg0.N = 16 := N_0
  have e : t.val * 512 + 512 = 8192 := by omega
  rw [gam_sum m c, e, Finset.sum_range]
  refine Eq.trans ?_ (ref_dgamma ..).symm
  exact Finset.sum_congr rfl fun i _ => dif_pos i.isLt

include fine in
theorem final8 : (dats m 0 c).arrAt 8 cfg0.N = R8 m c := by
  refine (dats m 0 c).arrAt_eq_of_covers 8 _ (by decide +kernel) fun t hf y => ?_
  blk_simp
  rw [after0_8]
  refine (congrArg (outsAt0 m c t.val t.isLt).1 (ext2 rfl rfl : y = ix2 (y 0) (y 1))).trans ((dx_block m c t fine (y 0) (y 1)).trans ?_)
  exact congrArg (R8 m c) (ext2 (by blk_simp [e8, Rt]) (by blk_simp [e8]))

theorem final9 : (dats m 0 c).arrAt 9 cfg0.N = R9 m c := by
  refine (dats m 0 c).arrAt_eq_of_covers 9 _ (by decide +kernel) fun t hf y => ?_
  have h : t.val % 16 = 15 := (flush0_9 t).mp hf
  have h0 : (y 0).val < 1 := (y 0).isLt
  blk_simp
  rw [after0_9]
  refine (congrArg (outsAt0 m c t.val t.isLt).2.1 (ext2 (by show (y 0).val = 0; omega) rfl : y = ix2 0 (y 1))).trans ((gam_block m c t h (y 1)).trans ?_)
  exact congrArg (R9 m c) (ext2 (by blk_simp [e9]; rfl) (by blk_simp [e9]))

theorem final10 : (dats m 0 c).arrAt 10 cfg0.N = R10 m c := by
  refine (dats m 0 c).arrAt_eq_of_covers 10 _ (by decide +kernel) fun t hf y => ?_
  blk_simp
  rw [after0_10]
  refine (congrArg (outsAt0 m c t.val t.isLt).2.2 (ext2 rfl rfl : y = ix2 (y 0) (y 1))).trans ((dz_block m c t (y 0) (y 1)).trans ?_)
  exact congrArg (R10 m c) (ext2 (by blk_simp [e10, Rt]) (by blk_simp [e10]))

end

/-! ## The claims -/

theorem frameP : Cert.quiescent_MixinBwd (hMixinBwd := Cert.MixinBwd.Gen.facts) := fun m ρ _ => Cert.MixinBwd.Gen.frame m ρ
theorem framePI : Cert.quiescent_MixinBwdIdeal (hMixinBwdIdeal := Cert.MixinBwdIdeal.Gen.facts) := fun m ρ _ => Cert.MixinBwdIdeal.Gen.frame m ρ

theorem frameRI : Cert.quiescent_MixinBwdRefIdeal (hMixinBwdRefIdeal := Cert.MixinBwdRefIdeal.Gen.facts) := fun m ρ _ =>
  (θ_run Cert.MixinBwdRefIdeal.defs _ _).mono (fun r h => ⟨fun c => (h c).2.2.2,
      Idealize.ShloMosaic.sem_eq_zero_of_no_sems (by decide) r.2⟩)
    (Cert.MixinBwdRefIdeal.Value.run (F := Ideal) m ρ)

theorem fine_of_pre (m : (ℓ : Loc nD τ sig) → Buf (Elt Ideal) ℓ)
    (h : Cert.Pre_MixinBwdIdeal_mixin_bwd_finite (hPre_mixin_bwd_finite := Cert.Pre_mixin_bwd_finite.Gen.facts) m) (c : Dev nD) : Fine m c := by
  obtain ⟨h0, h1, h2, h3, h4, h5, h6, h7⟩ := h c
  unfold Cert.Pre_mixin_bwd_finite.fn at h0 h1 h2 h3 h4 h5 h6 h7
  exact ⟨fun y => fin_of_cmp inf32 (congrFun h0 y), fun y => fin_of_cmp inf32 (congrFun h1 y), fun y => fin_of_cmp inf32 (congrFun h2 y),
    fun y => fin_of_cmp inf32 (congrFun h3 y), fun y => fin_of_cmp inf32 (congrFun h4 y), fun y => fin_of_cmp inf32 (congrFun h5 y),
    fun y => fin_of_cmp inf16 (congrFun h6 y), fun y => fin_of_cmp inf16 (congrFun h7 y)⟩

/-- For finite arguments the kernel leaves the input's cotangent, the gain's gradient and the joined cotangent that the reference computes. -/
theorem algebraic : Cert.algebraic_MixinBwdIdeal_MixinBwdRefIdeal_pre_mixin_bwd_finite (hMixinBwdIdeal := Cert.MixinBwdIdeal.Gen.facts)
    (hMixinBwdRefIdeal := Cert.MixinBwdRefIdeal.Gen.facts) (hPre_mixin_bwd_finite := Cert.Pre_mixin_bwd_finite.Gen.facts) := by
  intro m ρ m' ρ' hp hag
  refine ⟨fun c => R8 m c, fun c => R9 m c, fun c => R10 m c, ?_, ?_⟩
  · refine (θ_run Cert.MixinBwdIdeal.defs _ _).mono (fun r h c => ?_) (Cert.MixinBwdIdeal.Value.run_blocks m ρ)
    obtain ⟨h8, h9, h10, hrest⟩ := h c
    exact ⟨h8.trans (final8 m c (fine_of_pre m hp c)), h9.trans (final9 m c), h10.trans (final10 m c), hrest⟩
  · refine (θ_run Cert.MixinBwdRefIdeal.defs _ _).mono (fun r h c => ?_) (Cert.MixinBwdRefIdeal.Value.run (F := Ideal) m' ρ')
    obtain ⟨h39, h22, h40, hrest⟩ := h c
    obtain ⟨a0, a1, a2, a3, a4, a5, a6, a7⟩ := hag c
    refine ⟨h39.trans ((val_main_v39_eq ..).trans ?_), h22.trans ((val_main_v22_eq ..).trans ?_),
      h40.trans ((val_main_v40_eq ..).trans ?_), hrest⟩
    · rw [a0, a1, a2, a3, a4, a5, a6, a7]
    · rw [a1, a3, a4, a5, a6, a7]
    · rw [a3, a4, a5, a6]

end Cert.MixinBwdIdeal.Block

end
-- ==== Proof.PeBwd.lean ====
module

public import proofs.«01_k».proof.Defs
public import proofs.«01_k».proof.Proof.Gen.PeBwd.Frame
public import proofs.«01_k».proof.Proof.Gen.PeBwdIdeal.Value
public import proofs.«01_k».proof.Proof.Gen.PeBwdRefIdeal.Read
public import proofs.«01_k».proof.Proof.Gen.PeBwdRefIdeal.Run
public import proofs.«01_k».proof.Proof.Gen.Pre_pe_bwd_finite
public import proofs.«01_k».proof.Proof.Index
public import proofs.«01_k».proof.Proof.RmsGrad
public import proofs.«01_k».proof.Proof.Rows
public import Idealize.ShloMosaic.Lib.Quiescent
public import Idealize.ShloMosaic.Lib.Pipeline.ValueKit
public import Idealize.ShloMosaic.Lib.Pipeline.ReadBack

@[expose] public section

set_option maxRecDepth 16384

/-! # The gradient of the per-layer embedding's gated addition

A grid point takes 512 rows, in two halves: it forms the gate and the projection anew, leaves the cotangents of the two products, pulls
the gate's cotangent back through the weight and the norm, and adds the rows' part of the gain's gradient. -/

noncomputable section

namespace Cert.PeBwdIdeal.Block

open Cert.PeBwdIdeal Cert.PeBwdIdeal.Gen Cert.Index Cert.Rows Cert.RmsGrad Idealize.ShloMosaic Idealize.ShloMosaic.TcCoe Idealize.SL.Sem
open Cert.PeBwdRefIdeal.Read

/-! ## One row -/

section
variable (Wp : FVec Ideal S256x1024 .bf16) (Wg : FVec Ideal S1024x1024 .bf16)

/-- The gate at a normed row. -/
def gate (x : Fin 1024 → EReal) (l : Fin 1024) : EReal := sigm (∑ k, x k * Wg (ix2 k l))

/-- The cotangent of the gate's product, at the normed row `x`, the embedding's row `p` and the cotangent `d`. -/
def slope (x : Fin 1024 → EReal) (p : Fin 256 → EReal) (d : Fin 1024 → EReal) (l : Fin 1024) : EReal :=
  d l * (∑ k, p k * Wp (ix2 k l)) * gate Wg x l * (1 - gate Wg x l)

/-- The cotangent of the normed row. -/
def back (s : Fin 1024 → EReal) (j : Fin 1024) : EReal := ∑ l, s l * Wg (ix2 j l)

theorem gate_fin (hW : ∀ y, IsFin (Wg y)) (x : Fin 1024 → EReal) (hx : ∀ k, IsFin (x k)) (l) : IsFin (gate Wg x l) :=
  sigm_fin (IsFin.sum _ _ fun k => (hx k).mul (hW _))

theorem back_fin (hW : ∀ y, IsFin (Wg y)) (s : Fin 1024 → EReal) (hs : ∀ l, IsFin (s l)) (j) : IsFin (back Wg s j) :=
  IsFin.sum _ _ fun l => (hs l).mul (hW _)

theorem slope_fin (hP : ∀ y, IsFin (Wp y)) (hW : ∀ y, IsFin (Wg y)) (x p d) (hx : ∀ k, IsFin (x k)) (hp : ∀ k, IsFin (p k))
    (hd : ∀ l, IsFin (d l)) (l) : IsFin (slope Wp Wg x p d l) :=
  (((hd l).mul (IsFin.sum _ _ fun k => (hp k).mul (hP _))).mul (gate_fin Wg hW x hx l)).mul
    (by rw [sub_eq_add_neg]; exact IsFin.one.add (gate_fin Wg hW x hx l).neg)

end

/-! ## The reference -/

section
variable (D X : FVec Ideal S8192x1024 .f32) (G : FVec Ideal S1x1024 .f32) (P : FVec Ideal S4x1x8192x256 .f32)
  (Wp : FVec Ideal S256x1024 .bf16) (Wg : FVec Ideal S1024x1024 .bf16)

theorem ref_norm : val_main_v14 (F := Ideal) X G = normed X G := by
  funext j
  pointwise [val_main_v0, val_main_cst, val_main_v1, val_main_v2, val_main_cst_0, val_main_v3, val_main_v4, val_main_cst_1,
    val_main_v5, val_main_v6, val_main_v7, val_main_v11, val_main_v12, val_main_v13, val_main_v14, normed, scale]

abbrev hn (i : Fin 8192) : Fin 1024 → EReal := fun k => normed X G (ix2 i k)
abbrev dpre (i : Fin 8192) : Fin 1024 → EReal := slope Wp Wg (hn X G i) (fun k => P (ix4 1 0 i k)) (fun l => D (ix2 i l))

theorem ref_gate (i : Fin 8192) (l : Fin 1024) : val_main_v26 (F := Ideal) X G Wg (ix2 i l) = gate Wg (hn X G i) l := by
  pointwise [val_main_v26, val_main_v25, val_main_cst_4, val_main_v24, val_main_v23, val_main_cst_3, val_main_v22, val_main_v21,
    val_main_v16, val_main_v15, ref_norm, gate, sigm]

theorem ref_dproj (i : Fin 8192) (l : Fin 1024) : val_main_v58 (F := Ideal) D X G Wg (ix2 i l) = D (ix2 i l) * gate Wg (hn X G i) l := by
  pointwise [val_main_v58, val_main_v34, val_main_v32, ref_gate]

theorem ref_slope (i : Fin 8192) (l : Fin 1024) : val_main_v35 (F := Ideal) D X G P Wp Wg (ix2 i l) = dpre D X G P Wp Wg i l := by
  pointwise [val_main_v35, val_main_v33, val_main_v29, val_main_v28, val_main_v27, val_main_cst_5, val_main_v32, val_main_v20, val_main_v19,
    val_main_v18, val_main_v17, ref_gate, slope]
  rw [mul_comm (∑ k, P (ix4 1 0 i k) * Wp (ix2 k l))]
  exact (mul_assoc _ _ _).symm

theorem ref_dpre (i : Fin 8192) (l : Fin 1024) : val_main_v57 (F := Ideal) D X G P Wp Wg (ix2 i l) = dpre D X G P Wp Wg i l := by
  refine Eq.trans ?_ (ref_slope ..)
  pointwise [val_main_v57]

theorem ref_back (i : Fin 8192) (j : Fin 1024) : val_main_v36 (F := Ideal) D X G P Wp Wg (ix2 i j) = back Wg (dpre D X G P Wp Wg i) j := by
  pointwise [val_main_v36, val_main_v15, ref_slope, back]

theorem ref_dgamma (j : Fin 1024) : val_main_v39 (F := Ideal) D X G P Wp Wg (ix2 0 j)
    = ∑ i, back Wg (dpre D X G P Wp Wg i) j * (X (ix2 i j) * scale (fun k => X (ix2 i k))) := by
  pointwise [val_main_v39, val_main_v38, val_main_cst_6, val_main_v37, val_main_v0, val_main_cst, val_main_v1, val_main_v2, val_main_cst_0,
    val_main_v3, val_main_v4, val_main_cst_1, val_main_v5, val_main_v6, val_main_v7, val_main_v11, val_main_v12, ref_back, scale]
  exact Finset.sum_congr rfl fun i _ => mul_comm _ _

theorem ref_dx (hD : ∀ y, IsFin (D y)) (hX : ∀ y, IsFin (X y)) (hG : ∀ y, IsFin (G y)) (hP : ∀ y, IsFin (P y)) (hWp : ∀ y, IsFin (Wp y))
    (hWg : ∀ y, IsFin (Wg y)) (i : Fin 8192) (j : Fin 1024) : val_main_v56 (F := Ideal) D X G P Wp Wg (ix2 i j)
    = D (ix2 i j) + closed (fun k => X (ix2 i k)) (fun k => back Wg (dpre D X G P Wp Wg i) k * G (ix2 0 k)) j := by
  rw [closed_eq (fun k => X (ix2 i k)) (fun k => back Wg (dpre D X G P Wp Wg i) k * G (ix2 0 k)) (fun k => hX _) (fun k => (back_fin Wg hWg _ (slope_fin Wp Wg hWp hWg _ _ _
    (fun k => ((hX _).mul (scale_fin _ fun _ => hX _)).mul (hG _)) (fun k => hP _) fun l => hD _) k).mul (hG _))]
  pointwise [val_main_v56, val_main_v55, val_main_v54, val_main_v53, val_main_v52, val_main_v51, val_main_v50, val_main_cst_9, val_main_v49,
    val_main_v48, val_main_cst_8, val_main_v47, val_main_v46, val_main_v45, val_main_v44, val_main_v43, val_main_cst_7, val_main_v42,
    val_main_v41, val_main_v40, val_main_v0, val_main_cst, val_main_v1, val_main_v2, val_main_cst_0, val_main_v3, val_main_v4,
    val_main_cst_1, val_main_v5, val_main_v6, val_main_v7, val_main_v8, val_main_v9, val_main_cst_2, val_main_v10, ref_back, chain, mean, scale]
  simp only [Finset.univ_unique, Finset.sum_singleton, ← add_assoc]

end

/-! ## Half a grid point -/

section
variable (d h : FVec Ideal S256x1024 .f32) (x : FVec Ideal S256x1024 .bf16) (g : FVec Ideal S1x1024 .f32) (p : FVec Ideal S1x1x256x256 .f32)
  (wp : FVec Ideal S256x1024 .bf16) (wg : FVec Ideal S1024x1024 .bf16) (s : FVec Ideal S256x1024 .bf16) (e : FVec Ideal S1x1024 .f32)

/-- The cotangent of the gate's product over a half's rows. -/
abbrev slopes : FVec Ideal S256x1024 .bf16 := fun y =>
  slope wp wg (fun k => x (ix2 (y 0) k)) (fun k => p (ix4 0 0 (y 0) k)) (fun l => d (ix2 (y 0) l)) (y 1)

/-- The cotangent of the product with the embedding over a half's rows. -/
abbrev dprojs : FVec Ideal S256x1024 .bf16 := fun y => d y * gate wg (fun k => x (ix2 (y 0) k)) (y 1)

/-- The input's cotangent over a half's rows. -/
abbrev dxs : FVec Ideal S256x1024 .f32 := fun y =>
  d y + closed (fun k => h (ix2 (y 0) k)) (fun k => back wg (fun l => s (ix2 (y 0) l)) k * g (ix2 0 k)) (y 1)

/-- A half's part of the gain's gradient. -/
def gams (j : Fin 1024) : EReal := ∑ r : Fin 256, back wg (fun l => s (ix2 r l)) j * (h (ix2 r j) * scale (fun k => h (ix2 r k)))

theorem pay_gate1 (y : S256x1024.Idx) : (k0_pay6 (F := Ideal) x wg y : EReal) = gate wg (fun k => x (ix2 (y 0) k)) (y 1) := by
  pointwise [k0_pay6, gate, sigm]
  rw [zero_sub]
theorem pay_gate2 (y : S256x1024.Idx) : (k0_pay14 (F := Ideal) x wg y : EReal) = gate wg (fun k => x (ix2 (y 0) k)) (y 1) := by
  pointwise [k0_pay14, gate, sigm]
  rw [zero_sub]
theorem pay_dproj1 : k0_pay7 d x wg = dprojs d x wg := by
  funext y
  pointwise [k0_pay7, dprojs, pay_gate1]
theorem pay_dproj2 : k0_pay15 d x wg = dprojs d x wg := by
  funext y
  pointwise [k0_pay15, dprojs, pay_gate2]
theorem pay_slope1 : k0_pay8 d x wg p wp = slopes d x p wp wg := by
  funext y
  pointwise [k0_pay8, pay_gate1, slope]
theorem pay_slope2 : k0_pay16 d x wg p wp = slopes d x p wp wg := by
  funext y
  pointwise [k0_pay16, pay_gate2, slope]

theorem pay_dx1 : k0_pay12 d s wg h g = dxs d h g wg s := by
  funext y
  pointwise [k0_pay12, k0_pay11, k0_pay10, k0_pay9, dxs, closed, back, scale]
theorem pay_dx2 : k0_pay3 d (k0_pay17 d x wg p wp wg) h g (k0_pay18 h) = dxs d h g wg (slopes d x p wp wg) := by
  funext y
  pointwise [k0_pay3, k0_pay2, k0_pay1, k0_pay17, k0_pay18, pay_slope2, dxs, closed, back, scale]
theorem pay_gam1 (j) : k0_pay13 s wg h e (ix2 0 j) = e (ix2 0 j) + gams h wg s j := by
  pointwise [k0_pay13, k0_pay11, k0_pay10, k0_pay9, gams, back, scale]
theorem pay_gam2 (j) : k0_pay4 (k0_pay17 d x wg p wp wg) h (k0_pay18 h) e (ix2 0 j) = e (ix2 0 j) + gams h wg (slopes d x p wp wg) j := by
  pointwise [k0_pay4, k0_pay2, k0_pay1, k0_pay17, k0_pay18, pay_slope2, gams, back, scale]

end

/-! ## The two halves of a block -/

abbrev U0 : Rect S512x1024 := Rect.unit ![0, 0] ![256, 1024] inb_S512x1024_S256x1024_0_0
abbrev U1 : Rect S512x1024 := Rect.unit ![256, 0] ![256, 1024] inb_S512x1024_S256x1024_256_0
abbrev Q0 : Rect S1x1x512x256 := Rect.unit ![0, 0, 0, 0] ![1, 1, 256, 256] inb_S1x1x512x256_S1x1x256x256_0_0_0_0
abbrev Q1 : Rect S1x1x512x256 := Rect.unit ![0, 0, 256, 0] ![1, 1, 256, 256] inb_S1x1x512x256_S1x1x256x256_0_0_256_0

section
variable {e : EltTy} (p1 p0 : S256x1024.Idx → Elt Ideal e)

abbrev halfL : List (View.Piece (Elt Ideal) S512x1024 e) := [⟨U1, p1⟩, ⟨U0, p0⟩]

theorem half_cover (y : S512x1024.Idx) : ∃ r ∈ halfL p1 p0, y ∈ r.1.set :=
  View.cover_of_tiledL (halfL p1 p0) S256x1024.size (by sl_kernel_rfl) y

/-- The two stores leave an array that agrees with each. -/
theorem half_canon (G : S512x1024.Idx → Elt Ideal e) (h0 : ∀ x : S256x1024.Idx, p0 x = G (U0.emb x))
    (h1 : ∀ x : S256x1024.Idx, p1 x = G (U1.emb x)) (y) : View.canon (halfL p1 p0) y = G y :=
  View.canon_apply_of_pieces G (halfL p1 p0) (View.PiecesOf.mem (And.intro h1 (And.intro h0 trivial))) y (half_cover p1 p0 y)

end

section
variable (m : (ℓ : Loc nD τ sig) → Buf (Elt Ideal) ℓ)

/-- Row `r` of half `o` of point `t`'s block is row `512 t + 256 o + r` of the array. -/
def Rt (t : Fin cfg0.N) (o : Fin 2) (r : Fin 256) : Fin 8192 :=
  ⟨t.val * 512 + o.val * 256 + r.val, by have := t.isLt; have hN : cfg0.N = 16 := N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![1, 0, t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![0, 0] := (by decide +kernel : ∀ t : Fin grid0.N, _)

/-! Device `c`'s argument arrays, and their blocks at a point. -/

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1x1024 .f32 := m ((c : Thread nD τ).loc main_arg2)
abbrev A3 (c : Dev nD) : FVec Ideal S4x1x8192x256 .f32 := m ((c : Thread nD τ).loc main_arg3)
abbrev A4 (c : Dev nD) : FVec Ideal S256x1024 .bf16 := m ((c : Thread nD τ).loc main_arg4)
abbrev A5 (c : Dev nD) : FVec Ideal S1024x1024 .bf16 := m ((c : Thread nD τ).loc main_arg5)

variable (c : Dev nD) (t : Fin cfg0.N)

/-- The normed rows, formed before the kernel. -/
theorem saved : V m c main_v12 = normed (A1 m c) (A2 m c) := by
  unfold V hostOps0
  after_results
  funext y
  pointwise [normed, scale]

/-- Row `r` of point `t`'s block. -/
def Rr (r : Fin 512) : Fin 8192 := ⟨t.val * 512 + r.val, by have := t.isLt; have hN : cfg0.N = 16 := N_0; omega⟩

theorem blk0 : iblk m c 0 t = rows (Rr t) (A0 m c) := by
  funext y
  blk_simp [iblk]
  exact congrArg (A0 m c) (ext2 (by blk_simp [e0, Rr]) (by blk_simp [e0]))
theorem blk1 : iblk m c 1 t = rows (Rr t) (A1 m c) := by
  funext y
  blk_simp [iblk]
  exact congrArg (A1 m c) (ext2 (by blk_simp [e1, Rr]) (by blk_simp [e1]))
theorem blk2 : iblk m c 2 t = A2 m c := by
  funext y
  blk_simp [iblk]
  exact congrArg (A2 m c) (ext2 (by blk_simp [e2]) (by blk_simp [e2]))
theorem blk3 : iblk m c 3 t = rows (Rr t) (normed (A1 m c) (A2 m c)) := by
  rw [← saved]
  funext y
  blk_simp [iblk]
  exact congrArg (V m c main_v12) (ext2 (by blk_simp [e3, Rr]) (by blk_simp [e3]))
theorem blk4 : iblk m c 4 t = fun y : S1x1x512x256.Idx => A3 m c (ix4 1 0 (Rr t (y 2)) (y 3)) := by
  funext y
  have h0 : (y 0).val < 1 := (y 0).isLt
  have h1 : (y 1).val < 1 := (y 1).isLt
  blk_simp [iblk]
  exact congrArg (A3 m c) (ext4 (by blk_simp [e4]; rfl) (by blk_simp [e4]; rfl) (by blk_simp [e4, Rr]) (by blk_simp [e4]))
theorem blk5 : iblk m c 5 t = A4 m c := by
  funext y
  blk_simp [iblk]
  exact congrArg (A4 m c) (ext2 (by blk_simp [e5]) (by blk_simp [e5]))
theorem blk6 : iblk m c 6 t = A5 m c := by
  funext y
  blk_simp [iblk]
  exact congrArg (A5 m c) (ext2 (by blk_simp [e6]) (by blk_simp [e6]))

theorem rows_0 (X : FVec Ideal S8192x1024 .f32) : View.ld (Val := Elt Ideal) (e' := .f32) (rows (Rr t) X) U0 = rows (Rt t 0) X :=
  funext fun y => congrArg X (ext2 (by show t.val * 512 + (0 + 1 * (y 0).val) = t.val * 512 + 0 * 256 + (y 0).val; omega)
    (by show 0 + 1 * (y 1).val = (y 1).val; omega))
theorem rows_1 (X : FVec Ideal S8192x1024 .f32) : View.ld (Val := Elt Ideal) (e' := .f32) (rows (Rr t) X) U1 = rows (Rt t 1) X :=
  funext fun y => congrArg X (ext2 (by show t.val * 512 + (256 + 1 * (y 0).val) = t.val * 512 + 1 * 256 + (y 0).val; omega)
    (by show 0 + 1 * (y 1).val = (y 1).val; omega))

/-! Half `o`'s rows of the arguments, the cotangent of its gate's product, and what a point leaves. -/

abbrev D_ (o : Fin 2) : FVec Ideal S256x1024 .f32 := rows (Rt t o) (A0 m c)
abbrev H_ (o : Fin 2) : FVec Ideal S256x1024 .f32 := rows (Rt t o) (A1 m c)
abbrev N_ (o : Fin 2) : FVec Ideal S256x1024 .bf16 := rows (Rt t o) (normed (A1 m c) (A2 m c))
abbrev P_ (o : Fin 2) : FVec Ideal S1x1x256x256 .f32 := fun y => A3 m c (ix4 1 0 (Rt t o (y 2)) (y 3))
abbrev S_ (o : Fin 2) : FVec Ideal S256x1024 .bf16 := slopes (D_ m c t o) (N_ m c t o) (P_ m c t o) (A4 m c) (A5 m c)

theorem ldD0 : View.ld (Val := Elt Ideal) (e' := .f32) (iblk m c 0 t) U0 = D_ m c t 0 := by rw [blk0]; exact rows_0 t _
theorem ldD1 : View.ld (Val := Elt Ideal) (e' := .f32) (iblk m c 0 t) U1 = D_ m c t 1 := by rw [blk0]; exact rows_1 t _
theorem ldH0 : View.ld (Val := Elt Ideal) (e' := .f32) (iblk m c 1 t) U0 = H_ m c t 0 := by rw [blk1]; exact rows_0 t _
theorem ldH1 : View.ld (Val := Elt Ideal) (e' := .f32) (iblk m c 1 t) U1 = H_ m c t 1 := by rw [blk1]; exact rows_1 t _
theorem ldN0 : View.ld (Val := Elt Ideal) (e' := .bf16) (iblk m c 3 t) U0 = N_ m c t 0 := by rw [blk3]; exact rows_0 t _
theorem ldN1 : View.ld (Val := Elt Ideal) (e' := .bf16) (iblk m c 3 t) U1 = N_ m c t 1 := by rw [blk3]; exact rows_1 t _
theorem ldP0 : View.ld (Val := Elt Ideal) (e' := .f32) (iblk m c 4 t) Q0 = P_ m c t 0 := by
  rw [blk4]
  exact funext fun y => congrArg (A3 m c) (ext4 rfl rfl
    (by show t.val * 512 + (0 + 1 * (y 2).val) = t.val * 512 + 0 * 256 + (y 2).val; omega) (by show 0 + 1 * (y 3).val = (y 3).val; omega))
theorem ldP1 : View.ld (Val := Elt Ideal) (e' := .f32) (iblk m c 4 t) Q1 = P_ m c t 1 := by
  rw [blk4]
  exact funext fun y => congrArg (A3 m c) (ext4 rfl rfl
    (by show t.val * 512 + (256 + 1 * (y 2).val) = t.val * 512 + 1 * 256 + (y 2).val; omega) (by show 0 + 1 * (y 3).val = (y 3).val; omega))

theorem dx_pieces {d0 d1 h0 h1 : FVec Ideal S256x1024 .f32} {x0 x1 : FVec Ideal S256x1024 .bf16} {p0 p1 : FVec Ideal S1x1x256x256 .f32}
    {g : FVec Ideal S1x1024 .f32} {wp : FVec Ideal S256x1024 .bf16} {wg : FVec Ideal S1024x1024 .bf16} (ed0 : d0 = D_ m c t 0)
    (ed1 : d1 = D_ m c t 1) (eh0 : h0 = H_ m c t 0) (eh1 : h1 = H_ m c t 1) (ex0 : x0 = N_ m c t 0) (ex1 : x1 = N_ m c t 1)
    (ep0 : p0 = P_ m c t 0) (ep1 : p1 = P_ m c t 1) (eg : g = A2 m c) (ewp : wp = A4 m c) (ewg : wg = A5 m c) :
    View.canon (halfL (e := .f32) (k0_pay3 (F := Ideal) d1 (k0_pay17 d1 x1 wg p1 wp wg) h1 g (k0_pay18 h1))
      (k0_pay12 (F := Ideal) d0 (k0_pay8 d0 x0 wg p0 wp) wg h0 g)) = View.canon (halfL (e := .f32)
    (dxs (D_ m c t 1) (H_ m c t 1) (A2 m c) (A5 m c) (S_ m c t 1)) (dxs (D_ m c t 0) (H_ m c t 0) (A2 m c) (A5 m c) (S_ m c t 0))) := by
  subst ed0 ed1 eh0 eh1 ex0 ex1 ep0 ep1 eg ewp ewg
  rw [pay_slope1, pay_dx1, pay_dx2]

theorem dx_at : (outsAt0 m c t.val t.isLt).1 = View.canon (halfL (e := .f32)
    (dxs (D_ m c t 1) (H_ m c t 1) (A2 m c) (A5 m c) (S_ m c t 1)) (dxs (D_ m c t 0) (H_ m c t 0) (A2 m c) (A5 m c) (S_ m c t 0))) := by
  by_cases h0 : t.val % 16 = 0
  · rw [outsAt0_A m c t h0]; dsimp only
    unfold out0_A_7; frame_out
    exact dx_pieces m c t (ldD0 m c t) (ldD1 m c t) (ldH0 m c t) (ldH1 m c t) (ldN0 m c t) (ldN1 m c t) (ldP0 m c t) (ldP1 m c t) (blk2 m c t)
      (blk5 m c t) (blk6 m c t)
  · rw [outsAt0_B m c t h0]; dsimp only
    unfold out0_B_7; frame_out
    exact dx_pieces m c t (ldD0 m c t) (ldD1 m c t) (ldH0 m c t) (ldH1 m c t) (ldN0 m c t) (ldN1 m c t) (ldP0 m c t) (ldP1 m c t) (blk2 m c t)
      (blk5 m c t) (blk6 m c t)

theorem dpre_at : (outsAt0 m c t.val t.isLt).2.1 = View.canon (halfL (e := .bf16) (S_ m c t 1) (S_ m c t 0)) := by
  by_cases h0 : t.val % 16 = 0
  · rw [outsAt0_A m c t h0]; dsimp only
    unfold out0_A_8; frame_out
    rw [ldD0, ldD1, ldN0, ldN1, ldP0, ldP1, blk5, blk6, pay_slope1, pay_slope2]
  · rw [outsAt0_B m c t h0]; dsimp only
    unfold out0_B_8; frame_out
    rw [ldD0, ldD1, ldN0, ldN1, ldP0, ldP1, blk5, blk6, pay_slope1, pay_slope2]

theorem dproj_at : (outsAt0 m c t.val t.isLt).2.2.1
    = View.canon (halfL (e := .bf16) (dprojs (D_ m c t 1) (N_ m c t 1) (A5 m c)) (dprojs (D_ m c t 0) (N_ m c t 0) (A5 m c))) := by
  by_cases h0 : t.val % 16 = 0
  · rw [outsAt0_A m c t h0]; dsimp only
    unfold out0_A_9; frame_out
    rw [ldD0, ldD1, ldN0, ldN1, blk6, pay_dproj1, pay_dproj2]
  · rw [outsAt0_B m c t h0]; dsimp only
    unfold out0_B_9; frame_out
    rw [ldD0, ldD1, ldN0, ldN1, blk6, pay_dproj1, pay_dproj2]

/-- A point's part of the gain's gradient. -/
def added (j : Fin 1024) : EReal := gams (H_ m c t 0) (A5 m c) (S_ m c t 0) j + gams (H_ m c t 1) (A5 m c) (S_ m c t 1) j

theorem gam_A (h0 : t.val % 16 = 0) (j) : (outsAt0 m c t.val t.isLt).2.2.2 (ix2 0 j) = added m c t j := by
  rw [outsAt0_A m c t h0]; dsimp only
  unfold out0_A_10; frame_out
  rw [ldD0, ldD1, ldH0, ldH1, ldN0, ldN1, ldP0, ldP1, blk5, blk6, pay_slope1]
  erw [ldH1]
  rw [pay_gam2, pay_gam1, added, add_assoc]
  have e : k0_pay5 (F := Ideal) (ix2 0 j) = 0 := by pointwise [k0_pay5]
  rw [e, zero_add]

theorem gam_B (h0 : ¬t.val % 16 = 0) (j) : (outsAt0 m c t.val t.isLt).2.2.2 (ix2 0 j)
    = (outsAt0 m c (t.val - 1) (Nat.lt_of_le_of_lt (Nat.sub_le _ _) t.isLt)).2.2.2 (ix2 0 j) + added m c t j := by
  rw [outsAt0_B m c t h0]; dsimp only
  unfold out0_B_10; frame_out
  rw [ldD0, ldD1, ldH0, ldH1, ldN0, ldN1, ldP0, ldP1, blk5, blk6, pay_slope1]
  erw [ldH1]
  rw [pay_gam2, pay_gam1, added, add_assoc]

/-- Row `n`'s part of the gain's gradient. -/
def part_ (j : Fin 1024) (n : Nat) : EReal :=
  if h : n < 8192 then back (A5 m c) (dpre (A0 m c) (A1 m c) (A2 m c) (A3 m c) (A4 m c) (A5 m c) ⟨n, h⟩) j
    * (A1 m c (ix2 ⟨n, h⟩ j) * scale (fun k => A1 m c (ix2 ⟨n, h⟩ k))) else 0

theorem half_eq (o : Fin 2) (j) : gams (H_ m c t o) (A5 m c) (S_ m c t o) j
    = ∑ x ∈ Finset.range 256, part_ m c j (t.val * 512 + o.val * 256 + x) := by
  rw [Finset.sum_range]
  exact Finset.sum_congr rfl fun r _ => Eq.symm (by unfold part_; exact dif_pos (Rt t o r).isLt)

theorem added_eq (j) : added m c t j = ∑ x ∈ Finset.range 512, part_ m c j (t.val * 512 + x) := by
  rw [added, half_eq, half_eq]
  refine Eq.trans ?_ (Finset.sum_range_add (fun x => part_ m c j (t.val * 512 + x)) 256 256).symm
  refine congrArg₂ (fun a b : EReal => a + b) (Finset.sum_congr rfl fun x _ => congrArg (part_ m c j) ?_)
    (Finset.sum_congr rfl fun x _ => congrArg (part_ m c j) ?_)
  · show t.val * 512 + 0 * 256 + x = t.val * 512 + x; omega
  · show t.val * 512 + 1 * 256 + x = t.val * 512 + (256 + x); omega

theorem gam_sum (j : Fin 1024) (n : Nat) (hn : n < cfg0.N) :
    (outsAt0 m c n hn).2.2.2 (ix2 0 j) = ∑ i ∈ Finset.range (n * 512 + 512), part_ m c j i := by
  induction n with
  | zero =>
    refine (gam_A m c ⟨0, hn⟩ rfl j).trans ((added_eq ..).trans (Finset.sum_congr rfl fun x _ => ?_))
    exact congrArg (part_ m c j) (by show 0 * 512 + x = x; omega)
  | succ n ih =>
    have hN : cfg0.N = 16 := N_0
    refine (gam_B m c ⟨n + 1, hn⟩ (by show ¬(n + 1) % 16 = 0; omega) j).trans ?_
    rw [added_eq, Finset.sum_range_add]
    exact congrArg₂ (fun a b : EReal => a + b) ((ih (Nat.lt_of_succ_lt hn)).trans (by rw [Nat.succ_mul])) rfl

/-! ## The arrays after the run -/

/-- Every entry of the arguments is finite. -/
structure Fine : Prop where
  dx : ∀ y, IsFin (A0 m c y)
  x : ∀ y, IsFin (A1 m c y)
  gamma : ∀ y, IsFin (A2 m c y)
  p : ∀ y, IsFin (A3 m c y)
  wp : ∀ y, IsFin (A4 m c y)
  wg : ∀ y, IsFin (A5 m c y)

variable (fine : Fine m c)

/-! The reference's results. -/

abbrev R7 : FVec Ideal S8192x1024 .f32 := val_main_v56 (F := Ideal) (A0 m c) (A1 m c) (A2 m c) (A3 m c) (A4 m c) (A5 m c)
abbrev R8 : FVec Ideal S8192x1024 .bf16 := val_main_v57 (F := Ideal) (A0 m c) (A1 m c) (A2 m c) (A3 m c) (A4 m c) (A5 m c)
abbrev R9 : FVec Ideal S8192x1024 .bf16 := val_main_v58 (F := Ideal) (A0 m c) (A1 m c) (A2 m c) (A5 m c)
abbrev R10 : FVec Ideal S1x1024 .f32 := val_main_v39 (F := Ideal) (A0 m c) (A1 m c) (A2 m c) (A3 m c) (A4 m c) (A5 m c)

theorem Rr_0 (x : S256x1024.Idx) : Rr t ((U0.emb x) 0) = Rt t 0 (x 0) :=
  Fin.ext (by show t.val * 512 + (0 + 1 * (x 0).val) = t.val * 512 + 0 * 256 + (x 0).val; omega)
theorem Rr_1 (x : S256x1024.Idx) : Rr t ((U1.emb x) 0) = Rt t 1 (x 0) :=
  Fin.ext (by show t.val * 512 + (256 + 1 * (x 0).val) = t.val * 512 + 1 * 256 + (x 0).val; omega)
theorem col_0 (x : S256x1024.Idx) : (U0.emb x) 1 = x 1 := Fin.ext (by show 0 + 1 * (x 1).val = (x 1).val; omega)
theorem col_1 (x : S256x1024.Idx) : (U1.emb x) 1 = x 1 := Fin.ext (by show 0 + 1 * (x 1).val = (x 1).val; omega)

/-- Two stores that agree with the halves of an array's rows leave those rows. -/
theorem rows_canon {e : EltTy} (p1 p0 : S256x1024.Idx → Elt Ideal e) (G : S8192x1024.Idx → Elt Ideal e)
    (h0 : ∀ x : S256x1024.Idx, p0 x = G (ix2 (Rt t 0 (x 0)) (x 1))) (h1 : ∀ x : S256x1024.Idx, p1 x = G (ix2 (Rt t 1 (x 0)) (x 1)))
    (y : S512x1024.Idx) : View.canon (halfL p1 p0) y = G (ix2 (Rr t (y 0)) (y 1)) :=
  half_canon p1 p0 (fun y => G (ix2 (Rr t (y 0)) (y 1)))
    (fun x => (h0 x).trans (congrArg G (ext2 (congrArg Fin.val (Rr_0 t x).symm) (congrArg Fin.val (col_0 x).symm))))
    (fun x => (h1 x).trans (congrArg G (ext2 (congrArg Fin.val (Rr_1 t x).symm) (congrArg Fin.val (col_1 x).symm)))) y

include fine in
theorem dx_block (y : S512x1024.Idx) : (outsAt0 m c t.val t.isLt).1 y = R7 m c (ix2 (Rr t (y 0)) (y 1)) := by
  refine (congrFun (dx_at m c t) _).trans (rows_canon t _ _ _ (fun x => ?_) (fun x => ?_) y)
  · exact (ref_dx _ _ _ _ _ _ fine.dx fine.x fine.gamma fine.p fine.wp fine.wg _ _).symm
  · exact (ref_dx _ _ _ _ _ _ fine.dx fine.x fine.gamma fine.p fine.wp fine.wg _ _).symm

theorem dpre_block (y : S512x1024.Idx) : (outsAt0 m c t.val t.isLt).2.1 y = R8 m c (ix2 (Rr t (y 0)) (y 1)) := by
  refine (congrFun (dpre_at m c t) _).trans (rows_canon t _ _ _ (fun x => ?_) (fun x => ?_) y)
  · exact (ref_dpre ..).symm
  · exact (ref_dpre ..).symm

theorem dproj_block (y : S512x1024.Idx) : (outsAt0 m c t.val t.isLt).2.2.1 y = R9 m c (ix2 (Rr t (y 0)) (y 1)) := by
  refine (congrFun (dproj_at m c t) _).trans (rows_canon t _ _ _ (fun x => ?_) (fun x => ?_) y)
  · exact (ref_dproj ..).symm
  · exact (ref_dproj ..).symm

theorem gam_block (h : t.val % 16 = 15) (j : Fin 1024) : (outsAt0 m c t.val t.isLt).2.2.2 (ix2 0 j) = R10 m c (ix2 0 j) := by
  have := t.isLt
  have hN : cfg0.N = 16 := N_0
  have e : t.val * 512 + 512 = 8192 := by omega
  rw [gam_sum m c, e, Finset.sum_range]
  refine Eq.trans ?_ (ref_dgamma ..).symm
  exact Finset.sum_congr rfl fun i _ => dif_pos i.isLt

include fine in
theorem final7 : (dats m 0 c).arrAt 7 cfg0.N = R7 m c := by
  refine (dats m 0 c).arrAt_eq_of_covers 7 _ (by decide +kernel) fun t hf y => ?_
  blk_simp
  rw [after0_7]
  exact (dx_block m c t fine y).trans (congrArg (R7 m c) (ext2 (by blk_simp [e7, Rr]) (by blk_simp [e7])))

theorem final8 : (dats m 0 c).arrAt 8 cfg0.N = R8 m c := by
  refine (dats m 0 c).arrAt_eq_of_covers 8 _ (by decide +kernel) fun t hf y => ?_
  blk_simp
  rw [after0_8]
  exact (dpre_block m c t y).trans (congrArg (R8 m c) (ext2 (by blk_simp [e8, Rr]) (by blk_simp [e8])))

theorem final9 : (dats m 0 c).arrAt 9 cfg0.N = R9 m c := by
  refine (dats m 0 c).arrAt_eq_of_covers 9 _ (by decide +kernel) fun t hf y => ?_
  blk_simp
  rw [after0_9]
  exact (dproj_block m c t y).trans (congrArg (R9 m c) (ext2 (by blk_simp [e9, Rr]) (by blk_simp [e9])))

theorem final10 : (dats m 0 c).arrAt 10 cfg0.N = R10 m c := by
  refine (dats m 0 c).arrAt_eq_of_covers 10 _ (by decide +kernel) fun t hf y => ?_
  have h : t.val % 16 = 15 := (flush0_10 t).mp hf
  have h0 : (y 0).val < 1 := (y 0).isLt
  blk_simp
  rw [after0_10]
  refine (congrArg (outsAt0 m c t.val t.isLt).2.2.2 (ext2 (by show (y 0).val = 0; omega) rfl : y = ix2 0 (y 1))).trans ((gam_block m c t h (y 1)).trans ?_)
  exact congrArg (R10 m c) (ext2 (by blk_simp [e10]; rfl) (by blk_simp [e10]))

end

/-! ## The claims -/

theorem frameP : Cert.quiescent_PeBwd (hPeBwd := Cert.PeBwd.Gen.facts) := fun m ρ _ => Cert.PeBwd.Gen.frame m ρ
theorem framePI : Cert.quiescent_PeBwdIdeal (hPeBwdIdeal := Cert.PeBwdIdeal.Gen.facts) := fun m ρ _ => Cert.PeBwdIdeal.Gen.frame m ρ

theorem frameRI : Cert.quiescent_PeBwdRefIdeal (hPeBwdRefIdeal := Cert.PeBwdRefIdeal.Gen.facts) := fun m ρ _ =>
  (θ_run Cert.PeBwdRefIdeal.defs _ _).mono (fun r h => ⟨fun c => (h c).2.2.2.2,
      Idealize.ShloMosaic.sem_eq_zero_of_no_sems (by decide) r.2⟩)
    (Cert.PeBwdRefIdeal.Value.run (F := Ideal) m ρ)

theorem fine_of_pre (m : (ℓ : Loc nD τ sig) → Buf (Elt Ideal) ℓ)
    (h : Cert.Pre_PeBwdIdeal_pe_bwd_finite (hPre_pe_bwd_finite := Cert.Pre_pe_bwd_finite.Gen.facts) m) (c : Dev nD) : Fine m c := by
  obtain ⟨h0, h1, h2, h3, h4, h5⟩ := h c
  unfold Cert.Pre_pe_bwd_finite.fn at h0 h1 h2 h3 h4 h5
  exact ⟨fun y => fin_of_cmp inf32 (congrFun h0 y), fun y => fin_of_cmp inf32 (congrFun h1 y), fun y => fin_of_cmp inf32 (congrFun h2 y),
    fun y => fin_of_cmp inf32 (congrFun h3 y), fun y => fin_of_cmp inf16 (congrFun h4 y), fun y => fin_of_cmp inf16 (congrFun h5 y)⟩

/-- For finite arguments the kernel leaves the cotangents and the gain's gradient that the reference computes. -/
theorem algebraic : Cert.algebraic_PeBwdIdeal_PeBwdRefIdeal_pre_pe_bwd_finite (hPeBwdIdeal := Cert.PeBwdIdeal.Gen.facts)
    (hPeBwdRefIdeal := Cert.PeBwdRefIdeal.Gen.facts) (hPre_pe_bwd_finite := Cert.Pre_pe_bwd_finite.Gen.facts) := by
  intro m ρ m' ρ' hp hag
  refine ⟨fun c => R7 m c, fun c => R8 m c, fun c => R9 m c, fun c => R10 m c, ?_, ?_⟩
  · refine (θ_run Cert.PeBwdIdeal.defs _ _).mono (fun r h c => ?_) (Cert.PeBwdIdeal.Value.run_blocks m ρ)
    obtain ⟨h7, h8, h9, h10, hrest⟩ := h c
    exact ⟨h7.trans (final7 m c (fine_of_pre m hp c)), h8.trans (final8 m c), h9.trans (final9 m c), h10.trans (final10 m c), hrest⟩
  · refine (θ_run Cert.PeBwdRefIdeal.defs _ _).mono (fun r h c => ?_) (Cert.PeBwdRefIdeal.Value.run (F := Ideal) m' ρ')
    obtain ⟨h56, h57, h58, h39, hrest⟩ := h c
    obtain ⟨a0, a1, a2, a3, a4, a5⟩ := hag c
    refine ⟨h56.trans ((val_main_v56_eq ..).trans ?_), h57.trans ((val_main_v57_eq ..).trans ?_),
      h58.trans ((val_main_v58_eq ..).trans ?_), h39.trans ((val_main_v39_eq ..).trans ?_), hrest⟩
    · rw [a0, a1, a2, a3, a4, a5]
    · rw [a0, a1, a2, a3, a4, a5]
    · rw [a0, a1, a2, a5]
    · rw [a0, a1, a2, a3, a4, a5]

end Cert.PeBwdIdeal.Block

end
-- ==== Proof.lean ====
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.DwFfnIn
public import proofs.«01_k».proof.Proof.DwFfnOut
public import proofs.«01_k».proof.Proof.DwIn
public import proofs.«01_k».proof.Proof.DwO
public import proofs.«01_k».proof.Proof.DwBranch
public import proofs.«01_k».proof.Proof.MergeValue
public import proofs.«01_k».proof.Proof.PeFwd
public import proofs.«01_k».proof.Proof.MergeFwd
public import proofs.«01_k».proof.Proof.MixinFwd
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.FfnFwd
public import proofs.«01_k».proof.Proof.DwPeGate
public import proofs.«01_k».proof.Proof.DwPeProj
public import proofs.«01_k».proof.Proof.ConvFwd
public import proofs.«01_k».proof.Proof.Loss
public import proofs.«01_k».proof.Proof.AdamW
public import proofs.«01_k».proof.Proof.BiasTable
public import proofs.«01_k».proof.Proof.BiasGrad
public import proofs.«01_k».proof.Proof.FfnBwd
public import proofs.«01_k».proof.Proof.MixinBwd
public import proofs.«01_k».proof.Proof.PeBwd
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.DwFfnIn
public import proofs.«01_k».proof.Proof.Gen.DwFfnIn.Skeleton
public import proofs.«01_k».proof.Proof.Gen.DwFfnIn.Launch
public import proofs.«01_k».proof.Proof.Gen.DwFfnIn.Points
public import proofs.«01_k».proof.Proof.Gen.DwFfnIn.Frame
public import proofs.«01_k».proof.Proof.Gen.DwFfnInIdeal
public import proofs.«01_k».proof.Proof.Gen.DwFfnInIdeal.Skeleton
public import proofs.«01_k».proof.Proof.Gen.DwFfnInIdeal.Launch
public import proofs.«01_k».proof.Proof.Gen.DwFfnInIdeal.Points
public import proofs.«01_k».proof.Proof.Gen.DwFfnInIdeal.Frame
public import proofs.«01_k».proof.Proof.Gen.DwFfnInIdeal.Value
public import proofs.«01_k».proof.Proof.Gen.DwFfnInRefIdeal
public import proofs.«01_k».proof.Proof.Gen.DwFfnInRefIdeal.Run
public import proofs.«01_k».proof.Proof.Gen.DwFfnInRefIdeal.Read
public import proofs.«01_k».proof.Proof.Gen.DwFfnOut
public import proofs.«01_k».proof.Proof.Gen.DwFfnOut.Skeleton
public import proofs.«01_k».proof.Proof.Gen.DwFfnOut.Launch
public import proofs.«01_k».proof.Proof.Gen.DwFfnOut.Points
public import proofs.«01_k».proof.Proof.Gen.DwFfnOut.Frame
public import proofs.«01_k».proof.Proof.Gen.DwFfnOutIdeal
public import proofs.«01_k».proof.Proof.Gen.DwFfnOutIdeal.Skeleton
public import proofs.«01_k».proof.Proof.Gen.DwFfnOutIdeal.Launch
public import proofs.«01_k».proof.Proof.Gen.DwFfnOutIdeal.Points
public import proofs.«01_k».proof.Proof.Gen.DwFfnOutIdeal.Frame
public import proofs.«01_k».proof.Proof.Gen.DwFfnOutIdeal.Value
public import proofs.«01_k».proof.Proof.Gen.DwFfnOutRefIdeal
public import proofs.«01_k».proof.Proof.Gen.DwFfnOutRefIdeal.Run
public import proofs.«01_k».proof.Proof.Gen.DwFfnOutRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.DwORefIdeal.Read
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchIdeal.Value
public import proofs.«01_k».proof.Proof.Gen.DwBranchRefIdeal
public import proofs.«01_k».proof.Proof.Gen.DwBranchRefIdeal.Run
public import proofs.«01_k».proof.Proof.Gen.DwBranchRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.MixinFwd
public import proofs.«01_k».proof.Proof.Gen.MixinFwd.Skeleton
public import proofs.«01_k».proof.Proof.Gen.MixinFwd.Launch
public import proofs.«01_k».proof.Proof.Gen.MixinFwd.Points
public import proofs.«01_k».proof.Proof.Gen.MixinFwd.Frame
public import proofs.«01_k».proof.Proof.Gen.MixinFwdIdeal
public import proofs.«01_k».proof.Proof.Gen.MixinFwdIdeal.Skeleton
public import proofs.«01_k».proof.Proof.Gen.MixinFwdIdeal.Launch
public import proofs.«01_k».proof.Proof.Gen.MixinFwdIdeal.Points
public import proofs.«01_k».proof.Proof.Gen.MixinFwdIdeal.Frame
public import proofs.«01_k».proof.Proof.Gen.MixinFwdIdeal.Value
public import proofs.«01_k».proof.Proof.Gen.MixinFwdRefIdeal
public import proofs.«01_k».proof.Proof.Gen.MixinFwdRefIdeal.Run
public import proofs.«01_k».proof.Proof.Gen.MixinFwdRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.PeFwd
public import proofs.«01_k».proof.Proof.Gen.PeFwd.Skeleton
public import proofs.«01_k».proof.Proof.Gen.PeFwd.Launch
public import proofs.«01_k».proof.Proof.Gen.PeFwd.Points
public import proofs.«01_k».proof.Proof.Gen.PeFwd.Frame
public import proofs.«01_k».proof.Proof.Gen.PeFwdIdeal
public import proofs.«01_k».proof.Proof.Gen.PeFwdIdeal.Skeleton
public import proofs.«01_k».proof.Proof.Gen.PeFwdIdeal.Launch
public import proofs.«01_k».proof.Proof.Gen.PeFwdIdeal.Points
public import proofs.«01_k».proof.Proof.Gen.PeFwdIdeal.Frame
public import proofs.«01_k».proof.Proof.Gen.PeFwdIdeal.Value
public import proofs.«01_k».proof.Proof.Gen.PeFwdRefIdeal
public import proofs.«01_k».proof.Proof.Gen.PeFwdRefIdeal.Run
public import proofs.«01_k».proof.Proof.Gen.PeFwdRefIdeal.Read
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.MixinBwd
public import proofs.«01_k».proof.Proof.Gen.MixinBwd.Skeleton
public import proofs.«01_k».proof.Proof.Gen.MixinBwd.Launch
public import proofs.«01_k».proof.Proof.Gen.MixinBwd.Points
public import proofs.«01_k».proof.Proof.Gen.MixinBwd.Frame
public import proofs.«01_k».proof.Proof.Gen.MixinBwdIdeal
public import proofs.«01_k».proof.Proof.Gen.MixinBwdIdeal.Skeleton
public import proofs.«01_k».proof.Proof.Gen.MixinBwdIdeal.Launch
public import proofs.«01_k».proof.Proof.Gen.MixinBwdIdeal.Points
public import proofs.«01_k».proof.Proof.Gen.MixinBwdIdeal.Frame
public import proofs.«01_k».proof.Proof.Gen.MixinBwdRefIdeal
public import proofs.«01_k».proof.Proof.Gen.MixinBwdRefIdeal.Run
public import proofs.«01_k».proof.Proof.Gen.MixinBwdRefIdeal.Read
public import proofs.«01_k».proof.Proof.Gen.PeBwd
public import proofs.«01_k».proof.Proof.Gen.PeBwd.Skeleton
public import proofs.«01_k».proof.Proof.Gen.PeBwd.Launch
public import proofs.«01_k».proof.Proof.Gen.PeBwd.Points
public import proofs.«01_k».proof.Proof.Gen.PeBwd.Frame
public import proofs.«01_k».proof.Proof.Gen.PeBwdIdeal
public import proofs.«01_k».proof.Proof.Gen.PeBwdIdeal.Skeleton
public import proofs.«01_k».proof.Proof.Gen.PeBwdIdeal.Launch
public import proofs.«01_k».proof.Proof.Gen.PeBwdIdeal.Points
public import proofs.«01_k».proof.Proof.Gen.PeBwdIdeal.Frame
public import proofs.«01_k».proof.Proof.Gen.PeBwdRefIdeal
public import proofs.«01_k».proof.Proof.Gen.PeBwdRefIdeal.Run
public import proofs.«01_k».proof.Proof.Gen.PeBwdRefIdeal.Read
public import proofs.«01_k».proof.Proof.Gen.Pre_ffn_bwd_finite
public import proofs.«01_k».proof.Proof.Gen.Pre_mixin_bwd_finite
public import proofs.«01_k».proof.Proof.Gen.Pre_pe_bwd_finite
public import proofs.«01_k».proof.Proof.Gen.MixinBwdIdeal.Value
public import proofs.«01_k».proof.Proof.Gen.PeBwdIdeal.Value
public import proofs.«01_k».proof.Proof.Gen.DwPeGate
public import proofs.«01_k».proof.Proof.Gen.DwPeGate.Skeleton
public import proofs.«01_k».proof.Proof.Gen.DwPeGate.Launch
public import proofs.«01_k».proof.Proof.Gen.DwPeGate.Points
public import proofs.«01_k».proof.Proof.Gen.DwPeGate.Frame
public import proofs.«01_k».proof.Proof.Gen.DwPeGateIdeal
public import proofs.«01_k».proof.Proof.Gen.DwPeGateIdeal.Skeleton
public import proofs.«01_k».proof.Proof.Gen.DwPeGateIdeal.Launch
public import proofs.«01_k».proof.Proof.Gen.DwPeGateIdeal.Points
public import proofs.«01_k».proof.Proof.Gen.DwPeGateIdeal.Frame
public import proofs.«01_k».proof.Proof.Gen.DwPeGateIdeal.Value
public import proofs.«01_k».proof.Proof.Gen.DwPeGateRefIdeal
public import proofs.«01_k».proof.Proof.Gen.DwPeGateRefIdeal.Run
public import proofs.«01_k».proof.Proof.Gen.DwPeGateRefIdeal.Read
public import proofs.«01_k».proof.Proof.Gen.DwPeProj
public import proofs.«01_k».proof.Proof.Gen.DwPeProj.Skeleton
public import proofs.«01_k».proof.Proof.Gen.DwPeProj.Launch
public import proofs.«01_k».proof.Proof.Gen.DwPeProj.Points
public import proofs.«01_k».proof.Proof.Gen.DwPeProj.Frame
public import proofs.«01_k».proof.Proof.Gen.DwPeProjIdeal
public import proofs.«01_k».proof.Proof.Gen.DwPeProjIdeal.Skeleton
public import proofs.«01_k».proof.Proof.Gen.DwPeProjIdeal.Launch
public import proofs.«01_k».proof.Proof.Gen.DwPeProjIdeal.Points
public import proofs.«01_k».proof.Proof.Gen.DwPeProjIdeal.Frame
public import proofs.«01_k».proof.Proof.Gen.DwPeProjIdeal.Value
public import proofs.«01_k».proof.Proof.Gen.DwPeProjRefIdeal
public import proofs.«01_k».proof.Proof.Gen.DwPeProjRefIdeal.Run
public import proofs.«01_k».proof.Proof.Gen.DwPeProjRefIdeal.Read
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.DwFfnIn.Gen.facts, Cert.DwFfnInIdeal.Gen.facts, Cert.DwFfnInRefIdeal.Gen.facts,
  Cert.DwFfnOut.Gen.facts, Cert.DwFfnOutIdeal.Gen.facts, Cert.DwFfnOutRefIdeal.Gen.facts,
  Cert.DwIn.Gen.facts, Cert.DwInIdeal.Gen.facts, Cert.DwInRefIdeal.Gen.facts,
  Cert.DwO.Gen.facts, Cert.DwOIdeal.Gen.facts, Cert.DwORefIdeal.Gen.facts,
  Cert.DwBranch.Gen.facts, Cert.DwBranchIdeal.Gen.facts, Cert.DwBranchRefIdeal.Gen.facts,
  Cert.DwPeGate.Gen.facts, Cert.DwPeGateIdeal.Gen.facts, Cert.DwPeGateRefIdeal.Gen.facts,
  Cert.DwPeProj.Gen.facts, Cert.DwPeProjIdeal.Gen.facts, Cert.DwPeProjRefIdeal.Gen.facts,
  Cert.FfnFwd.Gen.facts, Cert.FfnFwdIdeal.Gen.facts, Cert.FfnFwdRefIdeal.Gen.facts,
  Cert.MixinFwd.Gen.facts, Cert.MixinFwdIdeal.Gen.facts, Cert.MixinFwdRefIdeal.Gen.facts,
  Cert.MergeFwd.Gen.facts, Cert.MergeFwdIdeal.Gen.facts, Cert.MergeFwdRefIdeal.Gen.facts,
  Cert.PeFwd.Gen.facts, Cert.PeFwdIdeal.Gen.facts, Cert.PeFwdRefIdeal.Gen.facts,
  Cert.ConvFwd.Gen.facts, Cert.ConvFwdIdeal.Gen.facts, Cert.ConvFwdRefIdeal.Gen.facts,
  Cert.Loss.Gen.facts, Cert.LossIdeal.Gen.facts, Cert.LossRefIdeal.Gen.facts,
  Cert.AdamW.Gen.facts, Cert.AdamWIdeal.Gen.facts, Cert.AdamWRefIdeal.Gen.facts,
  Cert.BiasTable.Gen.facts, Cert.BiasTableIdeal.Gen.facts, Cert.BiasTableRefIdeal.Gen.facts,
  Cert.BiasGrad.Gen.facts, Cert.BiasGradIdeal.Gen.facts, Cert.BiasGradRefIdeal.Gen.facts,
  Cert.FfnBwd.Gen.facts, Cert.FfnBwdIdeal.Gen.facts, Cert.FfnBwdRefIdeal.Gen.facts,
  Cert.MixinBwd.Gen.facts, Cert.MixinBwdIdeal.Gen.facts, Cert.MixinBwdRefIdeal.Gen.facts,
  Cert.PeBwd.Gen.facts, Cert.PeBwdIdeal.Gen.facts, Cert.PeBwdRefIdeal.Gen.facts,
  Cert.Pre_ffn_bwd_finite.Gen.facts,
  Cert.Pre_mixin_bwd_finite.Gen.facts,
  Cert.Pre_pe_bwd_finite.Gen.facts,
  Cert.MergeIdeal.Block.frameP, Cert.MergeIdeal.Block.framePI, Cert.MergeIdeal.Block.frameRI,
  Cert.DwFfnInIdeal.Block.frameP, Cert.DwFfnInIdeal.Block.framePI, Cert.DwFfnInIdeal.Block.frameRI,
  Cert.DwFfnOutIdeal.Block.frameP, Cert.DwFfnOutIdeal.Block.framePI, Cert.DwFfnOutIdeal.Block.frameRI,
  Cert.DwInIdeal.Block.frameP, Cert.DwInIdeal.Block.framePI, Cert.DwInIdeal.Block.frameRI,
  Cert.DwOIdeal.Block.frameP, Cert.DwOIdeal.Block.framePI, Cert.DwOIdeal.Block.frameRI,
  Cert.DwBranchIdeal.Block.frameP, Cert.DwBranchIdeal.Block.framePI, Cert.DwBranchIdeal.Block.frameRI,
  Cert.DwPeGateIdeal.Block.frameP, Cert.DwPeGateIdeal.Block.framePI, Cert.DwPeGateIdeal.Block.frameRI,
  Cert.DwPeProjIdeal.Block.frameP, Cert.DwPeProjIdeal.Block.framePI, Cert.DwPeProjIdeal.Block.frameRI,
  Cert.FfnFwdIdeal.Block.frameP, Cert.FfnFwdIdeal.Block.framePI, Cert.FfnFwdIdeal.Block.frameRI,
  Cert.MixinFwdIdeal.Block.frameP, Cert.MixinFwdIdeal.Block.framePI, Cert.MixinFwdIdeal.Block.frameRI,
  Cert.MergeFwdIdeal.Block.frameP, Cert.MergeFwdIdeal.Block.framePI, Cert.MergeFwdIdeal.Block.frameRI,
  Cert.PeFwdIdeal.Block.frameP, Cert.PeFwdIdeal.Block.framePI, Cert.PeFwdIdeal.Block.frameRI,
  Cert.ConvFwdIdeal.Block.frameP, Cert.ConvFwdIdeal.Block.framePI, Cert.ConvFwdIdeal.Block.frameRI,
  Cert.LossIdeal.Block.frameP, Cert.LossIdeal.Block.framePI, Cert.LossIdeal.Block.frameRI,
  Cert.AdamWIdeal.Block.frameP, Cert.AdamWIdeal.Block.framePI, Cert.AdamWIdeal.Block.frameRI,
  Cert.BiasTableIdeal.Block.frameP, Cert.BiasTableIdeal.Block.framePI, Cert.BiasTableIdeal.Block.frameRI,
  Cert.BiasGradIdeal.Block.frameP, Cert.BiasGradIdeal.Block.framePI, Cert.BiasGradIdeal.Block.frameRI,
  Cert.FfnBwdIdeal.Block.frameP, Cert.FfnBwdIdeal.Block.framePI, fun m ρ _ => Cert.FfnBwdIdeal.Block.framePI m ρ trivial, Cert.FfnBwdIdeal.Block.frameRI,
  fun m ρ _ => Cert.FfnBwdIdeal.Block.frameRI m ρ trivial,
  Cert.MixinBwdIdeal.Block.frameP, Cert.MixinBwdIdeal.Block.framePI, fun m ρ _ => Cert.MixinBwdIdeal.Block.framePI m ρ trivial, Cert.MixinBwdIdeal.Block.frameRI,
  fun m ρ _ => Cert.MixinBwdIdeal.Block.frameRI m ρ trivial,
  Cert.PeBwdIdeal.Block.frameP, Cert.PeBwdIdeal.Block.framePI, fun m ρ _ => Cert.PeBwdIdeal.Block.framePI m ρ trivial, Cert.PeBwdIdeal.Block.frameRI,
  fun m ρ _ => Cert.PeBwdIdeal.Block.frameRI m ρ trivial,
  trivial, Cert.MergeIdeal.Block.algebraic,
  trivial, Cert.DwFfnInIdeal.Block.algebraic,
  trivial, Cert.DwFfnOutIdeal.Block.algebraic,
  trivial, Cert.DwInIdeal.Block.algebraic,
  trivial, Cert.DwOIdeal.Block.algebraic,
  trivial, Cert.DwBranchIdeal.Block.algebraic,
  trivial, Cert.DwPeGateIdeal.Block.algebraic,
  trivial, Cert.DwPeProjIdeal.Block.algebraic,
  trivial, Cert.FfnFwdIdeal.Block.algebraic,
  trivial, Cert.MixinFwdIdeal.Block.algebraic,
  trivial, Cert.MergeFwdIdeal.Block.algebraic,
  trivial, Cert.PeFwdIdeal.Block.algebraic,
  trivial, Cert.ConvFwdIdeal.Block.algebraic,
  trivial, Cert.LossIdeal.Block.algebraic,
  trivial, Cert.AdamWIdeal.Block.algebraic,
  trivial, Cert.BiasTableIdeal.Block.algebraic,
  trivial, Cert.BiasGradIdeal.Block.algebraic,
  trivial, Cert.FfnBwdIdeal.Block.algebraic,
  trivial, Cert.MixinBwdIdeal.Block.algebraic,
  trivial, Cert.PeBwdIdeal.Block.algebraic⟩

end Cert.Proof

end
